-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def preserves_Kernel_KernelIdeal : Prop :=
  True

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v7_1)) (v2 : (c : Dev Cert.Kernel2Ideal.nD) → Buf (Elt Ideal) ((c.tc : Thread Cert.Kernel2Ideal.nD Cert.Kernel2Ideal.τ).loc Cert.Kernel2Ideal.main_v7_2)) (v3 : (c : Dev Cert.Kernel2Ideal.nD) → Buf (Elt Ideal) ((c.tc : Thread Cert.Kernel2Ideal.nD Cert.Kernel2Ideal.τ).loc Cert.Kernel2Ideal.main_v7_3)) (v4 : (c : Dev Cert.Kernel2Ideal.nD) → Buf (Elt Ideal) ((c.tc : Thread Cert.Kernel2Ideal.nD Cert.Kernel2Ideal.τ).loc Cert.Kernel2Ideal.main_v7_4)) (v5 : (c : Dev Cert.Kernel2Ideal.nD) → Buf (Elt Ideal) ((c.tc : Thread Cert.Kernel2Ideal.nD Cert.Kernel2Ideal.τ).loc Cert.Kernel2Ideal.main_v7_5)) (v6 : (c : Dev Cert.Kernel2Ideal.nD) → Buf (Elt Ideal) ((c.tc : Thread Cert.Kernel2Ideal.nD Cert.Kernel2Ideal.τ).loc Cert.Kernel2Ideal.main_v7_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_v7_1) = v1 c
          ∧ r.2.mem ((c.tc : Thread Cert.Kernel2Ideal.nD Cert.Kernel2Ideal.τ).loc Cert.Kernel2Ideal.main_v7_2) = v2 c
          ∧ r.2.mem ((c.tc : Thread Cert.Kernel2Ideal.nD Cert.Kernel2Ideal.τ).loc Cert.Kernel2Ideal.main_v7_3) = v3 c
          ∧ r.2.mem ((c.tc : Thread Cert.Kernel2Ideal.nD Cert.Kernel2Ideal.τ).loc Cert.Kernel2Ideal.main_v7_4) = v4 c
          ∧ r.2.mem ((c.tc : Thread Cert.Kernel2Ideal.nD Cert.Kernel2Ideal.τ).loc Cert.Kernel2Ideal.main_v7_5) = v5 c
          ∧ r.2.mem ((c.tc : Thread Cert.Kernel2Ideal.nD Cert.Kernel2Ideal.τ).loc Cert.Kernel2Ideal.main_v7_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v74) = v0 c
          ∧ r.2.mem ((c.tc : Thread Cert.Reference2Ideal.nD Cert.Reference2Ideal.τ).loc Cert.Reference2Ideal.main_v129) = v1 c
          ∧ r.2.mem ((c.tc : Thread Cert.Reference2Ideal.nD Cert.Reference2Ideal.τ).loc Cert.Reference2Ideal.main_v130) = v2 c
          ∧ r.2.mem ((c.tc : Thread Cert.Reference2Ideal.nD Cert.Reference2Ideal.τ).loc Cert.Reference2Ideal.main_v128) = v3 c
          ∧ r.2.mem ((c.tc : Thread Cert.Reference2Ideal.nD Cert.Reference2Ideal.τ).loc Cert.Reference2Ideal.main_v125) = v4 c
          ∧ r.2.mem ((c.tc : Thread Cert.Reference2Ideal.nD Cert.Reference2Ideal.τ).loc Cert.Reference2Ideal.main_v105) = v5 c
          ∧ r.2.mem ((c.tc : Thread Cert.Reference2Ideal.nD Cert.Reference2Ideal.τ).loc Cert.Reference2Ideal.main_v131) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0)) (v1 : (c : Dev Cert.Kernel3Ideal.nD) → Buf (Elt Ideal) ((c.tc : Thread Cert.Kernel3Ideal.nD Cert.Kernel3Ideal.τ).loc Cert.Kernel3Ideal.main_v1)) (v2 : (c : Dev Cert.Kernel3Ideal.nD) → Buf (Elt Ideal) ((c.tc : Thread Cert.Kernel3Ideal.nD Cert.Kernel3Ideal.τ).loc Cert.Kernel3Ideal.main_v2)) (v3 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_v1) = v1 c
          ∧ r.2.mem ((c.tc : Thread Cert.Kernel3Ideal.nD Cert.Kernel3Ideal.τ).loc Cert.Kernel3Ideal.main_v2) = v2 c
          ∧ r.2.mem ((c.tc : Thread Cert.Kernel3Ideal.nD Cert.Kernel3Ideal.τ).loc Cert.Kernel3Ideal.main_v3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_v20) = v1 c
          ∧ r.2.mem ((c.tc : Thread Cert.Reference3Ideal.nD Cert.Reference3Ideal.τ).loc Cert.Reference3Ideal.main_v21) = v2 c
          ∧ r.2.mem ((c.tc : Thread Cert.Reference3Ideal.nD Cert.Reference3Ideal.τ).loc Cert.Reference3Ideal.main_v13) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)) (v2 : (c : Dev Cert.Kernel4Ideal.nD) → Buf (Elt Ideal) ((c.tc : Thread Cert.Kernel4Ideal.nD Cert.Kernel4Ideal.τ).loc Cert.Kernel4Ideal.main_v7_2)) (v3 : (c : Dev Cert.Kernel4Ideal.nD) → Buf (Elt Ideal) ((c.tc : Thread Cert.Kernel4Ideal.nD Cert.Kernel4Ideal.τ).loc Cert.Kernel4Ideal.main_v7_3)) (v4 : (c : Dev Cert.Kernel4Ideal.nD) → Buf (Elt Ideal) ((c.tc : Thread Cert.Kernel4Ideal.nD Cert.Kernel4Ideal.τ).loc Cert.Kernel4Ideal.main_v7_4)) (v5 : (c : Dev Cert.Kernel4Ideal.nD) → Buf (Elt Ideal) ((c.tc : Thread Cert.Kernel4Ideal.nD Cert.Kernel4Ideal.τ).loc Cert.Kernel4Ideal.main_v7_5)) (v6 : (c : Dev Cert.Kernel4Ideal.nD) → Buf (Elt Ideal) ((c.tc : Thread Cert.Kernel4Ideal.nD Cert.Kernel4Ideal.τ).loc Cert.Kernel4Ideal.main_v7_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_v7_2) = v2 c
          ∧ r.2.mem ((c.tc : Thread Cert.Kernel4Ideal.nD Cert.Kernel4Ideal.τ).loc Cert.Kernel4Ideal.main_v7_3) = v3 c
          ∧ r.2.mem ((c.tc : Thread Cert.Kernel4Ideal.nD Cert.Kernel4Ideal.τ).loc Cert.Kernel4Ideal.main_v7_4) = v4 c
          ∧ r.2.mem ((c.tc : Thread Cert.Kernel4Ideal.nD Cert.Kernel4Ideal.τ).loc Cert.Kernel4Ideal.main_v7_5) = v5 c
          ∧ r.2.mem ((c.tc : Thread Cert.Kernel4Ideal.nD Cert.Kernel4Ideal.τ).loc Cert.Kernel4Ideal.main_v7_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v93) = v0 c
          ∧ r.2.mem ((c.tc : Thread Cert.Reference4Ideal.nD Cert.Reference4Ideal.τ).loc Cert.Reference4Ideal.main_v94) = v1 c
          ∧ r.2.mem ((c.tc : Thread Cert.Reference4Ideal.nD Cert.Reference4Ideal.τ).loc Cert.Reference4Ideal.main_v95) = v2 c
          ∧ r.2.mem ((c.tc : Thread Cert.Reference4Ideal.nD Cert.Reference4Ideal.τ).loc Cert.Reference4Ideal.main_v86) = v3 c
          ∧ r.2.mem ((c.tc : Thread Cert.Reference4Ideal.nD Cert.Reference4Ideal.τ).loc Cert.Reference4Ideal.main_v96) = v4 c
          ∧ r.2.mem ((c.tc : Thread Cert.Reference4Ideal.nD Cert.Reference4Ideal.τ).loc Cert.Reference4Ideal.main_v97) = v5 c
          ∧ r.2.mem ((c.tc : Thread Cert.Reference4Ideal.nD Cert.Reference4Ideal.τ).loc Cert.Reference4Ideal.main_v98) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v26_0)) (v1 : (c : Dev Cert.Kernel6Ideal.nD) → Buf (Elt Ideal) ((c.tc : Thread Cert.Kernel6Ideal.nD Cert.Kernel6Ideal.τ).loc Cert.Kernel6Ideal.main_v26_1)) (v2 : (c : Dev Cert.Kernel6Ideal.nD) → Buf (Elt Ideal) ((c.tc : Thread Cert.Kernel6Ideal.nD Cert.Kernel6Ideal.τ).loc Cert.Kernel6Ideal.main_v26_2)) (v3 : (c : Dev Cert.Kernel6Ideal.nD) → Buf (Elt Ideal) ((c.tc : Thread Cert.Kernel6Ideal.nD Cert.Kernel6Ideal.τ).loc Cert.Kernel6Ideal.main_v26_3)) (v4 : (c : Dev Cert.Kernel6Ideal.nD) → Buf (Elt Ideal) ((c.tc : Thread Cert.Kernel6Ideal.nD Cert.Kernel6Ideal.τ).loc Cert.Kernel6Ideal.main_v26_4)) (v5 : (c : Dev Cert.Kernel6Ideal.nD) → Buf (Elt Ideal) ((c.tc : Thread Cert.Kernel6Ideal.nD Cert.Kernel6Ideal.τ).loc Cert.Kernel6Ideal.main_v26_5)) (v6 : (c : Dev Cert.Kernel6Ideal.nD) → Buf (Elt Ideal) ((c.tc : Thread Cert.Kernel6Ideal.nD Cert.Kernel6Ideal.τ).loc Cert.Kernel6Ideal.main_v26_6)) (v7 : (c : Dev Cert.Kernel6Ideal.nD) → Buf (Elt Ideal) ((c.tc : Thread Cert.Kernel6Ideal.nD Cert.Kernel6Ideal.τ).loc Cert.Kernel6Ideal.main_v26_7)) (v8 : (c : Dev Cert.Kernel6Ideal.nD) → Buf (Elt Ideal) ((c.tc : Thread Cert.Kernel6Ideal.nD Cert.Kernel6Ideal.τ).loc Cert.Kernel6Ideal.main_v26_8)) (v9 : (c : Dev Cert.Kernel6Ideal.nD) → Buf (Elt Ideal) ((c.tc : Thread Cert.Kernel6Ideal.nD Cert.Kernel6Ideal.τ).loc Cert.Kernel6Ideal.main_v26_9)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v26_0) = v0 c
          ∧ r.2.mem ((c.tc : Thread Cert.Kernel6Ideal.nD Cert.Kernel6Ideal.τ).loc Cert.Kernel6Ideal.main_v26_1) = v1 c
          ∧ r.2.mem ((c.tc : Thread Cert.Kernel6Ideal.nD Cert.Kernel6Ideal.τ).loc Cert.Kernel6Ideal.main_v26_2) = v2 c
          ∧ r.2.mem ((c.tc : Thread Cert.Kernel6Ideal.nD Cert.Kernel6Ideal.τ).loc Cert.Kernel6Ideal.main_v26_3) = v3 c
          ∧ r.2.mem ((c.tc : Thread Cert.Kernel6Ideal.nD Cert.Kernel6Ideal.τ).loc Cert.Kernel6Ideal.main_v26_4) = v4 c
          ∧ r.2.mem ((c.tc : Thread Cert.Kernel6Ideal.nD Cert.Kernel6Ideal.τ).loc Cert.Kernel6Ideal.main_v26_5) = v5 c
          ∧ r.2.mem ((c.tc : Thread Cert.Kernel6Ideal.nD Cert.Kernel6Ideal.τ).loc Cert.Kernel6Ideal.main_v26_6) = v6 c
          ∧ r.2.mem ((c.tc : Thread Cert.Kernel6Ideal.nD Cert.Kernel6Ideal.τ).loc Cert.Kernel6Ideal.main_v26_7) = v7 c
          ∧ r.2.mem ((c.tc : Thread Cert.Kernel6Ideal.nD Cert.Kernel6Ideal.τ).loc Cert.Kernel6Ideal.main_v26_8) = v8 c
          ∧ r.2.mem ((c.tc : Thread Cert.Kernel6Ideal.nD Cert.Kernel6Ideal.τ).loc Cert.Kernel6Ideal.main_v26_9) = v9 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v18) = v0 c
          ∧ r.2.mem ((c.tc : Thread Cert.Reference6Ideal.nD Cert.Reference6Ideal.τ).loc Cert.Reference6Ideal.main_v5) = v1 c
          ∧ r.2.mem ((c.tc : Thread Cert.Reference6Ideal.nD Cert.Reference6Ideal.τ).loc Cert.Reference6Ideal.main_v6) = v2 c
          ∧ r.2.mem ((c.tc : Thread Cert.Reference6Ideal.nD Cert.Reference6Ideal.τ).loc Cert.Reference6Ideal.main_v7) = v3 c
          ∧ r.2.mem ((c.tc : Thread Cert.Reference6Ideal.nD Cert.Reference6Ideal.τ).loc Cert.Reference6Ideal.main_v8) = v4 c
          ∧ r.2.mem ((c.tc : Thread Cert.Reference6Ideal.nD Cert.Reference6Ideal.τ).loc Cert.Reference6Ideal.main_v9) = v5 c
          ∧ r.2.mem ((c.tc : Thread Cert.Reference6Ideal.nD Cert.Reference6Ideal.τ).loc Cert.Reference6Ideal.main_v10) = v6 c
          ∧ r.2.mem ((c.tc : Thread Cert.Reference6Ideal.nD Cert.Reference6Ideal.τ).loc Cert.Reference6Ideal.main_v19) = v7 c
          ∧ r.2.mem ((c.tc : Thread Cert.Reference6Ideal.nD Cert.Reference6Ideal.τ).loc Cert.Reference6Ideal.main_v15) = v8 c
          ∧ r.2.mem ((c.tc : Thread Cert.Reference6Ideal.nD Cert.Reference6Ideal.τ).loc Cert.Reference6Ideal.main_v22) = v9 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v5_0)) (v1 : (c : Dev Cert.Kernel8Ideal.nD) → Buf (Elt Ideal) ((c.tc : Thread Cert.Kernel8Ideal.nD Cert.Kernel8Ideal.τ).loc Cert.Kernel8Ideal.main_v5_1)) (v2 : (c : Dev Cert.Kernel8Ideal.nD) → Buf (Elt Ideal) ((c.tc : Thread Cert.Kernel8Ideal.nD Cert.Kernel8Ideal.τ).loc Cert.Kernel8Ideal.main_v5_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5_0) = v0 c
          ∧ r.2.mem ((c.tc : Thread Cert.Kernel8Ideal.nD Cert.Kernel8Ideal.τ).loc Cert.Kernel8Ideal.main_v5_1) = v1 c
          ∧ r.2.mem ((c.tc : Thread Cert.Kernel8Ideal.nD Cert.Kernel8Ideal.τ).loc Cert.Kernel8Ideal.main_v5_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v36) = v0 c
          ∧ r.2.mem ((c.tc : Thread Cert.Reference8Ideal.nD Cert.Reference8Ideal.τ).loc Cert.Reference8Ideal.main_v24) = v1 c
          ∧ r.2.mem ((c.tc : Thread Cert.Reference8Ideal.nD Cert.Reference8Ideal.τ).loc Cert.Reference8Ideal.main_v49) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite2 : Cert.Pre_finite2.Facts) (hPre_finite4 : Cert.Pre_finite4.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite2.lean ====
abbrev S4224x1024 : Shape := ⟨2, ![4224, 1024]⟩
abbrev S4224x2816 : Shape := ⟨2, ![4224, 2816]⟩
abbrev S1024x2816 : Shape := ⟨2, ![1024, 2816]⟩
abbrev S1024 : Shape := ⟨1, ![1024]⟩
abbrev S1024x1024 : Shape := ⟨2, ![1024, 1024]⟩
abbrev S4224x512 : Shape := ⟨2, ![4224, 512]⟩
abbrev S128 : Shape := ⟨1, ![128]⟩
abbrev S_ : Shape := ⟨0, ![]⟩
abbrev S1 : Shape := ⟨1, ![1]⟩
abbrev S11 : Shape := ⟨1, ![11]⟩

class Facts : Prop where
  bitsLt_bf16_f32 : FTy.bits .bf16 < FTy.bits .f32
  bcast_S_S4224x1024 : S_.BroadcastsInDim S4224x1024 (![] : Fin 0 → Fin S4224x1024.rank)
  reducesTo_S4224x1024_S_d0_1 : S4224x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S4224x512 : S_.BroadcastsInDim S4224x512 (![] : Fin 0 → Fin S4224x512.rank)
  reducesTo_S4224x512_S_d0_1 : S4224x512.ReducesTo [0, 1] S_
  bcast_S_S128 : S_.BroadcastsInDim S128 (![] : Fin 0 → Fin S128.rank)
  reducesTo_S128_S_d0 : S128.ReducesTo [0] S_
  bcast_S_S4224x2816 : S_.BroadcastsInDim S4224x2816 (![] : Fin 0 → Fin S4224x2816.rank)
  reducesTo_S4224x2816_S_d0_1 : S4224x2816.ReducesTo [0, 1] S_
  bcast_S_S1 : S_.BroadcastsInDim S1 (![] : Fin 0 → Fin S1.rank)
  concatenates_S1_S1_S1_S1_S1_S1_S1_S1_S1_S1_S1_S11_d0 : Shape.Concatenates [S1, S1, S1, S1, S1, S1, S1, S1, S1, S1, S1] S11 0

variable [Facts]

def fn_part3 {F : FTy → Type} [FloatOps F] (main_v21 : IVec S_ 1) (main_v25 : IVec S_ 1) (main_v29 : IVec S_ 1) (main_v33 : IVec S_ 1) (main_v37 : IVec S_ 1) (main_v41 : IVec S_ 1) (main_v45 : IVec S_ 1) (main_v46 : IVec S1 1) (main_v47 : IVec S1 1) (main_v48 : IVec S1 1) (main_v49 : IVec S1 1) : IVec S11 1 :=
  let main_v50 : IVec S1 1 := broadcastInDim S1 ![] bcast_S_S1 main_v21
  let main_v51 : IVec S1 1 := broadcastInDim S1 ![] bcast_S_S1 main_v25
  let main_v52 : IVec S1 1 := broadcastInDim S1 ![] bcast_S_S1 main_v29
  let main_v53 : IVec S1 1 := broadcastInDim S1 ![] bcast_S_S1 main_v33
  let main_v54 : IVec S1 1 := broadcastInDim S1 ![] bcast_S_S1 main_v37
  let main_v55 : IVec S1 1 := broadcastInDim S1 ![] bcast_S_S1 main_v41
  let main_v56 : IVec S1 1 := broadcastInDim S1 ![] bcast_S_S1 main_v45
  let main_v57 : IVec S11 1 := concatenate S11 0 [⟨S1, main_v46⟩, ⟨S1, main_v47⟩, ⟨S1, main_v48⟩, ⟨S1, main_v49⟩, ⟨S1, main_v50⟩, ⟨S1, main_v51⟩, ⟨S1, main_v52⟩, ⟨S1, main_v53⟩, ⟨S1, main_v54⟩, ⟨S1, main_v55⟩, ⟨S1, main_v56⟩] concatenates_S1_S1_S1_S1_S1_S1_S1_S1_S1_S1_S1_S11_d0
  main_v57

def fn_part2 {F : FTy → Type} [FloatOps F] (main_arg10 : FVec F S128 .f32) (main_v0 : FVec F S4224x2816 .f32) (main_v1 : FVec F S4224x2816 .f32) (main_v5 : IVec S_ 1) (main_v9 : IVec S_ 1) (main_v13 : IVec S_ 1) (main_v17 : IVec S_ 1) (main_v21 : IVec S_ 1) (main_v25 : IVec S_ 1) (main_v29 : IVec S_ 1) (main_v32 : IVec S4224x512 1) : IVec S11 1 :=
  let main_c_13 : IVec S_ 1 := constantI S_ 1 1#1
  let main_v33 : IVec S_ 1 := (fun x v => Host.reduce IntOp.andi x v reducesTo_S4224x512_S_d0_1 h_S_) main_v32 main_c_13
  let main_v34 : FVec F S128 .f32 := Host.absf main_arg10
  let main_cst_14 : FVec F S_ .f32 := constant S_ .f32 0x7F800000#32
  let main_v35 : FVec F S128 .f32 := broadcastInDim S128 ![] bcast_S_S128 main_cst_14
  let main_v36 : IVec S128 1 := cmpf .olt main_v34 main_v35
  let main_c_15 : IVec S_ 1 := constantI S_ 1 1#1
  let main_v37 : IVec S_ 1 := (fun x v => Host.reduce IntOp.andi x v reducesTo_S128_S_d0 h_S_) main_v36 main_c_15
  let main_v38 : FVec F S4224x2816 .f32 := Host.absf main_v0
  let main_cst_16 : FVec F S_ .f32 := constant S_ .f32 0x7F800000#32
  let main_v39 : FVec F S4224x2816 .f32 := broadcastInDim S4224x2816 ![] bcast_S_S4224x2816 main_cst_16
  let main_v40 : IVec S4224x2816 1 := cmpf .olt main_v38 main_v39
  let main_c_17 : IVec S_ 1 := constantI S_ 1 1#1
  let main_v41 : IVec S_ 1 := (fun x v => Host.reduce IntOp.andi x v reducesTo_S4224x2816_S_d0_1 h_S_) main_v40 main_c_17
  let main_v42 : FVec F S4224x2816 .f32 := Host.absf main_v1
  let main_cst_18 : FVec F S_ .f32 := constant S_ .f32 0x7F800000#32
  let main_v43 : FVec F S4224x2816 .f32 := broadcastInDim S4224x2816 ![] bcast_S_S4224x2816 main_cst_18
  let main_v44 : IVec S4224x2816 1 := cmpf .olt main_v42 main_v43
  let main_c_19 : IVec S_ 1 := constantI S_ 1 1#1
  let main_v45 : IVec S_ 1 := (fun x v => Host.reduce IntOp.andi x v reducesTo_S4224x2816_S_d0_1 h_S_) main_v44 main_c_19
  let main_v46 : IVec S1 1 := broadcastInDim S1 ![] bcast_S_S1 main_v5
  let main_v47 : IVec S1 1 := broadcastInDim S1 ![] bcast_S_S1 main_v9
  let main_v48 : IVec S1 1 := broadcastInDim S1 ![] bcast_S_S1 main_v13
  let main_v49 : IVec S1 1 := broadcastInDim S1 ![] bcast_S_S1 main_v17
  fn_part3 (F := F) main_v21 main_v25 main_v29 main_v33 main_v37 main_v41 main_v45 main_v46 main_v47 main_v48 main_v49

def fn_part1 {F : FTy → Type} [FloatOps F] (main_arg6 : FVec F S1024 .f32) (main_arg7 : FVec F S1024x1024 .f32) (main_arg8 : FVec F S4224x512 .f32) (main_arg9 : FVec F S4224x512 .f32) (main_arg10 : FVec F S128 .f32) (main_v0 : FVec F S4224x2816 .f32) (main_v1 : FVec F S4224x2816 .f32) (main_v5 : IVec S_ 1) (main_v9 : IVec S_ 1) (main_v13 : IVec S_ 1) (main_v16 : IVec S1024x2816 1) : IVec S11 1 :=
  let main_c_5 : IVec S_ 1 := constantI S_ 1 1#1
  let main_v17 : IVec S_ 1 := (fun x v => Host.reduce IntOp.andi x v reducesTo_S1024x2816_S_d0_1 h_S_) main_v16 main_c_5
  let main_v18 : FVec F S1024 .f32 := Host.absf main_arg6
  let main_cst_6 : FVec F S_ .f32 := constant S_ .f32 0x7F800000#32
  let main_v19 : FVec F S1024 .f32 := broadcastInDim S1024 ![] bcast_S_S1024 main_cst_6
  let main_v20 : IVec S1024 1 := cmpf .olt main_v18 main_v19
  let main_c_7 : IVec S_ 1 := constantI S_ 1 1#1
  let main_v21 : IVec S_ 1 := (fun x v => Host.reduce IntOp.andi x v reducesTo_S1024_S_d0 h_S_) main_v20 main_c_7
  let main_v22 : FVec F S1024x1024 .f32 := Host.absf main_arg7
  let main_cst_8 : FVec F S_ .f32 := constant S_ .f32 0x7F800000#32
  let main_v23 : FVec F S1024x1024 .f32 := broadcastInDim S1024x1024 ![] bcast_S_S1024x1024 main_cst_8
  let main_v24 : IVec S1024x1024 1 := cmpf .olt main_v22 main_v23
  let main_c_9 : IVec S_ 1 := constantI S_ 1 1#1
  let main_v25 : IVec S_ 1 := (fun x v => Host.reduce IntOp.andi x v reducesTo_S1024x1024_S_d0_1 h_S_) main_v24 main_c_9
  let main_v26 : FVec F S4224x512 .f32 := Host.absf main_arg8
  let main_cst_10 : FVec F S_ .f32 := constant S_ .f32 0x7F800000#32
  let main_v27 : FVec F S4224x512 .f32 := broadcastInDim S4224x512 ![] bcast_S_S4224x512 main_cst_10
  let main_v28 : IVec S4224x512 1 := cmpf .olt main_v26 main_v27
  let main_c_11 : IVec S_ 1 := constantI S_ 1 1#1
  let main_v29 : IVec S_ 1 := (fun x v => Host.reduce IntOp.andi x v reducesTo_S4224x512_S_d0_1 h_S_) main_v28 main_c_11
  let main_v30 : FVec F S4224x512 .f32 := Host.absf main_arg9
  let main_cst_12 : FVec F S_ .f32 := constant S_ .f32 0x7F800000#32
  let main_v31 : FVec F S4224x512 .f32 := broadcastInDim S4224x512 ![] bcast_S_S4224x512 main_cst_12
  let main_v32 : IVec S4224x512 1 := cmpf .olt main_v30 main_v31
  fn_part2 (F := F) main_arg10 main_v0 main_v1 main_v5 main_v9 main_v13 main_v17 main_v21 main_v25 main_v29 main_v32

def fn {F : FTy → Type} [FloatOps F] (main_arg0 : FVec F S4224x1024 .f32) (main_arg1 : FVec F S4224x2816 .bf16) (main_arg2 : FVec F S4224x2816 .bf16) (main_arg3 : FVec F S4224x1024 .f32) (main_arg4 : FVec F S1024x2816 .f32) (main_arg5 : FVec F S1024x2816 .f32) (main_arg6 : FVec F S1024 .f32) (main_arg7 : FVec F S1024x1024 .f32) (main_arg8 : FVec F S4224x512 .f32) (main_arg9 : FVec F S4224x512 .f32) (main_arg10 : FVec F S128 .f32) : IVec S11 1 :=
  let main_v0 : FVec F S4224x2816 .f32 := (extf .f32 · bitsLt_bf16_f32) main_arg1
  let main_v1 : FVec F S4224x2816 .f32 := (extf .f32 · bitsLt_bf16_f32) main_arg2
  let main_v2 : FVec F S4224x1024 .f32 := Host.absf main_arg0
  let main_cst : FVec F S_ .f32 := constant S_ .f32 0x7F800000#32
  let main_v3 : FVec F S4224x1024 .f32 := broadcastInDim S4224x1024 ![] bcast_S_S4224x1024 main_cst
  let main_v4 : IVec S4224x1024 1 := cmpf .olt main_v2 main_v3
  let main_c : IVec S_ 1 := constantI S_ 1 1#1
  let main_v5 : IVec S_ 1 := (fun x v => Host.reduce IntOp.andi x v reducesTo_S4224x1024_S_d0_1 h_S_) main_v4 main_c
  let main_v6 : FVec F S4224x1024 .f32 := Host.absf main_arg3
  let main_cst_0 : FVec F S_ .f32 := constant S_ .f32 0x7F800000#32
  let main_v7 : FVec F S4224x1024 .f32 := broadcastInDim S4224x1024 ![] bcast_S_S4224x1024 main_cst_0
  let main_v8 : IVec S4224x1024 1 := cmpf .olt main_v6 main_v7
  let main_c_1 : IVec S_ 1 := constantI S_ 1 1#1
  let main_v9 : IVec S_ 1 := (fun x v => Host.reduce IntOp.andi x v reducesTo_S4224x1024_S_d0_1 h_S_) main_v8 main_c_1
  let main_v10 : FVec F S1024x2816 .f32 := Host.absf main_arg4
  let main_cst_2 : FVec F S_ .f32 := constant S_ .f32 0x7F800000#32
  let main_v11 : FVec F S1024x2816 .f32 := broadcastInDim S1024x2816 ![] bcast_S_S1024x2816 main_cst_2
  let main_v12 : IVec S1024x2816 1 := cmpf .olt main_v10 main_v11
  let main_c_3 : IVec S_ 1 := constantI S_ 1 1#1
  let main_v13 : IVec S_ 1 := (fun x v => Host.reduce IntOp.andi x v reducesTo_S1024x2816_S_d0_1 h_S_) main_v12 main_c_3
  let main_v14 : FVec F S1024x2816 .f32 := Host.absf main_arg5
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg6 main_arg7 main_arg8 main_arg9 main_arg10 main_v0 main_v1 main_v5 main_v9 main_v13 main_v16
-- ==== Pre_finite4.lean ====
abbrev S4224x1024 : Shape := ⟨2, ![4224, 1024]⟩
abbrev S1024x2816 : Shape := ⟨2, ![1024, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S1 : Shape := ⟨1, ![1]⟩
abbrev S7 : Shape := ⟨1, ![7]⟩

class Facts : Prop where
  bcast_S_S4224x1024 : S_.BroadcastsInDim S4224x1024 (![] : Fin 0 → Fin S4224x1024.rank)
  reducesTo_S4224x1024_S_d0_1 : S4224x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_
  bcast_S_S1 : S_.BroadcastsInDim S1 (![] : Fin 0 → Fin S1.rank)
  concatenates_S1_S1_S1_S1_S1_S1_S1_S7_d0 : Shape.Concatenates [S1, S1, S1, S1, S1, S1, S1] S7 0

variable [Facts]

def fn_part2 {F : FTy → Type} [FloatOps F] (main_v27 : IVec S_ 1) (main_v28 : IVec S1 1) (main_v29 : IVec S1 1) (main_v30 : IVec S1 1) (main_v31 : IVec S1 1) (main_v32 : IVec S1 1) (main_v33 : IVec S1 1) : IVec S7 1 :=
  let main_v34 : IVec S1 1 := broadcastInDim S1 ![] bcast_S_S1 main_v27
  let main_v35 : IVec S7 1 := concatenate S7 0 [⟨S1, main_v28⟩, ⟨S1, main_v29⟩, ⟨S1, main_v30⟩, ⟨S1, main_v31⟩, ⟨S1, main_v32⟩, ⟨S1, main_v33⟩, ⟨S1, main_v34⟩] concatenates_S1_S1_S1_S1_S1_S1_S1_S7_d0
  main_v35

def fn_part1 {F : FTy → Type} [FloatOps F] (main_arg4 : FVec F S4096x1024 .f32) (main_arg5 : FVec F S1024 .f32) (main_arg6 : FVec F S1024 .f32) (main_v3 : IVec S_ 1) (main_v7 : IVec S_ 1) (main_v11 : IVec S_ 1) (main_v15 : IVec S_ 1) : IVec S7 1 :=
  let main_v16 : FVec F S4096x1024 .f32 := Host.absf main_arg4
  let main_cst_6 : FVec F S_ .f32 := constant S_ .f32 0x7F800000#32
  let main_v17 : FVec F S4096x1024 .f32 := broadcastInDim S4096x1024 ![] bcast_S_S4096x1024 main_cst_6
  let main_v18 : IVec S4096x1024 1 := cmpf .olt main_v16 main_v17
  let main_c_7 : IVec S_ 1 := constantI S_ 1 1#1
  let main_v19 : IVec S_ 1 := (fun x v => Host.reduce IntOp.andi x v reducesTo_S4096x1024_S_d0_1 h_S_) main_v18 main_c_7
  let main_v20 : FVec F S1024 .f32 := Host.absf main_arg5
  let main_cst_8 : FVec F S_ .f32 := constant S_ .f32 0x7F800000#32
  let main_v21 : FVec F S1024 .f32 := broadcastInDim S1024 ![] bcast_S_S1024 main_cst_8
  let main_v22 : IVec S1024 1 := cmpf .olt main_v20 main_v21
  let main_c_9 : IVec S_ 1 := constantI S_ 1 1#1
  let main_v23 : IVec S_ 1 := (fun x v => Host.reduce IntOp.andi x v reducesTo_S1024_S_d0 h_S_) main_v22 main_c_9
  let main_v24 : FVec F S1024 .f32 := Host.absf main_arg6
  let main_cst_10 : FVec F S_ .f32 := constant S_ .f32 0x7F800000#32
  let main_v25 : FVec F S1024 .f32 := broadcastInDim S1024 ![] bcast_S_S1024 main_cst_10
  let main_v26 : IVec S1024 1 := cmpf .olt main_v24 main_v25
  let main_c_11 : IVec S_ 1 := constantI S_ 1 1#1
  let main_v27 : IVec S_ 1 := (fun x v => Host.reduce IntOp.andi x v reducesTo_S1024_S_d0 h_S_) main_v26 main_c_11
  let main_v28 : IVec S1 1 := broadcastInDim S1 ![] bcast_S_S1 main_v3
  let main_v29 : IVec S1 1 := broadcastInDim S1 ![] bcast_S_S1 main_v7
  let main_v30 : IVec S1 1 := broadcastInDim S1 ![] bcast_S_S1 main_v11
  let main_v31 : IVec S1 1 := broadcastInDim S1 ![] bcast_S_S1 main_v15
  let main_v32 : IVec S1 1 := broadcastInDim S1 ![] bcast_S_S1 main_v19
  let main_v33 : IVec S1 1 := broadcastInDim S1 ![] bcast_S_S1 main_v23
  fn_part2 (F := F) main_v27 main_v28 main_v29 main_v30 main_v31 main_v32 main_v33

def fn {F : FTy → Type} [FloatOps F] (main_arg0 : FVec F S4224x1024 .f32) (main_arg1 : FVec F S1024x2816 .f32) (main_arg2 : FVec F S1024x2816 .f32) (main_arg3 : FVec F S2816x1024 .f32) (main_arg4 : FVec F S4096x1024 .f32) (main_arg5 : FVec F S1024 .f32) (main_arg6 : FVec F S1024 .f32) : IVec S7 1 :=
  let main_v0 : FVec F S4224x1024 .f32 := Host.absf main_arg0
  let main_cst : FVec F S_ .f32 := constant S_ .f32 0x7F800000#32
  let main_v1 : FVec F S4224x1024 .f32 := broadcastInDim S4224x1024 ![] bcast_S_S4224x1024 main_cst
  let main_v2 : IVec S4224x1024 1 := cmpf .olt main_v0 main_v1
  let main_c : IVec S_ 1 := constantI S_ 1 1#1
  let main_v3 : IVec S_ 1 := (fun x v => Host.reduce IntOp.andi x v reducesTo_S4224x1024_S_d0_1 h_S_) main_v2 main_c
  let main_v4 : FVec F S1024x2816 .f32 := Host.absf main_arg1
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : FVec F S1024x2816 .f32 := Host.absf main_arg2
  let main_cst_2 : FVec F S_ .f32 := constant S_ .f32 0x7F800000#32
  let main_v9 : FVec F S1024x2816 .f32 := broadcastInDim S1024x2816 ![] bcast_S_S1024x2816 main_cst_2
  let main_v10 : IVec S1024x2816 1 := cmpf .olt main_v8 main_v9
  let main_c_3 : IVec S_ 1 := constantI S_ 1 1#1
  let main_v11 : IVec S_ 1 := (fun x v => Host.reduce IntOp.andi x v reducesTo_S1024x2816_S_d0_1 h_S_) main_v10 main_c_3
  let main_v12 : FVec F S2816x1024 .f32 := Host.absf main_arg3
  let main_cst_4 : FVec F S_ .f32 := constant S_ .f32 0x7F800000#32
  let main_v13 : FVec F S2816x1024 .f32 := broadcastInDim S2816x1024 ![] bcast_S_S2816x1024 main_cst_4
  let main_v14 : IVec S2816x1024 1 := cmpf .olt main_v12 main_v13
  let main_c_5 : IVec S_ 1 := constantI S_ 1 1#1
  let main_v15 : IVec S_ 1 := (fun x v => Host.reduce IntOp.andi x v reducesTo_S2816x1024_S_d0_1 h_S_) main_v14 main_c_5
  fn_part1 (F := F) main_arg4 main_arg5 main_arg6 main_v3 main_v7 main_v11 main_v15
-- ==== Kernel.lean ====
abbrev S4224x256 : Shape := ⟨2, ![4224, 256]⟩
abbrev S4224x512 : Shape := ⟨2, ![4224, 512]⟩
abbrev S66 : Shape := ⟨1, ![66]⟩
abbrev S16x256 : Shape := ⟨2, ![16, 256]⟩
abbrev S4096x256 : Shape := ⟨2, ![4096, 256]⟩
abbrev S4112x256 : Shape := ⟨2, ![4112, 256]⟩
abbrev S16x512 : Shape := ⟨2, ![16, 512]⟩
abbrev S4096x512 : Shape := ⟨2, ![4096, 512]⟩
abbrev S4112x512 : Shape := ⟨2, ![4112, 512]⟩
abbrev S_ : Shape := ⟨0, ![]⟩
abbrev S66x4112 : Shape := ⟨2, ![66, 4112]⟩
abbrev S66x4112x256 : Shape := ⟨3, ![66, 4112, 256]⟩
abbrev S66x256 : Shape := ⟨2, ![66, 256]⟩
abbrev S66x4112x4x64 : Shape := ⟨4, ![66, 4112, 4, 64]⟩
abbrev S4112x4x128 : Shape := ⟨3, ![4112, 4, 128]⟩
abbrev S4x128x66x64 : Shape := ⟨4, ![4, 128, 66, 64]⟩
abbrev S66x128x4x64 : Shape := ⟨4, ![66, 128, 4, 64]⟩
abbrev S33x2x128x256 : Shape := ⟨4, ![33, 2, 128, 256]⟩
abbrev S8x128 : Shape := ⟨2, ![8, 128]⟩
abbrev S128x256 : Shape := ⟨2, ![128, 256]⟩
abbrev S128x512 : Shape := ⟨2, ![128, 512]⟩
abbrev S1x2x128x256 : Shape := ⟨4, ![1, 2, 128, 256]⟩
abbrev S128x1 : Shape := ⟨2, ![128, 1]⟩
abbrev S128x128 : Shape := ⟨2, ![128, 128]⟩
abbrev S64x64 : Shape := ⟨2, ![64, 64]⟩
abbrev S64x128 : Shape := ⟨2, ![64, 128]⟩
abbrev S128x64 : Shape := ⟨2, ![128, 64]⟩
abbrev S1x1x128x256 : Shape := ⟨4, ![1, 1, 128, 256]⟩
abbrev S1x256 : Shape := ⟨2, ![1, 256]⟩
abbrev S256 : Shape := ⟨1, ![256]⟩
abbrev S64x256 : Shape := ⟨2, ![64, 256]⟩

abbrev nBuf : Space → Nat
  | .hbm => 53
  | .vmem => 22
  | .smem => 0
  | _ => 0

abbrev bufTy : (tb : Table) → Fin (tcTables nBuf tb) → BufTy
  | .hbm, ⟨0, _⟩ => ⟨S4224x256, .f32⟩
  | .hbm, ⟨1, _⟩ => ⟨S4224x256, .f32⟩
  | .hbm, ⟨2, _⟩ => ⟨S4224x512, .f32⟩
  | .hbm, ⟨3, _⟩ => ⟨S4224x256, .f32⟩
  | .hbm, ⟨4, _⟩ => ⟨S4224x512, .f32⟩
  | .hbm, ⟨5, _⟩ => ⟨S66, .i32⟩
  | .hbm, ⟨6, _⟩ => ⟨S16x256, .f32⟩
  | .hbm, ⟨7, _⟩ => ⟨S4096x256, .f32⟩
  | .hbm, ⟨8, _⟩ => ⟨S4112x256, .f32⟩
  | .hbm, ⟨9, _⟩ => ⟨S16x512, .f32⟩
  | .hbm, ⟨10, _⟩ => ⟨S4096x512, .f32⟩
  | .hbm, ⟨11, _⟩ => ⟨S4112x512, .f32⟩
  | .hbm, ⟨12, _⟩ => ⟨S4224x256, .f32⟩
  | .hbm, ⟨13, _⟩ => ⟨S4224x256, .f32⟩
  | .hbm, ⟨14, _⟩ => ⟨S4224x256, .f32⟩
  | .hbm, ⟨15, _⟩ => ⟨S4224x256, .f32⟩
  | .hbm, ⟨16, _⟩ => ⟨S_, .f32⟩
  | .hbm, ⟨17, _⟩ => ⟨S4224x256, .f32⟩
  | .hbm, ⟨18, _⟩ => ⟨S4224x256, .f32⟩
  | .hbm, ⟨19, _⟩ => ⟨S16x256, .f32⟩
  | .hbm, ⟨20, _⟩ => ⟨S4096x256, .f32⟩
  | .hbm, ⟨21, _⟩ => ⟨S4112x256, .f32⟩
  | .hbm, ⟨22, _⟩ => ⟨S66x4112, .i32⟩
  | .hbm, ⟨23, _⟩ => ⟨S66x4112, .i32⟩
  | .hbm, ⟨24, _⟩ => ⟨S66x4112, .i1⟩
  | .hbm, ⟨25, _⟩ => ⟨S66x4112x256, .i1⟩
  | .hbm, ⟨26, _⟩ => ⟨S_, .f32⟩
  | .hbm, ⟨27, _⟩ => ⟨S66x4112x256, .f32⟩
  | .hbm, ⟨28, _⟩ => ⟨S66x4112x256, .f32⟩
  | .hbm, ⟨29, _⟩ => ⟨S66x4112x256, .f32⟩
  | .hbm, ⟨30, _⟩ => ⟨S_, .f32⟩
  | .hbm, ⟨31, _⟩ => ⟨S66x256, .f32⟩
  | .hbm, ⟨32, _⟩ => ⟨S66x4112x256, .f32⟩
  | .hbm, ⟨33, _⟩ => ⟨S_, .f32⟩
  | .hbm, ⟨34, _⟩ => ⟨S_, .f32⟩
  | .hbm, ⟨35, _⟩ => ⟨S4112x256, .f32⟩
  | .hbm, ⟨36, _⟩ => ⟨S66x4112x256, .f32⟩
  | .hbm, ⟨37, _⟩ => ⟨S66x4112x256, .f32⟩
  | .hbm, ⟨38, _⟩ => ⟨S66x4112x256, .f32⟩
  | .hbm, ⟨39, _⟩ => ⟨S66x4112x256, .f32⟩
  | .hbm, ⟨40, _⟩ => ⟨S66x4112x256, .f32⟩
  | .hbm, ⟨41, _⟩ => ⟨S66x4112x256, .f32⟩
  | .hbm, ⟨42, _⟩ => ⟨S66x4112x4x64, .f32⟩
  | .hbm, ⟨43, _⟩ => ⟨S4112x4x128, .f32⟩
  | .hbm, ⟨44, _⟩ => ⟨S4x128x66x64, .f32⟩
  | .hbm, ⟨45, _⟩ => ⟨S66x128x4x64, .f32⟩
  | .hbm, ⟨46, _⟩ => ⟨S33x2x128x256, .f32⟩
  | .hbm, ⟨47, _⟩ => ⟨S_, .f32⟩
  | .hbm, ⟨48, _⟩ => ⟨S8x128, .f32⟩
  | .hbm, ⟨49, _⟩ => ⟨S4224x256, .f32⟩
  | .hbm, ⟨50, _⟩ => ⟨S4224x256, .f32⟩
  | .hbm, ⟨51, _⟩ => ⟨S4224x512, .f32⟩
  | .hbm, ⟨52, _⟩ => ⟨S4224x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x512, .f32⟩
  | .local _ .vmem, ⟨5, _⟩ => ⟨S128x512, .f32⟩
  | .local _ .vmem, ⟨6, _⟩ => ⟨S128x256, .f32⟩
  | .local _ .vmem, ⟨7, _⟩ => ⟨S128x256, .f32⟩
  | .local _ .vmem, ⟨8, _⟩ => ⟨S128x512, .f32⟩
  | .local _ .vmem, ⟨9, _⟩ => ⟨S128x512, .f32⟩
  | .local _ .vmem, ⟨10, _⟩ => ⟨S1x2x128x256, .f32⟩
  | .local _ .vmem, ⟨11, _⟩ => ⟨S1x2x128x256, .f32⟩
  | .local _ .vmem, ⟨12, _⟩ => ⟨S8x128, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S128x512, .f32⟩
  | .local _ .vmem, ⟨18, _⟩ => ⟨S128x512, .f32⟩
  | .local _ .vmem, ⟨19, _⟩ => ⟨S128x256, .f32⟩
  | .local _ .vmem, ⟨20, _⟩ => ⟨S128x256, .f32⟩
  | .local _ .vmem, ⟨21, _⟩ => ⟨S128x256, .f32⟩
  | _, _ => ⟨S4224x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_call0_call0_cst : Ref sig .tc := ⟨.hbm, 33, rfl⟩
abbrev main_call0_call0_v0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_2 : Ref sig .tc := ⟨.hbm, 47, rfl⟩
abbrev main_v36 : Ref sig .tc := ⟨.hbm, 48, rfl⟩
abbrev main_v37_0 : Ref sig .tc := ⟨.hbm, 49, rfl⟩
abbrev main_v37_1 : Ref sig .tc := ⟨.hbm, 50, rfl⟩
abbrev main_v37_2 : Ref sig .tc := ⟨.hbm, 51, rfl⟩
abbrev main_v37_3 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let v1 : BitVec 1 := Scalar.cmpi .eq v0 c0_i32
  let c1_i32 : BitVec 32 := 1#32
  let v2 : BitVec 32 := Scalar.subi v0 c1_i32
  let c32_i32_0 : BitVec 32 := 32#32
  let v3 : BitVec 32 := Scalar.select v1 c32_i32_0 v2
  let c0_i32_1 : BitVec 32 := 0#32
  let c0_i32_2 : BitVec 32 := 0#32
  ![v3.toNat, c0_i32_1.toNat]

def cc0_transform_1 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let v1 : BitVec 1 := Scalar.cmpi .eq v0 c0_i32
  let c1_i32 : BitVec 32 := 1#32
  let v2 : BitVec 32 := Scalar.subi v0 c1_i32
  let c32_i32_0 : BitVec 32 := 32#32
  let v3 : BitVec 32 := Scalar.select v1 c32_i32_0 v2
  let c0_i32_1 : BitVec 32 := 0#32
  let c0_i32_2 : BitVec 32 := 0#32
  ![v3.toNat, c0_i32_1.toNat]

def cc0_transform_2 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let v1 : BitVec 1 := Scalar.cmpi .eq v0 c0_i32
  let c1_i32 : BitVec 32 := 1#32
  let v2 : BitVec 32 := Scalar.subi v0 c1_i32
  let c32_i32_0 : BitVec 32 := 32#32
  let v3 : BitVec 32 := Scalar.select v1 c32_i32_0 v2
  let c0_i32_1 : BitVec 32 := 0#32
  let c0_i32_2 : BitVec 32 := 0#32
  ![v3.toNat, c0_i32_1.toNat]

def cc0_transform_3 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let v1 : BitVec 1 := Scalar.cmpi .eq v0 c0_i32
  let c1_i32 : BitVec 32 := 1#32
  let v2 : BitVec 32 := Scalar.subi v0 c1_i32
  let c32_i32_0 : BitVec 32 := 32#32
  let v3 : BitVec 32 := Scalar.select v1 c32_i32_0 v2
  let c0_i32_1 : BitVec 32 := 0#32
  let c0_i32_2 : BitVec 32 := 0#32
  ![v3.toNat, c0_i32_1.toNat]

def cc0_transform_4 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let v1 : BitVec 1 := Scalar.cmpi .eq v0 c0_i32
  let c1_i32 : BitVec 32 := 1#32
  let v2 : BitVec 32 := Scalar.subi v0 c1_i32
  let c32_i32_0 : BitVec 32 := 32#32
  let v3 : BitVec 32 := Scalar.select v1 c32_i32_0 v2
  let c0_i32_1 : BitVec 32 := 0#32
  let c0_i32_2 : BitVec 32 := 0#32
  ![v3.toNat, c0_i32_1.toNat]

def cc0_transform_5 (i : grid0.Coords) : Fin 4 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let v1 : BitVec 1 := Scalar.cmpi .eq v0 c0_i32
  let c1_i32 : BitVec 32 := 1#32
  let v2 : BitVec 32 := Scalar.subi v0 c1_i32
  let c32_i32_0 : BitVec 32 := 32#32
  let v3 : BitVec 32 := Scalar.select v1 c32_i32_0 v2
  let c0_i32_1 : BitVec 32 := 0#32
  let c0_i32_2 : BitVec 32 := 0#32
  ![v3.toNat, c0_i32_1.toNat]

def cc0_transform_8 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let v1 : BitVec 1 := Scalar.cmpi .eq v0 c0_i32
  let c1_i32 : BitVec 32 := 1#32
  let v2 : BitVec 32 := Scalar.subi v0 c1_i32
  let c32_i32_0 : BitVec 32 := 32#32
  let v3 : BitVec 32 := Scalar.select v1 c32_i32_0 v2
  let c0_i32_1 : BitVec 32 := 0#32
  let c0_i32_2 : BitVec 32 := 0#32
  ![v3.toNat, c0_i32_1.toNat]

def cc0_transform_9 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let v1 : BitVec 1 := Scalar.cmpi .eq v0 c0_i32
  let c1_i32 : BitVec 32 := 1#32
  let v2 : BitVec 32 := Scalar.subi v0 c1_i32
  let c32_i32_0 : BitVec 32 := 32#32
  let v3 : BitVec 32 := Scalar.select v1 c32_i32_0 v2
  let c0_i32_1 : BitVec 32 := 0#32
  let c0_i32_2 : BitVec 32 := 0#32
  ![v3.toNat, c0_i32_1.toNat]

def cc0_transform_10 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let v1 : BitVec 1 := Scalar.cmpi .eq v0 c0_i32
  let c1_i32 : BitVec 32 := 1#32
  let v2 : BitVec 32 := Scalar.subi v0 c1_i32
  let c32_i32_0 : BitVec 32 := 32#32
  let v3 : BitVec 32 := Scalar.select v1 c32_i32_0 v2
  let c0_i32_1 : BitVec 32 := 0#32
  let c0_i32_2 : BitVec 32 := 0#32
  ![v3.toNat, c0_i32_1.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S4224x256 : Shape := ⟨2, ![4224, 256]⟩
abbrev S4224x512 : Shape := ⟨2, ![4224, 512]⟩
abbrev S16x256 : Shape := ⟨2, ![16, 256]⟩
abbrev S4096x256 : Shape := ⟨2, ![4096, 256]⟩
abbrev S4112x256 : Shape := ⟨2, ![4112, 256]⟩
abbrev S4112x4x64 : Shape := ⟨3, ![4112, 4, 64]⟩
abbrev S_ : Shape := ⟨0, ![]⟩
abbrev S16x512 : Shape := ⟨2, ![16, 512]⟩
abbrev S4096x512 : Shape := ⟨2, ![4096, 512]⟩
abbrev S4112x512 : Shape := ⟨2, ![4112, 512]⟩
abbrev S4112x4x128 : Shape := ⟨3, ![4112, 4, 128]⟩
abbrev S4112x4112 : Shape := ⟨2, ![4112, 4112]⟩
abbrev S4112x4112x1x1 : Shape := ⟨4, ![4112, 4112, 1, 1]⟩
abbrev S4112x1x4x64 : Shape := ⟨4, ![4112, 1, 4, 64]⟩
abbrev S1x4112x4x64 : Shape := ⟨4, ![1, 4112, 4, 64]⟩
abbrev S4112x4112x4x64 : Shape := ⟨4, ![4112, 4112, 4, 64]⟩
abbrev S4112x4112x4 : Shape := ⟨3, ![4112, 4112, 4]⟩
abbrev S4x128x4112 : Shape := ⟨3, ![4, 128, 4112]⟩
abbrev S48x512 : Shape := ⟨2, ![48, 512]⟩
abbrev S64x512 : Shape := ⟨2, ![64, 512]⟩
abbrev S4x4112x4112 : Shape := ⟨3, ![4, 4112, 4112]⟩

abbrev nBuf : Space → Nat
  | .hbm => 217
  | .vmem => 0
  | .smem => 0
  | _ => 0

abbrev hbmTy0_0 (i : Nat) : BufTy := match i % 128 with
  | 0 => ⟨S4224x256, .f32⟩
  | 1 => ⟨S4224x256, .f32⟩
  | 2 => ⟨S4224x512, .f32⟩
  | 3 => ⟨S4224x256, .f32⟩
  | 4 => ⟨S4224x512, .f32⟩
  | 5 => ⟨S16x256, .f32⟩
  | 6 => ⟨S4096x256, .f32⟩
  | 7 => ⟨S4112x256, .f32⟩
  | 8 => ⟨S4112x4x64, .f32⟩
  | 9 => ⟨S_, .f32⟩
  | 10 => ⟨S4112x4x64, .f32⟩
  | 11 => ⟨S4112x4x64, .f32⟩
  | 12 => ⟨S16x256, .f32⟩
  | 13 => ⟨S4096x256, .f32⟩
  | 14 => ⟨S4112x256, .f32⟩
  | 15 => ⟨S4112x4x64, .f32⟩
  | 16 => ⟨S16x512, .f32⟩
  | 17 => ⟨S4096x512, .f32⟩
  | 18 => ⟨S4112x512, .f32⟩
  | 19 => ⟨S4112x4x128, .f32⟩
  | 20 => ⟨S16x256, .f32⟩
  | 21 => ⟨S4096x256, .f32⟩
  | 22 => ⟨S4112x256, .f32⟩
  | 23 => ⟨S4112x4x64, .f32⟩
  | 24 => ⟨S4112x4x64, .f32⟩
  | 25 => ⟨S_, .f32⟩
  | 26 => ⟨S4112x4x64, .f32⟩
  | 27 => ⟨S4112x4x64, .f32⟩
  | 28 => ⟨S4112x4x64, .f32⟩
  | 29 => ⟨S4112x4x64, .f32⟩
  | 30 => ⟨S4112x4x64, .i1⟩
  | 31 => ⟨S4112x4x64, .f32⟩
  | 32 => ⟨S4112x4x64, .f32⟩
  | 33 => ⟨S4112x4x64, .f32⟩
  | 34 => ⟨S4112x4x64, .f32⟩
  | 35 => ⟨S4112x4x64, .f32⟩
  | 36 => ⟨S4112x4x64, .f32⟩
  | 37 => ⟨S4112x4x64, .f32⟩
  | 38 => ⟨S4112x4x64, .f32⟩
  | 39 => ⟨S_, .f32⟩
  | 40 => ⟨S4112x4x64, .f32⟩
  | 41 => ⟨S4112x4x64, .i1⟩
  | 42 => ⟨S_, .f32⟩
  | 43 => ⟨S4112x4x64, .f32⟩
  | 44 => ⟨S4112x4x64, .f32⟩
  | 45 => ⟨S_, .f32⟩
  | 46 => ⟨S4112x4x64, .f32⟩
  | 47 => ⟨S4112x4x64, .i1⟩
  | 48 => ⟨S_, .f32⟩
  | 49 => ⟨S4112x4x64, .f32⟩
  | 50 => ⟨S4112x4x64, .f32⟩
  | 51 => ⟨S4112x4x64, .f32⟩
  | 52 => ⟨S4112x4x64, .f32⟩
  | 53 => ⟨S_, .f32⟩
  | 54 => ⟨S_, .f32⟩
  | 55 => ⟨S_, .i1⟩
  | 56 => ⟨S_, .f32⟩
  | 57 => ⟨S_, .f32⟩
  | 58 => ⟨S_, .f32⟩
  | 59 => ⟨S_, .f32⟩
  | 60 => ⟨S4112x4x64, .f32⟩
  | 61 => ⟨S4112x4x64, .i1⟩
  | 62 => ⟨S_, .f32⟩
  | 63 => ⟨S4112x4x64, .f32⟩
  | 64 => ⟨S4112x4x64, .f32⟩
  | 65 => ⟨S4112x4x64, .f32⟩
  | 66 => ⟨S4112x4x64, .f32⟩
  | 67 => ⟨S4112x4x64, .f32⟩
  | 68 => ⟨S_, .f32⟩
  | 69 => ⟨S4112x4x64, .f32⟩
  | 70 => ⟨S4112x4x64, .f32⟩
  | 71 => ⟨S4112x4x64, .f32⟩
  | 72 => ⟨S_, .f32⟩
  | 73 => ⟨S4112x4x64, .f32⟩
  | 74 => ⟨S4112x4x64, .f32⟩
  | 75 => ⟨S_, .f32⟩
  | 76 => ⟨S_, .f32⟩
  | 77 => ⟨S4112x4x64, .f32⟩
  | 78 => ⟨S_, .i1⟩
  | 79 => ⟨S4112x4112, .i1⟩
  | 80 => ⟨S4112x4112, .i32⟩
  | 81 => ⟨S_, .i32⟩
  | 82 => ⟨S4112x4112, .i32⟩
  | 83 => ⟨S4112x4112, .i32⟩
  | 84 => ⟨S4112x4112, .i32⟩
  | 85 => ⟨S4112x4112, .i1⟩
  | 86 => ⟨S_, .i1⟩
  | 87 => ⟨S4112x4112, .i1⟩
  | 88 => ⟨S4112x4112, .i1⟩
  | 89 => ⟨S4112x4112x1x1, .i1⟩
  | 90 => ⟨S4112x1x4x64, .f32⟩
  | 91 => ⟨S1x4112x4x64, .f32⟩
  | 92 => ⟨S4112x4112x4x64, .f32⟩
  | 93 => ⟨S4112x4112x4x64, .f32⟩
  | 94 => ⟨S4112x4112x4x64, .f32⟩
  | 95 => ⟨S_, .f32⟩
  | 96 => ⟨S_, .f32⟩
  | 97 => ⟨S4112x4112x4x64, .i1⟩
  | 98 => ⟨S4112x4112x4x64, .f32⟩
  | 99 => ⟨S4112x4112x4x64, .f32⟩
  | 100 => ⟨S_, .f32⟩
  | 101 => ⟨S4112x4112x4x64, .f32⟩
  | 102 => ⟨S4112x4112x4x64, .f32⟩
  | 103 => ⟨S4112x1x4x64, .f32⟩
  | 104 => ⟨S1x4112x4x64, .f32⟩
  | 105 => ⟨S4112x4112x4x64, .f32⟩
  | 106 => ⟨S4112x4112x4x64, .f32⟩
  | 107 => ⟨S4112x4112x4x64, .f32⟩
  | 108 => ⟨S4112x4112x4x64, .f32⟩
  | 109 => ⟨S_, .f32⟩
  | 110 => ⟨S4112x4112x4, .f32⟩
  | 111 => ⟨S4x128x4112, .f32⟩
  | 112 => ⟨S4112x4x128, .f32⟩
  | 113 => ⟨S4112x512, .f32⟩
  | 114 => ⟨S4096x512, .f32⟩
  | 115 => ⟨S_, .f32⟩
  | 116 => ⟨S48x512, .f32⟩
  | 117 => ⟨S16x512, .f32⟩
  | 118 => ⟨S_, .f32⟩
  | 119 => ⟨S64x512, .f32⟩
  | 120 => ⟨S4224x512, .f32⟩
  | 121 => ⟨S_, .f32⟩
  | 122 => ⟨S48x512, .f32⟩
  | 123 => ⟨S_, .f32⟩
  | 124 => ⟨S64x512, .f32⟩
  | 125 => ⟨S4096x512, .f32⟩
  | 126 => ⟨S48x512, .f32⟩
  | 127 => ⟨S16x512, .f32⟩
  | _ => ⟨S4224x256, .f32⟩

abbrev hbmTy0_1 (i : Nat) : BufTy := match i % 128 with
  | 0 => ⟨S64x512, .f32⟩
  | 1 => ⟨S_, .f32⟩
  | 2 => ⟨S4112x512, .f32⟩
  | 3 => ⟨S_, .f32⟩
  | 4 => ⟨S4112x512, .f32⟩
  | 5 => ⟨S4112x512, .f32⟩
  | 6 => ⟨S4112x4x128, .f32⟩
  | 7 => ⟨S4x128x4112, .f32⟩
  | 8 => ⟨S4x4112x4112, .f32⟩
  | 9 => ⟨S4112x4112x4, .f32⟩
  | 10 => ⟨S4x128x4112, .f32⟩
  | 11 => ⟨S4112x4x128, .f32⟩
  | 12 => ⟨S4112x4112x4x64, .f32⟩
  | 13 => ⟨S4112x4112x4x64, .f32⟩
  | 14 => ⟨S4112x4112x4x64, .f32⟩
  | 15 => ⟨S4112x4112x4x64, .f32⟩
  | 16 => ⟨S4112x4112x4x64, .f32⟩
  | 17 => ⟨S_, .f32⟩
  | 18 => ⟨S4112x4x64, .f32⟩
  | 19 => ⟨S1x4112x4x64, .f32⟩
  | 20 => ⟨S4112x4112x4x64, .f32⟩
  | 21 => ⟨S4112x4112x4x64, .f32⟩
  | 22 => ⟨S_, .f32⟩
  | 23 => ⟨S4112x4x64, .f32⟩
  | 24 => ⟨S4112x1x4x64, .f32⟩
  | 25 => ⟨S_, .f32⟩
  | 26 => ⟨S4112x4x64, .f32⟩
  | 27 => ⟨S_, .f32⟩
  | 28 => ⟨S4112x4x64, .f32⟩
  | 29 => ⟨S4112x4112x4x64, .f32⟩
  | 30 => ⟨S_, .f32⟩
  | 31 => ⟨S4112x4112x4x64, .f32⟩
  | 32 => ⟨S4112x4112x4x64, .f32⟩
  | 33 => ⟨S_, .f32⟩
  | 34 => ⟨S4112x4x64, .f32⟩
  | 35 => ⟨S4112x1x4x64, .f32⟩
  | 36 => ⟨S4112x4112x4x64, .f32⟩
  | 37 => ⟨S_, .f32⟩
  | 38 => ⟨S4112x4x64, .f32⟩
  | 39 => ⟨S1x4112x4x64, .f32⟩
  | 40 => ⟨S_, .f32⟩
  | 41 => ⟨S4112x4x64, .f32⟩
  | 42 => ⟨S_, .f32⟩
  | 43 => ⟨S4112x4x64, .f32⟩
  | 44 => ⟨S4112x4x64, .f32⟩
  | 45 => ⟨S_, .f32⟩
  | 46 => ⟨S_, .f32⟩
  | 47 => ⟨S4112x4x64, .f32⟩
  | 48 => ⟨S_, .f32⟩
  | 49 => ⟨S4112x4x64, .f32⟩
  | 50 => ⟨S4112x4x64, .f32⟩
  | 51 => ⟨S4112x4x64, .f32⟩
  | 52 => ⟨S4112x4x64, .f32⟩
  | 53 => ⟨S4112x4x64, .f32⟩
  | 54 => ⟨S4112x256, .f32⟩
  | 55 => ⟨S16x256, .f32⟩
  | 56 => ⟨S4096x256, .f32⟩
  | 57 => ⟨S_, .f32⟩
  | 58 => ⟨S4224x256, .f32⟩
  | 59 => ⟨S_, .f32⟩
  | 60 => ⟨S4224x256, .f32⟩
  | 61 => ⟨S4224x256, .f32⟩
  | 62 => ⟨S4112x512, .f32⟩
  | 63 => ⟨S16x512, .f32⟩
  | 64 => ⟨S4096x512, .f32⟩
  | 65 => ⟨S_, .f32⟩
  | 66 => ⟨S4224x512, .f32⟩
  | 67 => ⟨S_, .f32⟩
  | 68 => ⟨S4224x512, .f32⟩
  | 69 => ⟨S4224x512, .f32⟩
  | 70 => ⟨S4112x256, .f32⟩
  | 71 => ⟨S16x256, .f32⟩
  | 72 => ⟨S4096x256, .f32⟩
  | 73 => ⟨S_, .f32⟩
  | 74 => ⟨S4224x256, .f32⟩
  | 75 => ⟨S_, .f32⟩
  | 76 => ⟨S4224x256, .f32⟩
  | 77 => ⟨S4224x256, .f32⟩
  | 78 => ⟨S_, .f32⟩
  | 79 => ⟨S4112x4x64, .f32⟩
  | 80 => ⟨S4112x4x64, .f32⟩
  | 81 => ⟨S4112x256, .f32⟩
  | 82 => ⟨S16x256, .f32⟩
  | 83 => ⟨S4096x256, .f32⟩
  | 84 => ⟨S_, .f32⟩
  | 85 => ⟨S4224x256, .f32⟩
  | 86 => ⟨S_, .f32⟩
  | 87 => ⟨S4224x256, .f32⟩
  | 88 => ⟨S4224x256, .f32⟩
  | _ => ⟨S4224x256, .f32⟩

abbrev hbmTy (i : Nat) : BufTy := match i / 128 with
  | 0 => hbmTy0_0 i
  | 1 => hbmTy0_1 i
  | _ => ⟨S4224x256, .f32⟩

abbrev bufTy : (tb : Table) → Fin (tcTables nBuf tb) → BufTy
  | .hbm, ⟨i, _⟩ => hbmTy i
  | _, _ => ⟨S4224x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1_0 : Ref sig .tc := ⟨.hbm, 38, rfl⟩
abbrev main_call0_call0_cst_0 : Ref sig .tc := ⟨.hbm, 39, rfl⟩
abbrev main_call0_call0_v13 : Ref sig .tc := ⟨.hbm, 40, rfl⟩
abbrev main_call0_call0_v14 : Ref sig .tc := ⟨.hbm, 41, rfl⟩
abbrev main_call0_call0_cst_1 : Ref sig .tc := ⟨.hbm, 42, rfl⟩
abbrev main_call0_call0_v15 : Ref sig .tc := ⟨.hbm, 43, rfl⟩
abbrev main_call0_call0_v16 : Ref sig .tc := ⟨.hbm, 44, rfl⟩
abbrev main_call0_call0_cst_2 : Ref sig .tc := ⟨.hbm, 45, rfl⟩
abbrev main_call0_call0_v17 : Ref sig .tc := ⟨.hbm, 46, rfl⟩
abbrev main_call0_call0_v18 : Ref sig .tc := ⟨.hbm, 47, rfl⟩
abbrev main_call0_call0_cst_3 : Ref sig .tc := ⟨.hbm, 48, rfl⟩
abbrev main_call0_call0_v19 : Ref sig .tc := ⟨.hbm, 49, rfl⟩
abbrev main_call0_call0_v20 : Ref sig .tc := ⟨.hbm, 50, rfl⟩
abbrev main_call0_call0_v21 : Ref sig .tc := ⟨.hbm, 51, rfl⟩
abbrev main_v18_1 : Ref sig .tc := ⟨.hbm, 52, rfl⟩
abbrev main_call0_call0_cst_4 : Ref sig .tc := ⟨.hbm, 53, rfl⟩
abbrev main_call0_call0_cst_5 : Ref sig .tc := ⟨.hbm, 54, rfl⟩
abbrev main_call0_call0_v23 : Ref sig .tc := ⟨.hbm, 55, rfl⟩
abbrev main_call0_call0_cst_6 : Ref sig .tc := ⟨.hbm, 56, rfl⟩
abbrev main_call0_call0_cst_7 : Ref sig .tc := ⟨.hbm, 57, rfl⟩
abbrev main_call0_call0_v24 : Ref sig .tc := ⟨.hbm, 58, rfl⟩
abbrev main_call0_call0_cst_8 : Ref sig .tc := ⟨.hbm, 59, rfl⟩
abbrev main_call0_call0_v25 : Ref sig .tc := ⟨.hbm, 60, rfl⟩
abbrev main_call0_call0_v26 : Ref sig .tc := ⟨.hbm, 61, rfl⟩
abbrev main_call0_call0_cst_9 : Ref sig .tc := ⟨.hbm, 62, rfl⟩
abbrev main_call0_call0_v27 : Ref sig .tc := ⟨.hbm, 63, rfl⟩
abbrev main_call0_call0_v28 : Ref sig .tc := ⟨.hbm, 64, rfl⟩
abbrev main_call0_call0_v29 : Ref sig .tc := ⟨.hbm, 65, rfl⟩
abbrev main_call0_call0_v30 : Ref sig .tc := ⟨.hbm, 66, rfl⟩
abbrev main_call0_call0_v31 : Ref sig .tc := ⟨.hbm, 67, rfl⟩
abbrev main_call0_call0_cst_10 : Ref sig .tc := ⟨.hbm, 68, rfl⟩
abbrev main_call0_call0_v32 : Ref sig .tc := ⟨.hbm, 69, rfl⟩
abbrev main_v18_2 : Ref sig .tc := ⟨.hbm, 70, rfl⟩
abbrev main_v18_0 : Ref sig .tc := ⟨.hbm, 71, rfl⟩
abbrev main_cst_0 : Ref sig .tc := ⟨.hbm, 72, rfl⟩
abbrev main_v19 : Ref sig .tc := ⟨.hbm, 73, rfl⟩
abbrev main_v20 : Ref sig .tc := ⟨.hbm, 74, rfl⟩
abbrev main_call1_call0_cst : Ref sig .tc := ⟨.hbm, 75, rfl⟩
abbrev main_call1_call0_v0 : Ref sig .tc := ⟨.hbm, 76, rfl⟩
abbrev main_v21 : Ref sig .tc := ⟨.hbm, 77, rfl⟩
abbrev main_c : Ref sig .tc := ⟨.hbm, 78, rfl⟩
abbrev main_v22 : Ref sig .tc := ⟨.hbm, 79, rfl⟩
abbrev main_call2_v0 : Ref sig .tc := ⟨.hbm, 80, rfl⟩
abbrev main_call2_c : Ref sig .tc := ⟨.hbm, 81, rfl⟩
abbrev main_call2_v1 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_c_0 : Ref sig .tc := ⟨.hbm, 86, rfl⟩
abbrev main_call2_v5 : Ref sig .tc := ⟨.hbm, 87, rfl⟩
abbrev main_v23 : Ref sig .tc := ⟨.hbm, 88, rfl⟩
abbrev main_v24 : Ref sig .tc := ⟨.hbm, 89, rfl⟩
abbrev main_v25 : Ref sig .tc := ⟨.hbm, 90, rfl⟩
abbrev main_v26 : Ref sig .tc := ⟨.hbm, 91, rfl⟩
abbrev main_v27 : Ref sig .tc := ⟨.hbm, 92, rfl⟩
abbrev main_v28 : Ref sig .tc := ⟨.hbm, 93, rfl⟩
abbrev main_v29 : Ref sig .tc := ⟨.hbm, 94, rfl⟩
abbrev main_cst_1 : Ref sig .tc := ⟨.hbm, 95, rfl⟩
abbrev main_call3_v0 : Ref sig .tc := ⟨.hbm, 96, rfl⟩
abbrev main_v30_1 : Ref sig .tc := ⟨.hbm, 97, rfl⟩
abbrev main_call3_v2 : Ref sig .tc := ⟨.hbm, 98, rfl⟩
abbrev main_v30_0 : Ref sig .tc := ⟨.hbm, 99, rfl⟩
abbrev main_call3_cst : Ref sig .tc := ⟨.hbm, 100, rfl⟩
abbrev main_v30_2 : Ref sig .tc := ⟨.hbm, 101, rfl⟩
abbrev main_v31 : Ref sig .tc := ⟨.hbm, 102, rfl⟩
abbrev main_v32 : Ref sig .tc := ⟨.hbm, 103, rfl⟩
abbrev main_v33 : Ref sig .tc := ⟨.hbm, 104, rfl⟩
abbrev main_v34 : Ref sig .tc := ⟨.hbm, 105, rfl⟩
abbrev main_v35 : Ref sig .tc := ⟨.hbm, 106, rfl⟩
abbrev main_v36 : Ref sig .tc := ⟨.hbm, 107, rfl⟩
abbrev main_v37 : Ref sig .tc := ⟨.hbm, 108, rfl⟩
abbrev main_cst_2 : Ref sig .tc := ⟨.hbm, 109, rfl⟩
abbrev main_v38 : Ref sig .tc := ⟨.hbm, 110, rfl⟩
abbrev main_v39 : Ref sig .tc := ⟨.hbm, 111, rfl⟩
abbrev main_v40 : Ref sig .tc := ⟨.hbm, 112, rfl⟩
abbrev main_v41 : Ref sig .tc := ⟨.hbm, 113, rfl⟩
abbrev main_v42 : Ref sig .tc := ⟨.hbm, 114, rfl⟩
abbrev main_cst_3 : Ref sig .tc := ⟨.hbm, 115, rfl⟩
abbrev main_v43 : Ref sig .tc := ⟨.hbm, 116, rfl⟩
abbrev main_v44 : Ref sig .tc := ⟨.hbm, 117, rfl⟩
abbrev main_cst_4 : Ref sig .tc := ⟨.hbm, 118, rfl⟩
abbrev main_v45 : Ref sig .tc := ⟨.hbm, 119, rfl⟩
abbrev main_v46 : Ref sig .tc := ⟨.hbm, 120, rfl⟩
abbrev main_cst_5 : Ref sig .tc := ⟨.hbm, 121, rfl⟩
abbrev main_v47 : Ref sig .tc := ⟨.hbm, 122, rfl⟩
abbrev main_cst_6 : Ref sig .tc := ⟨.hbm, 123, rfl⟩
abbrev main_v48 : Ref sig .tc := ⟨.hbm, 124, rfl⟩
abbrev main_v49 : Ref sig .tc := ⟨.hbm, 125, rfl⟩
abbrev main_v50 : Ref sig .tc := ⟨.hbm, 126, rfl⟩
abbrev main_v51 : Ref sig .tc := ⟨.hbm, 127, rfl⟩
abbrev main_v52 : Ref sig .tc := ⟨.hbm, 128, rfl⟩
abbrev main_cst_7 : Ref sig .tc := ⟨.hbm, 129, rfl⟩
abbrev main_v53 : Ref sig .tc := ⟨.hbm, 130, rfl⟩
abbrev main_cst_8 : Ref sig .tc := ⟨.hbm, 131, rfl⟩
abbrev main_v54 : Ref sig .tc := ⟨.hbm, 132, rfl⟩
abbrev main_v55 : Ref sig .tc := ⟨.hbm, 133, rfl⟩
abbrev main_v56 : Ref sig .tc := ⟨.hbm, 134, rfl⟩
abbrev main_v57 : Ref sig .tc := ⟨.hbm, 135, rfl⟩
abbrev main_v58 : Ref sig .tc := ⟨.hbm, 136, rfl⟩
abbrev main_v59 : Ref sig .tc := ⟨.hbm, 137, rfl⟩
abbrev main_v60 : Ref sig .tc := ⟨.hbm, 138, rfl⟩
abbrev main_v61 : Ref sig .tc := ⟨.hbm, 139, rfl⟩
abbrev main_v62 : Ref sig .tc := ⟨.hbm, 140, rfl⟩
abbrev main_v63 : Ref sig .tc := ⟨.hbm, 141, rfl⟩
abbrev main_v64 : Ref sig .tc := ⟨.hbm, 142, rfl⟩
abbrev main_v65 : Ref sig .tc := ⟨.hbm, 143, rfl⟩
abbrev main_v66 : Ref sig .tc := ⟨.hbm, 144, rfl⟩
abbrev main_cst_9 : Ref sig .tc := ⟨.hbm, 145, rfl⟩
abbrev main_v67 : Ref sig .tc := ⟨.hbm, 146, rfl⟩
abbrev main_v68 : Ref sig .tc := ⟨.hbm, 147, rfl⟩
abbrev main_v69 : Ref sig .tc := ⟨.hbm, 148, rfl⟩
abbrev main_v70 : Ref sig .tc := ⟨.hbm, 149, rfl⟩
abbrev main_cst_10 : Ref sig .tc := ⟨.hbm, 150, rfl⟩
abbrev main_v71 : Ref sig .tc := ⟨.hbm, 151, rfl⟩
abbrev main_v72 : Ref sig .tc := ⟨.hbm, 152, rfl⟩
abbrev main_cst_11 : Ref sig .tc := ⟨.hbm, 153, rfl⟩
abbrev main_v73 : Ref sig .tc := ⟨.hbm, 154, rfl⟩
abbrev main_cst_12 : Ref sig .tc := ⟨.hbm, 155, rfl⟩
abbrev main_v74 : Ref sig .tc := ⟨.hbm, 156, rfl⟩
abbrev main_v75 : Ref sig .tc := ⟨.hbm, 157, rfl⟩
abbrev main_call4_cst : Ref sig .tc := ⟨.hbm, 158, rfl⟩
abbrev main_call4_v0 : Ref sig .tc := ⟨.hbm, 159, rfl⟩
abbrev main_v76 : Ref sig .tc := ⟨.hbm, 160, rfl⟩
abbrev main_cst_13 : Ref sig .tc := ⟨.hbm, 161, rfl⟩
abbrev main_v77 : Ref sig .tc := ⟨.hbm, 162, rfl⟩
abbrev main_v78 : Ref sig .tc := ⟨.hbm, 163, rfl⟩
abbrev main_v79 : Ref sig .tc := ⟨.hbm, 164, rfl⟩
abbrev main_cst_14 : Ref sig .tc := ⟨.hbm, 165, rfl⟩
abbrev main_v80 : Ref sig .tc := ⟨.hbm, 166, rfl⟩
abbrev main_v81 : Ref sig .tc := ⟨.hbm, 167, rfl⟩
abbrev main_cst_15 : Ref sig .tc := ⟨.hbm, 168, rfl⟩
abbrev main_v82 : Ref sig .tc := ⟨.hbm, 169, rfl⟩
abbrev main_cst_16 : Ref sig .tc := ⟨.hbm, 170, rfl⟩
abbrev main_v83 : Ref sig .tc := ⟨.hbm, 171, rfl⟩
abbrev main_v84 : Ref sig .tc := ⟨.hbm, 172, rfl⟩
abbrev main_call5_call0_cst : Ref sig .tc := ⟨.hbm, 173, rfl⟩
abbrev main_call5_call0_v0 : Ref sig .tc := ⟨.hbm, 174, rfl⟩
abbrev main_v85 : Ref sig .tc := ⟨.hbm, 175, rfl⟩
abbrev main_cst_17 : Ref sig .tc := ⟨.hbm, 176, rfl⟩
abbrev main_v86 : Ref sig .tc := ⟨.hbm, 177, rfl⟩
abbrev main_v87 : Ref sig .tc := ⟨.hbm, 178, rfl⟩
abbrev main_call6_v0 : Ref sig .tc := ⟨.hbm, 179, rfl⟩
abbrev main_call6_v1 : Ref sig .tc := ⟨.hbm, 180, rfl⟩
abbrev main_v88 : Ref sig .tc := ⟨.hbm, 181, rfl⟩
abbrev main_v89 : Ref sig .tc := ⟨.hbm, 182, rfl⟩
abbrev main_v90 : Ref sig .tc := ⟨.hbm, 183, rfl⟩
abbrev main_v91 : Ref sig .tc := ⟨.hbm, 184, rfl⟩
abbrev main_cst_18 : Ref sig .tc := ⟨.hbm, 185, rfl⟩
abbrev main_v92 : Ref sig .tc := ⟨.hbm, 186, rfl⟩
abbrev main_cst_19 : Ref sig .tc := ⟨.hbm, 187, rfl⟩
abbrev main_v93 : Ref sig .tc := ⟨.hbm, 188, rfl⟩
abbrev main_v94 : Ref sig .tc := ⟨.hbm, 189, rfl⟩
abbrev main_v95 : Ref sig .tc := ⟨.hbm, 190, rfl⟩
abbrev main_v96 : Ref sig .tc := ⟨.hbm, 191, rfl⟩
abbrev main_v97 : Ref sig .tc := ⟨.hbm, 192, rfl⟩
abbrev main_cst_20 : Ref sig .tc := ⟨.hbm, 193, rfl⟩
abbrev main_v98 : Ref sig .tc := ⟨.hbm, 194, rfl⟩
abbrev main_cst_21 : Ref sig .tc := ⟨.hbm, 195, rfl⟩
abbrev main_v99 : Ref sig .tc := ⟨.hbm, 196, rfl⟩
abbrev main_v100 : Ref sig .tc := ⟨.hbm, 197, rfl⟩
abbrev main_v101 : Ref sig .tc := ⟨.hbm, 198, rfl⟩
abbrev main_v102 : Ref sig .tc := ⟨.hbm, 199, rfl⟩
abbrev main_v103 : Ref sig .tc := ⟨.hbm, 200, rfl⟩
abbrev main_cst_22 : Ref sig .tc := ⟨.hbm, 201, rfl⟩
abbrev main_v104 : Ref sig .tc := ⟨.hbm, 202, rfl⟩
abbrev main_cst_23 : Ref sig .tc := ⟨.hbm, 203, rfl⟩
abbrev main_v105 : Ref sig .tc := ⟨.hbm, 204, rfl⟩
abbrev main_v106 : Ref sig .tc := ⟨.hbm, 205, rfl⟩
abbrev main_cst_24 : Ref sig .tc := ⟨.hbm, 206, rfl⟩
abbrev main_v107 : Ref sig .tc := ⟨.hbm, 207, rfl⟩
abbrev main_v108 : Ref sig .tc := ⟨.hbm, 208, rfl⟩
abbrev main_v109 : Ref sig .tc := ⟨.hbm, 209, rfl⟩
abbrev main_v110 : Ref sig .tc := ⟨.hbm, 210, rfl⟩
abbrev main_v111 : Ref sig .tc := ⟨.hbm, 211, rfl⟩
abbrev main_cst_25 : Ref sig .tc := ⟨.hbm, 212, rfl⟩
abbrev main_v112 : Ref sig .tc := ⟨.hbm, 213, rfl⟩
abbrev main_cst_26 : Ref sig .tc := ⟨.hbm, 214, rfl⟩
abbrev main_v113 : Ref sig .tc := ⟨.hbm, 215, rfl⟩
abbrev main_v114 : Ref sig .tc := ⟨.hbm, 216, rfl⟩

abbrev nD : Nat := 1
abbrev τ : Topo := Topo.v7x

variable {F : FTy → Type} [FloatOps F]

def κ : String → Option EReal := fun
  | "mask" => some ⊥
  | _ => none
-- ==== Kernel2.lean ====
abbrev S4224x1024 : Shape := ⟨2, ![4224, 1024]⟩
abbrev S4224x2816 : Shape := ⟨2, ![4224, 2816]⟩
abbrev S1024x2816 : Shape := ⟨2, ![1024, 2816]⟩
abbrev S1024 : Shape := ⟨1, ![1024]⟩
abbrev S1024x1024 : Shape := ⟨2, ![1024, 1024]⟩
abbrev S4224x512 : Shape := ⟨2, ![4224, 512]⟩
abbrev S128 : Shape := ⟨1, ![128]⟩
abbrev S2816x1024 : Shape := ⟨2, ![2816, 1024]⟩
abbrev S1x1024 : Shape := ⟨2, ![1, 1024]⟩
abbrev S1x128 : Shape := ⟨2, ![1, 128]⟩
abbrev S384x1024 : Shape := ⟨2, ![384, 1024]⟩
abbrev S384x2816 : Shape := ⟨2, ![384, 2816]⟩
abbrev S384x512 : Shape := ⟨2, ![384, 512]⟩
abbrev S384 : Shape := ⟨1, ![384]⟩
abbrev S384x1 : Shape := ⟨2, ![384, 1]⟩
abbrev S384x64 : Shape := ⟨2, ![384, 64]⟩
abbrev S384x128 : Shape := ⟨2, ![384, 128]⟩

abbrev nBuf : Space → Nat
  | .hbm => 25
  | .vmem => 28
  | .smem => 0
  | _ => 0

abbrev bufTy : (tb : Table) → Fin (tcTables nBuf tb) → BufTy
  | .hbm, ⟨0, _⟩ => ⟨S4224x1024, .f32⟩
  | .hbm, ⟨1, _⟩ => ⟨S4224x2816, .bf16⟩
  | .hbm, ⟨2, _⟩ => ⟨S4224x2816, .bf16⟩
  | .hbm, ⟨3, _⟩ => ⟨S4224x1024, .f32⟩
  | .hbm, ⟨4, _⟩ => ⟨S1024x2816, .f32⟩
  | .hbm, ⟨5, _⟩ => ⟨S1024x2816, .f32⟩
  | .hbm, ⟨6, _⟩ => ⟨S1024, .f32⟩
  | .hbm, ⟨7, _⟩ => ⟨S1024x1024, .f32⟩
  | .hbm, ⟨8, _⟩ => ⟨S4224x512, .f32⟩
  | .hbm, ⟨9, _⟩ => ⟨S4224x512, .f32⟩
  | .hbm, ⟨10, _⟩ => ⟨S128, .f32⟩
  | .hbm, ⟨11, _⟩ => ⟨S2816x1024, .f32⟩
  | .hbm, ⟨12, _⟩ => ⟨S2816x1024, .bf16⟩
  | .hbm, ⟨13, _⟩ => ⟨S2816x1024, .f32⟩
  | .hbm, ⟨14, _⟩ => ⟨S2816x1024, .bf16⟩
  | .hbm, ⟨15, _⟩ => ⟨S1x1024, .f32⟩
  | .hbm, ⟨16, _⟩ => ⟨S1024x1024, .bf16⟩
  | .hbm, ⟨17, _⟩ => ⟨S1x128, .f32⟩
  | .hbm, ⟨18, _⟩ => ⟨S4224x1024, .f32⟩
  | .hbm, ⟨19, _⟩ => ⟨S1x1024, .f32⟩
  | .hbm, ⟨20, _⟩ => ⟨S1x1024, .f32⟩
  | .hbm, ⟨21, _⟩ => ⟨S4224x512, .f32⟩
  | .hbm, ⟨22, _⟩ => ⟨S4224x512, .f32⟩
  | .hbm, ⟨23, _⟩ => ⟨S4224x512, .f32⟩
  | .hbm, ⟨24, _⟩ => ⟨S1x128, .f32⟩
  | .local _ .vmem, ⟨0, _⟩ => ⟨S384x1024, .f32⟩
  | .local _ .vmem, ⟨1, _⟩ => ⟨S384x1024, .f32⟩
  | .local _ .vmem, ⟨2, _⟩ => ⟨S384x2816, .bf16⟩
  | .local _ .vmem, ⟨3, _⟩ => ⟨S384x2816, .bf16⟩
  | .local _ .vmem, ⟨4, _⟩ => ⟨S384x2816, .bf16⟩
  | .local _ .vmem, ⟨5, _⟩ => ⟨S384x2816, .bf16⟩
  | .local _ .vmem, ⟨6, _⟩ => ⟨S384x1024, .f32⟩
  | .local _ .vmem, ⟨7, _⟩ => ⟨S384x1024, .f32⟩
  | .local _ .vmem, ⟨8, _⟩ => ⟨S2816x1024, .bf16⟩
  | .local _ .vmem, ⟨9, _⟩ => ⟨S2816x1024, .bf16⟩
  | .local _ .vmem, ⟨10, _⟩ => ⟨S1x1024, .f32⟩
  | .local _ .vmem, ⟨11, _⟩ => ⟨S1024x1024, .bf16⟩
  | .local _ .vmem, ⟨12, _⟩ => ⟨S384x512, .f32⟩
  | .local _ .vmem, ⟨13, _⟩ => ⟨S384x512, .f32⟩
  | .local _ .vmem, ⟨14, _⟩ => ⟨S384x512, .f32⟩
  | .local _ .vmem, ⟨15, _⟩ => ⟨S384x512, .f32⟩
  | .local _ .vmem, ⟨16, _⟩ => ⟨S1x128, .f32⟩
  | .local _ .vmem, ⟨17, _⟩ => ⟨S384x1024, .f32⟩
  | .local _ .vmem, ⟨18, _⟩ => ⟨S384x1024, .f32⟩
  | .local _ .vmem, ⟨19, _⟩ => ⟨S1x1024, .f32⟩
  | .local _ .vmem, ⟨20, _⟩ => ⟨S1x1024, .f32⟩
  | .local _ .vmem, ⟨21, _⟩ => ⟨S384x512, .f32⟩
  | .local _ .vmem, ⟨22, _⟩ => ⟨S384x512, .f32⟩
  | .local _ .vmem, ⟨23, _⟩ => ⟨S384x512, .f32⟩
  | .local _ .vmem, ⟨24, _⟩ => ⟨S384x512, .f32⟩
  | .local _ .vmem, ⟨25, _⟩ => ⟨S384x512, .f32⟩
  | .local _ .vmem, ⟨26, _⟩ => ⟨S384x512, .f32⟩
  | .local _ .vmem, ⟨27, _⟩ => ⟨S1x128, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v7_2 : Ref sig .tc := ⟨.hbm, 20, rfl⟩
abbrev main_v7_3 : Ref sig .tc := ⟨.hbm, 21, rfl⟩
abbrev main_v7_4 : Ref sig .tc := ⟨.hbm, 22, rfl⟩
abbrev main_v7_5 : Ref sig .tc := ⟨.hbm, 23, rfl⟩
abbrev main_v7_6 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S384x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S384x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S384x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S384x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S384x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference2Ideal.lean ====
abbrev S4224x1024 : Shape := ⟨2, ![4224, 1024]⟩
abbrev S4224x2816 : Shape := ⟨2, ![4224, 2816]⟩
abbrev S1024x2816 : Shape := ⟨2, ![1024, 2816]⟩
abbrev S1024 : Shape := ⟨1, ![1024]⟩
abbrev S1024x1024 : Shape := ⟨2, ![1024, 1024]⟩
abbrev S4224x512 : Shape := ⟨2, ![4224, 512]⟩
abbrev S128 : Shape := ⟨1, ![128]⟩
abbrev S_ : Shape := ⟨0, ![]⟩
abbrev S4224 : Shape := ⟨1, ![4224]⟩
abbrev S4224x1 : Shape := ⟨2, ![4224, 1]⟩
abbrev S1x1024 : Shape := ⟨2, ![1, 1024]⟩
abbrev S4224x4x128 : Shape := ⟨3, ![4224, 4, 128]⟩
abbrev S4224x4 : Shape := ⟨2, ![4224, 4]⟩
abbrev S4224x4x1 : Shape := ⟨3, ![4224, 4, 1]⟩
abbrev S1x1x128 : Shape := ⟨3, ![1, 1, 128]⟩
abbrev S4224x2x4x64 : Shape := ⟨4, ![4224, 2, 4, 64]⟩
abbrev S4224x4x2x64 : Shape := ⟨4, ![4224, 4, 2, 64]⟩
abbrev S1x128 : Shape := ⟨2, ![1, 128]⟩

abbrev nBuf : Space → Nat
  | .hbm => 190
  | .vmem => 0
  | .smem => 0
  | _ => 0

abbrev hbmTy0_0 (i : Nat) : BufTy := match i % 128 with
  | 0 => ⟨S4224x1024, .f32⟩
  | 1 => ⟨S4224x2816, .bf16⟩
  | 2 => ⟨S4224x2816, .bf16⟩
  | 3 => ⟨S4224x1024, .f32⟩
  | 4 => ⟨S1024x2816, .f32⟩
  | 5 => ⟨S1024x2816, .f32⟩
  | 6 => ⟨S1024, .f32⟩
  | 7 => ⟨S1024x1024, .f32⟩
  | 8 => ⟨S4224x512, .f32⟩
  | 9 => ⟨S4224x512, .f32⟩
  | 10 => ⟨S128, .f32⟩
  | 11 => ⟨S4224x2816, .f32⟩
  | 12 => ⟨S4224x2816, .f32⟩
  | 13 => ⟨S_, .f32⟩
  | 14 => ⟨S1024, .f32⟩
  | 15 => ⟨S_, .f32⟩
  | 16 => ⟨S4224, .f32⟩
  | 17 => ⟨S4224x1, .f32⟩
  | 18 => ⟨S_, .f32⟩
  | 19 => ⟨S4224x1, .f32⟩
  | 20 => ⟨S4224x1, .f32⟩
  | 21 => ⟨S4224x1024, .f32⟩
  | 22 => ⟨S4224x1024, .f32⟩
  | 23 => ⟨S4224x1024, .f32⟩
  | 24 => ⟨S_, .f32⟩
  | 25 => ⟨S4224x1024, .f32⟩
  | 26 => ⟨S4224x1024, .f32⟩
  | 27 => ⟨S_, .f32⟩
  | 28 => ⟨S4224, .f32⟩
  | 29 => ⟨S4224x1, .f32⟩
  | 30 => ⟨S_, .f32⟩
  | 31 => ⟨S4224x1, .f32⟩
  | 32 => ⟨S4224x1, .f32⟩
  | 33 => ⟨S4224x1024, .f32⟩
  | 34 => ⟨S4224x1024, .f32⟩
  | 35 => ⟨S_, .f32⟩
  | 36 => ⟨S4224x1, .f32⟩
  | 37 => ⟨S4224x1, .f32⟩
  | 38 => ⟨S4224x1, .f32⟩
  | 39 => ⟨S4224x1, .f32⟩
  | 40 => ⟨S_, .f32⟩
  | 41 => ⟨S4224x1, .f32⟩
  | 42 => ⟨S4224x1, .f32⟩
  | 43 => ⟨S4224x1024, .f32⟩
  | 44 => ⟨S4224x1024, .f32⟩
  | 45 => ⟨S1x1024, .f32⟩
  | 46 => ⟨S4224x1024, .f32⟩
  | 47 => ⟨S4224x1024, .f32⟩
  | 48 => ⟨S1x1024, .f32⟩
  | 49 => ⟨S4224x1024, .f32⟩
  | 50 => ⟨S4224x1024, .f32⟩
  | 51 => ⟨S_, .f32⟩
  | 52 => ⟨S4224x1024, .f32⟩
  | 53 => ⟨S4224x1024, .f32⟩
  | 54 => ⟨S4224x2816, .f32⟩
  | 55 => ⟨S4224x2816, .f32⟩
  | 56 => ⟨S4224x1024, .f32⟩
  | 57 => ⟨S4224x1024, .f32⟩
  | 58 => ⟨S4224x1024, .f32⟩
  | 59 => ⟨S_, .f32⟩
  | 60 => ⟨S4224x1024, .f32⟩
  | 61 => ⟨S4224x1024, .f32⟩
  | 62 => ⟨S4224x1024, .f32⟩
  | 63 => ⟨S_, .f32⟩
  | 64 => ⟨S1024, .f32⟩
  | 65 => ⟨S1x1024, .f32⟩
  | 66 => ⟨S_, .f32⟩
  | 67 => ⟨S1024, .f32⟩
  | 68 => ⟨S4224x1024, .f32⟩
  | 69 => ⟨S_, .f32⟩
  | 70 => ⟨S1024, .f32⟩
  | 71 => ⟨S1x1024, .f32⟩
  | 72 => ⟨S4224x1024, .f32⟩
  | 73 => ⟨S4224x1024, .f32⟩
  | 74 => ⟨S_, .f32⟩
  | 75 => ⟨S1024, .f32⟩
  | 76 => ⟨S4224x1024, .f32⟩
  | 77 => ⟨S_, .f32⟩
  | 78 => ⟨S4224, .f32⟩
  | 79 => ⟨S4224x1, .f32⟩
  | 80 => ⟨S4224x1024, .f32⟩
  | 81 => ⟨S4224x1024, .f32⟩
  | 82 => ⟨S4224x1, .f32⟩
  | 83 => ⟨S4224x1024, .f32⟩
  | 84 => ⟨S_, .f32⟩
  | 85 => ⟨S4224, .f32⟩
  | 86 => ⟨S4224x1, .f32⟩
  | 87 => ⟨S_, .f32⟩
  | 88 => ⟨S4224x1, .f32⟩
  | 89 => ⟨S4224x1, .f32⟩
  | 90 => ⟨S_, .f32⟩
  | 91 => ⟨S4224, .f32⟩
  | 92 => ⟨S4224x1024, .f32⟩
  | 93 => ⟨S4224x1024, .f32⟩
  | 94 => ⟨S4224x1024, .f32⟩
  | 95 => ⟨S_, .f32⟩
  | 96 => ⟨S4224, .f32⟩
  | 97 => ⟨S4224x1, .f32⟩
  | 98 => ⟨S4224x1024, .f32⟩
  | 99 => ⟨S4224x1, .f32⟩
  | 100 => ⟨S_, .f32⟩
  | 101 => ⟨S4224x1, .f32⟩
  | 102 => ⟨S4224x1, .f32⟩
  | 103 => ⟨S_, .f32⟩
  | 104 => ⟨S4224, .f32⟩
  | 105 => ⟨S4224x1024, .f32⟩
  | 106 => ⟨S4224x1024, .f32⟩
  | 107 => ⟨S_, .f32⟩
  | 108 => ⟨S4224x512, .f32⟩
  | 109 => ⟨S4224x4x128, .f32⟩
  | 110 => ⟨S4224x4x128, .f32⟩
  | 111 => ⟨S_, .f32⟩
  | 112 => ⟨S4224x4x128, .f32⟩
  | 113 => ⟨S4224x4x128, .f32⟩
  | 114 => ⟨S_, .f32⟩
  | 115 => ⟨S4224x4, .f32⟩
  | 116 => ⟨S4224x4x1, .f32⟩
  | 117 => ⟨S_, .f32⟩
  | 118 => ⟨S4224x4x1, .f32⟩
  | 119 => ⟨S4224x4x1, .f32⟩
  | 120 => ⟨S_, .f32⟩
  | 121 => ⟨S4224x4x1, .f32⟩
  | 122 => ⟨S4224x4x1, .f32⟩
  | 123 => ⟨S4224x4x1, .f32⟩
  | 124 => ⟨S4224x4x1, .f32⟩
  | 125 => ⟨S_, .f32⟩
  | 126 => ⟨S4224x4x1, .f32⟩
  | 127 => ⟨S4224x4x1, .f32⟩
  | _ => ⟨S4224x1024, .f32⟩

abbrev hbmTy0_1 (i : Nat) : BufTy := match i % 128 with
  | 0 => ⟨S4224x4x128, .f32⟩
  | 1 => ⟨S4224x4x128, .f32⟩
  | 2 => ⟨S1x1x128, .f32⟩
  | 3 => ⟨S4224x4x128, .f32⟩
  | 4 => ⟨S4224x4x128, .f32⟩
  | 5 => ⟨S4224x512, .f32⟩
  | 6 => ⟨S4224x512, .f32⟩
  | 7 => ⟨S4224x512, .f32⟩
  | 8 => ⟨S_, .f32⟩
  | 9 => ⟨S4224x512, .f32⟩
  | 10 => ⟨S4224x512, .f32⟩
  | 11 => ⟨S_, .f32⟩
  | 12 => ⟨S4224x512, .f32⟩
  | 13 => ⟨S4224x512, .f32⟩
  | 14 => ⟨S_, .f32⟩
  | 15 => ⟨S4224x512, .f32⟩
  | 16 => ⟨S4224x512, .f32⟩
  | 17 => ⟨S4224x512, .f32⟩
  | 18 => ⟨S4224x512, .f32⟩
  | 19 => ⟨S4224x512, .f32⟩
  | 20 => ⟨S4224x1024, .f32⟩
  | 21 => ⟨S4224x1024, .f32⟩
  | 22 => ⟨S4224x1024, .f32⟩
  | 23 => ⟨S4224x512, .f32⟩
  | 24 => ⟨S4224x512, .f32⟩
  | 25 => ⟨S4224x512, .f32⟩
  | 26 => ⟨S4224x512, .f32⟩
  | 27 => ⟨S4224x512, .f32⟩
  | 28 => ⟨S4224x512, .f32⟩
  | 29 => ⟨S4224x512, .f32⟩
  | 30 => ⟨S4224x512, .f32⟩
  | 31 => ⟨S4224x4x128, .f32⟩
  | 32 => ⟨S4224x4x128, .f32⟩
  | 33 => ⟨S_, .f32⟩
  | 34 => ⟨S128, .f32⟩
  | 35 => ⟨S1x1x128, .f32⟩
  | 36 => ⟨S4224x4x128, .f32⟩
  | 37 => ⟨S4224x4x128, .f32⟩
  | 38 => ⟨S_, .f32⟩
  | 39 => ⟨S128, .f32⟩
  | 40 => ⟨S4224x4x128, .f32⟩
  | 41 => ⟨S_, .f32⟩
  | 42 => ⟨S4224x4, .f32⟩
  | 43 => ⟨S4224x4x1, .f32⟩
  | 44 => ⟨S4224x4x128, .f32⟩
  | 45 => ⟨S4224x4x128, .f32⟩
  | 46 => ⟨S4224x4x1, .f32⟩
  | 47 => ⟨S_, .f32⟩
  | 48 => ⟨S4224x4x1, .f32⟩
  | 49 => ⟨S4224x4x1, .f32⟩
  | 50 => ⟨S_, .f32⟩
  | 51 => ⟨S4224x4, .f32⟩
  | 52 => ⟨S4224x4x128, .f32⟩
  | 53 => ⟨S4224x4x128, .f32⟩
  | 54 => ⟨S4224x4x128, .f32⟩
  | 55 => ⟨S4224x512, .f32⟩
  | 56 => ⟨S4224x2x4x64, .f32⟩
  | 57 => ⟨S4224x4x2x64, .f32⟩
  | 58 => ⟨S4224x512, .f32⟩
  | 59 => ⟨S1x1024, .f32⟩
  | 60 => ⟨S1x1024, .f32⟩
  | 61 => ⟨S1x128, .f32⟩
  | _ => ⟨S4224x1024, .f32⟩

abbrev hbmTy (i : Nat) : BufTy := match i / 128 with
  | 0 => hbmTy0_0 i
  | 1 => hbmTy0_1 i
  | _ => ⟨S4224x1024, .f32⟩

abbrev bufTy : (tb : Table) → Fin (tcTables nBuf tb) → BufTy
  | .hbm, ⟨i, _⟩ => hbmTy i
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_v12 : Ref sig .tc := ⟨.hbm, 28, rfl⟩
abbrev main_v13 : Ref sig .tc := ⟨.hbm, 29, rfl⟩
abbrev main_cst_4 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_cst_10 : Ref sig .tc := ⟨.hbm, 66, rfl⟩
abbrev main_v44 : Ref sig .tc := ⟨.hbm, 67, rfl⟩
abbrev main_v45 : Ref sig .tc := ⟨.hbm, 68, rfl⟩
abbrev main_cst_11 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_12 : Ref sig .tc := ⟨.hbm, 74, rfl⟩
abbrev main_v50 : Ref sig .tc := ⟨.hbm, 75, rfl⟩
abbrev main_v51 : Ref sig .tc := ⟨.hbm, 76, rfl⟩
abbrev main_cst_13 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_14 : Ref sig .tc := ⟨.hbm, 84, rfl⟩
abbrev main_v58 : Ref sig .tc := ⟨.hbm, 85, rfl⟩
abbrev main_v59 : Ref sig .tc := ⟨.hbm, 86, rfl⟩
abbrev main_cst_15 : Ref sig .tc := ⟨.hbm, 87, rfl⟩
abbrev main_v60 : Ref sig .tc := ⟨.hbm, 88, rfl⟩
abbrev main_v61 : Ref sig .tc := ⟨.hbm, 89, rfl⟩
abbrev main_cst_16 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_17 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_18 : Ref sig .tc := ⟨.hbm, 100, rfl⟩
abbrev main_v70 : Ref sig .tc := ⟨.hbm, 101, rfl⟩
abbrev main_v71 : Ref sig .tc := ⟨.hbm, 102, rfl⟩
abbrev main_cst_19 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_20 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_21 : Ref sig .tc := ⟨.hbm, 111, rfl⟩
abbrev main_v78 : Ref sig .tc := ⟨.hbm, 112, rfl⟩
abbrev main_v79 : Ref sig .tc := ⟨.hbm, 113, rfl⟩
abbrev main_cst_22 : Ref sig .tc := ⟨.hbm, 114, rfl⟩
abbrev main_v80 : Ref sig .tc := ⟨.hbm, 115, rfl⟩
abbrev main_v81 : Ref sig .tc := ⟨.hbm, 116, rfl⟩
abbrev main_cst_23 : Ref sig .tc := ⟨.hbm, 117, rfl⟩
abbrev main_v82 : Ref sig .tc := ⟨.hbm, 118, rfl⟩
abbrev main_v83 : Ref sig .tc := ⟨.hbm, 119, rfl⟩
abbrev main_cst_24 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_25 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_call0_v0 : Ref sig .tc := ⟨.hbm, 134, rfl⟩
abbrev main_call0_v1 : Ref sig .tc := ⟨.hbm, 135, rfl⟩
abbrev main_call0_cst : Ref sig .tc := ⟨.hbm, 136, rfl⟩
abbrev main_call0_v2 : Ref sig .tc := ⟨.hbm, 137, rfl⟩
abbrev main_call0_v3 : Ref sig .tc := ⟨.hbm, 138, rfl⟩
abbrev main_call0_cst_0 : Ref sig .tc := ⟨.hbm, 139, rfl⟩
abbrev main_call0_v4 : Ref sig .tc := ⟨.hbm, 140, rfl⟩
abbrev main_v96_2 : Ref sig .tc := ⟨.hbm, 141, rfl⟩
abbrev main_call0_cst_1 : Ref sig .tc := ⟨.hbm, 142, rfl⟩
abbrev main_call0_v6 : Ref sig .tc := ⟨.hbm, 143, rfl⟩
abbrev main_call0_v7 : Ref sig .tc := ⟨.hbm, 144, rfl⟩
abbrev main_v96_1 : Ref sig .tc := ⟨.hbm, 145, rfl⟩
abbrev main_v96_0 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_call1_v0 : Ref sig .tc := ⟨.hbm, 155, rfl⟩
abbrev main_call1_v1 : Ref sig .tc := ⟨.hbm, 156, rfl⟩
abbrev main_call1_v2 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_cst_26 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_cst_27 : Ref sig .tc := ⟨.hbm, 166, rfl⟩
abbrev main_v112 : Ref sig .tc := ⟨.hbm, 167, rfl⟩
abbrev main_v113 : Ref sig .tc := ⟨.hbm, 168, rfl⟩
abbrev main_cst_28 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_cst_29 : Ref sig .tc := ⟨.hbm, 175, rfl⟩
abbrev main_v119 : Ref sig .tc := ⟨.hbm, 176, rfl⟩
abbrev main_v120 : Ref sig .tc := ⟨.hbm, 177, rfl⟩
abbrev main_cst_30 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩

abbrev nD : Nat := 1
abbrev τ : Topo := Topo.v7x

variable {F : FTy → Type} [FloatOps F]
-- ==== Kernel3.lean ====
abbrev S4224x2816 : Shape := ⟨2, ![4224, 2816]⟩
abbrev S4224x1024 : Shape := ⟨2, ![4224, 1024]⟩
abbrev S2816x1024 : Shape := ⟨2, ![2816, 1024]⟩
abbrev S1408x2816 : Shape := ⟨2, ![1408, 2816]⟩
abbrev S1408x512 : Shape := ⟨2, ![1408, 512]⟩
abbrev S2816x512 : Shape := ⟨2, ![2816, 512]⟩
abbrev S1024x1024 : Shape := ⟨2, ![1024, 1024]⟩
abbrev S1408x1024 : Shape := ⟨2, ![1408, 1024]⟩

abbrev nBuf : Space → Nat
  | .hbm => 11
  | .vmem => 23
  | .smem => 0
  | _ => 0

abbrev bufTy : (tb : Table) → Fin (tcTables nBuf tb) → BufTy
  | .hbm, ⟨0, _⟩ => ⟨S4224x2816, .bf16⟩
  | .hbm, ⟨1, _⟩ => ⟨S4224x2816, .bf16⟩
  | .hbm, ⟨2, _⟩ => ⟨S4224x2816, .bf16⟩
  | .hbm, ⟨3, _⟩ => ⟨S4224x1024, .bf16⟩
  | .hbm, ⟨4, _⟩ => ⟨S4224x1024, .f32⟩
  | .hbm, ⟨5, _⟩ => ⟨S4224x1024, .f32⟩
  | .hbm, ⟨6, _⟩ => ⟨S4224x1024, .f32⟩
  | .hbm, ⟨7, _⟩ => ⟨S2816x1024, .f32⟩
  | .hbm, ⟨8, _⟩ => ⟨S2816x1024, .f32⟩
  | .hbm, ⟨9, _⟩ => ⟨S2816x1024, .f32⟩
  | .hbm, ⟨10, _⟩ => ⟨S1024x1024, .f32⟩
  | .local _ .vmem, ⟨0, _⟩ => ⟨S1408x2816, .bf16⟩
  | .local _ .vmem, ⟨1, _⟩ => ⟨S1408x2816, .bf16⟩
  | .local _ .vmem, ⟨2, _⟩ => ⟨S1408x512, .f32⟩
  | .local _ .vmem, ⟨3, _⟩ => ⟨S1408x512, .f32⟩
  | .local _ .vmem, ⟨4, _⟩ => ⟨S2816x512, .f32⟩
  | .local _ .vmem, ⟨5, _⟩ => ⟨S2816x512, .f32⟩
  | .local _ .vmem, ⟨6, _⟩ => ⟨S1408x2816, .bf16⟩
  | .local _ .vmem, ⟨7, _⟩ => ⟨S1408x2816, .bf16⟩
  | .local _ .vmem, ⟨8, _⟩ => ⟨S1408x512, .f32⟩
  | .local _ .vmem, ⟨9, _⟩ => ⟨S1408x512, .f32⟩
  | .local _ .vmem, ⟨10, _⟩ => ⟨S2816x512, .f32⟩
  | .local _ .vmem, ⟨11, _⟩ => ⟨S2816x512, .f32⟩
  | .local _ .vmem, ⟨12, _⟩ => ⟨S1408x2816, .bf16⟩
  | .local _ .vmem, ⟨13, _⟩ => ⟨S1408x2816, .bf16⟩
  | .local _ .vmem, ⟨14, _⟩ => ⟨S1408x512, .f32⟩
  | .local _ .vmem, ⟨15, _⟩ => ⟨S1408x512, .f32⟩
  | .local _ .vmem, ⟨16, _⟩ => ⟨S2816x512, .f32⟩
  | .local _ .vmem, ⟨17, _⟩ => ⟨S2816x512, .f32⟩
  | .local _ .vmem, ⟨18, _⟩ => ⟨S1408x1024, .bf16⟩
  | .local _ .vmem, ⟨19, _⟩ => ⟨S1408x1024, .bf16⟩
  | .local _ .vmem, ⟨20, _⟩ => ⟨S1408x1024, .f32⟩
  | .local _ .vmem, ⟨21, _⟩ => ⟨S1408x1024, .f32⟩
  | .local _ .vmem, ⟨22, _⟩ => ⟨S1024x1024, .f32⟩
  | _, _ => ⟨S4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1408x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2816x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 3], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1408x2816 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1408x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2816x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![2, 3], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S1408x2816 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1408x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S2816x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![1, 3], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage3_0 : Fin 2 → Memref sig .tc .vmem S1408x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S1408x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 1 → Memref sig .tc .vmem S1024x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, false]
-- ==== Reference3Ideal.lean ====
abbrev S4224x2816 : Shape := ⟨2, ![4224, 2816]⟩
abbrev S4224x1024 : Shape := ⟨2, ![4224, 1024]⟩
abbrev S_ : Shape := ⟨0, ![]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 33
  | .vmem => 0
  | .smem => 0
  | _ => 0

abbrev bufTy : (tb : Table) → Fin (tcTables nBuf tb) → BufTy
  | .hbm, ⟨0, _⟩ => ⟨S4224x2816, .bf16⟩
  | .hbm, ⟨1, _⟩ => ⟨S4224x2816, .bf16⟩
  | .hbm, ⟨2, _⟩ => ⟨S4224x2816, .bf16⟩
  | .hbm, ⟨3, _⟩ => ⟨S4224x1024, .bf16⟩
  | .hbm, ⟨4, _⟩ => ⟨S4224x1024, .f32⟩
  | .hbm, ⟨5, _⟩ => ⟨S4224x1024, .f32⟩
  | .hbm, ⟨6, _⟩ => ⟨S4224x1024, .f32⟩
  | .hbm, ⟨7, _⟩ => ⟨S4224x2816, .f32⟩
  | .hbm, ⟨8, _⟩ => ⟨S4224x2816, .f32⟩
  | .hbm, ⟨9, _⟩ => ⟨S4224x2816, .f32⟩
  | .hbm, ⟨10, _⟩ => ⟨S4224x1024, .f32⟩
  | .hbm, ⟨11, _⟩ => ⟨S_, .f32⟩
  | .hbm, ⟨12, _⟩ => ⟨S2816x1024, .f32⟩
  | .hbm, ⟨13, _⟩ => ⟨S_, .f32⟩
  | .hbm, ⟨14, _⟩ => ⟨S1024x2816, .f32⟩
  | .hbm, ⟨15, _⟩ => ⟨S_, .f32⟩
  | .hbm, ⟨16, _⟩ => ⟨S1024x2816, .f32⟩
  | .hbm, ⟨17, _⟩ => ⟨S_, .f32⟩
  | .hbm, ⟨18, _⟩ => ⟨S1024x1024, .f32⟩
  | .hbm, ⟨19, _⟩ => ⟨S4224x1024, .f32⟩
  | .hbm, ⟨20, _⟩ => ⟨S4224x2816, .f32⟩
  | .hbm, ⟨21, _⟩ => ⟨S4224x2816, .f32⟩
  | .hbm, ⟨22, _⟩ => ⟨S4224x1024, .f32⟩
  | .hbm, ⟨23, _⟩ => ⟨S1024x1024, .f32⟩
  | .hbm, ⟨24, _⟩ => ⟨S1024x1024, .f32⟩
  | .hbm, ⟨25, _⟩ => ⟨S2816x1024, .f32⟩
  | .hbm, ⟨26, _⟩ => ⟨S1024x2816, .f32⟩
  | .hbm, ⟨27, _⟩ => ⟨S2816x1024, .f32⟩
  | .hbm, ⟨28, _⟩ => ⟨S1024x2816, .f32⟩
  | .hbm, ⟨29, _⟩ => ⟨S1024x2816, .f32⟩
  | .hbm, ⟨30, _⟩ => ⟨S2816x1024, .f32⟩
  | .hbm, ⟨31, _⟩ => ⟨S2816x1024, .f32⟩
  | .hbm, ⟨32, _⟩ => ⟨S2816x1024, .f32⟩
  | _, _ => ⟨S4224x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]
-- ==== Kernel4.lean ====
abbrev S4224x1024 : Shape := ⟨2, ![4224, 1024]⟩
abbrev S1024x2816 : Shape := ⟨2, ![1024, 2816]⟩
abbrev S2816x1024 : Shape := ⟨2, ![2816, 1024]⟩
abbrev S4096x1024 : Shape := ⟨2, ![4096, 1024]⟩
abbrev S1024 : Shape := ⟨1, ![1024]⟩
abbrev S1x1024 : Shape := ⟨2, ![1, 1024]⟩
abbrev S4224x2816 : Shape := ⟨2, ![4224, 2816]⟩
abbrev S1x128 : Shape := ⟨2, ![1, 128]⟩
abbrev S384x1024 : Shape := ⟨2, ![384, 1024]⟩
abbrev S128x1024 : Shape := ⟨2, ![128, 1024]⟩
abbrev S384x2816 : Shape := ⟨2, ![384, 2816]⟩
abbrev S1408x1024 : Shape := ⟨2, ![1408, 1024]⟩
abbrev S384x1408 : Shape := ⟨2, ![384, 1408]⟩
abbrev S384 : Shape := ⟨1, ![384]⟩
abbrev S384x1 : Shape := ⟨2, ![384, 1]⟩
abbrev S1 : Shape := ⟨1, ![1]⟩
abbrev S1x1 : Shape := ⟨2, ![1, 1]⟩

abbrev nBuf : Space → Nat
  | .hbm => 21
  | .vmem => 27
  | .smem => 0
  | _ => 0

abbrev bufTy : (tb : Table) → Fin (tcTables nBuf tb) → BufTy
  | .hbm, ⟨0, _⟩ => ⟨S4224x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S1024, .f32⟩
  | .hbm, ⟨6, _⟩ => ⟨S1024, .f32⟩
  | .hbm, ⟨7, _⟩ => ⟨S2816x1024, .f32⟩
  | .hbm, ⟨8, _⟩ => ⟨S2816x1024, .bf16⟩
  | .hbm, ⟨9, _⟩ => ⟨S2816x1024, .f32⟩
  | .hbm, ⟨10, _⟩ => ⟨S2816x1024, .bf16⟩
  | .hbm, ⟨11, _⟩ => ⟨S2816x1024, .bf16⟩
  | .hbm, ⟨12, _⟩ => ⟨S1x1024, .f32⟩
  | .hbm, ⟨13, _⟩ => ⟨S1x1024, .f32⟩
  | .hbm, ⟨14, _⟩ => ⟨S4224x2816, .bf16⟩
  | .hbm, ⟨15, _⟩ => ⟨S4224x2816, .bf16⟩
  | .hbm, ⟨16, _⟩ => ⟨S4224x2816, .bf16⟩
  | .hbm, ⟨17, _⟩ => ⟨S4224x1024, .f32⟩
  | .hbm, ⟨18, _⟩ => ⟨S1x128, .f32⟩
  | .hbm, ⟨19, _⟩ => ⟨S1x1024, .f32⟩
  | .hbm, ⟨20, _⟩ => ⟨S1x1024, .f32⟩
  | .local _ .vmem, ⟨0, _⟩ => ⟨S384x1024, .f32⟩
  | .local _ .vmem, ⟨1, _⟩ => ⟨S384x1024, .f32⟩
  | .local _ .vmem, ⟨2, _⟩ => ⟨S2816x1024, .bf16⟩
  | .local _ .vmem, ⟨3, _⟩ => ⟨S2816x1024, .bf16⟩
  | .local _ .vmem, ⟨4, _⟩ => ⟨S2816x1024, .bf16⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S1x1024, .f32⟩
  | .local _ .vmem, ⟨12, _⟩ => ⟨S1x1024, .f32⟩
  | .local _ .vmem, ⟨13, _⟩ => ⟨S384x2816, .bf16⟩
  | .local _ .vmem, ⟨14, _⟩ => ⟨S384x2816, .bf16⟩
  | .local _ .vmem, ⟨15, _⟩ => ⟨S384x2816, .bf16⟩
  | .local _ .vmem, ⟨16, _⟩ => ⟨S384x2816, .bf16⟩
  | .local _ .vmem, ⟨17, _⟩ => ⟨S384x2816, .bf16⟩
  | .local _ .vmem, ⟨18, _⟩ => ⟨S384x2816, .bf16⟩
  | .local _ .vmem, ⟨19, _⟩ => ⟨S384x1024, .f32⟩
  | .local _ .vmem, ⟨20, _⟩ => ⟨S384x1024, .f32⟩
  | .local _ .vmem, ⟨21, _⟩ => ⟨S1x128, .f32⟩
  | .local _ .vmem, ⟨22, _⟩ => ⟨S1x1024, .f32⟩
  | .local _ .vmem, ⟨23, _⟩ => ⟨S1x1024, .f32⟩
  | .local _ .vmem, ⟨24, _⟩ => ⟨S384x2816, .f32⟩
  | .local _ .vmem, ⟨25, _⟩ => ⟨S384x2816, .f32⟩
  | .local _ .vmem, ⟨26, _⟩ => ⟨S1x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev main_v7_5 : Ref sig .tc := ⟨.hbm, 19, rfl⟩
abbrev main_v7_6 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem15_0 : DmaSem sig := 23

abbrev nD : Nat := 1
abbrev τ : Topo := Topo.v7x

variable {F : FTy → Type} [FloatOps F]

abbrev grid0 : Pipeline.Grid := ⟨1, ![11], ![false]⟩

def k0_cond2 (i : grid0.Coords) : BitVec 1 :=
  let arg0 : BitVec 32 := BitVec.ofNat 32 (i 0).val
  let c10_i32 : BitVec 32 := 10#32
  let v217 : BitVec 1 := Scalar.cmpi .eq arg0 c10_i32
  let v218 : BitVec 32 := Scalar.extui v217
  let c0_i32_109 : BitVec 32 := 0#32
  let v219 : BitVec 1 := Scalar.cmpi .ne v218 c0_i32_109
  v219

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c3_i32 : BitVec 32 := 3#32
  let v0 : BitVec 32 := Scalar.muli arg0 c3_i32
  let c0_i32 : BitVec 32 := 0#32
  let v1 : BitVec 32 := Scalar.addi v0 c0_i32
  let c31_i32 : BitVec 32 := 31#32
  let v2 : BitVec 32 := Scalar.minsi v1 c31_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c3_i32 : BitVec 32 := 3#32
  let v0 : BitVec 32 := Scalar.muli arg0 c3_i32
  let c1_i32 : BitVec 32 := 1#32
  let v1 : BitVec 32 := Scalar.addi v0 c1_i32
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c3_i32 : BitVec 32 := 3#32
  let v0 : BitVec 32 := Scalar.muli arg0 c3_i32
  let c2_i32 : BitVec 32 := 2#32
  let v1 : BitVec 32 := Scalar.addi v0 c2_i32
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S384x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S384x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S384x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S384x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference4Ideal.lean ====
abbrev S4224x1024 : Shape := ⟨2, ![4224, 1024]⟩
abbrev S1024x2816 : Shape := ⟨2, ![1024, 2816]⟩
abbrev S2816x1024 : Shape := ⟨2, ![2816, 1024]⟩
abbrev S4096x1024 : Shape := ⟨2, ![4096, 1024]⟩
abbrev S1024 : Shape := ⟨1, ![1024]⟩
abbrev S4224x2816 : Shape := ⟨2, ![4224, 2816]⟩
abbrev S_ : Shape := ⟨0, ![]⟩
abbrev S4224 : Shape := ⟨1, ![4224]⟩
abbrev S4224x1 : Shape := ⟨2, ![4224, 1]⟩
abbrev S1x1024 : Shape := ⟨2, ![1, 1024]⟩
abbrev S4096 : Shape := ⟨1, ![4096]⟩
abbrev S1x128 : Shape := ⟨2, ![1, 128]⟩

abbrev nBuf : Space → Nat
  | .hbm => 157
  | .vmem => 0
  | .smem => 0
  | _ => 0

abbrev hbmTy0_0 (i : Nat) : BufTy := match i % 128 with
  | 0 => ⟨S4224x1024, .f32⟩
  | 1 => ⟨S1024x2816, .f32⟩
  | 2 => ⟨S1024x2816, .f32⟩
  | 3 => ⟨S2816x1024, .f32⟩
  | 4 => ⟨S4096x1024, .f32⟩
  | 5 => ⟨S1024, .f32⟩
  | 6 => ⟨S1024, .f32⟩
  | 7 => ⟨S4224x2816, .f32⟩
  | 8 => ⟨S4224x2816, .f32⟩
  | 9 => ⟨S_, .f32⟩
  | 10 => ⟨S4224x1024, .f32⟩
  | 11 => ⟨S4224x1024, .f32⟩
  | 12 => ⟨S4224x2816, .f32⟩
  | 13 => ⟨S4224x2816, .f32⟩
  | 14 => ⟨S_, .f32⟩
  | 15 => ⟨S4224x2816, .f32⟩
  | 16 => ⟨S4224x2816, .f32⟩
  | 17 => ⟨S_, .f32⟩
  | 18 => ⟨S4224x2816, .f32⟩
  | 19 => ⟨S4224x2816, .f32⟩
  | 20 => ⟨S_, .f32⟩
  | 21 => ⟨S4224x2816, .f32⟩
  | 22 => ⟨S4224x2816, .f32⟩
  | 23 => ⟨S4224x2816, .f32⟩
  | 24 => ⟨S4224x2816, .f32⟩
  | 25 => ⟨S4224x2816, .f32⟩
  | 26 => ⟨S4224x1024, .f32⟩
  | 27 => ⟨S4224x1024, .f32⟩
  | 28 => ⟨S_, .f32⟩
  | 29 => ⟨S4224, .f32⟩
  | 30 => ⟨S4224x1, .f32⟩
  | 31 => ⟨S_, .f32⟩
  | 32 => ⟨S4224x1, .f32⟩
  | 33 => ⟨S4224x1, .f32⟩
  | 34 => ⟨S4224x1024, .f32⟩
  | 35 => ⟨S4224x1024, .f32⟩
  | 36 => ⟨S4224x1024, .f32⟩
  | 37 => ⟨S_, .f32⟩
  | 38 => ⟨S4224x1024, .f32⟩
  | 39 => ⟨S4224x1024, .f32⟩
  | 40 => ⟨S_, .f32⟩
  | 41 => ⟨S4224, .f32⟩
  | 42 => ⟨S4224x1, .f32⟩
  | 43 => ⟨S_, .f32⟩
  | 44 => ⟨S4224x1, .f32⟩
  | 45 => ⟨S4224x1, .f32⟩
  | 46 => ⟨S4224x1024, .f32⟩
  | 47 => ⟨S4224x1024, .f32⟩
  | 48 => ⟨S_, .f32⟩
  | 49 => ⟨S4224x1, .f32⟩
  | 50 => ⟨S4224x1, .f32⟩
  | 51 => ⟨S4224x1, .f32⟩
  | 52 => ⟨S4224x1, .f32⟩
  | 53 => ⟨S_, .f32⟩
  | 54 => ⟨S4224x1, .f32⟩
  | 55 => ⟨S4224x1, .f32⟩
  | 56 => ⟨S4224x1024, .f32⟩
  | 57 => ⟨S4224x1024, .f32⟩
  | 58 => ⟨S1x1024, .f32⟩
  | 59 => ⟨S4224x1024, .f32⟩
  | 60 => ⟨S4224x1024, .f32⟩
  | 61 => ⟨S1x1024, .f32⟩
  | 62 => ⟨S4224x1024, .f32⟩
  | 63 => ⟨S4224x1024, .f32⟩
  | 64 => ⟨S4096x1024, .f32⟩
  | 65 => ⟨S4096x1024, .f32⟩
  | 66 => ⟨S4096x1024, .f32⟩
  | 67 => ⟨S_, .f32⟩
  | 68 => ⟨S4096x1024, .f32⟩
  | 69 => ⟨S4096x1024, .f32⟩
  | 70 => ⟨S_, .f32⟩
  | 71 => ⟨S4096, .f32⟩
  | 72 => ⟨S_, .f32⟩
  | 73 => ⟨S4096, .f32⟩
  | 74 => ⟨S4096, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S4096, .f32⟩
  | 83 => ⟨S_, .f32⟩
  | 84 => ⟨S4096, .f32⟩
  | 85 => ⟨S4096, .f32⟩
  | 86 => ⟨S4096x1024, .f32⟩
  | 87 => ⟨S4096x1024, .f32⟩
  | 88 => ⟨S_, .f32⟩
  | 89 => ⟨S4224x1024, .f32⟩
  | 90 => ⟨S_, .f32⟩
  | 91 => ⟨S1024, .f32⟩
  | 92 => ⟨S1x1024, .f32⟩
  | 93 => ⟨S_, .f32⟩
  | 94 => ⟨S1024, .f32⟩
  | 95 => ⟨S4224x1024, .f32⟩
  | 96 => ⟨S_, .f32⟩
  | 97 => ⟨S1024, .f32⟩
  | 98 => ⟨S1x1024, .f32⟩
  | 99 => ⟨S4224x1024, .f32⟩
  | 100 => ⟨S4224x1024, .f32⟩
  | 101 => ⟨S_, .f32⟩
  | 102 => ⟨S1024, .f32⟩
  | 103 => ⟨S4224x1024, .f32⟩
  | 104 => ⟨S_, .f32⟩
  | 105 => ⟨S4224, .f32⟩
  | 106 => ⟨S4224x1, .f32⟩
  | 107 => ⟨S4224x1024, .f32⟩
  | 108 => ⟨S4224x1024, .f32⟩
  | 109 => ⟨S4224x1, .f32⟩
  | 110 => ⟨S4224x1024, .f32⟩
  | 111 => ⟨S_, .f32⟩
  | 112 => ⟨S4224, .f32⟩
  | 113 => ⟨S4224x1, .f32⟩
  | 114 => ⟨S_, .f32⟩
  | 115 => ⟨S4224x1, .f32⟩
  | 116 => ⟨S4224x1, .f32⟩
  | 117 => ⟨S_, .f32⟩
  | 118 => ⟨S4224, .f32⟩
  | 119 => ⟨S4224x1024, .f32⟩
  | 120 => ⟨S4224x1024, .f32⟩
  | 121 => ⟨S4224x1024, .f32⟩
  | 122 => ⟨S_, .f32⟩
  | 123 => ⟨S4224, .f32⟩
  | 124 => ⟨S4224x1, .f32⟩
  | 125 => ⟨S4224x1024, .f32⟩
  | 126 => ⟨S4224x1, .f32⟩
  | 127 => ⟨S_, .f32⟩
  | _ => ⟨S4224x1024, .f32⟩

abbrev hbmTy0_1 (i : Nat) : BufTy := match i % 128 with
  | 0 => ⟨S4224x1, .f32⟩
  | 1 => ⟨S4224x1, .f32⟩
  | 2 => ⟨S_, .f32⟩
  | 3 => ⟨S4224, .f32⟩
  | 4 => ⟨S4224x1024, .f32⟩
  | 5 => ⟨S4224x1024, .f32⟩
  | 6 => ⟨S4224x2816, .f32⟩
  | 7 => ⟨S4224x2816, .f32⟩
  | 8 => ⟨S4224x2816, .f32⟩
  | 9 => ⟨S4224x2816, .f32⟩
  | 10 => ⟨S4224x2816, .f32⟩
  | 11 => ⟨S4224x2816, .f32⟩
  | 12 => ⟨S4224x2816, .f32⟩
  | 13 => ⟨S4224x2816, .f32⟩
  | 14 => ⟨S4224x2816, .f32⟩
  | 15 => ⟨S_, .f32⟩
  | 16 => ⟨S4224x2816, .f32⟩
  | 17 => ⟨S4224x2816, .f32⟩
  | 18 => ⟨S_, .f32⟩
  | 19 => ⟨S4224x2816, .f32⟩
  | 20 => ⟨S4224x2816, .f32⟩
  | 21 => ⟨S4224x2816, .f32⟩
  | 22 => ⟨S4224x2816, .f32⟩
  | 23 => ⟨S4224x2816, .bf16⟩
  | 24 => ⟨S4224x2816, .bf16⟩
  | 25 => ⟨S4224x2816, .bf16⟩
  | 26 => ⟨S1x128, .f32⟩
  | 27 => ⟨S1x1024, .f32⟩
  | 28 => ⟨S1x1024, .f32⟩
  | _ => ⟨S4224x1024, .f32⟩

abbrev hbmTy (i : Nat) : BufTy := match i / 128 with
  | 0 => hbmTy0_0 i
  | 1 => hbmTy0_1 i
  | _ => ⟨S4224x1024, .f32⟩

abbrev bufTy : (tb : Table) → Fin (tcTables nBuf tb) → BufTy
  | .hbm, ⟨i, _⟩ => hbmTy i
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v4_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v4_1 : Ref sig .tc := ⟨.hbm, 23, rfl⟩
abbrev main_v4_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_0 : Ref sig .tc := ⟨.hbm, 28, rfl⟩
abbrev main_v8 : Ref sig .tc := ⟨.hbm, 29, rfl⟩
abbrev main_v9 : Ref sig .tc := ⟨.hbm, 30, rfl⟩
abbrev main_cst_1 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_2 : Ref sig .tc := ⟨.hbm, 37, rfl⟩
abbrev main_v15 : Ref sig .tc := ⟨.hbm, 38, rfl⟩
abbrev main_v16 : Ref sig .tc := ⟨.hbm, 39, rfl⟩
abbrev main_cst_3 : Ref sig .tc := ⟨.hbm, 40, rfl⟩
abbrev main_v17 : Ref sig .tc := ⟨.hbm, 41, rfl⟩
abbrev main_v18 : Ref sig .tc := ⟨.hbm, 42, rfl⟩
abbrev main_cst_4 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_5 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst_6 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_7 : Ref sig .tc := ⟨.hbm, 67, rfl⟩
abbrev main_v40 : Ref sig .tc := ⟨.hbm, 68, rfl⟩
abbrev main_v41 : Ref sig .tc := ⟨.hbm, 69, rfl⟩
abbrev main_cst_8 : Ref sig .tc := ⟨.hbm, 70, rfl⟩
abbrev main_v42 : Ref sig .tc := ⟨.hbm, 71, rfl⟩
abbrev main_cst_9 : Ref sig .tc := ⟨.hbm, 72, rfl⟩
abbrev main_v43 : Ref sig .tc := ⟨.hbm, 73, rfl⟩
abbrev main_v44 : Ref sig .tc := ⟨.hbm, 74, rfl⟩
abbrev main_cst_10 : Ref sig .tc := ⟨.hbm, 75, rfl⟩
abbrev main_v45 : Ref sig .tc := ⟨.hbm, 76, rfl⟩
abbrev main_cst_11 : Ref sig .tc := ⟨.hbm, 77, rfl⟩
abbrev main_v46 : Ref sig .tc := ⟨.hbm, 78, rfl⟩
abbrev main_cst_12 : Ref sig .tc := ⟨.hbm, 79, rfl⟩
abbrev main_cst_13 : Ref sig .tc := ⟨.hbm, 80, rfl⟩
abbrev main_v47 : Ref sig .tc := ⟨.hbm, 81, rfl⟩
abbrev main_v48 : Ref sig .tc := ⟨.hbm, 82, rfl⟩
abbrev main_cst_14 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_15 : Ref sig .tc := ⟨.hbm, 88, rfl⟩
abbrev main_v53 : Ref sig .tc := ⟨.hbm, 89, rfl⟩
abbrev main_cst_16 : Ref sig .tc := ⟨.hbm, 90, rfl⟩
abbrev main_v54 : Ref sig .tc := ⟨.hbm, 91, rfl⟩
abbrev main_v55 : Ref sig .tc := ⟨.hbm, 92, rfl⟩
abbrev main_cst_17 : Ref sig .tc := ⟨.hbm, 93, rfl⟩
abbrev main_v56 : Ref sig .tc := ⟨.hbm, 94, rfl⟩
abbrev main_v57 : Ref sig .tc := ⟨.hbm, 95, rfl⟩
abbrev main_cst_18 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_cst_19 : Ref sig .tc := ⟨.hbm, 101, rfl⟩
abbrev main_v62 : Ref sig .tc := ⟨.hbm, 102, rfl⟩
abbrev main_v63 : Ref sig .tc := ⟨.hbm, 103, rfl⟩
abbrev main_cst_20 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_21 : Ref sig .tc := ⟨.hbm, 111, rfl⟩
abbrev main_v70 : Ref sig .tc := ⟨.hbm, 112, rfl⟩
abbrev main_v71 : Ref sig .tc := ⟨.hbm, 113, rfl⟩
abbrev main_cst_22 : Ref sig .tc := ⟨.hbm, 114, rfl⟩
abbrev main_v72 : Ref sig .tc := ⟨.hbm, 115, rfl⟩
abbrev main_v73 : Ref sig .tc := ⟨.hbm, 116, rfl⟩
abbrev main_cst_23 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_cst_24 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_cst_25 : Ref sig .tc := ⟨.hbm, 127, rfl⟩
abbrev main_v82 : Ref sig .tc := ⟨.hbm, 128, rfl⟩
abbrev main_v83 : Ref sig .tc := ⟨.hbm, 129, rfl⟩
abbrev main_cst_26 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_call1_v0 : Ref sig .tc := ⟨.hbm, 137, rfl⟩
abbrev main_call1_v1 : Ref sig .tc := ⟨.hbm, 138, rfl⟩
abbrev main_call1_v2 : Ref sig .tc := ⟨.hbm, 139, rfl⟩
abbrev main_v90 : Ref sig .tc := ⟨.hbm, 140, rfl⟩
abbrev main_call2_v0 : Ref sig .tc := ⟨.hbm, 141, rfl⟩
abbrev main_call2_v1 : Ref sig .tc := ⟨.hbm, 142, rfl⟩
abbrev main_call2_cst : Ref sig .tc := ⟨.hbm, 143, rfl⟩
abbrev main_call2_v2 : Ref sig .tc := ⟨.hbm, 144, rfl⟩
abbrev main_call2_v3 : Ref sig .tc := ⟨.hbm, 145, rfl⟩
abbrev main_call2_cst_0 : Ref sig .tc := ⟨.hbm, 146, rfl⟩
abbrev main_call2_v4 : Ref sig .tc := ⟨.hbm, 147, rfl⟩
abbrev main_call2_v5 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩

abbrev nD : Nat := 1
abbrev τ : Topo := Topo.v7x

variable {F : FTy → Type} [FloatOps F]
-- ==== Kernel5.lean ====
abbrev S4224x2432 : Shape := ⟨2, ![4224, 2432]⟩
abbrev S4224x1024 : Shape := ⟨2, ![4224, 1024]⟩
abbrev S4x608x1024 : Shape := ⟨3, ![4, 608, 1024]⟩
abbrev S1408x2432 : Shape := ⟨2, ![1408, 2432]⟩
abbrev S1408x512 : Shape := ⟨2, ![1408, 512]⟩
abbrev S4x608x512 : Shape := ⟨3, ![4, 608, 512]⟩
abbrev S2432x512 : Shape := ⟨2, ![2432, 512]⟩
abbrev S608x512 : Shape := ⟨2, ![608, 512]⟩
abbrev S1x608x512 : Shape := ⟨3, ![1, 608, 512]⟩

abbrev nBuf : Space → Nat
  | .hbm => 3
  | .vmem => 7
  | .smem => 0
  | _ => 0

abbrev bufTy : (tb : Table) → Fin (tcTables nBuf tb) → BufTy
  | .hbm, ⟨0, _⟩ => ⟨S4224x2432, .bf16⟩
  | .hbm, ⟨1, _⟩ => ⟨S4224x1024, .f32⟩
  | .hbm, ⟨2, _⟩ => ⟨S4x608x1024, .f32⟩
  | .local _ .vmem, ⟨0, _⟩ => ⟨S1408x2432, .bf16⟩
  | .local _ .vmem, ⟨1, _⟩ => ⟨S1408x2432, .bf16⟩
  | .local _ .vmem, ⟨2, _⟩ => ⟨S1408x512, .f32⟩
  | .local _ .vmem, ⟨3, _⟩ => ⟨S1408x512, .f32⟩
  | .local _ .vmem, ⟨4, _⟩ => ⟨S4x608x512, .f32⟩
  | .local _ .vmem, ⟨5, _⟩ => ⟨S4x608x512, .f32⟩
  | .local _ .vmem, ⟨6, _⟩ => ⟨S2432x512, .f32⟩
  | _, _ => ⟨S4224x2432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 3], ![false, false]⟩

def k0_cond2 (i : grid0.Coords) : BitVec 1 :=
  let arg1 : BitVec 32 := BitVec.ofNat 32 (i 1).val
  let c2_i32 : BitVec 32 := 2#32
  let v12 : BitVec 1 := Scalar.cmpi .eq arg1 c2_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1408x2432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x608x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S4224x2432 : Shape := ⟨2, ![4224, 2432]⟩
abbrev S4224x1024 : Shape := ⟨2, ![4224, 1024]⟩
abbrev S_ : Shape := ⟨0, ![]⟩
abbrev S1024x2432 : Shape := ⟨2, ![1024, 2432]⟩
abbrev S2432x1024 : Shape := ⟨2, ![2432, 1024]⟩
abbrev S608x1024 : Shape := ⟨2, ![608, 1024]⟩
abbrev S1x608x1024 : Shape := ⟨3, ![1, 608, 1024]⟩
abbrev S4x608x1024 : Shape := ⟨3, ![4, 608, 1024]⟩

abbrev nBuf : Space → Nat
  | .hbm => 21
  | .vmem => 0
  | .smem => 0
  | _ => 0

abbrev bufTy : (tb : Table) → Fin (tcTables nBuf tb) → BufTy
  | .hbm, ⟨0, _⟩ => ⟨S4224x2432, .bf16⟩
  | .hbm, ⟨1, _⟩ => ⟨S4224x1024, .f32⟩
  | .hbm, ⟨2, _⟩ => ⟨S_, .f32⟩
  | .hbm, ⟨3, _⟩ => ⟨S1024x2432, .f32⟩
  | .hbm, ⟨4, _⟩ => ⟨S4224x2432, .f32⟩
  | .hbm, ⟨5, _⟩ => ⟨S4224x2432, .f32⟩
  | .hbm, ⟨6, _⟩ => ⟨S2432x1024, .f32⟩
  | .hbm, ⟨7, _⟩ => ⟨S1024x2432, .f32⟩
  | .hbm, ⟨8, _⟩ => ⟨S2432x1024, .f32⟩
  | .hbm, ⟨9, _⟩ => ⟨S608x1024, .f32⟩
  | .hbm, ⟨10, _⟩ => ⟨S2432x1024, .f32⟩
  | .hbm, ⟨11, _⟩ => ⟨S608x1024, .f32⟩
  | .hbm, ⟨12, _⟩ => ⟨S2432x1024, .f32⟩
  | .hbm, ⟨13, _⟩ => ⟨S608x1024, .f32⟩
  | .hbm, ⟨14, _⟩ => ⟨S2432x1024, .f32⟩
  | .hbm, ⟨15, _⟩ => ⟨S608x1024, .f32⟩
  | .hbm, ⟨16, _⟩ => ⟨S1x608x1024, .f32⟩
  | .hbm, ⟨17, _⟩ => ⟨S1x608x1024, .f32⟩
  | .hbm, ⟨18, _⟩ => ⟨S1x608x1024, .f32⟩
  | .hbm, ⟨19, _⟩ => ⟨S1x608x1024, .f32⟩
  | .hbm, ⟨20, _⟩ => ⟨S4x608x1024, .f32⟩
  | _, _ => ⟨S4224x2432, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩

abbrev nD : Nat := 1
abbrev τ : Topo := Topo.v7x

variable {F : FTy → Type} [FloatOps F]
-- ==== Kernel6.lean ====
abbrev S4224x1024 : Shape := ⟨2, ![4224, 1024]⟩
abbrev S1024x2320 : Shape := ⟨2, ![1024, 2320]⟩
abbrev S2320 : Shape := ⟨1, ![2320]⟩
abbrev S16x256 : Shape := ⟨2, ![16, 256]⟩
abbrev S256 : Shape := ⟨1, ![256]⟩
abbrev S1024x580 : Shape := ⟨2, ![1024, 580]⟩
abbrev S580x1024 : Shape := ⟨2, ![580, 1024]⟩
abbrev S_ : Shape := ⟨0, ![]⟩
abbrev S608x1024 : Shape := ⟨2, ![608, 1024]⟩
abbrev S1x608x1024 : Shape := ⟨3, ![1, 608, 1024]⟩
abbrev S4x608x1024 : Shape := ⟨3, ![4, 608, 1024]⟩
abbrev S1x2320 : Shape := ⟨2, ![1, 2320]⟩
abbrev S1x2432 : Shape := ⟨2, ![1, 2432]⟩
abbrev S128x256 : Shape := ⟨2, ![128, 256]⟩
abbrev S1x256 : Shape := ⟨2, ![1, 256]⟩
abbrev S4224x512 : Shape := ⟨2, ![4224, 512]⟩
abbrev S4224x128 : Shape := ⟨2, ![4224, 128]⟩
abbrev S4224x256 : Shape := ⟨2, ![4224, 256]⟩
abbrev S2432x1024 : Shape := ⟨2, ![2432, 1024]⟩
abbrev S384x1024 : Shape := ⟨2, ![384, 1024]⟩
abbrev S384x512 : Shape := ⟨2, ![384, 512]⟩
abbrev S384x128 : Shape := ⟨2, ![384, 128]⟩
abbrev S384x256 : Shape := ⟨2, ![384, 256]⟩
abbrev S1x580x1024 : Shape := ⟨3, ![1, 580, 1024]⟩
abbrev S112x1024 : Shape := ⟨2, ![112, 1024]⟩
abbrev S384x2432 : Shape := ⟨2, ![384, 2432]⟩
abbrev S384x64 : Shape := ⟨2, ![384, 64]⟩

abbrev nBuf : Space → Nat
  | .hbm => 53
  | .vmem => 25
  | .smem => 0
  | _ => 0

abbrev bufTy : (tb : Table) → Fin (tcTables nBuf tb) → BufTy
  | .hbm, ⟨0, _⟩ => ⟨S4224x1024, .f32⟩
  | .hbm, ⟨1, _⟩ => ⟨S1024x2320, .f32⟩
  | .hbm, ⟨2, _⟩ => ⟨S2320, .f32⟩
  | .hbm, ⟨3, _⟩ => ⟨S16x256, .f32⟩
  | .hbm, ⟨4, _⟩ => ⟨S256, .f32⟩
  | .hbm, ⟨5, _⟩ => ⟨S1024x580, .f32⟩
  | .hbm, ⟨6, _⟩ => ⟨S580x1024, .f32⟩
  | .hbm, ⟨7, _⟩ => ⟨S580x1024, .bf16⟩
  | .hbm, ⟨8, _⟩ => ⟨S_, .i32⟩
  | .hbm, ⟨9, _⟩ => ⟨S_, .bf16⟩
  | .hbm, ⟨10, _⟩ => ⟨S608x1024, .bf16⟩
  | .hbm, ⟨11, _⟩ => ⟨S1024x580, .f32⟩
  | .hbm, ⟨12, _⟩ => ⟨S580x1024, .f32⟩
  | .hbm, ⟨13, _⟩ => ⟨S580x1024, .bf16⟩
  | .hbm, ⟨14, _⟩ => ⟨S_, .i32⟩
  | .hbm, ⟨15, _⟩ => ⟨S_, .bf16⟩
  | .hbm, ⟨16, _⟩ => ⟨S608x1024, .bf16⟩
  | .hbm, ⟨17, _⟩ => ⟨S1024x580, .f32⟩
  | .hbm, ⟨18, _⟩ => ⟨S580x1024, .f32⟩
  | .hbm, ⟨19, _⟩ => ⟨S580x1024, .bf16⟩
  | .hbm, ⟨20, _⟩ => ⟨S_, .i32⟩
  | .hbm, ⟨21, _⟩ => ⟨S_, .bf16⟩
  | .hbm, ⟨22, _⟩ => ⟨S608x1024, .bf16⟩
  | .hbm, ⟨23, _⟩ => ⟨S1024x580, .f32⟩
  | .hbm, ⟨24, _⟩ => ⟨S580x1024, .f32⟩
  | .hbm, ⟨25, _⟩ => ⟨S580x1024, .bf16⟩
  | .hbm, ⟨26, _⟩ => ⟨S_, .i32⟩
  | .hbm, ⟨27, _⟩ => ⟨S_, .bf16⟩
  | .hbm, ⟨28, _⟩ => ⟨S608x1024, .bf16⟩
  | .hbm, ⟨29, _⟩ => ⟨S1x608x1024, .bf16⟩
  | .hbm, ⟨30, _⟩ => ⟨S1x608x1024, .bf16⟩
  | .hbm, ⟨31, _⟩ => ⟨S1x608x1024, .bf16⟩
  | .hbm, ⟨32, _⟩ => ⟨S1x608x1024, .bf16⟩
  | .hbm, ⟨33, _⟩ => ⟨S4x608x1024, .bf16⟩
  | .hbm, ⟨34, _⟩ => ⟨S1x2320, .f32⟩
  | .hbm, ⟨35, _⟩ => ⟨S_, .i32⟩
  | .hbm, ⟨36, _⟩ => ⟨S_, .f32⟩
  | .hbm, ⟨37, _⟩ => ⟨S1x2432, .f32⟩
  | .hbm, ⟨38, _⟩ => ⟨S_, .i32⟩
  | .hbm, ⟨39, _⟩ => ⟨S_, .f32⟩
  | .hbm, ⟨40, _⟩ => ⟨S128x256, .f32⟩
  | .hbm, ⟨41, _⟩ => ⟨S128x256, .bf16⟩
  | .hbm, ⟨42, _⟩ => ⟨S1x256, .f32⟩
  | .hbm, ⟨43, _⟩ => ⟨S4224x512, .f32⟩
  | .hbm, ⟨44, _⟩ => ⟨S4224x128, .f32⟩
  | .hbm, ⟨45, _⟩ => ⟨S4224x128, .f32⟩
  | .hbm, ⟨46, _⟩ => ⟨S4224x256, .f32⟩
  | .hbm, ⟨47, _⟩ => ⟨S4224x256, .f32⟩
  | .hbm, ⟨48, _⟩ => ⟨S4224x512, .f32⟩
  | .hbm, ⟨49, _⟩ => ⟨S4224x512, .f32⟩
  | .hbm, ⟨50, _⟩ => ⟨S4224x128, .f32⟩
  | .hbm, ⟨51, _⟩ => ⟨S4224x256, .f32⟩
  | .hbm, ⟨52, _⟩ => ⟨S2432x1024, .bf16⟩
  | .local _ .vmem, ⟨0, _⟩ => ⟨S384x1024, .f32⟩
  | .local _ .vmem, ⟨1, _⟩ => ⟨S384x1024, .f32⟩
  | .local _ .vmem, ⟨2, _⟩ => ⟨S4x608x1024, .bf16⟩
  | .local _ .vmem, ⟨3, _⟩ => ⟨S1x2432, .f32⟩
  | .local _ .vmem, ⟨4, _⟩ => ⟨S128x256, .bf16⟩
  | .local _ .vmem, ⟨5, _⟩ => ⟨S1x256, .f32⟩
  | .local _ .vmem, ⟨6, _⟩ => ⟨S384x512, .f32⟩
  | .local _ .vmem, ⟨7, _⟩ => ⟨S384x512, .f32⟩
  | .local _ .vmem, ⟨8, _⟩ => ⟨S384x128, .f32⟩
  | .local _ .vmem, ⟨9, _⟩ => ⟨S384x128, .f32⟩
  | .local _ .vmem, ⟨10, _⟩ => ⟨S384x128, .f32⟩
  | .local _ .vmem, ⟨11, _⟩ => ⟨S384x128, .f32⟩
  | .local _ .vmem, ⟨12, _⟩ => ⟨S384x256, .f32⟩
  | .local _ .vmem, ⟨13, _⟩ => ⟨S384x256, .f32⟩
  | .local _ .vmem, ⟨14, _⟩ => ⟨S384x256, .f32⟩
  | .local _ .vmem, ⟨15, _⟩ => ⟨S384x256, .f32⟩
  | .local _ .vmem, ⟨16, _⟩ => ⟨S384x512, .f32⟩
  | .local _ .vmem, ⟨17, _⟩ => ⟨S384x512, .f32⟩
  | .local _ .vmem, ⟨18, _⟩ => ⟨S384x512, .f32⟩
  | .local _ .vmem, ⟨19, _⟩ => ⟨S384x512, .f32⟩
  | .local _ .vmem, ⟨20, _⟩ => ⟨S384x128, .f32⟩
  | .local _ .vmem, ⟨21, _⟩ => ⟨S384x128, .f32⟩
  | .local _ .vmem, ⟨22, _⟩ => ⟨S384x256, .f32⟩
  | .local _ .vmem, ⟨23, _⟩ => ⟨S384x256, .f32⟩
  | .local _ .vmem, ⟨24, _⟩ => ⟨S2432x1024, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_call2_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_call3_v0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_call4_v0 : Ref sig .tc := ⟨.hbm, 36, rfl⟩
abbrev main_v22 : Ref sig .tc := ⟨.hbm, 37, rfl⟩
abbrev main_c_4 : Ref sig .tc := ⟨.hbm, 38, rfl⟩
abbrev main_call5_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26_0 : Ref sig .tc := ⟨.hbm, 43, rfl⟩
abbrev main_v26_1 : Ref sig .tc := ⟨.hbm, 44, rfl⟩
abbrev main_v26_2 : Ref sig .tc := ⟨.hbm, 45, rfl⟩
abbrev main_v26_3 : Ref sig .tc := ⟨.hbm, 46, rfl⟩
abbrev main_v26_4 : Ref sig .tc := ⟨.hbm, 47, rfl⟩
abbrev main_v26_5 : Ref sig .tc := ⟨.hbm, 48, rfl⟩
abbrev main_v26_6 : Ref sig .tc := ⟨.hbm, 49, rfl⟩
abbrev main_v26_7 : Ref sig .tc := ⟨.hbm, 50, rfl⟩
abbrev main_v26_8 : Ref sig .tc := ⟨.hbm, 51, rfl⟩
abbrev main_v26_9 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x608x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2432 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S384x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S384x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S384x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S384x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S384x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S2432x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference6Ideal.lean ====
abbrev S4224x1024 : Shape := ⟨2, ![4224, 1024]⟩
abbrev S1024x2320 : Shape := ⟨2, ![1024, 2320]⟩
abbrev S2320 : Shape := ⟨1, ![2320]⟩
abbrev S16x256 : Shape := ⟨2, ![16, 256]⟩
abbrev S256 : Shape := ⟨1, ![256]⟩
abbrev S4224x2320 : Shape := ⟨2, ![4224, 2320]⟩
abbrev S1x2320 : Shape := ⟨2, ![1, 2320]⟩
abbrev S4224x512 : Shape := ⟨2, ![4224, 512]⟩
abbrev S4224x128 : Shape := ⟨2, ![4224, 128]⟩
abbrev S4224x256 : Shape := ⟨2, ![4224, 256]⟩
abbrev S4224x16 : Shape := ⟨2, ![4224, 16]⟩
abbrev S1x256 : Shape := ⟨2, ![1, 256]⟩
abbrev S4224x2x4x64 : Shape := ⟨4, ![4224, 2, 4, 64]⟩
abbrev S4224x4x2x64 : Shape := ⟨4, ![4224, 4, 2, 64]⟩
abbrev S_ : Shape := ⟨0, ![]⟩
abbrev S2320x1024 : Shape := ⟨2, ![2320, 1024]⟩
abbrev S2432x1024 : Shape := ⟨2, ![2432, 1024]⟩

abbrev nBuf : Space → Nat
  | .hbm => 32
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x2320, .f32⟩
  | .hbm, ⟨2, _⟩ => ⟨S2320, .f32⟩
  | .hbm, ⟨3, _⟩ => ⟨S16x256, .f32⟩
  | .hbm, ⟨4, _⟩ => ⟨S256, .f32⟩
  | .hbm, ⟨5, _⟩ => ⟨S4224x2320, .f32⟩
  | .hbm, ⟨6, _⟩ => ⟨S1x2320, .f32⟩
  | .hbm, ⟨7, _⟩ => ⟨S4224x2320, .f32⟩
  | .hbm, ⟨8, _⟩ => ⟨S4224x2320, .f32⟩
  | .hbm, ⟨9, _⟩ => ⟨S4224x512, .f32⟩
  | .hbm, ⟨10, _⟩ => ⟨S4224x128, .f32⟩
  | .hbm, ⟨11, _⟩ => ⟨S4224x128, .f32⟩
  | .hbm, ⟨12, _⟩ => ⟨S4224x256, .f32⟩
  | .hbm, ⟨13, _⟩ => ⟨S4224x256, .f32⟩
  | .hbm, ⟨14, _⟩ => ⟨S4224x512, .f32⟩
  | .hbm, ⟨15, _⟩ => ⟨S4224x512, .f32⟩
  | .hbm, ⟨16, _⟩ => ⟨S4224x16, .f32⟩
  | .hbm, ⟨17, _⟩ => ⟨S4224x256, .f32⟩
  | .hbm, ⟨18, _⟩ => ⟨S1x256, .f32⟩
  | .hbm, ⟨19, _⟩ => ⟨S4224x256, .f32⟩
  | .hbm, ⟨20, _⟩ => ⟨S4224x256, .f32⟩
  | .hbm, ⟨21, _⟩ => ⟨S4224x2x4x64, .f32⟩
  | .hbm, ⟨22, _⟩ => ⟨S4224x4x2x64, .f32⟩
  | .hbm, ⟨23, _⟩ => ⟨S4224x512, .f32⟩
  | .hbm, ⟨24, _⟩ => ⟨S_, .i32⟩
  | .hbm, ⟨25, _⟩ => ⟨S_, .f32⟩
  | .hbm, ⟨26, _⟩ => ⟨S4224x128, .f32⟩
  | .hbm, ⟨27, _⟩ => ⟨S2320x1024, .f32⟩
  | .hbm, ⟨28, _⟩ => ⟨S_, .i32⟩
  | .hbm, ⟨29, _⟩ => ⟨S_, .f32⟩
  | .hbm, ⟨30, _⟩ => ⟨S2432x1024, .f32⟩
  | .hbm, ⟨31, _⟩ => ⟨S2432x1024, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c : Ref sig .tc := ⟨.hbm, 24, rfl⟩
abbrev main_call0_v0 : Ref sig .tc := ⟨.hbm, 25, rfl⟩
abbrev main_v19 : Ref sig .tc := ⟨.hbm, 26, rfl⟩
abbrev main_v20 : Ref sig .tc := ⟨.hbm, 27, rfl⟩
abbrev main_c_0 : Ref sig .tc := ⟨.hbm, 28, rfl⟩
abbrev main_call1_v0 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Kernel7.lean ====
abbrev S4224x128 : Shape := ⟨2, ![4224, 128]⟩
abbrev S4224x256 : Shape := ⟨2, ![4224, 256]⟩
abbrev S_ : Shape := ⟨0, ![]⟩
abbrev S8x128 : Shape := ⟨2, ![8, 128]⟩
abbrev S128x256 : Shape := ⟨2, ![128, 256]⟩
abbrev S1408x128 : Shape := ⟨2, ![1408, 128]⟩
abbrev S1408x256 : Shape := ⟨2, ![1408, 256]⟩

abbrev nBuf : Space → Nat
  | .hbm => 5
  | .vmem => 6
  | .smem => 0
  | _ => 0

abbrev bufTy : (tb : Table) → Fin (tcTables nBuf tb) → BufTy
  | .hbm, ⟨0, _⟩ => ⟨S4224x128, .f32⟩
  | .hbm, ⟨1, _⟩ => ⟨S4224x256, .f32⟩
  | .hbm, ⟨2, _⟩ => ⟨S_, .f32⟩
  | .hbm, ⟨3, _⟩ => ⟨S8x128, .f32⟩
  | .hbm, ⟨4, _⟩ => ⟨S128x256, .f32⟩
  | .local _ .vmem, ⟨0, _⟩ => ⟨S1408x128, .f32⟩
  | .local _ .vmem, ⟨1, _⟩ => ⟨S1408x128, .f32⟩
  | .local _ .vmem, ⟨2, _⟩ => ⟨S1408x256, .f32⟩
  | .local _ .vmem, ⟨3, _⟩ => ⟨S1408x256, .f32⟩
  | .local _ .vmem, ⟨4, _⟩ => ⟨S8x128, .f32⟩
  | .local _ .vmem, ⟨5, _⟩ => ⟨S128x256, .f32⟩
  | _, _ => ⟨S4224x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![1, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1408x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== Reference7Ideal.lean ====
abbrev S4224x128 : Shape := ⟨2, ![4224, 128]⟩
abbrev S4224x256 : Shape := ⟨2, ![4224, 256]⟩
abbrev S_ : Shape := ⟨0, ![]⟩
abbrev S128x256 : Shape := ⟨2, ![128, 256]⟩
abbrev S256x128 : Shape := ⟨2, ![256, 128]⟩

abbrev nBuf : Space → Nat
  | .hbm => 7
  | .vmem => 0
  | .smem => 0
  | _ => 0

abbrev bufTy : (tb : Table) → Fin (tcTables nBuf tb) → BufTy
  | .hbm, ⟨0, _⟩ => ⟨S4224x128, .f32⟩
  | .hbm, ⟨1, _⟩ => ⟨S4224x256, .f32⟩
  | .hbm, ⟨2, _⟩ => ⟨S_, .f32⟩
  | .hbm, ⟨3, _⟩ => ⟨S128x256, .f32⟩
  | .hbm, ⟨4, _⟩ => ⟨S4224x256, .f32⟩
  | .hbm, ⟨5, _⟩ => ⟨S256x128, .f32⟩
  | .hbm, ⟨6, _⟩ => ⟨S128x256, .f32⟩
  | _, _ => ⟨S4224x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S4224x512 : Shape := ⟨2, ![4224, 512]⟩
abbrev S4224x1024 : Shape := ⟨2, ![4224, 1024]⟩
abbrev S128 : Shape := ⟨1, ![128]⟩
abbrev S1024x1024 : Shape := ⟨2, ![1024, 1024]⟩
abbrev S1024 : Shape := ⟨1, ![1024]⟩
abbrev S1x128 : Shape := ⟨2, ![1, 128]⟩
abbrev S1x1024 : Shape := ⟨2, ![1, 1024]⟩
abbrev S_ : Shape := ⟨0, ![]⟩
abbrev S8x128 : Shape := ⟨2, ![8, 128]⟩
abbrev S384x1024 : Shape := ⟨2, ![384, 1024]⟩
abbrev S3x384x512 : Shape := ⟨3, ![3, 384, 512]⟩
abbrev S3x384x1024 : Shape := ⟨3, ![3, 384, 1024]⟩
abbrev S4x3 : Shape := ⟨2, ![4, 3]⟩
abbrev S1x1 : Shape := ⟨2, ![1, 1]⟩
abbrev S1x384x512 : Shape := ⟨3, ![1, 384, 512]⟩
abbrev S384x512 : Shape := ⟨2, ![384, 512]⟩
abbrev S1x384x1024 : Shape := ⟨3, ![1, 384, 1024]⟩
abbrev S384x64 : Shape := ⟨2, ![384, 64]⟩
abbrev S384x128 : Shape := ⟨2, ![384, 128]⟩
abbrev S384 : Shape := ⟨1, ![384]⟩
abbrev S384x1 : Shape := ⟨2, ![384, 1]⟩

abbrev nBuf : Space → Nat
  | .hbm => 17
  | .vmem => 15
  | .smem => 0
  | _ => 0

abbrev bufTy : (tb : Table) → Fin (tcTables nBuf tb) → BufTy
  | .hbm, ⟨0, _⟩ => ⟨S4224x512, .f32⟩
  | .hbm, ⟨1, _⟩ => ⟨S4224x512, .f32⟩
  | .hbm, ⟨2, _⟩ => ⟨S4224x512, .f32⟩
  | .hbm, ⟨3, _⟩ => ⟨S4224x1024, .f32⟩
  | .hbm, ⟨4, _⟩ => ⟨S128, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1x128, .f32⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S_, .f32⟩
  | .hbm, ⟨13, _⟩ => ⟨S8x128, .f32⟩
  | .hbm, ⟨14, _⟩ => ⟨S4224x1024, .bf16⟩
  | .hbm, ⟨15, _⟩ => ⟨S4224x1024, .f32⟩
  | .hbm, ⟨16, _⟩ => ⟨S4224x1024, .f32⟩
  | .local _ .vmem, ⟨0, _⟩ => ⟨S1x128, .f32⟩
  | .local _ .vmem, ⟨1, _⟩ => ⟨S1024x1024, .bf16⟩
  | .local _ .vmem, ⟨2, _⟩ => ⟨S1x1024, .f32⟩
  | .local _ .vmem, ⟨3, _⟩ => ⟨S1x1024, .f32⟩
  | .local _ .vmem, ⟨4, _⟩ => ⟨S8x128, .f32⟩
  | .local _ .vmem, ⟨5, _⟩ => ⟨S384x1024, .bf16⟩
  | .local _ .vmem, ⟨6, _⟩ => ⟨S384x1024, .bf16⟩
  | .local _ .vmem, ⟨7, _⟩ => ⟨S384x1024, .f32⟩
  | .local _ .vmem, ⟨8, _⟩ => ⟨S384x1024, .f32⟩
  | .local _ .vmem, ⟨9, _⟩ => ⟨S384x1024, .f32⟩
  | .local _ .vmem, ⟨10, _⟩ => ⟨S384x1024, .f32⟩
  | .local _ .vmem, ⟨11, _⟩ => ⟨S3x384x512, .f32⟩
  | .local _ .vmem, ⟨12, _⟩ => ⟨S3x384x512, .f32⟩
  | .local _ .vmem, ⟨13, _⟩ => ⟨S3x384x512, .f32⟩
  | .local _ .vmem, ⟨14, _⟩ => ⟨S3x384x1024, .f32⟩
  | _, _ => ⟨S4224x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_201 : BitVec 32 := 0#32
  c0_i32_201
def k0_mult2 : BitVec 32 :=
  let c0_i32_208 : BitVec 32 := 0#32
  c0_i32_208
def k0_mult3 : BitVec 32 :=
  let c0_i32_215 : BitVec 32 := 0#32
  c0_i32_215
def k0_mult4 : BitVec 32 :=
  let c0_i32_222 : BitVec 32 := 0#32
  c0_i32_222
def k0_mult5 : BitVec 32 :=
  let c384_i32_229 : BitVec 32 := 384#32
  c384_i32_229
def k0_mult6 : BitVec 32 :=
  let c384_i32_236 : BitVec 32 := 384#32
  c384_i32_236
def k0_mult7 : BitVec 32 :=
  let c384_i32_243 : BitVec 32 := 384#32
  c384_i32_243
def k0_mult8 : BitVec 32 :=
  let c384_i32_250 : BitVec 32 := 384#32
  c384_i32_250
def k0_cond2 (i : grid0.Coords) : BitVec 1 :=
  let arg0 : BitVec 32 := BitVec.ofNat 32 (i 0).val
  let c2_i32 : BitVec 32 := 2#32
  let v3 : BitVec 32 := Scalar.addi arg0 c2_i32
  let c11_i32 : BitVec 32 := 11#32
  let v4 : BitVec 1 := Scalar.cmpi .slt v3 c11_i32
  let v5 : BitVec 32 := Scalar.extui v4
  let c0_i32_1 : BitVec 32 := 0#32
  let v6 : BitVec 1 := Scalar.cmpi .ne v5 c0_i32_1
  v6

def k0_mult9 (i : grid0.Coords) : BitVec 32 :=
  let arg0 : BitVec 32 := BitVec.ofNat 32 (i 0).val
  let c2_i32_201 : BitVec 32 := 2#32
  let v353 : BitVec 32 := Scalar.addi arg0 c2_i32_201
  let c384_i32_202 : BitVec 32 := 384#32
  let v354 : BitVec 32 := Scalar.muli v353 c384_i32_202
  v354
def k0_off1 (i : grid0.Coords) : Fin 2 → Nat :=
  let c0_i32_215 : BitVec 32 := 0#32
  let arg0 : BitVec 32 := BitVec.ofNat 32 (i 0).val
  let c2_i32_201 : BitVec 32 := 2#32
  let v353 : BitVec 32 := Scalar.addi arg0 c2_i32_201
  let c3_i32_209 : BitVec 32 := 3#32
  let c0_i32_210 : BitVec 32 := 0#32
  let v366 : BitVec 1 := Scalar.cmpi .eq c3_i32_209 c0_i32_210
  let c1_i32_211 : BitVec 32 := 1#32
  let v367 : BitVec 32 := Scalar.select v366 c1_i32_211 c3_i32_209
  let v368 : BitVec 32 := Scalar.remsi v353 v367
  let c0_i32_213 : BitVec 32 := 0#32
  let v370 : BitVec 1 := Scalar.cmpi .slt v368 c0_i32_213
  let c0_i32_214 : BitVec 32 := 0#32
  let v371 : BitVec 1 := Scalar.cmpi .slt v367 c0_i32_214
  let v372 : BitVec 1 := Scalar.xori v370 v371
  let c0_i32_212 : BitVec 32 := 0#32
  let v369 : BitVec 1 := Scalar.cmpi .ne v368 c0_i32_212
  let v373 : BitVec 1 := Scalar.andi v372 v369
  let v374 : BitVec 32 := Scalar.addi v368 v367
  let v375 : BitVec 32 := Scalar.select v373 v374 v368
  ![0, v375.toNat]
def k0_off2 (i : grid0.Coords) : Fin 3 → Nat :=
  let arg0 : BitVec 32 := BitVec.ofNat 32 (i 0).val
  let c2_i32_201 : BitVec 32 := 2#32
  let v353 : BitVec 32 := Scalar.addi arg0 c2_i32_201
  let c3_i32_203 : BitVec 32 := 3#32
  let c0_i32_204 : BitVec 32 := 0#32
  let v356 : BitVec 1 := Scalar.cmpi .eq c3_i32_203 c0_i32_204
  let c1_i32_205 : BitVec 32 := 1#32
  let v357 : BitVec 32 := Scalar.select v356 c1_i32_205 c3_i32_203
  let v358 : BitVec 32 := Scalar.remsi v353 v357
  let c0_i32_207 : BitVec 32 := 0#32
  let v360 : BitVec 1 := Scalar.cmpi .slt v358 c0_i32_207
  let c0_i32_208 : BitVec 32 := 0#32
  let v361 : BitVec 1 := Scalar.cmpi .slt v357 c0_i32_208
  let v362 : BitVec 1 := Scalar.xori v360 v361
  let c0_i32_206 : BitVec 32 := 0#32
  let v359 : BitVec 1 := Scalar.cmpi .ne v358 c0_i32_206
  let v363 : BitVec 1 := Scalar.andi v362 v359
  let v364 : BitVec 32 := Scalar.addi v358 v357
  let v365 : BitVec 32 := Scalar.select v363 v364 v358
  let c0_i32_216 : BitVec 32 := 0#32
  let c0_i32_217 : BitVec 32 := 0#32
  ![v365.toNat, 0, 0]
def k0_off3 (i : grid0.Coords) : Fin 2 → Nat :=
  let arg0 : BitVec 32 := BitVec.ofNat 32 (i 0).val
  let c2_i32_201 : BitVec 32 := 2#32
  let v353 : BitVec 32 := Scalar.addi arg0 c2_i32_201
  let c384_i32_202 : BitVec 32 := 384#32
  let v354 : BitVec 32 := Scalar.muli v353 c384_i32_202
  let v355 : BitVec 32 := v354
  let c0_i32_218 : BitVec 32 := 0#32
  ![v355.toNat, 0]
def k0_mult10 (i : grid0.Coords) : BitVec 32 :=
  let arg0 : BitVec 32 := BitVec.ofNat 32 (i 0).val
  let c2_i32_219 : BitVec 32 := 2#32
  let v381 : BitVec 32 := Scalar.addi arg0 c2_i32_219
  let c384_i32_220 : BitVec 32 := 384#32
  let v382 : BitVec 32 := Scalar.muli v381 c384_i32_220
  v382
def k0_off4 (i : grid0.Coords) : Fin 2 → Nat :=
  let c1_i32_233 : BitVec 32 := 1#32
  let arg0 : BitVec 32 := BitVec.ofNat 32 (i 0).val
  let c2_i32_219 : BitVec 32 := 2#32
  let v381 : BitVec 32 := Scalar.addi arg0 c2_i32_219
  let c3_i32_227 : BitVec 32 := 3#32
  let c0_i32_228 : BitVec 32 := 0#32
  let v394 : BitVec 1 := Scalar.cmpi .eq c3_i32_227 c0_i32_228
  let c1_i32_229 : BitVec 32 := 1#32
  let v395 : BitVec 32 := Scalar.select v394 c1_i32_229 c3_i32_227
  let v396 : BitVec 32 := Scalar.remsi v381 v395
  let c0_i32_231 : BitVec 32 := 0#32
  let v398 : BitVec 1 := Scalar.cmpi .slt v396 c0_i32_231
  let c0_i32_232 : BitVec 32 := 0#32
  let v399 : BitVec 1 := Scalar.cmpi .slt v395 c0_i32_232
  let v400 : BitVec 1 := Scalar.xori v398 v399
  let c0_i32_230 : BitVec 32 := 0#32
  let v397 : BitVec 1 := Scalar.cmpi .ne v396 c0_i32_230
  let v401 : BitVec 1 := Scalar.andi v400 v397
  let v402 : BitVec 32 := Scalar.addi v396 v395
  let v403 : BitVec 32 := Scalar.select v401 v402 v396
  ![1, v403.toNat]
def k0_mult11 (i : grid0.Coords) : BitVec 32 :=
  let arg0 : BitVec 32 := BitVec.ofNat 32 (i 0).val
  let c2_i32_237 : BitVec 32 := 2#32
  let v409 : BitVec 32 := Scalar.addi arg0 c2_i32_237
  let c384_i32_238 : BitVec 32 := 384#32
  let v410 : BitVec 32 := Scalar.muli v409 c384_i32_238
  v410
def k0_off5 (i : grid0.Coords) : Fin 2 → Nat :=
  let c2_i32_251 : BitVec 32 := 2#32
  let arg0 : BitVec 32 := BitVec.ofNat 32 (i 0).val
  let c2_i32_237 : BitVec 32 := 2#32
  let v409 : BitVec 32 := Scalar.addi arg0 c2_i32_237
  let c3_i32_245 : BitVec 32 := 3#32
  let c0_i32_246 : BitVec 32 := 0#32
  let v422 : BitVec 1 := Scalar.cmpi .eq c3_i32_245 c0_i32_246
  let c1_i32_247 : BitVec 32 := 1#32
  let v423 : BitVec 32 := Scalar.select v422 c1_i32_247 c3_i32_245
  let v424 : BitVec 32 := Scalar.remsi v409 v423
  let c0_i32_249 : BitVec 32 := 0#32
  let v426 : BitVec 1 := Scalar.cmpi .slt v424 c0_i32_249
  let c0_i32_250 : BitVec 32 := 0#32
  let v427 : BitVec 1 := Scalar.cmpi .slt v423 c0_i32_250
  let v428 : BitVec 1 := Scalar.xori v426 v427
  let c0_i32_248 : BitVec 32 := 0#32
  let v425 : BitVec 1 := Scalar.cmpi .ne v424 c0_i32_248
  let v429 : BitVec 1 := Scalar.andi v428 v425
  let v430 : BitVec 32 := Scalar.addi v424 v423
  let v431 : BitVec 32 := Scalar.select v429 v430 v424
  ![2, v431.toNat]
def k0_mult12 (i : grid0.Coords) : BitVec 32 :=
  let arg0 : BitVec 32 := BitVec.ofNat 32 (i 0).val
  let c2_i32_255 : BitVec 32 := 2#32
  let v437 : BitVec 32 := Scalar.addi arg0 c2_i32_255
  let c384_i32_256 : BitVec 32 := 384#32
  let v438 : BitVec 32 := Scalar.muli v437 c384_i32_256
  v438
def k0_off6 (i : grid0.Coords) : Fin 2 → Nat :=
  let c3_i32_269 : BitVec 32 := 3#32
  let arg0 : BitVec 32 := BitVec.ofNat 32 (i 0).val
  let c2_i32_255 : BitVec 32 := 2#32
  let v437 : BitVec 32 := Scalar.addi arg0 c2_i32_255
  let c3_i32_263 : BitVec 32 := 3#32
  let c0_i32_264 : BitVec 32 := 0#32
  let v450 : BitVec 1 := Scalar.cmpi .eq c3_i32_263 c0_i32_264
  let c1_i32_265 : BitVec 32 := 1#32
  let v451 : BitVec 32 := Scalar.select v450 c1_i32_265 c3_i32_263
  let v452 : BitVec 32 := Scalar.remsi v437 v451
  let c0_i32_267 : BitVec 32 := 0#32
  let v454 : BitVec 1 := Scalar.cmpi .slt v452 c0_i32_267
  let c0_i32_268 : BitVec 32 := 0#32
  let v455 : BitVec 1 := Scalar.cmpi .slt v451 c0_i32_268
  let v456 : BitVec 1 := Scalar.xori v454 v455
  let c0_i32_266 : BitVec 32 := 0#32
  let v453 : BitVec 1 := Scalar.cmpi .ne v452 c0_i32_266
  let v457 : BitVec 1 := Scalar.andi v456 v453
  let v458 : BitVec 32 := Scalar.addi v452 v451
  let v459 : BitVec 32 := Scalar.select v457 v458 v452
  ![3, v459.toNat]
def k0_off7 (i : grid0.Coords) : Fin 3 → Nat :=
  let arg0 : BitVec 32 := BitVec.ofNat 32 (i 0).val
  let c2_i32_255 : BitVec 32 := 2#32
  let v437 : BitVec 32 := Scalar.addi arg0 c2_i32_255
  let c3_i32_257 : BitVec 32 := 3#32
  let c0_i32_258 : BitVec 32 := 0#32
  let v440 : BitVec 1 := Scalar.cmpi .eq c3_i32_257 c0_i32_258
  let c1_i32_259 : BitVec 32 := 1#32
  let v441 : BitVec 32 := Scalar.select v440 c1_i32_259 c3_i32_257
  let v442 : BitVec 32 := Scalar.remsi v437 v441
  let c0_i32_261 : BitVec 32 := 0#32
  let v444 : BitVec 1 := Scalar.cmpi .slt v442 c0_i32_261
  let c0_i32_262 : BitVec 32 := 0#32
  let v445 : BitVec 1 := Scalar.cmpi .slt v441 c0_i32_262
  let v446 : BitVec 1 := Scalar.xori v444 v445
  let c0_i32_260 : BitVec 32 := 0#32
  let v443 : BitVec 1 := Scalar.cmpi .ne v442 c0_i32_260
  let v447 : BitVec 1 := Scalar.andi v446 v443
  let v448 : BitVec 32 := Scalar.addi v442 v441
  let v449 : BitVec 32 := Scalar.select v447 v448 v442
  let c0_i32_270 : BitVec 32 := 0#32
  let c0_i32_271 : BitVec 32 := 0#32
  ![v449.toNat, 0, 0]
def k0_off8 (i : grid0.Coords) : Fin 2 → Nat :=
  let arg0 : BitVec 32 := BitVec.ofNat 32 (i 0).val
  let c2_i32_255 : BitVec 32 := 2#32
  let v437 : BitVec 32 := Scalar.addi arg0 c2_i32_255
  let c384_i32_256 : BitVec 32 := 384#32
  let v438 : BitVec 32 := Scalar.muli v437 c384_i32_256
  let v439 : BitVec 32 := v438
  let c0_i32_272 : BitVec 32 := 0#32
  ![v439.toNat, 0]
def k0_mult13 (i : grid0.Coords) : BitVec 32 :=
  let arg0 : BitVec 32 := BitVec.ofNat 32 (i 0).val
  let c384_i32 : BitVec 32 := 384#32
  let v7 : BitVec 32 := Scalar.muli arg0 c384_i32
  v7
def k0_off9 (i : grid0.Coords) : Fin 2 → Nat :=
  let c0_i32_12 : BitVec 32 := 0#32
  let arg0 : BitVec 32 := BitVec.ofNat 32 (i 0).val
  let c3_i32_6 : BitVec 32 := 3#32
  let c0_i32_7 : BitVec 32 := 0#32
  let v19 : BitVec 1 := Scalar.cmpi .eq c3_i32_6 c0_i32_7
  let c1_i32_8 : BitVec 32 := 1#32
  let v20 : BitVec 32 := Scalar.select v19 c1_i32_8 c3_i32_6
  let v21 : BitVec 32 := Scalar.remsi arg0 v20
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let c0_i32_9 : BitVec 32 := 0#32
  let v22 : BitVec 1 := Scalar.cmpi .ne v21 c0_i32_9
  let v26 : BitVec 1 := Scalar.andi v25 v22
  let v27 : BitVec 32 := Scalar.addi v21 v20
  let v28 : BitVec 32 := Scalar.select v26 v27 v21
  ![0, v28.toNat]
def k0_off10 (i : grid0.Coords) : Fin 3 → Nat :=
  let arg0 : BitVec 32 := BitVec.ofNat 32 (i 0).val
  let c3_i32 : BitVec 32 := 3#32
  let c0_i32_2 : BitVec 32 := 0#32
  let v9 : BitVec 1 := Scalar.cmpi .eq c3_i32 c0_i32_2
  let c1_i32 : BitVec 32 := 1#32
  let v10 : BitVec 32 := Scalar.select v9 c1_i32 c3_i32
  let v11 : BitVec 32 := Scalar.remsi arg0 v10
  let c0_i32_4 : BitVec 32 := 0#32
  let v13 : BitVec 1 := Scalar.cmpi .slt v11 c0_i32_4
  let c0_i32_5 : BitVec 32 := 0#32
  let v14 : BitVec 1 := Scalar.cmpi .slt v10 c0_i32_5
  let v15 : BitVec 1 := Scalar.xori v13 v14
  let c0_i32_3 : BitVec 32 := 0#32
  let v12 : BitVec 1 := Scalar.cmpi .ne v11 c0_i32_3
  let v16 : BitVec 1 := Scalar.andi v15 v12
  let v17 : BitVec 32 := Scalar.addi v11 v10
  let v18 : BitVec 32 := Scalar.select v16 v17 v11
  let c0_i32_13 : BitVec 32 := 0#32
  let c0_i32_14 : BitVec 32 := 0#32
  ![v18.toNat, 0, 0]
def k0_off11 (i : grid0.Coords) : Fin 2 → Nat :=
  let arg0 : BitVec 32 := BitVec.ofNat 32 (i 0).val
  let c384_i32 : BitVec 32 := 384#32
  let v7 : BitVec 32 := Scalar.muli arg0 c384_i32
  let v8 : BitVec 32 := v7
  let c0_i32_15 : BitVec 32 := 0#32
  ![v8.toNat, 0]
def k0_mult14 (i : grid0.Coords) : BitVec 32 :=
  let arg0 : BitVec 32 := BitVec.ofNat 32 (i 0).val
  let c384_i32_16 : BitVec 32 := 384#32
  let v34 : BitVec 32 := Scalar.muli arg0 c384_i32_16
  v34
def k0_off12 (i : grid0.Coords) : Fin 2 → Nat :=
  let c1_i32_29 : BitVec 32 := 1#32
  let arg0 : BitVec 32 := BitVec.ofNat 32 (i 0).val
  let c3_i32_23 : BitVec 32 := 3#32
  let c0_i32_24 : BitVec 32 := 0#32
  let v46 : BitVec 1 := Scalar.cmpi .eq c3_i32_23 c0_i32_24
  let c1_i32_25 : BitVec 32 := 1#32
  let v47 : BitVec 32 := Scalar.select v46 c1_i32_25 c3_i32_23
  let v48 : BitVec 32 := Scalar.remsi arg0 v47
  let c0_i32_27 : BitVec 32 := 0#32
  let v50 : BitVec 1 := Scalar.cmpi .slt v48 c0_i32_27
  let c0_i32_28 : BitVec 32 := 0#32
  let v51 : BitVec 1 := Scalar.cmpi .slt v47 c0_i32_28
  let v52 : BitVec 1 := Scalar.xori v50 v51
  let c0_i32_26 : BitVec 32 := 0#32
  let v49 : BitVec 1 := Scalar.cmpi .ne v48 c0_i32_26
  let v53 : BitVec 1 := Scalar.andi v52 v49
  let v54 : BitVec 32 := Scalar.addi v48 v47
  let v55 : BitVec 32 := Scalar.select v53 v54 v48
  ![1, v55.toNat]
def k0_mult15 (i : grid0.Coords) : BitVec 32 :=
  let arg0 : BitVec 32 := BitVec.ofNat 32 (i 0).val
  let c384_i32_33 : BitVec 32 := 384#32
  let v61 : BitVec 32 := Scalar.muli arg0 c384_i32_33
  v61
def k0_off13 (i : grid0.Coords) : Fin 2 → Nat :=
  let c2_i32_46 : BitVec 32 := 2#32
  let arg0 : BitVec 32 := BitVec.ofNat 32 (i 0).val
  let c3_i32_40 : BitVec 32 := 3#32
  let c0_i32_41 : BitVec 32 := 0#32
  let v73 : BitVec 1 := Scalar.cmpi .eq c3_i32_40 c0_i32_41
  let c1_i32_42 : BitVec 32 := 1#32
  let v74 : BitVec 32 := Scalar.select v73 c1_i32_42 c3_i32_40
  let v75 : BitVec 32 := Scalar.remsi arg0 v74
  let c0_i32_44 : BitVec 32 := 0#32
  let v77 : BitVec 1 := Scalar.cmpi .slt v75 c0_i32_44
  let c0_i32_45 : BitVec 32 := 0#32
  let v78 : BitVec 1 := Scalar.cmpi .slt v74 c0_i32_45
  let v79 : BitVec 1 := Scalar.xori v77 v78
  let c0_i32_43 : BitVec 32 := 0#32
  let v76 : BitVec 1 := Scalar.cmpi .ne v75 c0_i32_43
  let v80 : BitVec 1 := Scalar.andi v79 v76
  let v81 : BitVec 32 := Scalar.addi v75 v74
  let v82 : BitVec 32 := Scalar.select v80 v81 v75
  ![2, v82.toNat]
def k0_mult16 (i : grid0.Coords) : BitVec 32 :=
  let arg0 : BitVec 32 := BitVec.ofNat 32 (i 0).val
  let c384_i32_50 : BitVec 32 := 384#32
  let v88 : BitVec 32 := Scalar.muli arg0 c384_i32_50
  v88
def k0_off14 (i : grid0.Coords) : Fin 2 → Nat :=
  let c3_i32_63 : BitVec 32 := 3#32
  let arg0 : BitVec 32 := BitVec.ofNat 32 (i 0).val
  let c3_i32_57 : BitVec 32 := 3#32
  let c0_i32_58 : BitVec 32 := 0#32
  let v100 : BitVec 1 := Scalar.cmpi .eq c3_i32_57 c0_i32_58
  let c1_i32_59 : BitVec 32 := 1#32
  let v101 : BitVec 32 := Scalar.select v100 c1_i32_59 c3_i32_57
  let v102 : BitVec 32 := Scalar.remsi arg0 v101
  let c0_i32_61 : BitVec 32 := 0#32
  let v104 : BitVec 1 := Scalar.cmpi .slt v102 c0_i32_61
  let c0_i32_62 : BitVec 32 := 0#32
  let v105 : BitVec 1 := Scalar.cmpi .slt v101 c0_i32_62
  let v106 : BitVec 1 := Scalar.xori v104 v105
  let c0_i32_60 : BitVec 32 := 0#32
  let v103 : BitVec 1 := Scalar.cmpi .ne v102 c0_i32_60
  let v107 : BitVec 1 := Scalar.andi v106 v103
  let v108 : BitVec 32 := Scalar.addi v102 v101
  let v109 : BitVec 32 := Scalar.select v107 v108 v102
  ![3, v109.toNat]
def k0_off15 (i : grid0.Coords) : Fin 3 → Nat :=
  let arg0 : BitVec 32 := BitVec.ofNat 32 (i 0).val
  let c3_i32_51 : BitVec 32 := 3#32
  let c0_i32_52 : BitVec 32 := 0#32
  let v90 : BitVec 1 := Scalar.cmpi .eq c3_i32_51 c0_i32_52
  let c1_i32_53 : BitVec 32 := 1#32
  let v91 : BitVec 32 := Scalar.select v90 c1_i32_53 c3_i32_51
  let v92 : BitVec 32 := Scalar.remsi arg0 v91
  let c0_i32_55 : BitVec 32 := 0#32
  let v94 : BitVec 1 := Scalar.cmpi .slt v92 c0_i32_55
  let c0_i32_56 : BitVec 32 := 0#32
  let v95 : BitVec 1 := Scalar.cmpi .slt v91 c0_i32_56
  let v96 : BitVec 1 := Scalar.xori v94 v95
  let c0_i32_54 : BitVec 32 := 0#32
  let v93 : BitVec 1 := Scalar.cmpi .ne v92 c0_i32_54
  let v97 : BitVec 1 := Scalar.andi v96 v93
  let v98 : BitVec 32 := Scalar.addi v92 v91
  let v99 : BitVec 32 := Scalar.select v97 v98 v92
  let c0_i32_64 : BitVec 32 := 0#32
  let c0_i32_65 : BitVec 32 := 0#32
  ![v99.toNat, 0, 0]
def k0_off16 (i : grid0.Coords) : Fin 2 → Nat :=
  let arg0 : BitVec 32 := BitVec.ofNat 32 (i 0).val
  let c384_i32_50 : BitVec 32 := 384#32
  let v88 : BitVec 32 := Scalar.muli arg0 c384_i32_50
  let v89 : BitVec 32 := v88
  let c0_i32_66 : BitVec 32 := 0#32
  ![v89.toNat, 0]
def k0_off17 (i : grid0.Coords) : Fin 3 → Nat :=
  let arg0 : BitVec 32 := BitVec.ofNat 32 (i 0).val
  let c3_i32_67 : BitVec 32 := 3#32
  let c0_i32_68 : BitVec 32 := 0#32
  let v115 : BitVec 1 := Scalar.cmpi .eq c3_i32_67 c0_i32_68
  let c1_i32_69 : BitVec 32 := 1#32
  let v116 : BitVec 32 := Scalar.select v115 c1_i32_69 c3_i32_67
  let v117 : BitVec 32 := Scalar.remsi arg0 v116
  let c0_i32_71 : BitVec 32 := 0#32
  let v119 : BitVec 1 := Scalar.cmpi .slt v117 c0_i32_71
  let c0_i32_72 : BitVec 32 := 0#32
  let v120 : BitVec 1 := Scalar.cmpi .slt v116 c0_i32_72
  let v121 : BitVec 1 := Scalar.xori v119 v120
  let c0_i32_70 : BitVec 32 := 0#32
  let v118 : BitVec 1 := Scalar.cmpi .ne v117 c0_i32_70
  let v122 : BitVec 1 := Scalar.andi v121 v118
  let v123 : BitVec 32 := Scalar.addi v117 v116
  let v124 : BitVec 32 := Scalar.select v122 v123 v117
  let v313 : Index := Scalar.indexCast v124
  let c0_180 : Index := 0#32
  let c0_181 : Index := 0#32
  ![v313.toNat, 0, 0]
def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S384x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S4224x512 : Shape := ⟨2, ![4224, 512]⟩
abbrev S4224x1024 : Shape := ⟨2, ![4224, 1024]⟩
abbrev S128 : Shape := ⟨1, ![128]⟩
abbrev S1024x1024 : Shape := ⟨2, ![1024, 1024]⟩
abbrev S1024 : Shape := ⟨1, ![1024]⟩
abbrev S4224x4x2x64 : Shape := ⟨4, ![4224, 4, 2, 64]⟩
abbrev S4224x2x4x64 : Shape := ⟨4, ![4224, 2, 4, 64]⟩
abbrev S4224x4x128 : Shape := ⟨3, ![4224, 4, 128]⟩
abbrev S_ : Shape := ⟨0, ![]⟩
abbrev S4224x4 : Shape := ⟨2, ![4224, 4]⟩
abbrev S4224x4x1 : Shape := ⟨3, ![4224, 4, 1]⟩
abbrev S1x1x128 : Shape := ⟨3, ![1, 1, 128]⟩
abbrev S4224 : Shape := ⟨1, ![4224]⟩
abbrev S4224x1 : Shape := ⟨2, ![4224, 1]⟩
abbrev S1x1024 : Shape := ⟨2, ![1, 1024]⟩

abbrev nBuf : Space → Nat
  | .hbm => 75
  | .vmem => 0
  | .smem => 0
  | _ => 0

abbrev bufTy : (tb : Table) → Fin (tcTables nBuf tb) → BufTy
  | .hbm, ⟨0, _⟩ => ⟨S4224x512, .f32⟩
  | .hbm, ⟨1, _⟩ => ⟨S4224x512, .f32⟩
  | .hbm, ⟨2, _⟩ => ⟨S4224x512, .f32⟩
  | .hbm, ⟨3, _⟩ => ⟨S4224x1024, .f32⟩
  | .hbm, ⟨4, _⟩ => ⟨S128, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S4224x4x2x64, .f32⟩
  | .hbm, ⟨9, _⟩ => ⟨S4224x2x4x64, .f32⟩
  | .hbm, ⟨10, _⟩ => ⟨S4224x512, .f32⟩
  | .hbm, ⟨11, _⟩ => ⟨S4224x4x128, .f32⟩
  | .hbm, ⟨12, _⟩ => ⟨S4224x4x128, .f32⟩
  | .hbm, ⟨13, _⟩ => ⟨S_, .f32⟩
  | .hbm, ⟨14, _⟩ => ⟨S4224x4, .f32⟩
  | .hbm, ⟨15, _⟩ => ⟨S4224x4x1, .f32⟩
  | .hbm, ⟨16, _⟩ => ⟨S_, .f32⟩
  | .hbm, ⟨17, _⟩ => ⟨S4224x4x1, .f32⟩
  | .hbm, ⟨18, _⟩ => ⟨S4224x4x1, .f32⟩
  | .hbm, ⟨19, _⟩ => ⟨S_, .f32⟩
  | .hbm, ⟨20, _⟩ => ⟨S4224x4x1, .f32⟩
  | .hbm, ⟨21, _⟩ => ⟨S4224x4x1, .f32⟩
  | .hbm, ⟨22, _⟩ => ⟨S4224x4x1, .f32⟩
  | .hbm, ⟨23, _⟩ => ⟨S4224x4x128, .f32⟩
  | .hbm, ⟨24, _⟩ => ⟨S4224x4x128, .f32⟩
  | .hbm, ⟨25, _⟩ => ⟨S1x1x128, .f32⟩
  | .hbm, ⟨26, _⟩ => ⟨S4224x4x128, .f32⟩
  | .hbm, ⟨27, _⟩ => ⟨S4224x4x128, .f32⟩
  | .hbm, ⟨28, _⟩ => ⟨S4224x512, .f32⟩
  | .hbm, ⟨29, _⟩ => ⟨S4224x512, .f32⟩
  | .hbm, ⟨30, _⟩ => ⟨S4224x512, .f32⟩
  | .hbm, ⟨31, _⟩ => ⟨S_, .f32⟩
  | .hbm, ⟨32, _⟩ => ⟨S4224x512, .f32⟩
  | .hbm, ⟨33, _⟩ => ⟨S4224x512, .f32⟩
  | .hbm, ⟨34, _⟩ => ⟨S_, .f32⟩
  | .hbm, ⟨35, _⟩ => ⟨S4224x512, .f32⟩
  | .hbm, ⟨36, _⟩ => ⟨S4224x512, .f32⟩
  | .hbm, ⟨37, _⟩ => ⟨S4224x512, .f32⟩
  | .hbm, ⟨38, _⟩ => ⟨S4224x512, .f32⟩
  | .hbm, ⟨39, _⟩ => ⟨S4224x1024, .f32⟩
  | .hbm, ⟨40, _⟩ => ⟨S_, .f32⟩
  | .hbm, ⟨41, _⟩ => ⟨S4224x1024, .f32⟩
  | .hbm, ⟨42, _⟩ => ⟨S4224x1024, .f32⟩
  | .hbm, ⟨43, _⟩ => ⟨S4224x1024, .f32⟩
  | .hbm, ⟨44, _⟩ => ⟨S4224x1024, .f32⟩
  | .hbm, ⟨45, _⟩ => ⟨S_, .f32⟩
  | .hbm, ⟨46, _⟩ => ⟨S4224, .f32⟩
  | .hbm, ⟨47, _⟩ => ⟨S4224x1, .f32⟩
  | .hbm, ⟨48, _⟩ => ⟨S_, .f32⟩
  | .hbm, ⟨49, _⟩ => ⟨S4224x1, .f32⟩
  | .hbm, ⟨50, _⟩ => ⟨S4224x1, .f32⟩
  | .hbm, ⟨51, _⟩ => ⟨S4224x1024, .f32⟩
  | .hbm, ⟨52, _⟩ => ⟨S4224x1024, .f32⟩
  | .hbm, ⟨53, _⟩ => ⟨S4224x1024, .f32⟩
  | .hbm, ⟨54, _⟩ => ⟨S_, .f32⟩
  | .hbm, ⟨55, _⟩ => ⟨S4224, .f32⟩
  | .hbm, ⟨56, _⟩ => ⟨S4224x1, .f32⟩
  | .hbm, ⟨57, _⟩ => ⟨S_, .f32⟩
  | .hbm, ⟨58, _⟩ => ⟨S4224x1, .f32⟩
  | .hbm, ⟨59, _⟩ => ⟨S4224x1, .f32⟩
  | .hbm, ⟨60, _⟩ => ⟨S4224x1024, .bf16⟩
  | .hbm, ⟨61, _⟩ => ⟨S4224x1024, .f32⟩
  | .hbm, ⟨62, _⟩ => ⟨S4224x1024, .f32⟩
  | .hbm, ⟨63, _⟩ => ⟨S_, .f32⟩
  | .hbm, ⟨64, _⟩ => ⟨S4224x1, .f32⟩
  | .hbm, ⟨65, _⟩ => ⟨S4224x1, .f32⟩
  | .hbm, ⟨66, _⟩ => ⟨S4224x1, .f32⟩
  | .hbm, ⟨67, _⟩ => ⟨S4224x1024, .f32⟩
  | .hbm, ⟨68, _⟩ => ⟨S4224x1024, .f32⟩
  | .hbm, ⟨69, _⟩ => ⟨S1x1024, .f32⟩
  | .hbm, ⟨70, _⟩ => ⟨S4224x1024, .f32⟩
  | .hbm, ⟨71, _⟩ => ⟨S4224x1024, .f32⟩
  | .hbm, ⟨72, _⟩ => ⟨S1x1024, .f32⟩
  | .hbm, ⟨73, _⟩ => ⟨S4224x1024, .f32⟩
  | .hbm, ⟨74, _⟩ => ⟨S4224x1024, .f32⟩
  | _, _ => ⟨S4224x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_3 : Ref sig .tc := ⟨.hbm, 45, rfl⟩
abbrev main_v25 : Ref sig .tc := ⟨.hbm, 46, rfl⟩
abbrev main_v26 : Ref sig .tc := ⟨.hbm, 47, rfl⟩
abbrev main_cst_4 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_5 : Ref sig .tc := ⟨.hbm, 54, rfl⟩
abbrev main_v32 : Ref sig .tc := ⟨.hbm, 55, rfl⟩
abbrev main_v33 : Ref sig .tc := ⟨.hbm, 56, rfl⟩
abbrev main_cst_6 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_7 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩

abbrev nD : Nat := 1
abbrev τ : Topo := Topo.v7x

variable {F : FTy → Type} [FloatOps F]
-- ==== Proof.Frame.lean ====
/- The run of the gradient kernel over its grid, for any values: what a grid point leaves in the four results' staging
   buffers and in the carried state, point by point; the proof that the pipelined body does that; and from it the run
   of the whole program.

   Point 0 resets the carried state and every later point reads what the point before left, so there are two cases.
   What a case leaves is the stored pieces of the body's run (`kernelRun0_A`, `kernelRun0_B`) read back. -/
module

public import proofs.«01_k».proof.Proof.Gen.KernelIdeal.Frame.RunA
public import proofs.«01_k».proof.Proof.Gen.KernelIdeal.Frame.RunB
public import Idealize.ShloMosaic.Lib.Claim

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a point leaves: the blocks of dq, dk, dv and dz, and the carried state. -/
abbrev Left (F : FTy → Type) : Type :=
  Vec F S128x256 .f32 × Vec F S128x256 .f32 × Vec F S128x512 .f32 × Vec F S128x256 .f32 × Vec F S128x256 .f32

section Body

variable (c : Dev nD) (i : grid0.Coords)
  (arg1 : Memref sig .tc .vmem S128x256 .f32) (harg1 : arg1.IsWhole)
  (arg2 : Memref sig .tc .vmem S128x256 .f32) (harg2 : arg2.IsWhole)
  (arg3 : Memref sig .tc .vmem S128x512 .f32) (harg3 : arg3.IsWhole)
  (arg4 : Memref sig .tc .vmem S128x256 .f32) (harg4 : arg4.IsWhole)
  (arg5 : Memref sig .tc .vmem S128x512 .f32) (harg5 : arg5.IsWhole)
  (arg6 : Memref sig .tc .vmem S1x2x128x256 .f32) (harg6 : arg6.IsWhole)
  (arg7 : Memref sig .tc .vmem S8x128 .f32) (harg7 : arg7.IsWhole)
  (arg8 : Memref sig .tc .vmem S128x256 .f32) (harg8 : arg8.IsWhole)
  (arg9 : Memref sig .tc .vmem S128x256 .f32) (harg9 : arg9.IsWhole)
  (arg10 : Memref sig .tc .vmem S128x512 .f32) (harg10 : arg10.IsWhole)
  (arg11 : Memref sig .tc .vmem S128x256 .f32) (harg11 : arg11.IsWhole)
  (arg12 : Memref sig .tc .vmem S128x256 .f32) (harg12 : arg12.IsWhole)
variable (x0 : Vec F S128x256 .f32) (x1 : Vec F S128x256 .f32) (x2 : Vec F S128x512 .f32) (x3 : Vec F S128x256 .f32) (x4 : Vec F S128x512 .f32) (x5 : Vec F S1x2x128x256 .f32) (x6 : Vec F S8x128 .f32) (xs : Vec F S128x256 .f32)

/-- What the body leaves at the first point: the pieces it stores, read back. -/
def leftA (hc : cond0_0 i) : Left F :=
  let r := kernelRun0_A c i arg1 harg1 arg2 harg2 arg3 harg3 arg4 harg4 arg5 harg5 arg6 harg6 arg7 harg7 arg8 harg8 arg9 harg9 arg10 harg10 arg11 harg11 arg12 harg12 hc x0 x1 x2 x3 x4 x5 x6
  (VO0_7.read (Elt F) (VO0_7.writes (Elt F) VO0_7.junk r.1),
    VO0_8.read (Elt F) (VO0_8.writes (Elt F) VO0_8.junk r.2.1),
    VO0_9.read (Elt F) (VO0_9.writes (Elt F) VO0_9.junk r.2.2.1),
    VO0_10.read (Elt F) (VO0_10.writes (Elt F) VO0_10.junk r.2.2.2.1),
    VS0_0.read (Elt F) (VS0_0.writes (Elt F) VS0_0.junk r.2.2.2.2.1))

/-- The pieces stored into result window 7 cover it, at the first point. -/
theorem coverA_7 (hc : cond0_0 i) (y : S128x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc x0 x1 x2 x3 x4 x5 x6).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc x0 x1 x2 x3 x4 x5 x6).1 S128x256.size (by sl_kernel_rfl) y

/-- The pieces stored into result window 8 cover it, at the first point. -/
theorem coverA_8 (hc : cond0_0 i) (y : S128x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc x0 x1 x2 x3 x4 x5 x6).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc x0 x1 x2 x3 x4 x5 x6).2.1 S128x256.size (by sl_kernel_rfl) y

/-- The pieces stored into result window 9 cover it, at the first point. -/
theorem coverA_9 (hc : cond0_0 i) (y : S128x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc x0 x1 x2 x3 x4 x5 x6).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc x0 x1 x2 x3 x4 x5 x6).2.2.1 S64x128.size (by sl_kernel_rfl) y

/-- The pieces stored into result window 10 cover it, at the first point. -/
theorem coverA_10 (hc : cond0_0 i) (y : S128x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc x0 x1 x2 x3 x4 x5 x6).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc x0 x1 x2 x3 x4 x5 x6).2.2.2.1 S128x256.size (by sl_kernel_rfl) y

/-- The pieces stored into the carried state cover it, at the first point. -/
theorem coverA_s (hc : cond0_0 i) (y : S128x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc x0 x1 x2 x3 x4 x5 x6).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc x0 x1 x2 x3 x4 x5 x6).2.2.2.2.1 S128x256.size (by sl_kernel_rfl) y

/-- What the body leaves at a later point: the pieces it stores, read back. -/
def leftB (hc : ¬cond0_0 i) : Left F :=
  let r := kernelRun0_B c i arg1 harg1 arg2 harg2 arg3 harg3 arg4 harg4 arg5 harg5 arg6 harg6 arg7 harg7 arg8 harg8 arg9 harg9 arg10 harg10 arg11 harg11 arg12 harg12 hc x0 x1 x2 x3 x4 x5 x6 xs
  (VO0_7.read (Elt F) (VO0_7.writes (Elt F) VO0_7.junk r.1),
    VO0_8.read (Elt F) (VO0_8.writes (Elt F) VO0_8.junk r.2.1),
    VO0_9.read (Elt F) (VO0_9.writes (Elt F) VO0_9.junk r.2.2.1),
    VO0_10.read (Elt F) (VO0_10.writes (Elt F) VO0_10.junk r.2.2.2.1),
    VS0_0.read (Elt F) (VS0_0.writes (Elt F) VS0_0.junk r.2.2.2.2.1))

/-- The pieces stored into result window 7 cover it, at a later point. -/
theorem coverB_7 (hc : ¬cond0_0 i) (y : S128x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc x0 x1 x2 x3 x4 x5 x6 xs).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc x0 x1 x2 x3 x4 x5 x6 xs).1 S128x256.size (by sl_kernel_rfl) y

/-- The pieces stored into result window 8 cover it, at a later point. -/
theorem coverB_8 (hc : ¬cond0_0 i) (y : S128x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc x0 x1 x2 x3 x4 x5 x6 xs).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc x0 x1 x2 x3 x4 x5 x6 xs).2.1 S128x256.size (by sl_kernel_rfl) y

/-- The pieces stored into result window 9 cover it, at a later point. -/
theorem coverB_9 (hc : ¬cond0_0 i) (y : S128x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc x0 x1 x2 x3 x4 x5 x6 xs).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc x0 x1 x2 x3 x4 x5 x6 xs).2.2.1 S64x128.size (by sl_kernel_rfl) y

/-- The pieces stored into result window 10 cover it, at a later point. -/
theorem coverB_10 (hc : ¬cond0_0 i) (y : S128x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc x0 x1 x2 x3 x4 x5 x6 xs).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc x0 x1 x2 x3 x4 x5 x6 xs).2.2.2.1 S128x256.size (by sl_kernel_rfl) y

/-- The pieces stored into the carried state cover it, at a later point. -/
theorem coverB_s (hc : ¬cond0_0 i) (y : S128x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc x0 x1 x2 x3 x4 x5 x6 xs).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc x0 x1 x2 x3 x4 x5 x6 xs).2.2.2.2.1 S128x256.size (by sl_kernel_rfl) y

end Body

variable (m : (ℓ : Loc nD τ sig) → Buf (Elt F) ℓ) (ρ : Dev nD → PrngReg)

/-- What point `t` leaves if it is the first, -/
def leftA_at (c : Dev nD) (t : Fin cfg0.N) (hc : cond0_0 (grid0.coords t)) : Left F :=
  leftA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _)
    (iblk m c 0 t) (iblk m c 1 t) (iblk m c 2 t) (iblk m c 3 t) (iblk m c 4 t) (iblk m c 5 t) (iblk m c 6 t) hc

/-- and otherwise, over the state `xs` that the point before left. -/
def leftB_at (c : Dev nD) (t : Fin cfg0.N) (hc : ¬cond0_0 (grid0.coords t)) (xs : Vec F S128x256 .f32) : Left F :=
  leftB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _)
    (iblk m c 0 t) (iblk m c 1 t) (iblk m c 2 t) (iblk m c 3 t) (iblk m c 4 t) (iblk m c 5 t) (iblk m c 6 t) xs hc

theorem cond_zero (hn : 0 < cfg0.N) : cond0_0 (grid0.coords (⟨0, hn⟩ : Fin cfg0.N)) := (hcond0_0 ⟨0, hn⟩).mpr rfl

theorem cond_succ (n : ℕ) (hn : n + 1 < cfg0.N) : ¬cond0_0 (grid0.coords (⟨n + 1, hn⟩ : Fin cfg0.N)) := fun h => by
  have h1 := (hcond0_0 ⟨n + 1, hn⟩).mp h
  have h2 : n + 1 < 33 := lt_of_lt_of_eq hn (show cfg0.N = 33 from N_0)
  dsimp only at h1; omega

/-- What is left after point `n`. -/
def outs (c : Dev nD) : (n : ℕ) → n < cfg0.N → Left F
  | 0, hn => leftA_at m c ⟨0, hn⟩ (cond_zero hn)
  | n + 1, hn => leftB_at m c ⟨n + 1, hn⟩ (cond_succ n hn) (outs c n (Nat.lt_of_succ_lt hn)).2.2.2.2

/-- The condition on the body's conditional, at a point that is not the first. -/
theorem cond_pos (t : Fin cfg0.N) (hz : t.val ≠ 0) : ¬cond0_0 (grid0.coords t) := fun h => by
  have h1 := (hcond0_0 t).mp h
  have h2 : t.val < 33 := lt_of_lt_of_eq t.isLt (show cfg0.N = 33 from N_0)
  omega

theorem cond_first (t : Fin cfg0.N) (hz : t.val = 0) : cond0_0 (grid0.coords t) := (hcond0_0 t).mpr (by rw [hz])

theorem outs_first (c : Dev nD) (t : Fin cfg0.N) (hz : t.val = 0) :
    outs m c t.val t.isLt = leftA_at m c t (cond_first t hz) := by
  obtain ⟨n, hn⟩ := t
  dsimp only at hz
  subst hz
  dsimp only [outs]

theorem outs_later (c : Dev nD) (t : Fin cfg0.N) (hz : t.val ≠ 0) :
    outs m c t.val t.isLt
      = leftB_at m c t (cond_pos t hz) (outs m c (t.val - 1) (Nat.lt_of_le_of_lt (Nat.sub_le _ _) t.isLt)).2.2.2.2 := by
  obtain ⟨n, hn⟩ := t
  cases n with
  | zero => exact absurd rfl hz
  | succ n => rw [outs]; rfl

/-- What holds between points: before the first the carried state is anything, afterwards what the point before left. -/
def PhiS (c : Dev nD) : (n : ℕ) → n ≤ cfg0.N → sProp 𝕄
  | 0, _ => Pipeline.ΦA spec0 c
  | n + 1, hn => iprop(iprop(owns (c : Thread nD τ) scM0_0 fullShare ((outs m c n hn).2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outs m c n hn).2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outs m c (n - 1) (by omega)).2.2.2.2)) ∗ (∃ r, prngReg c r)) := by
  cases n with
  | zero => exact absurd rfl hz
  | succ n => rfl

/-- The pipeline's proof data: each argument's buffer is left at its block, the results' at `outs`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outs m c t.val t.isLt).1
    | ⟨8, _⟩ => (outs m c t.val t.isLt).2.1
    | ⟨9, _⟩ => (outs m c t.val t.isLt).2.2.1
    | ⟨10, _⟩ => (outs m c t.val t.isLt).2.2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outs m c t.val t.isLt).1 := by dsimp only [dats]
theorem after0_8 (c : Dev nD) (t : Fin cfg0.N) : (dats m 0 c).after 8 t = (outs m c t.val t.isLt).2.1 := by dsimp only [dats]
theorem after0_9 (c : Dev nD) (t : Fin cfg0.N) : (dats m 0 c).after 9 t = (outs m c t.val t.isLt).2.2.1 := by dsimp only [dats]
theorem after0_10 (c : Dev nD) (t : Fin cfg0.N) : (dats m 0 c).after 10 t = (outs m c t.val t.isLt).2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 9600000 in
/-- The body at any point: the case the point is in runs, over what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7, after0_8, after0_9, after0_10]
  rw [show (dats m 0 c).Φ t.succ = PhiS m c (t.val + 1) t.isLt from rfl, PhiS_succ]
  by_cases hz : t.val = 0
  · rw [PhiS_castSucc m c t, PhiS_zero m c _ _ hz, PhiA0_eq]
    rw [outs_first m c t hz]
    unfold leftA_at leftA; dsimp only
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_A c (grid0.coords t) _ _ _ _ _ _ _ _ _ _ _ _ _ _ _ _ _ _ _ _ _ _ _ _ (cond_first t hz) (iblk m c 0 t) (iblk m c 1 t) (iblk m c 2 t) (iblk m c 3 t) (iblk m c 4 t) (iblk m c 5 t) (iblk m c 6 t)).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [HS0]; · iexact HS0
    iintro ⟨H0, H1, H2, H3, H4, H5, H6, ⟨%e7, H7⟩, ⟨%e8, H8⟩, ⟨%e9, H9⟩, ⟨%e10, H10⟩, ⟨%es0, HS0⟩⟩
    isplitl [HS0 Hg]
    · isplitl [HS0]
      · unfold owns; iexists _; isplitr
        swap; · iexact HS0
        ipureintro; exact View.read_writes_of_cover _ _ _ _ _ fun y => coverA_s c _ _ _ _ _ _ _ _ _ _ _ _ _ _ _ _ _ _ _ _ _ _ _ _ _ _ _ _ _ _ _ _ _ y
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ fun y => coverA_7 c _ _ _ _ _ _ _ _ _ _ _ _ _ _ _ _ _ _ _ _ _ _ _ _ _ _ _ _ _ _ _ _ _ y
    isplitl [H8]
    · unfold owns; iexists _; isplitr
      swap; · iexact H8
      ipureintro; exact View.read_writes_of_cover _ _ _ _ _ fun y => coverA_8 c _ _ _ _ _ _ _ _ _ _ _ _ _ _ _ _ _ _ _ _ _ _ _ _ _ _ _ _ _ _ _ _ _ y
    isplitl [H9]
    · unfold owns; iexists _; isplitr
      swap; · iexact H9
      ipureintro; exact View.read_writes_of_cover _ _ _ _ _ fun y => coverA_9 c _ _ _ _ _ _ _ _ _ _ _ _ _ _ _ _ _ _ _ _ _ _ _ _ _ _ _ _ _ _ _ _ _ y
    unfold owns; iexists _; isplitr
    swap; · iexact H10
    ipureintro; exact View.read_writes_of_cover _ _ _ _ _ fun y => coverA_10 c _ _ _ _ _ _ _ _ _ _ _ _ _ _ _ _ _ _ _ _ _ _ _ _ _ _ _ _ _ _ _ _ _ y
  · rw [PhiS_castSucc m c t, PhiS_pos m c _ _ hz]
    rw [outs_later m c t hz]
    unfold leftB_at leftB; dsimp only
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_B c (grid0.coords t) _ _ _ _ _ _ _ _ _ _ _ _ _ _ _ _ _ _ _ _ _ _ _ _ (cond_pos t hz) (iblk m c 0 t) (iblk m c 1 t) (iblk m c 2 t) (iblk m c 3 t) (iblk m c 4 t) (iblk m c 5 t) (iblk m c 6 t) _).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [HS0]; · iexact HS0
    iintro ⟨H0, H1, H2, H3, H4, H5, H6, ⟨%e7, H7⟩, ⟨%e8, H8⟩, ⟨%e9, H9⟩, ⟨%e10, H10⟩, ⟨%es0, HS0⟩⟩
    isplitl [HS0 Hg]
    · isplitl [HS0]
      · unfold owns; iexists _; isplitr
        swap; · iexact HS0
        ipureintro; exact View.read_writes_of_cover _ _ _ _ _ fun y => coverB_s c _ _ _ _ _ _ _ _ _ _ _ _ _ _ _ _ _ _ _ _ _ _ _ _ _ _ _ _ _ _ _ _ _ _ y
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ fun y => coverB_7 c _ _ _ _ _ _ _ _ _ _ _ _ _ _ _ _ _ _ _ _ _ _ _ _ _ _ _ _ _ _ _ _ _ _ y
    isplitl [H8]
    · unfold owns; iexists _; isplitr
      swap; · iexact H8
      ipureintro; exact View.read_writes_of_cover _ _ _ _ _ fun y => coverB_8 c _ _ _ _ _ _ _ _ _ _ _ _ _ _ _ _ _ _ _ _ _ _ _ _ _ _ _ _ _ _ _ _ _ _ y
    isplitl [H9]
    · unfold owns; iexists _; isplitr
      swap; · iexact H9
      ipureintro; exact View.read_writes_of_cover _ _ _ _ _ fun y => coverB_9 c _ _ _ _ _ _ _ _ _ _ _ _ _ _ _ _ _ _ _ _ _ _ _ _ _ _ _ _ _ _ _ _ _ _ y
    unfold owns; iexists _; isplitr
    swap; · iexact H10
    ipureintro; exact View.read_writes_of_cover _ _ _ _ _ fun y => coverB_10 c _ _ _ _ _ _ _ _ _ _ _ _ _ _ _ _ _ _ _ _ _ _ _ _ _ _ _ _ _ _ _ _ _ _ y

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  have hN : cfg0.N = 33 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiA0_eq]
  iintro ⟨HS0, Hg⟩
  isplitl [HS0]
  · iexists _; iexact HS0
  iexact Hg

-- the launch theorem's implicit arguments are found by unifying its conclusion with this one
set_option backward.isDefEq.respectTransparency.types false in
/-- The run: every result array ends at what the proof data computes, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: every argument array ends as launched, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Own

end
-- ==== Proof.InRun.lean ====
/- The input projection's kernel body, run: what its stores leave in each result's staging buffer, for any values.

   Point 0 first copies the four devices' windows of the transposed weight into the resident weight and clears its last
   rows (`fill`); every later point finds the resident weight in place and only reads it. What follows (`project`) is
   the same at every point, so it is run once, over any resident weight. -/
module

public import proofs.«01_k».proof.Proof.Gen.Kernel6Ideal.Frame
public import Idealize.ShloMosaic.Lib.Pipeline.FrameBody
public import Idealize.ShloMosaic.Lib.Tactic
public import Idealize.ShloMosaic.Lib.WordCmp
public import Idealize.ShloMosaic.Lib.Claim

@[expose] public section

set_option maxRecDepth 16384

noncomputable section

namespace Cert.Kernel6Ideal.Own

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The block of the projection: the rows of `h` times the resident weight, and the bias. -/
def proj (h : Vec F S384x1024 .f32) (w : Vec F S2432x1024 .bf16) (b : Vec F S1x2432 .f32) : FVec F S384x2432 .f32 :=
  addf (matmul dot_S384x1024_S2432x1024_S384x2432_1_1_0_0_n_n none (truncf .bf16 h Gen.bitsLt_bf16_f32) w (constant S384x2432 .f32 0x00000000#32))
    (broadcastTo S384x2432 (shapeCast S1x2432 b Gen.shapeCasts_S1x2432_S1x2432) Gen.broadcasts_S1x2432_S384x2432)

/-- A slice of its columns, as it is stored. -/
def cut {s' : Shape} (o : Fin 2 → ℕ) (v : FVec F S384x2432 .f32) (hs : S384x2432.Slices o s') (hc : s'.ShapeCasts s') : FVec F s' .f32 :=
  shapeCast s' (extractStridedSlice s' o v hs) hc

/-- The gate's second product: the slice of the low rank gate times its small weight, and the bias. -/
def gate (v : FVec F S384x2432 .f32) (wg : Vec F S128x256 .bf16) (bg : Vec F S1x256 .f32) : FVec F S384x256 .f32 :=
  shapeCast S384x256 (addf (matmul dot_S384x128_S128x256_S384x256_1_0_0_1_n_n none
      (truncf .bf16 (extractStridedSlice S384x128 ![0, 2304] v Gen.slices_S384x2432_o0_2304_S384x128) Gen.bitsLt_bf16_f32)
      (shapeCast S128x256 wg Gen.shapeCasts_S128x256_S128x256) (constant S384x256 .f32 0x00000000#32))
    (broadcastTo S384x256 (shapeCast S1x256 bg Gen.shapeCasts_S1x256_S1x256) Gen.broadcasts_S1x256_S384x256)) Gen.shapeCasts_S384x256_S384x256

/-- A window of the weight, as it is stored into the resident weight; -/
def stacked (v : Vec F S1x580x1024 .bf16) : FVec F S580x1024 .bf16 :=
  shapeCast S580x1024 (shapeCast S580x1024 v Gen.shapeCasts_S1x580x1024_S580x1024) Gen.shapeCasts_S580x1024_S580x1024

/-- and the rows after the last window. -/
def cleared : FVec F S112x1024 .bf16 :=
  shapeCast S112x1024 (broadcast S112x1024 (Scalar.ofBits .bf16 0x0000#16 : F .bf16)) Gen.shapeCasts_S112x1024_S112x1024

/-- The pieces stored into the nine results that every point writes. -/
structure Pieces (F : FTy → Type) where
  q : List (View.Piece (Elt F) S384x512 .f32)
  ks : List (View.Piece (Elt F) S384x128 .f32)
  vs : List (View.Piece (Elt F) S384x128 .f32)
  qg : List (View.Piece (Elt F) S384x256 .f32)
  kg : List (View.Piece (Elt F) S384x256 .f32)
  vg : List (View.Piece (Elt F) S384x512 .f32)
  rg : List (View.Piece (Elt F) S384x512 .f32)
  gl : List (View.Piece (Elt F) S384x128 .f32)
  z : List (View.Piece (Elt F) S384x256 .f32)

section Body

variable (c : Dev nD) (i : grid0.Coords)
  (arg1 : Memref sig .tc .vmem S384x1024 .f32) (harg1 : arg1.IsWhole)
  (arg2 : Memref sig .tc .vmem S4x608x1024 .bf16) (harg2 : arg2.IsWhole)
  (arg3 : Memref sig .tc .vmem S1x2432 .f32) (harg3 : arg3.IsWhole)
  (arg4 : Memref sig .tc .vmem S128x256 .bf16) (harg4 : arg4.IsWhole)
  (arg5 : Memref sig .tc .vmem S1x256 .f32) (harg5 : arg5.IsWhole)
  (arg6 : Memref sig .tc .vmem S384x512 .f32) (harg6 : arg6.IsWhole)
  (arg7 : Memref sig .tc .vmem S384x128 .f32) (harg7 : arg7.IsWhole)
  (arg8 : Memref sig .tc .vmem S384x128 .f32) (harg8 : arg8.IsWhole)
  (arg9 : Memref sig .tc .vmem S384x256 .f32) (harg9 : arg9.IsWhole)
  (arg10 : Memref sig .tc .vmem S384x256 .f32) (harg10 : arg10.IsWhole)
  (arg11 : Memref sig .tc .vmem S384x512 .f32) (harg11 : arg11.IsWhole)
  (arg12 : Memref sig .tc .vmem S384x512 .f32) (harg12 : arg12.IsWhole)
  (arg13 : Memref sig .tc .vmem S384x128 .f32) (harg13 : arg13.IsWhole)
  (arg14 : Memref sig .tc .vmem S384x256 .f32) (harg14 : arg14.IsWhole)
  (arg15 : Memref sig .tc .vmem S2432x1024 .bf16) (harg15 : arg15.IsWhole)

/-- What the first point does before anything else. -/
noncomputable def fill : Prog (TpuEff nD τ sig (Elt F) Λ₀ .tc) PUnit := do
  let w0 : Vec F S1x580x1024 .bf16 ← Prog.lift (.load arg2 (Rect.unit (s := S4x608x1024) ![0, 0, 0] S1x580x1024.size Gen.inb_S4x608x1024_S1x580x1024_0_0_0).toLoadRect (View.loadsAt_vmem Gen.h_S1x580x1024))
  let _o0 : Vec F S580x1024 .bf16 ← Prog.lift (.load arg15 (Rect.unit (s := S2432x1024) ![0, 0] S580x1024.size Gen.inb_S2432x1024_S580x1024_0_0).toLoadRect (View.loadsAt_vmem Gen.h_S580x1024))
  Prog.lift (.store arg15 (Rect.unit (s := S2432x1024) ![0, 0] S580x1024.size Gen.inb_S2432x1024_S580x1024_0_0) (stacked w0) Finset.univ (View.stores_vmem Gen.h_S580x1024 (harg15.storeExact_slice rfl _ Gen.packedbf16_S2432x1024_S580x1024_0_0) (fun _ => rfl)) (.inl rfl))
  let w1 : Vec F S1x580x1024 .bf16 ← Prog.lift (.load arg2 (Rect.unit (s := S4x608x1024) ![1, 0, 0] S1x580x1024.size Gen.inb_S4x608x1024_S1x580x1024_1_0_0).toLoadRect (View.loadsAt_vmem Gen.h_S1x580x1024))
  let _o1 : Vec F S580x1024 .bf16 ← Prog.lift (.load arg15 (Rect.unit (s := S2432x1024) ![580, 0] S580x1024.size Gen.inb_S2432x1024_S580x1024_580_0).toLoadRect (View.loadsAt_vmem Gen.h_S580x1024))
  Prog.lift (.store arg15 (Rect.unit (s := S2432x1024) ![580, 0] S580x1024.size Gen.inb_S2432x1024_S580x1024_580_0) (stacked w1) Finset.univ (View.stores_vmem Gen.h_S580x1024 (harg15.storeExact_slice rfl _ Gen.packedbf16_S2432x1024_S580x1024_580_0) (fun _ => rfl)) (.inl rfl))
  let w2 : Vec F S1x580x1024 .bf16 ← Prog.lift (.load arg2 (Rect.unit (s := S4x608x1024) ![2, 0, 0] S1x580x1024.size Gen.inb_S4x608x1024_S1x580x1024_2_0_0).toLoadRect (View.loadsAt_vmem Gen.h_S1x580x1024))
  let _o2 : Vec F S580x1024 .bf16 ← Prog.lift (.load arg15 (Rect.unit (s := S2432x1024) ![1160, 0] S580x1024.size Gen.inb_S2432x1024_S580x1024_1160_0).toLoadRect (View.loadsAt_vmem Gen.h_S580x1024))
  Prog.lift (.store arg15 (Rect.unit (s := S2432x1024) ![1160, 0] S580x1024.size Gen.inb_S2432x1024_S580x1024_1160_0) (stacked w2) Finset.univ (View.stores_vmem Gen.h_S580x1024 (harg15.storeExact_slice rfl _ Gen.packedbf16_S2432x1024_S580x1024_1160_0) (fun _ => rfl)) (.inl rfl))
  let w3 : Vec F S1x580x1024 .bf16 ← Prog.lift (.load arg2 (Rect.unit (s := S4x608x1024) ![3, 0, 0] S1x580x1024.size Gen.inb_S4x608x1024_S1x580x1024_3_0_0).toLoadRect (View.loadsAt_vmem Gen.h_S1x580x1024))
  let _o3 : Vec F S580x1024 .bf16 ← Prog.lift (.load arg15 (Rect.unit (s := S2432x1024) ![1740, 0] S580x1024.size Gen.inb_S2432x1024_S580x1024_1740_0).toLoadRect (View.loadsAt_vmem Gen.h_S580x1024))
  Prog.lift (.store arg15 (Rect.unit (s := S2432x1024) ![1740, 0] S580x1024.size Gen.inb_S2432x1024_S580x1024_1740_0) (stacked w3) Finset.univ (View.stores_vmem Gen.h_S580x1024 (harg15.storeExact_slice rfl _ Gen.packedbf16_S2432x1024_S580x1024_1740_0) (fun _ => rfl)) (.inl rfl))
  let _o4 : Vec F S112x1024 .bf16 ← Prog.lift (.load arg15 (Rect.unit (s := S2432x1024) ![2320, 0] S112x1024.size Gen.inb_S2432x1024_S112x1024_2320_0).toLoadRect (View.loadsAt_vmem Gen.h_S112x1024))
  Prog.lift (.store arg15 (Rect.unit (s := S2432x1024) ![2320, 0] S112x1024.size Gen.inb_S2432x1024_S112x1024_2320_0) cleared Finset.univ (View.stores_vmem Gen.h_S112x1024 (harg15.storeExact_slice rfl _ Gen.packedbf16_S2432x1024_S112x1024_2320_0) (fun _ => rfl)) (.inl rfl))
  pure ⟨⟩

/-- What every point does. -/
noncomputable def project : Prog (TpuEff nD τ sig (Elt F) Λ₀ .tc) PUnit := do
  let h : Vec F S384x1024 .f32 ← Prog.lift (.load arg1 (Rect.unit (s := S384x1024) ![0, 0] S384x1024.size Gen.inb_S384x1024_S384x1024_0_0).toLoadRect (View.loadsAt_vmem Gen.h_S384x1024))
  let w : Vec F S2432x1024 .bf16 ← Prog.lift (.load arg15 (Rect.unit (s := S2432x1024) ![0, 0] S2432x1024.size Gen.inb_S2432x1024_S2432x1024_0_0).toLoadRect (View.loadsAt_vmem Gen.h_S2432x1024))
  let b : Vec F S1x2432 .f32 ← Prog.lift (.load arg3 (Rect.unit (s := S1x2432) ![0, 0] S1x2432.size Gen.inb_S1x2432_S1x2432_0_0).toLoadRect (View.loadsAt_vmem Gen.h_S1x2432))
  let _q0 : Vec F S384x64 .f32 ← Prog.lift (.load arg6 (Rect.unit (s := S384x512) ![0, 0] S384x64.size Gen.inb_S384x512_S384x64_0_0).toLoadRect (View.loadsAt_vmem Gen.h_S384x64))
  Prog.lift (.store arg6 (Rect.unit (s := S384x512) ![0, 0] S384x64.size Gen.inb_S384x512_S384x64_0_0) (cut ![0, 0] (proj h w b) Gen.slices_S384x2432_o0_0_S384x64 Gen.shapeCasts_S384x64_S384x64) Finset.univ (View.stores_vmem_bits_univ Gen.h_S384x64 rfl) (.inl rfl))
  let _q1 : Vec F S384x64 .f32 ← Prog.lift (.load arg6 (Rect.unit (s := S384x512) ![0, 64] S384x64.size Gen.inb_S384x512_S384x64_0_64).toLoadRect (View.loadsAt_vmem Gen.h_S384x64))
  Prog.lift (.store arg6 (Rect.unit (s := S384x512) ![0, 64] S384x64.size Gen.inb_S384x512_S384x64_0_64) (cut ![0, 256] (proj h w b) Gen.slices_S384x2432_o0_256_S384x64 Gen.shapeCasts_S384x64_S384x64) Finset.univ (View.stores_vmem_bits_univ Gen.h_S384x64 rfl) (.inl rfl))
  let _q2 : Vec F S384x64 .f32 ← Prog.lift (.load arg6 (Rect.unit (s := S384x512) ![0, 128] S384x64.size Gen.inb_S384x512_S384x64_0_128).toLoadRect (View.loadsAt_vmem Gen.h_S384x64))
  Prog.lift (.store arg6 (Rect.unit (s := S384x512) ![0, 128] S384x64.size Gen.inb_S384x512_S384x64_0_128) (cut ![0, 64] (proj h w b) Gen.slices_S384x2432_o0_64_S384x64 Gen.shapeCasts_S384x64_S384x64) Finset.univ (View.stores_vmem_bits_univ Gen.h_S384x64 rfl) (.inl rfl))
  let _q3 : Vec F S384x64 .f32 ← Prog.lift (.load arg6 (Rect.unit (s := S384x512) ![0, 192] S384x64.size Gen.inb_S384x512_S384x64_0_192).toLoadRect (View.loadsAt_vmem Gen.h_S384x64))
  Prog.lift (.store arg6 (Rect.unit (s := S384x512) ![0, 192] S384x64.size Gen.inb_S384x512_S384x64_0_192) (cut ![0, 320] (proj h w b) Gen.slices_S384x2432_o0_320_S384x64 Gen.shapeCasts_S384x64_S384x64) Finset.univ (View.stores_vmem_bits_univ Gen.h_S384x64 rfl) (.inl rfl))
  let _q4 : Vec F S384x64 .f32 ← Prog.lift (.load arg6 (Rect.unit (s := S384x512) ![0, 256] S384x64.size Gen.inb_S384x512_S384x64_0_256).toLoadRect (View.loadsAt_vmem Gen.h_S384x64))
  Prog.lift (.store arg6 (Rect.unit (s := S384x512) ![0, 256] S384x64.size Gen.inb_S384x512_S384x64_0_256) (cut ![0, 128] (proj h w b) Gen.slices_S384x2432_o0_128_S384x64 Gen.shapeCasts_S384x64_S384x64) Finset.univ (View.stores_vmem_bits_univ Gen.h_S384x64 rfl) (.inl rfl))
  let _q5 : Vec F S384x64 .f32 ← Prog.lift (.load arg6 (Rect.unit (s := S384x512) ![0, 320] S384x64.size Gen.inb_S384x512_S384x64_0_320).toLoadRect (View.loadsAt_vmem Gen.h_S384x64))
  Prog.lift (.store arg6 (Rect.unit (s := S384x512) ![0, 320] S384x64.size Gen.inb_S384x512_S384x64_0_320) (cut ![0, 384] (proj h w b) Gen.slices_S384x2432_o0_384_S384x64 Gen.shapeCasts_S384x64_S384x64) Finset.univ (View.stores_vmem_bits_univ Gen.h_S384x64 rfl) (.inl rfl))
  let _q6 : Vec F S384x64 .f32 ← Prog.lift (.load arg6 (Rect.unit (s := S384x512) ![0, 384] S384x64.size Gen.inb_S384x512_S384x64_0_384).toLoadRect (View.loadsAt_vmem Gen.h_S384x64))
  Prog.lift (.store arg6 (Rect.unit (s := S384x512) ![0, 384] S384x64.size Gen.inb_S384x512_S384x64_0_384) (cut ![0, 192] (proj h w b) Gen.slices_S384x2432_o0_192_S384x64 Gen.shapeCasts_S384x64_S384x64) Finset.univ (View.stores_vmem_bits_univ Gen.h_S384x64 rfl) (.inl rfl))
  let _q7 : Vec F S384x64 .f32 ← Prog.lift (.load arg6 (Rect.unit (s := S384x512) ![0, 448] S384x64.size Gen.inb_S384x512_S384x64_0_448).toLoadRect (View.loadsAt_vmem Gen.h_S384x64))
  Prog.lift (.store arg6 (Rect.unit (s := S384x512) ![0, 448] S384x64.size Gen.inb_S384x512_S384x64_0_448) (cut ![0, 448] (proj h w b) Gen.slices_S384x2432_o0_448_S384x64 Gen.shapeCasts_S384x64_S384x64) Finset.univ (View.stores_vmem_bits_univ Gen.h_S384x64 rfl) (.inl rfl))
  let _r7 : Vec F S384x128 .f32 ← Prog.lift (.load arg7 (Rect.unit (s := S384x128) ![0, 0] S384x128.size Gen.inb_S384x128_S384x128_0_0).toLoadRect (View.loadsAt_vmem Gen.h_S384x128))
  Prog.lift (.store arg7 (Rect.unit (s := S384x128) ![0, 0] S384x128.size Gen.inb_S384x128_S384x128_0_0) (cut ![0, 512] (proj h w b) Gen.slices_S384x2432_o0_512_S384x128 Gen.shapeCasts_S384x128_S384x128) Finset.univ (View.stores_vmem_bits_univ Gen.h_S384x128 rfl) (.inl rfl))
  let _r8 : Vec F S384x128 .f32 ← Prog.lift (.load arg8 (Rect.unit (s := S384x128) ![0, 0] S384x128.size Gen.inb_S384x128_S384x128_0_0).toLoadRect (View.loadsAt_vmem Gen.h_S384x128))
  Prog.lift (.store arg8 (Rect.unit (s := S384x128) ![0, 0] S384x128.size Gen.inb_S384x128_S384x128_0_0) (cut ![0, 640] (proj h w b) Gen.slices_S384x2432_o0_640_S384x128 Gen.shapeCasts_S384x128_S384x128) Finset.univ (View.stores_vmem_bits_univ Gen.h_S384x128 rfl) (.inl rfl))
  let _r9 : Vec F S384x256 .f32 ← Prog.lift (.load arg9 (Rect.unit (s := S384x256) ![0, 0] S384x256.size Gen.inb_S384x256_S384x256_0_0).toLoadRect (View.loadsAt_vmem Gen.h_S384x256))
  Prog.lift (.store arg9 (Rect.unit (s := S384x256) ![0, 0] S384x256.size Gen.inb_S384x256_S384x256_0_0) (cut ![0, 768] (proj h w b) Gen.slices_S384x2432_o0_768_S384x256 Gen.shapeCasts_S384x256_S384x256) Finset.univ (View.stores_vmem_bits_univ Gen.h_S384x256 rfl) (.inl rfl))
  let _r10 : Vec F S384x256 .f32 ← Prog.lift (.load arg10 (Rect.unit (s := S384x256) ![0, 0] S384x256.size Gen.inb_S384x256_S384x256_0_0).toLoadRect (View.loadsAt_vmem Gen.h_S384x256))
  Prog.lift (.store arg10 (Rect.unit (s := S384x256) ![0, 0] S384x256.size Gen.inb_S384x256_S384x256_0_0) (cut ![0, 1024] (proj h w b) Gen.slices_S384x2432_o0_1024_S384x256 Gen.shapeCasts_S384x256_S384x256) Finset.univ (View.stores_vmem_bits_univ Gen.h_S384x256 rfl) (.inl rfl))
  let _r11 : Vec F S384x512 .f32 ← Prog.lift (.load arg11 (Rect.unit (s := S384x512) ![0, 0] S384x512.size Gen.inb_S384x512_S384x512_0_0).toLoadRect (View.loadsAt_vmem Gen.h_S384x512))
  Prog.lift (.store arg11 (Rect.unit (s := S384x512) ![0, 0] S384x512.size Gen.inb_S384x512_S384x512_0_0) (cut ![0, 1280] (proj h w b) Gen.slices_S384x2432_o0_1280_S384x512 Gen.shapeCasts_S384x512_S384x512) Finset.univ (View.stores_vmem_bits_univ Gen.h_S384x512 rfl) (.inl rfl))
  let _r12 : Vec F S384x512 .f32 ← Prog.lift (.load arg12 (Rect.unit (s := S384x512) ![0, 0] S384x512.size Gen.inb_S384x512_S384x512_0_0).toLoadRect (View.loadsAt_vmem Gen.h_S384x512))
  Prog.lift (.store arg12 (Rect.unit (s := S384x512) ![0, 0] S384x512.size Gen.inb_S384x512_S384x512_0_0) (cut ![0, 1792] (proj h w b) Gen.slices_S384x2432_o0_1792_S384x512 Gen.shapeCasts_S384x512_S384x512) Finset.univ (View.stores_vmem_bits_univ Gen.h_S384x512 rfl) (.inl rfl))
  let _r13 : Vec F S384x128 .f32 ← Prog.lift (.load arg13 (Rect.unit (s := S384x128) ![0, 0] S384x128.size Gen.inb_S384x128_S384x128_0_0).toLoadRect (View.loadsAt_vmem Gen.h_S384x128))
  Prog.lift (.store arg13 (Rect.unit (s := S384x128) ![0, 0] S384x128.size Gen.inb_S384x128_S384x128_0_0) (cut ![0, 2304] (proj h w b) Gen.slices_S384x2432_o0_2304_S384x128 Gen.shapeCasts_S384x128_S384x128) Finset.univ (View.stores_vmem_bits_univ Gen.h_S384x128 rfl) (.inl rfl))
  let wg : Vec F S128x256 .bf16 ← Prog.lift (.load arg4 (Rect.unit (s := S128x256) ![0, 0] S128x256.size Gen.inb_S128x256_S128x256_0_0).toLoadRect (View.loadsAt_vmem Gen.h_S128x256))
  let bg : Vec F S1x256 .f32 ← Prog.lift (.load arg5 (Rect.unit (s := S1x256) ![0, 0] S1x256.size Gen.inb_S1x256_S1x256_0_0).toLoadRect (View.loadsAt_vmem Gen.h_S1x256))
  let _r14 : Vec F S384x256 .f32 ← Prog.lift (.load arg14 (Rect.unit (s := S384x256) ![0, 0] S384x256.size Gen.inb_S384x256_S384x256_0_0).toLoadRect (View.loadsAt_vmem Gen.h_S384x256))
  Prog.lift (.store arg14 (Rect.unit (s := S384x256) ![0, 0] S384x256.size Gen.inb_S384x256_S384x256_0_0) (gate (proj h w b) wg bg) Finset.univ (View.stores_vmem_bits_univ Gen.h_S384x256 rfl) (.inl rfl))
  pure ⟨⟩

set_option maxHeartbeats 4000000 in
theorem body_later (hc : ¬k0_cond1 i = 1#1) :
    cc0_in_proj (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15
      = project arg1 arg3 arg4 arg5 arg6 arg7 arg8 arg9 arg10 arg11 arg12 arg13 arg14 arg15 := by
  unfold cc0_in_proj k0_part1
  rw [dif_neg hc]
  rfl

set_option maxHeartbeats 4000000 in
theorem body_first (hc : k0_cond1 i = 1#1) :
    cc0_in_proj (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15
      = (do fill arg2 arg15 harg15; project arg1 arg3 arg4 arg5 arg6 arg7 arg8 arg9 arg10 arg11 arg12 arg13 arg14 arg15) := by
  unfold cc0_in_proj k0_part1
  rw [dif_pos hc]
  rfl

/-- The buffers of the four arguments that every point reads, at given contents. -/
def args (x0 : Vec F S384x1024 .f32) (x2 : Vec F S1x2432 .f32) (x3 : Vec F S128x256 .bf16) (x4 : Vec F S1x256 .f32) : sProp 𝕄 :=
  iprop(owns (c : Thread nD τ) arg1 fullShare x0 ∗ owns (c : Thread nD τ) arg3 fullShare x2
    ∗ owns (c : Thread nD τ) arg4 fullShare x3 ∗ owns (c : Thread nD τ) arg5 fullShare x4)

/-- The nine results' buffers, at anything. -/
def open9 : sProp 𝕄 :=
  iprop((∃ d, owns (c : Thread nD τ) arg6 fullShare d) ∗ (∃ d, owns (c : Thread nD τ) arg7 fullShare d) ∗ (∃ d, owns (c : Thread nD τ) arg8 fullShare d)
    ∗ (∃ d, owns (c : Thread nD τ) arg9 fullShare d) ∗ (∃ d, owns (c : Thread nD τ) arg10 fullShare d) ∗ (∃ d, owns (c : Thread nD τ) arg11 fullShare d)
    ∗ (∃ d, owns (c : Thread nD τ) arg12 fullShare d) ∗ (∃ d, owns (c : Thread nD τ) arg13 fullShare d) ∗ (∃ d, owns (c : Thread nD τ) arg14 fullShare d))

/-- The nine results' buffers with pieces written over whatever they held. -/
def written (p : Pieces F) : sProp 𝕄 :=
  iprop((∃ f, arg6.view.loc (c : Thread nD τ) ↦[arg6.view.set]{fullShare} arg6.view.writes (Elt F) f p.q)
    ∗ (∃ f, arg7.view.loc (c : Thread nD τ) ↦[arg7.view.set]{fullShare} arg7.view.writes (Elt F) f p.ks)
    ∗ (∃ f, arg8.view.loc (c : Thread nD τ) ↦[arg8.view.set]{fullShare} arg8.view.writes (Elt F) f p.vs)
    ∗ (∃ f, arg9.view.loc (c : Thread nD τ) ↦[arg9.view.set]{fullShare} arg9.view.writes (Elt F) f p.qg)
    ∗ (∃ f, arg10.view.loc (c : Thread nD τ) ↦[arg10.view.set]{fullShare} arg10.view.writes (Elt F) f p.kg)
    ∗ (∃ f, arg11.view.loc (c : Thread nD τ) ↦[arg11.view.set]{fullShare} arg11.view.writes (Elt F) f p.vg)
    ∗ (∃ f, arg12.view.loc (c : Thread nD τ) ↦[arg12.view.set]{fullShare} arg12.view.writes (Elt F) f p.rg)
    ∗ (∃ f, arg13.view.loc (c : Thread nD τ) ↦[arg13.view.set]{fullShare} arg13.view.writes (Elt F) f p.gl)
    ∗ (∃ f, arg14.view.loc (c : Thread nD τ) ↦[arg14.view.set]{fullShare} arg14.view.writes (Elt F) f p.z))

set_option maxHeartbeats 4000000 in
/-- The resident weight's buffer is filled from the windows of the weight. -/
noncomputable def runFill (x1 : Vec F S4x608x1024 .bf16) :
    { L : List (View.Piece (Elt F) S2432x1024 .bf16) // ∀ (E : Set ℕ) (K : PUnit → sProp 𝕄),
        iprop(owns (c : Thread nD τ) arg2 fullShare x1 ∗ (∃ d, owns (c : Thread nD τ) arg15 fullShare d)
            ∗ (iprop(owns (c : Thread nD τ) arg2 fullShare x1 ∗ (∃ f, arg15.view.loc (c : Thread nD τ) ↦[arg15.view.set]{fullShare} arg15.view.writes (Elt F) f L)) -∗ K ⟨⟩))
          ⊢ wp frame (wpE (defs₀ (F := F)) Variants.none c none) E (fill arg2 arg15 harg15) K } := by
  refine ⟨?_, fun E K => ?run⟩
  case run =>
    unfold owns fill
    iintro ⟨⟨%f1, %hf1, H1⟩, ⟨%d14, %f14, %hf14, H14⟩, Hk⟩
    obtain rfl := harg2.eq_unread hf1
    sl_exec (disch := skip)
    sl_step
    iapply Hk
    isplitl [H1]
    · iexists _; isplitr; · ipureintro; exact harg2.read_unread _
      iexact H1
    iexists _; iexact H14

set_option maxHeartbeats 4000000 in
/-- Over the resident weight `w`, which is handed back as it was, the nine results are written. -/
noncomputable def runProject (x0 : Vec F S384x1024 .f32) (x2 : Vec F S1x2432 .f32) (x3 : Vec F S128x256 .bf16) (x4 : Vec F S1x256 .f32) (w : Vec F S2432x1024 .bf16) :
    { p : Pieces F // ∀ (E : Set ℕ) (K : PUnit → sProp 𝕄),
        iprop(args c arg1 arg3 arg4 arg5 x0 x2 x3 x4 ∗ open9 c arg6 arg7 arg8 arg9 arg10 arg11 arg12 arg13 arg14 ∗ owns (c : Thread nD τ) arg15 fullShare w
            ∗ (iprop(args c arg1 arg3 arg4 arg5 x0 x2 x3 x4 ∗ written c arg6 arg7 arg8 arg9 arg10 arg11 arg12 arg13 arg14 p ∗ owns (c : Thread nD τ) arg15 fullShare w) -∗ K ⟨⟩))
          ⊢ wp frame (wpE (defs₀ (F := F)) Variants.none c none) E (project arg1 arg3 arg4 arg5 arg6 arg7 arg8 arg9 arg10 arg11 arg12 arg13 arg14 arg15) K } := by
  refine ⟨⟨?_, ?_, ?_, ?_, ?_, ?_, ?_, ?_, ?_⟩, fun E K => ?run⟩
  case run =>
    unfold args open9 written owns; dsimp only; unfold project
    iintro ⟨⟨⟨%f0, %hf0, H0⟩, ⟨%f2, %hf2, H2⟩, ⟨%f3, %hf3, H3⟩, ⟨%f4, %hf4, H4⟩⟩,
      ⟨⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩, ⟨%d13, %f13, %hf13, H13⟩⟩, ⟨%f14, %hf14, H14⟩, Hk⟩
    obtain rfl := harg1.eq_unread hf0; obtain rfl := harg3.eq_unread hf2; obtain rfl := harg4.eq_unread hf3; obtain rfl := harg5.eq_unread hf4; obtain rfl := harg15.eq_unread hf14
    sl_exec (disch := skip)
    sl_step
    iapply Hk
    isplitl [H0 H2 H3 H4]
    · isplitl [H0]
      · iexists _; isplitr; · ipureintro; exact harg1.read_unread _
        iexact H0
      isplitl [H2]
      · iexists _; isplitr; · ipureintro; exact harg3.read_unread _
        iexact H2
      isplitl [H3]
      · iexists _; isplitr; · ipureintro; exact harg4.read_unread _
        iexact H3
      iexists _; isplitr; · ipureintro; exact harg5.read_unread _
      iexact H4
    isplitl [H5 H6 H7 H8 H9 H10 H11 H12 H13]
    · isplitl [H5]; · iexists _; iexact H5
      isplitl [H6]; · iexists _; iexact H6
      isplitl [H7]; · iexists _; iexact H7
      isplitl [H8]; · iexists _; iexact H8
      isplitl [H9]; · iexists _; iexact H9
      isplitl [H10]; · iexists _; iexact H10
      isplitl [H11]; · iexists _; iexact H11
      isplitl [H12]; · iexists _; iexact H12
      iexists _; iexact H13
    iexists _; isplitr; · ipureintro; exact harg15.read_unread _
    iexact H14

/-! The pieces stored into each result cover it. -/
theorem cover_q (x0 : Vec F S384x1024 .f32) (x2 : Vec F S1x2432 .f32) (x3 : Vec F S128x256 .bf16) (x4 : Vec F S1x256 .f32) (w : Vec F S2432x1024 .bf16) (y : S384x512.Idx) :
    ∃ pc ∈ (runProject c arg1 harg1 arg3 harg3 arg4 harg4 arg5 harg5 arg6 arg7 arg8 arg9 arg10 arg11 arg12 arg13 arg14 arg15 harg15 x0 x2 x3 x4 w).1.q, y ∈ pc.1.set :=
  View.cover_of_tiledL (runProject c arg1 harg1 arg3 harg3 arg4 harg4 arg5 harg5 arg6 arg7 arg8 arg9 arg10 arg11 arg12 arg13 arg14 arg15 harg15 x0 x2 x3 x4 w).1.q S384x64.size (by sl_kernel_rfl) y

theorem cover_ks (x0 : Vec F S384x1024 .f32) (x2 : Vec F S1x2432 .f32) (x3 : Vec F S128x256 .bf16) (x4 : Vec F S1x256 .f32) (w : Vec F S2432x1024 .bf16) (y : S384x128.Idx) :
    ∃ pc ∈ (runProject c arg1 harg1 arg3 harg3 arg4 harg4 arg5 harg5 arg6 arg7 arg8 arg9 arg10 arg11 arg12 arg13 arg14 arg15 harg15 x0 x2 x3 x4 w).1.ks, y ∈ pc.1.set :=
  View.cover_of_tiledL (runProject c arg1 harg1 arg3 harg3 arg4 harg4 arg5 harg5 arg6 arg7 arg8 arg9 arg10 arg11 arg12 arg13 arg14 arg15 harg15 x0 x2 x3 x4 w).1.ks S384x128.size (by sl_kernel_rfl) y

theorem cover_vs (x0 : Vec F S384x1024 .f32) (x2 : Vec F S1x2432 .f32) (x3 : Vec F S128x256 .bf16) (x4 : Vec F S1x256 .f32) (w : Vec F S2432x1024 .bf16) (y : S384x128.Idx) :
    ∃ pc ∈ (runProject c arg1 harg1 arg3 harg3 arg4 harg4 arg5 harg5 arg6 arg7 arg8 arg9 arg10 arg11 arg12 arg13 arg14 arg15 harg15 x0 x2 x3 x4 w).1.vs, y ∈ pc.1.set :=
  View.cover_of_tiledL (runProject c arg1 harg1 arg3 harg3 arg4 harg4 arg5 harg5 arg6 arg7 arg8 arg9 arg10 arg11 arg12 arg13 arg14 arg15 harg15 x0 x2 x3 x4 w).1.vs S384x128.size (by sl_kernel_rfl) y

theorem cover_qg (x0 : Vec F S384x1024 .f32) (x2 : Vec F S1x2432 .f32) (x3 : Vec F S128x256 .bf16) (x4 : Vec F S1x256 .f32) (w : Vec F S2432x1024 .bf16) (y : S384x256.Idx) :
    ∃ pc ∈ (runProject c arg1 harg1 arg3 harg3 arg4 harg4 arg5 harg5 arg6 arg7 arg8 arg9 arg10 arg11 arg12 arg13 arg14 arg15 harg15 x0 x2 x3 x4 w).1.qg, y ∈ pc.1.set :=
  View.cover_of_tiledL (runProject c arg1 harg1 arg3 harg3 arg4 harg4 arg5 harg5 arg6 arg7 arg8 arg9 arg10 arg11 arg12 arg13 arg14 arg15 harg15 x0 x2 x3 x4 w).1.qg S384x256.size (by sl_kernel_rfl) y

theorem cover_kg (x0 : Vec F S384x1024 .f32) (x2 : Vec F S1x2432 .f32) (x3 : Vec F S128x256 .bf16) (x4 : Vec F S1x256 .f32) (w : Vec F S2432x1024 .bf16) (y : S384x256.Idx) :
    ∃ pc ∈ (runProject c arg1 harg1 arg3 harg3 arg4 harg4 arg5 harg5 arg6 arg7 arg8 arg9 arg10 arg11 arg12 arg13 arg14 arg15 harg15 x0 x2 x3 x4 w).1.kg, y ∈ pc.1.set :=
  View.cover_of_tiledL (runProject c arg1 harg1 arg3 harg3 arg4 harg4 arg5 harg5 arg6 arg7 arg8 arg9 arg10 arg11 arg12 arg13 arg14 arg15 harg15 x0 x2 x3 x4 w).1.kg S384x256.size (by sl_kernel_rfl) y

theorem cover_vg (x0 : Vec F S384x1024 .f32) (x2 : Vec F S1x2432 .f32) (x3 : Vec F S128x256 .bf16) (x4 : Vec F S1x256 .f32) (w : Vec F S2432x1024 .bf16) (y : S384x512.Idx) :
    ∃ pc ∈ (runProject c arg1 harg1 arg3 harg3 arg4 harg4 arg5 harg5 arg6 arg7 arg8 arg9 arg10 arg11 arg12 arg13 arg14 arg15 harg15 x0 x2 x3 x4 w).1.vg, y ∈ pc.1.set :=
  View.cover_of_tiledL (runProject c arg1 harg1 arg3 harg3 arg4 harg4 arg5 harg5 arg6 arg7 arg8 arg9 arg10 arg11 arg12 arg13 arg14 arg15 harg15 x0 x2 x3 x4 w).1.vg S384x512.size (by sl_kernel_rfl) y

theorem cover_rg (x0 : Vec F S384x1024 .f32) (x2 : Vec F S1x2432 .f32) (x3 : Vec F S128x256 .bf16) (x4 : Vec F S1x256 .f32) (w : Vec F S2432x1024 .bf16) (y : S384x512.Idx) :
    ∃ pc ∈ (runProject c arg1 harg1 arg3 harg3 arg4 harg4 arg5 harg5 arg6 arg7 arg8 arg9 arg10 arg11 arg12 arg13 arg14 arg15 harg15 x0 x2 x3 x4 w).1.rg, y ∈ pc.1.set :=
  View.cover_of_tiledL (runProject c arg1 harg1 arg3 harg3 arg4 harg4 arg5 harg5 arg6 arg7 arg8 arg9 arg10 arg11 arg12 arg13 arg14 arg15 harg15 x0 x2 x3 x4 w).1.rg S384x512.size (by sl_kernel_rfl) y

theorem cover_gl (x0 : Vec F S384x1024 .f32) (x2 : Vec F S1x2432 .f32) (x3 : Vec F S128x256 .bf16) (x4 : Vec F S1x256 .f32) (w : Vec F S2432x1024 .bf16) (y : S384x128.Idx) :
    ∃ pc ∈ (runProject c arg1 harg1 arg3 harg3 arg4 harg4 arg5 harg5 arg6 arg7 arg8 arg9 arg10 arg11 arg12 arg13 arg14 arg15 harg15 x0 x2 x3 x4 w).1.gl, y ∈ pc.1.set :=
  View.cover_of_tiledL (runProject c arg1 harg1 arg3 harg3 arg4 harg4 arg5 harg5 arg6 arg7 arg8 arg9 arg10 arg11 arg12 arg13 arg14 arg15 harg15 x0 x2 x3 x4 w).1.gl S384x128.size (by sl_kernel_rfl) y

theorem cover_z (x0 : Vec F S384x1024 .f32) (x2 : Vec F S1x2432 .f32) (x3 : Vec F S128x256 .bf16) (x4 : Vec F S1x256 .f32) (w : Vec F S2432x1024 .bf16) (y : S384x256.Idx) :
    ∃ pc ∈ (runProject c arg1 harg1 arg3 harg3 arg4 harg4 arg5 harg5 arg6 arg7 arg8 arg9 arg10 arg11 arg12 arg13 arg14 arg15 harg15 x0 x2 x3 x4 w).1.z, y ∈ pc.1.set :=
  View.cover_of_tiledL (runProject c arg1 harg1 arg3 harg3 arg4 harg4 arg5 harg5 arg6 arg7 arg8 arg9 arg10 arg11 arg12 arg13 arg14 arg15 harg15 x0 x2 x3 x4 w).1.z S384x256.size (by sl_kernel_rfl) y

theorem cover_w (x1 : Vec F S4x608x1024 .bf16) (y : S2432x1024.Idx) : ∃ pc ∈ (runFill c arg2 harg2 arg15 harg15 x1).1, y ∈ pc.1.set :=
  View.cover_of_tiledBy (runFill c arg2 harg2 arg15 harg15 x1).1 ![4, 1024] (by sl_kernel_rfl) y

end Body

end Cert.Kernel6Ideal.Own

end
-- ==== Proof.InFrame.lean ====
/- The run of the input projection over its grid, for any values: what a grid point leaves in the results' staging buffers;
   the proof that the pipelined body does that; and from it the run of the whole program.

   The resident weight is itself a result: it is stored at point 0 and written back after the last point, and in between the
   body hands its buffer back as it found it. So at every point the buffer holds what point 0 stored (`before_w`). -/
module

public import proofs.«01_k».proof.Proof.InRun

@[expose] public section

set_option maxRecDepth 16384

noncomputable section

namespace Cert.Kernel6Ideal.Own

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The staging buffers at a point. -/
abbrev ms0 (t : Fin cfg0.N) : Memref sig .tc .vmem S384x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4x608x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2432 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x256 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S384x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S384x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S384x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S384x256 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S384x256 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S384x512 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S384x512 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S384x128 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S384x256 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S2432x1024 .bf16 := win0_14.stage (cfg0.slots t 14)
abbrev hs14 (t : Fin cfg0.N) : (ms14 t).IsWhole := hstage0_14 ((cfg0.slots t 14).cast nbuf0_14)

/-! One buffer of each result, through which its contents are stated. -/
abbrev VO5 : View sig .tc .vmem S384x512 .f32 := (Memref.whole cc0_stg5_0 : Memref sig .tc .vmem S384x512 .f32).view
abbrev VO6 : View sig .tc .vmem S384x128 .f32 := (Memref.whole cc0_stg6_0 : Memref sig .tc .vmem S384x128 .f32).view
abbrev VO7 : View sig .tc .vmem S384x128 .f32 := (Memref.whole cc0_stg7_0 : Memref sig .tc .vmem S384x128 .f32).view
abbrev VO8 : View sig .tc .vmem S384x256 .f32 := (Memref.whole cc0_stg8_0 : Memref sig .tc .vmem S384x256 .f32).view
abbrev VO9 : View sig .tc .vmem S384x256 .f32 := (Memref.whole cc0_stg9_0 : Memref sig .tc .vmem S384x256 .f32).view
abbrev VO10 : View sig .tc .vmem S384x512 .f32 := (Memref.whole cc0_stg10_0 : Memref sig .tc .vmem S384x512 .f32).view
abbrev VO11 : View sig .tc .vmem S384x512 .f32 := (Memref.whole cc0_stg11_0 : Memref sig .tc .vmem S384x512 .f32).view
abbrev VO12 : View sig .tc .vmem S384x128 .f32 := (Memref.whole cc0_stg12_0 : Memref sig .tc .vmem S384x128 .f32).view
abbrev VO13 : View sig .tc .vmem S384x256 .f32 := (Memref.whole cc0_stg13_0 : Memref sig .tc .vmem S384x256 .f32).view
abbrev VO14 : View sig .tc .vmem S2432x1024 .bf16 := (Memref.whole cc0_stg14_0 : Memref sig .tc .vmem S2432x1024 .bf16).view

/-- The resident weight: what point 0 stores. -/
def resident (c : Dev nD) : Vec F S2432x1024 .bf16 :=
  VO14.read (Elt F) (VO14.writes (Elt F) VO14.junk (runFill c (ms1 t0_0) (hs1 t0_0) (ms14 t0_0) (hs14 t0_0) (iblk m c 1 t0_0)).1)

/-- The pieces point `t` stores into the nine other results. -/
def pieces (c : Dev nD) (t : Fin cfg0.N) : Pieces F :=
  (runProject c (ms0 t) (hs0 t) (ms2 t) (hs2 t) (ms3 t) (hs3 t) (ms4 t) (hs4 t) (ms5 t) (ms6 t) (ms7 t) (ms8 t) (ms9 t) (ms10 t) (ms11 t) (ms12 t) (ms13 t)
    (ms14 t) (hs14 t) (iblk m c 0 t) (iblk m c 2 t) (iblk m c 3 t) (iblk m c 4 t) (resident m c)).1

/-- The pipeline's proof data: each argument's buffer is left at its block, the results' at the stored pieces, the resident weight's as point 0 filled it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => VO5.read (Elt F) (VO5.writes (Elt F) VO5.junk (pieces m c t).q)
    | ⟨6, _⟩ => VO6.read (Elt F) (VO6.writes (Elt F) VO6.junk (pieces m c t).ks)
    | ⟨7, _⟩ => VO7.read (Elt F) (VO7.writes (Elt F) VO7.junk (pieces m c t).vs)
    | ⟨8, _⟩ => VO8.read (Elt F) (VO8.writes (Elt F) VO8.junk (pieces m c t).qg)
    | ⟨9, _⟩ => VO9.read (Elt F) (VO9.writes (Elt F) VO9.junk (pieces m c t).kg)
    | ⟨10, _⟩ => VO10.read (Elt F) (VO10.writes (Elt F) VO10.junk (pieces m c t).vg)
    | ⟨11, _⟩ => VO11.read (Elt F) (VO11.writes (Elt F) VO11.junk (pieces m c t).rg)
    | ⟨12, _⟩ => VO12.read (Elt F) (VO12.writes (Elt F) VO12.junk (pieces m c t).gl)
    | ⟨13, _⟩ => VO13.read (Elt F) (VO13.writes (Elt F) VO13.junk (pieces m c t).z)
    | ⟨14, _⟩ => resident m c
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = VO5.read (Elt F) (VO5.writes (Elt F) VO5.junk (pieces m c t).q) := by dsimp only [dats]
theorem after6 (c : Dev nD) (t : Fin cfg0.N) : (dats m 0 c).after 6 t = VO6.read (Elt F) (VO6.writes (Elt F) VO6.junk (pieces m c t).ks) := by dsimp only [dats]
theorem after7 (c : Dev nD) (t : Fin cfg0.N) : (dats m 0 c).after 7 t = VO7.read (Elt F) (VO7.writes (Elt F) VO7.junk (pieces m c t).vs) := by dsimp only [dats]
theorem after8 (c : Dev nD) (t : Fin cfg0.N) : (dats m 0 c).after 8 t = VO8.read (Elt F) (VO8.writes (Elt F) VO8.junk (pieces m c t).qg) := by dsimp only [dats]
theorem after9 (c : Dev nD) (t : Fin cfg0.N) : (dats m 0 c).after 9 t = VO9.read (Elt F) (VO9.writes (Elt F) VO9.junk (pieces m c t).kg) := by dsimp only [dats]
theorem after10 (c : Dev nD) (t : Fin cfg0.N) : (dats m 0 c).after 10 t = VO10.read (Elt F) (VO10.writes (Elt F) VO10.junk (pieces m c t).vg) := by dsimp only [dats]
theorem after11 (c : Dev nD) (t : Fin cfg0.N) : (dats m 0 c).after 11 t = VO11.read (Elt F) (VO11.writes (Elt F) VO11.junk (pieces m c t).rg) := by dsimp only [dats]
theorem after12 (c : Dev nD) (t : Fin cfg0.N) : (dats m 0 c).after 12 t = VO12.read (Elt F) (VO12.writes (Elt F) VO12.junk (pieces m c t).gl) := by dsimp only [dats]
theorem after13 (c : Dev nD) (t : Fin cfg0.N) : (dats m 0 c).after 13 t = VO13.read (Elt F) (VO13.writes (Elt F) VO13.junk (pieces m c t).z) := by dsimp only [dats]
theorem after14 (c : Dev nD) (t : Fin cfg0.N) : (dats m 0 c).after 14 t = resident m c := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

theorem cond_first : ∀ t : Fin cfg0.N, t.val = 0 → k0_cond1 (grid0.coords t) = 1#1 := by decide +kernel
theorem cond_later : ∀ t : Fin cfg0.N, t.val ≠ 0 → ¬k0_cond1 (grid0.coords t) = 1#1 := by decide +kernel
theorem idle_later : ∀ t : Fin cfg0.N, t.val ≠ 0 → cfg0.idle 14 (grid0.coords t) = true := by decide +kernel
theorem live_first : ∀ t : Fin cfg0.N, t.val = 0 → cfg0.idle 14 (grid0.coords t) = false := by decide +kernel

theorem flush_before (t : Fin cfg0.N) (ht : t.val < 10) : (cfg0.win 14).flush t = false := by
  rcases h : (cfg0.win 14).flush t with _ | _
  · rfl
  · have := (flush0_14 t).mp h; omega

/-- After point 0 the resident weight's buffer holds what point 0 stored. -/
theorem before_w (c : Dev nD) (d) : (n : ℕ) → (hn : n < cfg0.N) → n ≠ 0 → (dats m 0 c).before 14 ⟨n, hn⟩ d = resident m c
  | 0, _, h => absurd rfl h
  | n + 1, hn, _ => by
    have hN : n + 1 < 11 := lt_of_lt_of_eq hn N_0
    rw [(dats m 0 c).before_of_pos 14 ⟨n + 1, hn⟩ (Nat.succ_ne_zero n) ((cfg0.win 14).fetch_out rfl _)]
    have hf : (cfg0.win 14).flush ⟨n, Nat.lt_of_succ_lt hn⟩ = false := flush_before ⟨n, Nat.lt_of_succ_lt hn⟩ (by dsimp only; omega)
    refine (if_neg (by rw [Bool.not_eq_true]; exact hf)).trans ?_
    refine (?_ : (dats m 0 c).left 14 ⟨n, Nat.lt_of_succ_lt hn⟩ d = _)
    unfold Dat.left
    by_cases hz : n = 0
    · rw [live_first ⟨n, _⟩ hz]
      dsimp only
      unfold Dat.kept
      rw [after14]
      rfl
    · rw [idle_later ⟨n, _⟩ hz]
      exact before_w c d n _ hz

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ owns (c : Thread nD τ) (ms13 t) fullShare ((dats m 0 c).after 13 t)
    ∗ (dats m 0 c).leavesExact 14 t)

set_option maxHeartbeats 9600000 in
/-- What every point does, over the resident weight: the nine results are left at their pieces, everything else is handed back. -/
theorem sound_project (c : Dev nD) (t : Fin cfg0.N) (K : PUnit → sProp 𝕄) :
    iprop(owns (c : Thread nD τ) (ms0 t) fullShare (iblk m c 0 t) ∗ owns (c : Thread nD τ) (ms2 t) fullShare (iblk m c 2 t) ∗ owns (c : Thread nD τ) (ms3 t) fullShare (iblk m c 3 t) ∗ owns (c : Thread nD τ) (ms4 t) fullShare (iblk m c 4 t)
      ∗ (∃ d, owns (c : Thread nD τ) (ms5 t) fullShare d) ∗ (∃ d, owns (c : Thread nD τ) (ms6 t) fullShare d) ∗ (∃ d, owns (c : Thread nD τ) (ms7 t) fullShare d) ∗ (∃ d, owns (c : Thread nD τ) (ms8 t) fullShare d) ∗ (∃ d, owns (c : Thread nD τ) (ms9 t) fullShare d) ∗ (∃ d, owns (c : Thread nD τ) (ms10 t) fullShare d) ∗ (∃ d, owns (c : Thread nD τ) (ms11 t) fullShare d) ∗ (∃ d, owns (c : Thread nD τ) (ms12 t) fullShare d) ∗ (∃ d, owns (c : Thread nD τ) (ms13 t) fullShare d)
      ∗ owns (c : Thread nD τ) (ms14 t) fullShare (resident m c)
      ∗ (iprop(owns (c : Thread nD τ) (ms0 t) fullShare (iblk m c 0 t) ∗ owns (c : Thread nD τ) (ms2 t) fullShare (iblk m c 2 t) ∗ owns (c : Thread nD τ) (ms3 t) fullShare (iblk m c 3 t) ∗ owns (c : Thread nD τ) (ms4 t) fullShare (iblk m c 4 t)
      ∗ owns (c : Thread nD τ) (ms5 t) fullShare ((dats m 0 c).after 5 t) ∗ owns (c : Thread nD τ) (ms6 t) fullShare ((dats m 0 c).after 6 t) ∗ owns (c : Thread nD τ) (ms7 t) fullShare ((dats m 0 c).after 7 t) ∗ owns (c : Thread nD τ) (ms8 t) fullShare ((dats m 0 c).after 8 t) ∗ owns (c : Thread nD τ) (ms9 t) fullShare ((dats m 0 c).after 9 t) ∗ owns (c : Thread nD τ) (ms10 t) fullShare ((dats m 0 c).after 10 t) ∗ owns (c : Thread nD τ) (ms11 t) fullShare ((dats m 0 c).after 11 t) ∗ owns (c : Thread nD τ) (ms12 t) fullShare ((dats m 0 c).after 12 t) ∗ owns (c : Thread nD τ) (ms13 t) fullShare ((dats m 0 c).after 13 t)
      ∗ owns (c : Thread nD τ) (ms14 t) fullShare (resident m c)) -∗ K ⟨⟩))
      ⊢ wp frame (wpE (defs₀ (F := F)) Variants.none c none) Set.univ (project (ms0 t) (ms2 t) (ms3 t) (ms4 t) (ms5 t) (ms6 t) (ms7 t) (ms8 t) (ms9 t) (ms10 t) (ms11 t) (ms12 t) (ms13 t) (ms14 t)) K := by
  rw [after5, after6, after7, after8, after9, after10, after11, after12, after13]
  unfold pieces
  iintro ⟨H0, H2, H3, H4, H5, H6, H7, H8, H9, H10, H11, H12, H13, H14, Hk⟩
  iapply ((runProject c (ms0 t) (hs0 t) (ms2 t) (hs2 t) (ms3 t) (hs3 t) (ms4 t) (hs4 t) (ms5 t) (ms6 t) (ms7 t) (ms8 t) (ms9 t) (ms10 t) (ms11 t) (ms12 t) (ms13 t) (ms14 t) (hs14 t) (iblk m c 0 t) (iblk m c 2 t) (iblk m c 3 t) (iblk m c 4 t) (resident m c)).2 Set.univ _)
  unfold args open9 written
  isplitl [H0 H2 H3 H4]
  · isplitl [H0]; · iexact H0
    isplitl [H2]; · iexact H2
    isplitl [H3]; · iexact H3
    iexact H4
  isplitl [H5 H6 H7 H8 H9 H10 H11 H12 H13]
  · isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  isplitl [H14]; · iexact H14
  iintro ⟨⟨H0, H2, H3, H4⟩, ⟨⟨%e5, H5⟩, ⟨%e6, H6⟩, ⟨%e7, H7⟩, ⟨%e8, H8⟩, ⟨%e9, H9⟩, ⟨%e10, H10⟩, ⟨%e11, H11⟩, ⟨%e12, H12⟩, ⟨%e13, H13⟩⟩, H14⟩
  iapply Hk
  isplitl [H0]; · iexact H0
  isplitl [H2]; · iexact H2
  isplitl [H3]; · iexact H3
  isplitl [H4]; · iexact H4
  isplitl [H5]
  · unfold owns; iexists _; isplitr
    swap; · iexact H5
    ipureintro; exact View.read_writes_of_cover _ _ _ _ _ fun y => cover_q c _ _ _ _ _ _ _ _ _ _ _ _ _ _ _ _ _ _ _ _ _ _ _ _ y
  isplitl [H6]
  · unfold owns; iexists _; isplitr
    swap; · iexact H6
    ipureintro; exact View.read_writes_of_cover _ _ _ _ _ fun y => cover_ks c _ _ _ _ _ _ _ _ _ _ _ _ _ _ _ _ _ _ _ _ _ _ _ _ y
  isplitl [H7]
  · unfold owns; iexists _; isplitr
    swap; · iexact H7
    ipureintro; exact View.read_writes_of_cover _ _ _ _ _ fun y => cover_vs c _ _ _ _ _ _ _ _ _ _ _ _ _ _ _ _ _ _ _ _ _ _ _ _ y
  isplitl [H8]
  · unfold owns; iexists _; isplitr
    swap; · iexact H8
    ipureintro; exact View.read_writes_of_cover _ _ _ _ _ fun y => cover_qg c _ _ _ _ _ _ _ _ _ _ _ _ _ _ _ _ _ _ _ _ _ _ _ _ y
  isplitl [H9]
  · unfold owns; iexists _; isplitr
    swap; · iexact H9
    ipureintro; exact View.read_writes_of_cover _ _ _ _ _ fun y => cover_kg c _ _ _ _ _ _ _ _ _ _ _ _ _ _ _ _ _ _ _ _ _ _ _ _ y
  isplitl [H10]
  · unfold owns; iexists _; isplitr
    swap; · iexact H10
    ipureintro; exact View.read_writes_of_cover _ _ _ _ _ fun y => cover_vg c _ _ _ _ _ _ _ _ _ _ _ _ _ _ _ _ _ _ _ _ _ _ _ _ y
  isplitl [H11]
  · unfold owns; iexists _; isplitr
    swap; · iexact H11
    ipureintro; exact View.read_writes_of_cover _ _ _ _ _ fun y => cover_rg c _ _ _ _ _ _ _ _ _ _ _ _ _ _ _ _ _ _ _ _ _ _ _ _ y
  isplitl [H12]
  · unfold owns; iexists _; isplitr
    swap; · iexact H12
    ipureintro; exact View.read_writes_of_cover _ _ _ _ _ fun y => cover_gl c _ _ _ _ _ _ _ _ _ _ _ _ _ _ _ _ _ _ _ _ _ _ _ _ y
  isplitl [H13]
  · unfold owns; iexists _; isplitr
    swap; · iexact H13
    ipureintro; exact View.read_writes_of_cover _ _ _ _ _ fun y => cover_z c _ _ _ _ _ _ _ _ _ _ _ _ _ _ _ _ _ _ _ _ _ _ _ _ y
  iexact H14

set_option maxHeartbeats 9600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl,
    show (dats m 0 c).Φ t.succ = (dats m 0 c).Φ t.castSucc from rfl, after0, after1, after2, after3, after4]
  have hN : t.val < 11 := lt_of_lt_of_eq t.isLt N_0
  by_cases hz : t.val = 0
  · obtain rfl : t = t0_0 := Fin.ext hz
    rw [body_first _ _ _ _ _ _ _ _ _ _ _ _ _ _ _ _ _ _ _ _ _ _ _ _ _ _ _ _ _ _ _ (cond_first _ rfl), wp_bind]
    rw [show (dats m 0 c).leavesExact 14 t0_0 = owns (c : Thread nD τ) (ms14 t0_0) fullShare (resident m c) from by
      unfold Dat.leavesExact; rw [live_first t0_0 rfl, after14]]
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((runFill c (ms1 t0_0) (hs1 t0_0) (ms14 t0_0) (hs14 t0_0) (iblk m c 1 t0_0)).2 Set.univ _)
    isplitl [H1]; · iexact H1
    isplitl [H14]; · iexists _; iexact H14
    iintro ⟨H1, ⟨%e14, H14⟩⟩
    iapply sound_project m c t0_0
    isplitl [H0]; · iexact H0
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]
    · unfold owns; iexists _; isplitr
      swap; · iexact H14
      ipureintro; exact View.read_writes_of_cover _ _ _ _ _ fun y => cover_w c _ _ _ _ _ y
    iintro ⟨H0, H2, H3, H4, H5, H6, H7, H8, H9, H10, H11, H12, H13, H14⟩
    isplitl [HP]; · iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · have hb : ∀ d, (dats m 0 c).before 14 t d = resident m c := fun d => before_w m c d t.val t.isLt hz
    simp only [hb]
    rw [body_later _ _ _ _ _ _ _ _ _ _ _ _ _ _ _ _ _ _ _ _ _ _ _ _ _ _ _ _ _ _ _ (cond_later t hz)]
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply sound_project m c t
    isplitl [H0]; · iexact H0
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexact H14
    iintro ⟨H0, H2, H3, H4, H5, H6, H7, H8, H9, H10, H11, H12, H13, H14⟩
    isplitl [HP]; · iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    by_cases hl : t.val = 10
    · rw [show (dats m 0 c).leavesExact 14 t = owns (c : Thread nD τ) (ms14 t) fullShare (resident m c) from by
        unfold Dat.leavesExact; rw [idle_later t hz, (flush0_14 t).mpr (by omega), after14]]
      iexact H14
    · rw [Dat.leavesExact_idle (dats m 0 c) 14 t (idle_later t hz) (flush_before t (by omega))]
      simp only [hb]
      iexists d14; iexact H14

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := Idealize.SL.BI.Entails.refl _

-- the launch theorem's implicit arguments are found by unifying its conclusion with this one
set_option backward.isDefEq.respectTransparency.types false in
/-- The run: every result array ends at what the proof data computes, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: every argument array ends as launched, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Kernel6Ideal.Own

end
-- ==== Proof.PostStream.lean ====
/- A stream of eleven blocks through a buffer of three slots, two blocks ahead, with no block held apart: what its state before a point gives
the body, and what the body must give back. -/
module

public import Idealize.ShloMosaic.Lib.Ring
public import Idealize.ShloMosaic.Lib.Tactic

@[expose] public section

noncomputable section

namespace Cert.PostMix

open Idealize.ShloMosaic Idealize.ShloMosaic.Tactic
open Idealize.SL Idealize.SL.RA Idealize.SL.BI
open scoped Idealize.SL.BI
open Idealize.SL.BI.BIBase Idealize.SL.BI.Laws Idealize.SL.ProofMode

variable {M : Type _} [URA M] {C : Fin 3 → Type _} (cell : Fin 3 → sProp M) (slot : (s : Fin 3) → C s → sProp M)
  (flight : (s : Fin 3) → Fin 11 → C s → sProp M) (t : ℕ)

/-- The stream before point `k`. -/
def stream (k : ℕ) : sProp M :=
  if k = 0 then Ring.At₀ cell slot (fun _ : Fin 11 => iprop(emp)) else Ring.At 2 cell slot (fun _ : Fin 11 => iprop(emp)) flight k

/-- At the first point all slots are free, and two blocks are left on their way. -/
theorem first_in (ht : t = 0) : stream cell slot flight t
    ⊢ iprop(Ring.free cell slot (Ring.sl 3 t) ∗ Ring.free cell slot (Ring.sl 3 (t + 1)) ∗ Ring.free cell slot (Ring.sl 3 (t + 2))) := by
  rw [stream, if_pos ht, Ring.At₀_eq3' _ _ _ t ht (by decide : 3 ≤ 11)]
  iintro ⟨-, H⟩
  iexact H
theorem first_out (ht : t = 0) : iprop(Ring.inflight flight (Ring.sl 3 (t + 1)) (Ring.bk 11 (t + 1)) ∗ Ring.inflight flight (Ring.sl 3 (t + 2)) (Ring.bk 11 (t + 2))
    ∗ Ring.free cell slot (Ring.sl 3 t)) ⊢ stream cell slot flight (t + 1) := by
  rw [stream, if_neg (Nat.succ_ne_zero t), Ring.At3_one' _ _ _ _ t ht (by decide : 3 ≤ 11)]
  exact Ring.with_homes (Idealize.SL.BI.Entails.refl _)

/-- At a later point with a block to start, the point's block and the next are on their way; -/
theorem later_in (ht : t ≠ 0) (hB : t + 2 < 11) : stream cell slot flight t
    ⊢ iprop(Ring.inflight flight (Ring.sl 3 t) (Ring.bk 11 t) ∗ Ring.inflight flight (Ring.sl 3 (t + 1)) (Ring.bk 11 (t + 1)) ∗ Ring.free cell slot (Ring.sl 3 (t + 2))) := by
  rw [stream, if_neg ht, Ring.At3_here _ _ _ _ t hB]
  iintro ⟨-, H⟩
  iexact H
theorem later_out (hB : t + 2 < 11) : iprop(Ring.inflight flight (Ring.sl 3 (t + 1)) (Ring.bk 11 (t + 1)) ∗ Ring.inflight flight (Ring.sl 3 (t + 2)) (Ring.bk 11 (t + 2))
    ∗ Ring.free cell slot (Ring.sl 3 t)) ⊢ stream cell slot flight (t + 1) := by
  rw [stream, if_neg (Nat.succ_ne_zero t), Ring.At3_next _ _ _ _ t hB, Ring.slotAt3_next0 _ _ _ t (by omega), Ring.slotAt3_next1 _ _ _ t hB]
  exact Ring.with_homes (Idealize.SL.BI.Entails.refl _)

/-- and at the last two points nothing is started. -/
theorem last_in (ht : t ≠ 0) (hl : t < 11) : stream cell slot flight t
    ⊢ iprop(Ring.inflight flight (Ring.sl 3 t) (Ring.bk 11 t) ∗ Ring.slotAt 2 cell slot flight t 1 ∗ Ring.free cell slot (Ring.sl 3 (t + 2))) := by
  rw [stream, if_neg ht, Ring.At3_here_tail _ _ _ _ t hl]
  iintro ⟨-, H⟩
  iexact H
theorem last_out (hB : 11 ≤ t + 2) (hl : t < 11) : iprop(Ring.slotAt 2 cell slot flight t 1 ∗ Ring.free cell slot (Ring.sl 3 (t + 2)) ∗ Ring.free cell slot (Ring.sl 3 t))
    ⊢ stream cell slot flight (t + 1) := by
  rw [stream, if_neg (Nat.succ_ne_zero t), Ring.At3_next_tail _ _ _ _ t hB hl, Ring.slotAt3_tail_role _ _ _ t]
  exact Ring.with_homes (Idealize.SL.BI.Entails.refl _)

end Cert.PostMix
-- ==== Proof.PostFrame.lean ====
/- The run of the mixing kernel over its grid, for any values: what a grid point stores into the three results' staging buffers, the proof
   that the pipelined body does that, and from it the run of the whole program.

   Four arrays are streamed through buffers of three slots each. The first point starts three blocks of each and works on the first; a later
   point starts the block two ahead; the last two points start none. -/
module

public import proofs.«01_k».proof.Proof.Gen.Kernel8Ideal.Frame.RunC
public import proofs.«01_k».proof.Proof.PostStream
public import Idealize.ShloMosaic.Lib.Pipeline.FrameBody
public import Idealize.ShloMosaic.Lib.Tactic
public import Idealize.ShloMosaic.Lib.Claim

@[expose] public section

set_option maxRecDepth 16384

noncomputable section

namespace Cert.Kernel8Ideal.Own

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What a point stores into the three results, as pieces. -/
structure Pieces (F : FTy → Type) where
  o : List (View.Piece (Elt F) S384x1024 .bf16)
  pre : List (View.Piece (Elt F) S384x1024 .f32)
  h : List (View.Piece (Elt F) S384x1024 .f32)

section
variable (c : Dev nD) (t : Fin cfg0.N)

/-! The body run at a point's staging buffers and blocks. -/
def runA (h0 : cond0_0 (grid0.coords t)) (h1 : cond0_1 (grid0.coords t)) := kernelRun0_A c t (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) h0 h1 (iblk m c 0 t) (iblk m c 1 t) (iblk m c 2 t) (iblk m c 3 t) (iblk m c 4 t)
    (V m c main_arg0) (V m c main_arg1) (V m c main_arg2) (V m c main_arg3)
def runB (h0 : ¬cond0_0 (grid0.coords t)) (h1 : cond0_1 (grid0.coords t)) := kernelRun0_B c t (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) h0 h1 (iblk m c 0 t) (iblk m c 1 t) (iblk m c 2 t) (iblk m c 3 t) (iblk m c 4 t)
    (V m c main_arg0) (V m c main_arg1) (V m c main_arg2) (V m c main_arg3)
def runC (h0 : ¬cond0_0 (grid0.coords t)) (h1 : ¬cond0_1 (grid0.coords t)) := kernelRun0_C c t (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) h0 h1 (iblk m c 0 t) (iblk m c 1 t) (iblk m c 2 t) (iblk m c 3 t) (iblk m c 4 t)
    (V m c main_arg0) (V m c main_arg1) (V m c main_arg2) (V m c main_arg3)

/-! The pieces of each result cover its block. -/
theorem o_A (h0 : cond0_0 (grid0.coords t)) (h1 : cond0_1 (grid0.coords t)) (y : S384x1024.Idx) : ∃ p ∈ (runA m c t h0 h1).1, y ∈ p.1.set :=
  View.cover_of_tiledBy (runA m c t h0 h1).1 ![384, 64] (by sl_kernel_rfl) y
theorem pre_A (h0 : cond0_0 (grid0.coords t)) (h1 : cond0_1 (grid0.coords t)) (y : S384x1024.Idx) : ∃ p ∈ (runA m c t h0 h1).2.1, y ∈ p.1.set :=
  View.cover_of_tiledL (runA m c t h0 h1).2.1 S384x1024.size (by sl_kernel_rfl) y
theorem h_A (h0 : cond0_0 (grid0.coords t)) (h1 : cond0_1 (grid0.coords t)) (y : S384x1024.Idx) : ∃ p ∈ (runA m c t h0 h1).2.2.1, y ∈ p.1.set :=
  View.cover_of_tiledL (runA m c t h0 h1).2.2.1 S384x1024.size (by sl_kernel_rfl) y
theorem o_B (h0 : ¬cond0_0 (grid0.coords t)) (h1 : cond0_1 (grid0.coords t)) (y : S384x1024.Idx) : ∃ p ∈ (runB m c t h0 h1).1, y ∈ p.1.set :=
  View.cover_of_tiledBy (runB m c t h0 h1).1 ![384, 64] (by sl_kernel_rfl) y
theorem pre_B (h0 : ¬cond0_0 (grid0.coords t)) (h1 : cond0_1 (grid0.coords t)) (y : S384x1024.Idx) : ∃ p ∈ (runB m c t h0 h1).2.1, y ∈ p.1.set :=
  View.cover_of_tiledL (runB m c t h0 h1).2.1 S384x1024.size (by sl_kernel_rfl) y
theorem h_B (h0 : ¬cond0_0 (grid0.coords t)) (h1 : cond0_1 (grid0.coords t)) (y : S384x1024.Idx) : ∃ p ∈ (runB m c t h0 h1).2.2.1, y ∈ p.1.set :=
  View.cover_of_tiledL (runB m c t h0 h1).2.2.1 S384x1024.size (by sl_kernel_rfl) y
theorem o_C (h0 : ¬cond0_0 (grid0.coords t)) (h1 : ¬cond0_1 (grid0.coords t)) (y : S384x1024.Idx) : ∃ p ∈ (runC m c t h0 h1).1, y ∈ p.1.set :=
  View.cover_of_tiledBy (runC m c t h0 h1).1 ![384, 64] (by sl_kernel_rfl) y
theorem pre_C (h0 : ¬cond0_0 (grid0.coords t)) (h1 : ¬cond0_1 (grid0.coords t)) (y : S384x1024.Idx) : ∃ p ∈ (runC m c t h0 h1).2.1, y ∈ p.1.set :=
  View.cover_of_tiledL (runC m c t h0 h1).2.1 S384x1024.size (by sl_kernel_rfl) y
theorem h_C (h0 : ¬cond0_0 (grid0.coords t)) (h1 : ¬cond0_1 (grid0.coords t)) (y : S384x1024.Idx) : ∃ p ∈ (runC m c t h0 h1).2.2.1, y ∈ p.1.set :=
  View.cover_of_tiledL (runC m c t h0 h1).2.2.1 S384x1024.size (by sl_kernel_rfl) y

/-- The pieces point `t` stores. -/
def stored : Pieces F :=
  if h0 : t.val % 11 = 0 then
    if h1 : t.val < 9 then
      ⟨(runA m c t ((hcond0_0 t).mpr h0) ((hcond0_1 t).mpr h1)).1, (runA m c t ((hcond0_0 t).mpr h0) ((hcond0_1 t).mpr h1)).2.1,
        (runA m c t ((hcond0_0 t).mpr h0) ((hcond0_1 t).mpr h1)).2.2.1⟩
    else ⟨[], [], []⟩
  else if h1 : t.val < 9 then
    ⟨(runB m c t (fun h => h0 ((hcond0_0 t).mp h)) ((hcond0_1 t).mpr h1)).1, (runB m c t (fun h => h0 ((hcond0_0 t).mp h)) ((hcond0_1 t).mpr h1)).2.1,
      (runB m c t (fun h => h0 ((hcond0_0 t).mp h)) ((hcond0_1 t).mpr h1)).2.2.1⟩
  else ⟨(runC m c t (fun h => h0 ((hcond0_0 t).mp h)) (fun h => h1 ((hcond0_1 t).mp h))).1,
    (runC m c t (fun h => h0 ((hcond0_0 t).mp h)) (fun h => h1 ((hcond0_1 t).mp h))).2.1,
    (runC m c t (fun h => h0 ((hcond0_0 t).mp h)) (fun h => h1 ((hcond0_1 t).mp h))).2.2.1⟩

end

/-- The generator register at some state, and each of the four streams before point `k`. -/
def PhiR (c : Dev nD) (k : ℕ) : sProp 𝕄 := iprop((∃ r, prngReg c r) ∗ ringAt0_0 c (V m c main_arg0) k ∗ ringAt0_1 c (V m c main_arg1) k ∗ ringAt0_2 c (V m c main_arg2) k ∗ ringAt0_3 c (V m c main_arg3) k)

/-- What pieces leave in a result's buffer. -/
abbrev leftO (p : Pieces F) : Vec F S384x1024 .bf16 := VO0_5.read (Elt F) (VO0_5.writes (Elt F) VO0_5.junk p.o)
abbrev leftPre (p : Pieces F) : Vec F S384x1024 .f32 := VO0_6.read (Elt F) (VO0_6.writes (Elt F) VO0_6.junk p.pre)
abbrev leftH (p : Pieces F) : Vec F S384x1024 .f32 := VO0_7.read (Elt F) (VO0_7.writes (Elt F) VO0_7.junk p.h)

/-- The pipeline's proof data: each argument's buffer is left at its block, the results' at the stored pieces. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => leftO (stored m c t)
    | ⟨6, _⟩ => leftPre (stored m c t)
    | ⟨7, _⟩ => leftH (stored m c t)
  Φ t := PhiR m c t.val
  q _ := fullShare
  owed _ := 0

theorem A_eq (c : Dev nD) (w : Fin cfg0.W) : (dats m 0 c).A w = V m c (Pipeline.arrRef spec0 w) := by
  dsimp only [dats]
theorem phi_here (c : Dev nD) (t : Fin cfg0.N) : (dats m 0 c).Φ t.castSucc = PhiR m c t.val := by
  dsimp only [dats]; simp only [Fin.coe_castSucc]
theorem phi_next (c : Dev nD) (t : Fin cfg0.N) : (dats m 0 c).Φ t.succ = PhiR m c (t.val + 1) := by
  dsimp only [dats]; simp only [Fin.val_succ]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = leftO (stored m c t) := by dsimp only [dats]
theorem after6 (c : Dev nD) (t : Fin cfg0.N) : (dats m 0 c).after 6 t = leftPre (stored m c t) := by dsimp only [dats]
theorem after7 (c : Dev nD) (t : Fin cfg0.N) : (dats m 0 c).after 7 t = leftH (stored m c t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- The state the body is called in at point `t`: its arguments' buffers at their blocks and the results' at anything, -/
def bodyPre (c : Dev nD) (t : Fin cfg0.N) : sProp 𝕄 :=
  iprop(PhiR m c t.val ∗ (dats m 0 c).owesAt () t.castSucc
    ∗ (∃ _d : S1x128.Idx → Elt F .f32, owns (c : Thread nD τ) (ms0_0 t) fullShare (iblk m c 0 t))
    ∗ (∃ _d : S1024x1024.Idx → Elt F .bf16, owns (c : Thread nD τ) (ms0_1 t) fullShare (iblk m c 1 t))
    ∗ (∃ _d : S1x1024.Idx → Elt F .f32, owns (c : Thread nD τ) (ms0_2 t) fullShare (iblk m c 2 t))
    ∗ (∃ _d : S1x1024.Idx → Elt F .f32, owns (c : Thread nD τ) (ms0_3 t) fullShare (iblk m c 3 t))
    ∗ (∃ _d : S8x128.Idx → Elt F .f32, owns (c : Thread nD τ) (ms0_4 t) fullShare (iblk m c 4 t))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and the one it returns in, having stored the pieces `p`. -/
def bodyPost (c : Dev nD) (t : Fin cfg0.N) (p : Pieces F) : sProp 𝕄 :=
  iprop(PhiR m c (t.val + 1) ∗ (dats m 0 c).owesAt () t.succ
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (leftO p)
    ∗ owns (c : Thread nD τ) (ms0_6 t) fullShare (leftPre p)
    ∗ owns (c : Thread nD τ) (ms0_7 t) fullShare (leftH p))

/-- The body at a point: from what each stream gives the body at the point (`enter`), a run of the body on that (`run`), and what the streams
need back (`leave`). -/
theorem sound_of (c : Dev nD) (t : Fin cfg0.N) (p : Pieces F) {a0 b0 d0 a1 b1 d1 a2 b2 d2 a3 b3 d3 a0' b0' d0' a1' b1' d1' a2' b2' d2' a3' b3' d3' : sProp 𝕄}
    (w5 : ∀ y, ∃ q ∈ p.o, y ∈ q.1.set) (w6 : ∀ y, ∃ q ∈ p.pre, y ∈ q.1.set) (w7 : ∀ y, ∃ q ∈ p.h, y ∈ q.1.set)
    (enter0 : ringAt0_0 c (V m c main_arg0) t.val ⊢ iprop(a0 ∗ b0 ∗ d0)) (leave0 : iprop(a0' ∗ b0' ∗ d0') ⊢ ringAt0_0 c (V m c main_arg0) (t.val + 1))
    (enter1 : ringAt0_1 c (V m c main_arg1) t.val ⊢ iprop(a1 ∗ b1 ∗ d1)) (leave1 : iprop(a1' ∗ b1' ∗ d1') ⊢ ringAt0_1 c (V m c main_arg1) (t.val + 1))
    (enter2 : ringAt0_2 c (V m c main_arg2) t.val ⊢ iprop(a2 ∗ b2 ∗ d2)) (leave2 : iprop(a2' ∗ b2' ∗ d2') ⊢ ringAt0_2 c (V m c main_arg2) (t.val + 1))
    (enter3 : ringAt0_3 c (V m c main_arg3) t.val ⊢ iprop(a3 ∗ b3 ∗ d3)) (leave3 : iprop(a3' ∗ b3' ∗ d3') ⊢ ringAt0_3 c (V m c main_arg3) (t.val + 1))
    (run : ∀ (W : Waits sig Unit) (K : PUnit → sProp 𝕄),
      iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t)
          ∗ (∃ d, owns (c : Thread nD τ) (ms0_5 t) fullShare d) ∗ (∃ d, owns (c : Thread nD τ) (ms0_6 t) fullShare d) ∗ (∃ d, owns (c : Thread nD τ) (ms0_7 t) fullShare d)
          ∗ a0 ∗ b0 ∗ d0 ∗ a1 ∗ b1 ∗ d1 ∗ a2 ∗ b2 ∗ d2 ∗ a3 ∗ b3 ∗ d3 ∗ owes (c : Thread nD τ) 0 W
          ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t)
            ∗ (∃ f, (ms0_5 t).view.loc (c : Thread nD τ) ↦[(ms0_5 t).view.set]{fullShare} (ms0_5 t).view.writes (Elt F) f p.o) ∗ (∃ f, (ms0_6 t).view.loc (c : Thread nD τ) ↦[(ms0_6 t).view.set]{fullShare} (ms0_6 t).view.writes (Elt F) f p.pre) ∗ (∃ f, (ms0_7 t).view.loc (c : Thread nD τ) ↦[(ms0_7 t).view.set]{fullShare} (ms0_7 t).view.writes (Elt F) f p.h)
            ∗ a0' ∗ b0' ∗ d0' ∗ a1' ∗ b1' ∗ d1' ∗ a2' ∗ b2' ∗ d2' ∗ a3' ∗ b3' ∗ d3'
            ∗ (∃ W', owes (c : Thread nD τ) 0 W')) -∗ K ⟨⟩))
        ⊢ wp frame (wpE (defs₀ (F := F)) Variants.none c none) Set.univ (bodyAt0 t) K) :
    bodyPre m c t ⊢ wp frame (wpE (defs₀ (F := F)) Variants.none c none) Set.univ (bodyAt0 t) (fun _ => bodyPost m c t p) := by
  unfold bodyPre bodyPost Dat.owesAt Pipeline.owesWithin
  rw [show (dats m 0 c).owed t.castSucc = 0 from rfl, show (dats m 0 c).owed t.succ = 0 from rfl]
  unfold PhiR
  iintro ⟨⟨Hg, HR0, HR1, HR2, HR3⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  ihave HX0 := enter0 $$ HR0
  icases HX0 with ⟨Ha0, Hb0, Hd0⟩
  ihave HX1 := enter1 $$ HR1
  icases HX1 with ⟨Ha1, Hb1, Hd1⟩
  ihave HX2 := enter2 $$ HR2
  icases HX2 with ⟨Ha2, Hb2, Hd2⟩
  ihave HX3 := enter3 $$ HR3
  icases HX3 with ⟨Ha3, Hb3, Hd3⟩
  iapply (run W _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [Ha0]; · iexact Ha0
  isplitl [Hb0]; · iexact Hb0
  isplitl [Hd0]; · iexact Hd0
  isplitl [Ha1]; · iexact Ha1
  isplitl [Hb1]; · iexact Hb1
  isplitl [Hd1]; · iexact Hd1
  isplitl [Ha2]; · iexact Ha2
  isplitl [Hb2]; · iexact Hb2
  isplitl [Hd2]; · iexact Hd2
  isplitl [Ha3]; · iexact Ha3
  isplitl [Hb3]; · iexact Hb3
  isplitl [Hd3]; · iexact Hd3
  isplitl [HW]; · iexact HW
  iintro ⟨H0, H1, H2, H3, H4, ⟨%e5, H5⟩, ⟨%e6, H6⟩, ⟨%e7, H7⟩, Ha0, Hb0, Hd0, Ha1, Hb1, Hd1, Ha2, Hb2, Hd2, Ha3, Hb3, Hd3, ⟨%W', HW'⟩⟩
  isplitl [Hg Ha0 Hb0 Hd0 Ha1 Hb1 Hd1 Ha2 Hb2 Hd2 Ha3 Hb3 Hd3]
  · isplitl [Hg]; · iexact Hg
    isplitl [Ha0 Hb0 Hd0]
    · iapply leave0
      isplitl [Ha0]; · iexact Ha0
      isplitl [Hb0]; · iexact Hb0
      iexact Hd0
    isplitl [Ha1 Hb1 Hd1]
    · iapply leave1
      isplitl [Ha1]; · iexact Ha1
      isplitl [Hb1]; · iexact Hb1
      iexact Hd1
    isplitl [Ha2 Hb2 Hd2]
    · iapply leave2
      isplitl [Ha2]; · iexact Ha2
      isplitl [Hb2]; · iexact Hb2
      iexact Hd2
    iapply leave3
    isplitl [Ha3]; · iexact Ha3
    isplitl [Hb3]; · iexact Hb3
    iexact Hd3
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ w5
  isplitl [H6]
  · unfold owns; iexists _; isplitr
    swap; · iexact H6
    ipureintro; exact View.read_writes_of_cover _ _ _ _ _ w6
  unfold owns; iexists _; isplitr
  swap; · iexact H7
  ipureintro; exact View.read_writes_of_cover _ _ _ _ _ w7

/-- The body at the first point. -/
theorem sound_A (c : Dev nD) (t : Fin cfg0.N) (h0 : cond0_0 (grid0.coords t)) (h1 : cond0_1 (grid0.coords t)) :
    bodyPre m c t ⊢ wp frame (wpE (defs₀ (F := F)) Variants.none c none) Set.univ (bodyAt0 t) (fun _ => bodyPost m c t
      ⟨(runA m c t h0 h1).1, (runA m c t h0 h1).2.1, (runA m c t h0 h1).2.2.1⟩) := by
  have k0 := (hcond0_0 t).mp h0
  have k1 := (hcond0_1 t).mp h1
  have ht : t.val = 0 := by omega
  exact sound_of m c t _ (o_A m c t h0 h1) (pre_A m c t h0 h1) (h_A m c t h0 h1)
    (Cert.PostMix.first_in _ _ _ _ ht) (Cert.PostMix.first_out _ _ _ _ ht) (Cert.PostMix.first_in _ _ _ _ ht) (Cert.PostMix.first_out _ _ _ _ ht)
    (Cert.PostMix.first_in _ _ _ _ ht) (Cert.PostMix.first_out _ _ _ _ ht) (Cert.PostMix.first_in _ _ _ _ ht) (Cert.PostMix.first_out _ _ _ _ ht)
    (runA m c t h0 h1).2.2.2

/-- The body at a later point with a block to start. -/
theorem sound_B (c : Dev nD) (t : Fin cfg0.N) (h0 : ¬cond0_0 (grid0.coords t)) (h1 : cond0_1 (grid0.coords t)) :
    bodyPre m c t ⊢ wp frame (wpE (defs₀ (F := F)) Variants.none c none) Set.univ (bodyAt0 t) (fun _ => bodyPost m c t
      ⟨(runB m c t h0 h1).1, (runB m c t h0 h1).2.1, (runB m c t h0 h1).2.2.1⟩) := by
  have k0 := mt (hcond0_0 t).mpr h0
  have k1 := (hcond0_1 t).mp h1
  have ht : t.val ≠ 0 := by omega
  have hB : t.val + 2 < 11 := by omega
  exact sound_of m c t _ (o_B m c t h0 h1) (pre_B m c t h0 h1) (h_B m c t h0 h1)
    (Cert.PostMix.later_in _ _ _ _ ht hB) (Cert.PostMix.later_out _ _ _ _ hB) (Cert.PostMix.later_in _ _ _ _ ht hB) (Cert.PostMix.later_out _ _ _ _ hB)
    (Cert.PostMix.later_in _ _ _ _ ht hB) (Cert.PostMix.later_out _ _ _ _ hB) (Cert.PostMix.later_in _ _ _ _ ht hB) (Cert.PostMix.later_out _ _ _ _ hB)
    (runB m c t h0 h1).2.2.2

/-- The body at the last two points. -/
theorem sound_C (c : Dev nD) (t : Fin cfg0.N) (h0 : ¬cond0_0 (grid0.coords t)) (h1 : ¬cond0_1 (grid0.coords t)) :
    bodyPre m c t ⊢ wp frame (wpE (defs₀ (F := F)) Variants.none c none) Set.univ (bodyAt0 t) (fun _ => bodyPost m c t
      ⟨(runC m c t h0 h1).1, (runC m c t h0 h1).2.1, (runC m c t h0 h1).2.2.1⟩) := by
  have k0 := mt (hcond0_0 t).mpr h0
  have k1 := mt (hcond0_1 t).mpr h1
  have ht : t.val ≠ 0 := by omega
  have hl : t.val < 11 := lt_of_lt_of_eq t.isLt (show cfg0.N = 11 from N_0)
  have hB : 11 ≤ t.val + 2 := by omega
  exact sound_of m c t _ (o_C m c t h0 h1) (pre_C m c t h0 h1) (h_C m c t h0 h1)
    (Cert.PostMix.last_in _ _ _ _ ht hl) (Cert.PostMix.last_out _ _ _ _ hB hl) (Cert.PostMix.last_in _ _ _ _ ht hl) (Cert.PostMix.last_out _ _ _ _ hB hl)
    (Cert.PostMix.last_in _ _ _ _ ht hl) (Cert.PostMix.last_out _ _ _ _ hB hl) (Cert.PostMix.last_in _ _ _ _ ht hl) (Cert.PostMix.last_out _ _ _ _ hB hl)
    (runC m c t h0 h1).2.2.2

/-- The body at any point. -/
theorem sound_body (c : Dev nD) (t : Fin cfg0.N) :
    bodyPre m c t ⊢ wp frame (wpE (defs₀ (F := F)) Variants.none c none) Set.univ (bodyAt0 t) (fun _ => bodyPost m c t (stored m c t)) := by
  have hN : t.val < 11 := lt_of_lt_of_eq t.isLt (show cfg0.N = 11 from N_0)
  unfold stored
  by_cases h0 : t.val % 11 = 0
  · have h1 : t.val < 9 := by omega
    rw [dif_pos h0, dif_pos h1]
    exact sound_A m c t _ _
  · rw [dif_neg h0]
    by_cases h1 : t.val < 9
    · rw [dif_pos h1]
      exact sound_B m c t _ _
    · rw [dif_neg h1]
      exact sound_C m c t _ _

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  have h := sound_body m c t
  unfold bodyPre bodyPost at h
  rw [← phi_here m c t, ← phi_next m c t, ← after5 m c t, ← after6 m c t, ← after7 m c t] at h
  refine triple_restated h rfl ?_ fun _ => ?_
  · simp only [before0, before1, before2, before3, before4]
    exact .rfl
  · rw [after0, after1, after2, after3, after4]

/-- The scratch buffers, cells and streamed arrays the launch hands over are the streams before the first point, and back after the last. -/
theorem hin (c : Dev nD) : Pipeline.ΦD osem0 spec0 H0 (V m) c ⊢ (dats m 0 c).Φ 0 := by
  rw [PhiD0_eq, show (dats m 0 c).Φ 0 = PhiR m c 0 from rfl]
  unfold PhiR
  iintro ⟨⟨HR0_0, HR0_1, HR0_2, HR0_3⟩, Hg, ⟨Hq0, Hq1, Hq2, Hq3, Hq4, Hq5, Hq6, Hq7, Hq8, Hq9, Hq10, Hq11⟩, ⟨Hh0, Hh1, Hh2, Hh3⟩⟩
  isplitl [Hg]; · iexact Hg
  isplitl [HR0_0 Hq0 Hq1 Hq2 Hh0]
  · iapply (ring0_0_in (F := F) m c)
    isplitl [HR0_0]; · iexact HR0_0
    isplitl [Hq0 Hq1 Hq2]
    · isplitl [Hq0]; · iexact Hq0
      isplitl [Hq1]; · iexact Hq1
      iexact Hq2
    iexact Hh0
  isplitl [HR0_1 Hq3 Hq4 Hq5 Hh1]
  · iapply (ring0_1_in (F := F) m c)
    isplitl [HR0_1]; · iexact HR0_1
    isplitl [Hq3 Hq4 Hq5]
    · isplitl [Hq3]; · iexact Hq3
      isplitl [Hq4]; · iexact Hq4
      iexact Hq5
    iexact Hh1
  isplitl [HR0_2 Hq6 Hq7 Hq8 Hh2]
  · iapply (ring0_2_in (F := F) m c)
    isplitl [HR0_2]; · iexact HR0_2
    isplitl [Hq6 Hq7 Hq8]
    · isplitl [Hq6]; · iexact Hq6
      isplitl [Hq7]; · iexact Hq7
      iexact Hq8
    iexact Hh2
  iapply (ring0_3_in (F := F) m c)
  isplitl [HR0_3]; · iexact HR0_3
  isplitl [Hq9 Hq10 Hq11]
  · isplitl [Hq9]; · iexact Hq9
    isplitl [Hq10]; · iexact Hq10
    iexact Hq11
  iexact Hh3
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR
  rw [show grid0.N = 11 by rw [N_0]]
  iintro ⟨Hg, HR0_0, HR0_1, HR0_2, HR0_3⟩
  ihave HX0_0 := (ring0_0_out (F := F) m c) $$ HR0_0
  icases HX0_0 with ⟨HR0_0, ⟨Hq0, Hq1, Hq2⟩, Hh0⟩
  ihave HX0_1 := (ring0_1_out (F := F) m c) $$ HR0_1
  icases HX0_1 with ⟨HR0_1, ⟨Hq3, Hq4, Hq5⟩, Hh1⟩
  ihave HX0_2 := (ring0_2_out (F := F) m c) $$ HR0_2
  icases HX0_2 with ⟨HR0_2, ⟨Hq6, Hq7, Hq8⟩, Hh2⟩
  ihave HX0_3 := (ring0_3_out (F := F) m c) $$ HR0_3
  icases HX0_3 with ⟨HR0_3, ⟨Hq9, Hq10, Hq11⟩, Hh3⟩
  isplitl [HR0_0 HR0_1 HR0_2 HR0_3]
  · isplitl [HR0_0]; · iexact HR0_0
    isplitl [HR0_1]; · iexact HR0_1
    isplitl [HR0_2]; · iexact HR0_2
    iexact HR0_3
  isplitl [Hg]
  · iexact Hg
  isplitl [Hq0 Hq1 Hq2 Hq3 Hq4 Hq5 Hq6 Hq7 Hq8 Hq9 Hq10 Hq11]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    iexact Hq11
  isplitl [Hh0]; · iexact Hh0
  isplitl [Hh1]; · iexact Hh1
  isplitl [Hh2]; · iexact Hh2
  iexact Hh3
-- the launch theorem's implicit arguments are found by unifying its conclusion with this one
set_option backward.isDefEq.respectTransparency.types false in
/-- The run: every result array ends at what the proof data computes, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: every argument array ends as launched, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.Kernel8Ideal.Own

end
-- ==== Proof.SameRun.lean ====
/- The frames of the three kernels on bits whose frames are proved by hand. A kernel and its idealization have the same text, and the run
   of the idealization is proved over any float values; at bits it is the run of the kernel. -/
module

public import proofs.«01_k».proof.Defs
public import proofs.«01_k».proof.Proof.Frame
public import proofs.«01_k».proof.Proof.InFrame
public import proofs.«01_k».proof.Proof.PostFrame
public import proofs.«01_k».proof.Proof.Gen.Kernel
public import proofs.«01_k».proof.Proof.Gen.Kernel6
public import proofs.«01_k».proof.Proof.Gen.Kernel8
public import Idealize.ShloMosaic.Lib.Tactic

@[expose] public section

namespace Cert.SameRun

open Idealize.ShloMosaic Idealize.SL.Sem Idealize.ShloMosaic.Tactic

/-- The frame of the recurrence's gradient kernel. -/
theorem frame_kernel : Cert.quiescent_Kernel (hKernel := Cert.Kernel.Gen.facts) :=
  fun m ρ _ => Eq.mp (by sl_kernel_rfl) (Cert.KernelIdeal.Own.frame (F := Bits) m ρ)

/-- The frame of the input projection. -/
theorem frame_kernel6 : Cert.quiescent_Kernel6 (hKernel6 := Cert.Kernel6.Gen.facts) :=
  fun m ρ _ => Eq.mp (by sl_kernel_rfl) (Cert.Kernel6Ideal.Own.frame (F := Bits) m ρ)

/-- The frame of the mixing kernel. -/
theorem frame_kernel8 : Cert.quiescent_Kernel8 (hKernel8 := Cert.Kernel8.Gen.facts) :=
  fun m ρ _ => Eq.mp (by sl_kernel_rfl) (Cert.Kernel8Ideal.Own.frame (F := Bits) m ρ)

end Cert.SameRun

end
-- ==== Proof.Lift.lean ====
/- Matrices of real numbers, written as functions of their row and column numbers, and what each operation of a
   program makes of them. Over the ideal numbers a tensor of finite values stays one of finite values through sums,
   products, exponentials, slices and matrix products, so a whole computation on finite arguments can be read as
   ordinary real arithmetic. -/
module

public import Idealize.ShloMosaic.Lib.Claim
public import Idealize.ShloMosaic.Lib.Pointwise
public import Idealize.ShloMosaic.Lib.MatmulPlain
public import Idealize.ShloMosaic.Lib.KernelVsHost
public import Idealize.ShloMosaic.Lib.WordCmp
public import Idealize.ShloMosaic.Lib.Pipeline.Value

@[expose] public section

set_option maxRecDepth 16384

noncomputable section

namespace Cert.Lift

open Idealize.ShloMosaic Idealize.ShloMosaic.ValueIdx

/-- The shape of a matrix of `m` rows and `n` columns. -/
abbrev Mat (m n : ℕ) : Shape := ⟨2, ![m, n]⟩

/-- The matrix of ideal numbers whose entry at row `r` and column `c` is the real number `f r c`. -/
def E2 {m n : ℕ} (f : ℕ → ℕ → ℝ) : (⟨2, ![m, n]⟩ : Shape).Idx → EReal :=
  fun i => ((f (i 0).val (i 1).val : ℝ) : EReal)

/-- The matrix of bits that are one where `p` holds. -/
def M2 {m n : ℕ} (p : ℕ → ℕ → Prop) [∀ r c, Decidable (p r c)] : (⟨2, ![m, n]⟩ : Shape).Idx → BitVec 1 :=
  fun i => BitVec.ofBool (decide (p (i 0).val (i 1).val))

/-- Only the entries inside the matrix matter. -/
theorem E2_congr {m n : ℕ} {f g : ℕ → ℕ → ℝ} (h : ∀ r < m, ∀ c < n, f r c = g r c) : (E2 (m := m) (n := n) f) = E2 g := by
  funext i
  exact congrArg _ (h _ (i 0).isLt _ (i 1).isLt)

/-- Equal matrices have equal entries. -/
theorem E2_inj {m n : ℕ} {f g : ℕ → ℕ → ℝ} (h : (E2 (m := m) (n := n) f) = E2 g) :
    ∀ r < m, ∀ c < n, f r c = g r c := by
  intro r hr c hc
  have := congrFun h (ValueIdx.ix2 ⟨r, hr⟩ ⟨c, hc⟩)
  exact EReal.coe_injective this

section Elementwise
variable {m n : ℕ} {φ : FTy} (f g : ℕ → ℕ → ℝ)

theorem addf_E2 : addf (F := Ideal) (s := Mat m n) (φ := φ) (E2 f) (E2 g) = E2 fun r c => f r c + g r c :=
  funext fun i => (EReal.coe_add _ _).symm
theorem subf_E2 : subf (F := Ideal) (s := Mat m n) (φ := φ) (E2 f) (E2 g) = E2 fun r c => f r c - g r c :=
  funext fun i => (EReal.coe_sub _ _).symm
theorem mulf_E2 : mulf (F := Ideal) (s := Mat m n) (φ := φ) (E2 f) (E2 g) = E2 fun r c => f r c * g r c :=
  funext fun i => (EReal.coe_mul _ _).symm
theorem exp_E2 : exp (F := Ideal) (s := Mat m n) (φ := φ) (E2 f) = E2 fun r c => Real.exp (f r c) := rfl
theorem minimumf_E2 : minimumf (F := Ideal) (s := Mat m n) (φ := φ) (E2 f) (E2 g) = E2 fun r c => min (f r c) (g r c) :=
  funext fun i => (EReal.coe_strictMono.monotone.map_min).symm
theorem absf_E2 : absf (F := Ideal) (s := Mat m n) (φ := φ) (E2 f) = E2 fun r c => |f r c| :=
  funext fun i => by
    show max ((f _ _ : ℝ) : EReal) (-((f _ _ : ℝ) : EReal)) = _
    rw [← EReal.coe_neg, ← EReal.coe_strictMono.monotone.map_max]; rfl
theorem truncf_E2 {ψ : FTy} (h : ψ.bits < φ.bits) : truncf (F := Ideal) (s := Mat m n) (φ := φ) ψ (E2 f) h = E2 f := rfl
/-- `log (1 + f)` where `f` is not negative. -/
theorem log1p_E2 (hf : ∀ r c, 0 ≤ f r c) :
    log1p (F := Ideal) (s := Mat m n) (φ := φ) (E2 f) = E2 fun r c => Real.log (1 + f r c) :=
  funext fun i => by
    show Ideal.log (1 + ((f _ _ : ℝ) : EReal)) = _
    rw [← EReal.coe_one, ← EReal.coe_add]
    show (if 1 + f _ _ ≤ 0 then ⊥ else ((Real.log (1 + f _ _) : ℝ) : EReal)) = _
    rw [if_neg (by have := hf (i 0).val (i 1).val; linarith)]; rfl
/-- A quotient by a matrix with no zero. -/
theorem divf_E2 (hg : ∀ r c, g r c ≠ 0) :
    divf (F := Ideal) (s := Mat m n) (φ := φ) (E2 f) (E2 g) = E2 fun r c => f r c / g r c :=
  funext fun i => by
    show Ideal.div ((f _ _ : ℝ) : EReal) ((g _ _ : ℝ) : EReal) = _
    rw [Ideal.div_coe (hg _ _), ← EReal.coe_mul]
    show ((_ : ℝ) : EReal) = ((_ : ℝ) : EReal)
    congr 1
    rw [mul_one_div]
/-- A select by a matrix of bits. -/
theorem select_E2 (p : ℕ → ℕ → Prop) [∀ r c, Decidable (p r c)] :
    select (s := Mat m n) (α := EReal) (M2 p) (E2 f) (E2 g) = E2 fun r c => if p r c then f r c else g r c :=
  funext fun i => by
    show Scalar.select (BitVec.ofBool (decide (p _ _))) _ _ = _
    by_cases h : p (i 0).val (i 1).val <;> simp [Scalar.select, E2, h]
/-- The bits as the numbers zero and one. -/
theorem sitofp_extui_M2 (p : ℕ → ℕ → Prop) [∀ r c, Decidable (p r c)] (h : 1 < 32) :
    sitofp (F := Ideal) (s := Mat m n) φ (extui 32 (M2 p) h) = E2 fun r c => if p r c then 1 else 0 :=
  funext fun i => by
    show (((BitVec.setWidth 32 (BitVec.ofBool (decide (p _ _)))).toInt : ℝ) : EReal) = _
    by_cases h : p (i 0).val (i 1).val <;> simp [E2, h]
/-- A splat of a real number. -/
theorem broadcast_E2 (x : EReal) (a : ℝ) (h : x = (a : EReal)) : broadcast (Mat m n) x = E2 fun _ _ => a := by
  subst h; rfl
end Elementwise

/-! ### Bits -/
section Bits
variable {m n : ℕ} (p q : ℕ → ℕ → Prop) [∀ r c, Decidable (p r c)] [∀ r c, Decidable (q r c)]

theorem andi_M2 : andi (s := Mat m n) (M2 p) (M2 q) = M2 fun r c => p r c ∧ q r c := funext fun i => by
  show BitVec.ofBool _ &&& BitVec.ofBool _ = _
  by_cases h : p (i 0).val (i 1).val <;> by_cases h' : q (i 0).val (i 1).val <;> simp [M2, h, h']
theorem ori_M2 : ori (s := Mat m n) (M2 p) (M2 q) = M2 fun r c => p r c ∨ q r c := funext fun i => by
  show BitVec.ofBool _ ||| BitVec.ofBool _ = _
  by_cases h : p (i 0).val (i 1).val <;> by_cases h' : q (i 0).val (i 1).val <;> simp [M2, h, h']

/-- The matrix of the words of the natural numbers `f r c`. -/
def N2 (f : ℕ → ℕ → ℕ) : (⟨2, ![m, n]⟩ : Shape).Idx → BitVec 32 := fun i => BitVec.ofNat 32 (f (i 0).val (i 1).val)

theorem iota0_N2 (h) : iota .tc (Mat m n) 32 [0] h = N2 fun r _ => r := funext fun i => by simp [iota, N2]
theorem iota1_N2 (h) : iota .tc (Mat m n) 32 [1] h = N2 fun _ c => c := funext fun i => by simp [iota, N2]
theorem broadcast_N2 (k : ℕ) : broadcast (Mat m n) (BitVec.ofNat 32 k) = N2 fun _ _ => k := rfl
theorem sge_N2 (f g : ℕ → ℕ → ℕ) (hf : ∀ r < m, ∀ c < n, f r c < 2 ^ 31) (hg : ∀ r < m, ∀ c < n, g r c < 2 ^ 31) :
    cmpi .sge (s := Mat m n) (N2 f) (N2 g) = M2 fun r c => g r c ≤ f r c := funext fun i => by
  exact WordCmp.cmpi_sge_ofNat (hf _ (i 0).isLt _ (i 1).isLt) (hg _ (i 0).isLt _ (i 1).isLt)
theorem slt_N2 (f g : ℕ → ℕ → ℕ) (hf : ∀ r < m, ∀ c < n, f r c < 2 ^ 31) (hg : ∀ r < m, ∀ c < n, g r c < 2 ^ 31) :
    cmpi .slt (s := Mat m n) (N2 f) (N2 g) = M2 fun r c => f r c < g r c := funext fun i => by
  exact WordCmp.cmpi_slt_ofNat (hf _ (i 0).isLt _ (i 1).isLt) (hg _ (i 0).isLt _ (i 1).isLt)
end Bits

/-! ### Layout -/
section Layout
variable {m n a b : ℕ} (f g : ℕ → ℕ → ℝ)

theorem slice_E2 (o₀ o₁ : ℕ) (h : Shape.Slices ![o₀, o₁] (⟨2, ![a, b]⟩ : Shape) (s := ⟨2, ![m, n]⟩)) :
    extractStridedSlice (s := ⟨2, ![m, n]⟩) ⟨2, ![a, b]⟩ ![o₀, o₁] (E2 f) h = E2 fun r c => f (o₀ + r) (o₁ + c) := rfl

theorem column_E2 (h : Shape.Broadcasts (⟨2, ![m, 1]⟩ : Shape) ⟨2, ![m, n]⟩) (hm : m ≠ 1) :
    broadcastTo (s := ⟨2, ![m, 1]⟩) ⟨2, ![m, n]⟩ (E2 f) h = E2 fun r _ => f r 0 := funext fun i => by
  simp [broadcastTo, E2, hm]

theorem row_E2 (h : Shape.Broadcasts (⟨2, ![1, n]⟩ : Shape) ⟨2, ![m, n]⟩) (hn : n ≠ 1) :
    broadcastTo (s := ⟨2, ![1, n]⟩) ⟨2, ![m, n]⟩ (E2 f) h = E2 fun _ c => f 0 c := funext fun i => by
  simp [broadcastTo, E2, hn]

theorem shapeCast_self_E2 (h) : shapeCast (s := ⟨2, ![m, n]⟩) ⟨2, ![m, n]⟩ (E2 f) h = E2 f := shapeCast_self _ _

/-- Two matrices one above the other. -/
theorem concat_rows_E2 (F : ℕ → ℕ → ℝ) (h : Shape.Concatenates [(⟨2, ![a, n]⟩ : Shape), ⟨2, ![b, n]⟩] ⟨2, ![m, n]⟩ 0)
    (hf : ∀ r < a, ∀ c < n, f r c = F r c) (hg : ∀ r < b, ∀ c < n, g r c = F (a + r) c) :
    concatenate (⟨2, ![m, n]⟩ : Shape) 0 [⟨⟨2, ![a, n]⟩, (E2 f : _ → EReal)⟩, ⟨⟨2, ![b, n]⟩, E2 g⟩] h = E2 F := by
  have hm : a + b = m := by have := h.2.2; simpa using this
  funext j
  by_cases hj : (j 0).val < a
  · rw [concatenate_pair_apply_left 0 _ _ h j rfl (ValueIdx.ix2 ⟨(j 0).val, hj⟩ (j 1))
      (fun b => by match b with | ⟨0, _⟩ => rfl | ⟨1, _⟩ => rfl)]
    exact congrArg _ (hf _ hj _ (j 1).isLt)
  · have hj' : (j 0).val - a < b := by have : (j 0).val < m := (j 0).isLt; omega
    rw [concatenate_pair_apply_right 0 _ _ h j rfl rfl (ValueIdx.ix2 ⟨(j 0).val - a, hj'⟩ (j 1))
      (fun b hb => by match b with | ⟨0, _⟩ => exact absurd rfl hb | ⟨1, _⟩ => rfl)
      (by show (j 0).val - a + a = (j 0).val; omega)]
    refine congrArg _ ((hg _ hj' _ (j 1).isLt).trans ?_)
    show F (a + ((j 0).val - a)) _ = F (j 0).val _
    congr 1; omega

/-- Four matrices of equal width side by side. -/
theorem concat_cols_E2 (f₀ f₁ f₂ f₃ F : ℕ → ℕ → ℝ)
    (h : Shape.Concatenates [(⟨2, ![m, a]⟩ : Shape), ⟨2, ![m, a]⟩, ⟨2, ![m, a]⟩, ⟨2, ![m, a]⟩] ⟨2, ![m, n]⟩ 1)
    (h₀ : ∀ r < m, ∀ c < a, f₀ r c = F r c) (h₁ : ∀ r < m, ∀ c < a, f₁ r c = F r (a + c))
    (h₂ : ∀ r < m, ∀ c < a, f₂ r c = F r (2 * a + c)) (h₃ : ∀ r < m, ∀ c < a, f₃ r c = F r (3 * a + c)) :
    concatenate (⟨2, ![m, n]⟩ : Shape) 1 [⟨⟨2, ![m, a]⟩, (E2 f₀ : _ → EReal)⟩, ⟨⟨2, ![m, a]⟩, E2 f₁⟩,
      ⟨⟨2, ![m, a]⟩, E2 f₂⟩, ⟨⟨2, ![m, a]⟩, E2 f₃⟩] h = E2 F := by
  have hn : 4 * a = n := by have := h.2.2; simp at this; omega
  funext j
  have hj : (j 1).val < n := (j 1).isLt
  have key : ∀ (k : ℕ) (hk : k < 4) (fk : ℕ → ℕ → ℝ) (hlo : k * a ≤ (j 1).val) (hhi : (j 1).val < k * a + a)
      (hxk : [(⟨⟨2, ![m, a]⟩, (E2 f₀ : _ → EReal)⟩ : (s : Shape) × (s.Idx → EReal)), ⟨⟨2, ![m, a]⟩, E2 f₁⟩,
        ⟨⟨2, ![m, a]⟩, E2 f₂⟩, ⟨⟨2, ![m, a]⟩, E2 f₃⟩][k] = ⟨⟨2, ![m, a]⟩, E2 fk⟩)
      (hF : ∀ r < m, ∀ c < a, fk r c = F r (k * a + c)),
      concatenate (⟨2, ![m, n]⟩ : Shape) 1 [⟨⟨2, ![m, a]⟩, (E2 f₀ : _ → EReal)⟩, ⟨⟨2, ![m, a]⟩, E2 f₁⟩,
        ⟨⟨2, ![m, a]⟩, E2 f₂⟩, ⟨⟨2, ![m, a]⟩, E2 f₃⟩] h j = E2 F j := by
    intro k hk fk hlo hhi hxk hF
    have hlt : (j 1).val - k * a < a := by omega
    refine (concatenate_apply_piece 1 [⟨⟨2, ![m, a]⟩, (E2 f₀ : _ → EReal)⟩,
      ⟨⟨2, ![m, a]⟩, E2 f₁⟩, ⟨⟨2, ![m, a]⟩, E2 f₂⟩, ⟨⟨2, ![m, a]⟩, E2 f₃⟩] h j k hk ⟨2, ![m, a]⟩ (E2 fk) hxk rfl (k * a) ?_
      (ValueIdx.ix2 (j 0) ⟨(j 1).val - k * a, hlt⟩)
      (fun b hb => by match b with | ⟨0, _⟩ => rfl | ⟨1, _⟩ => exact absurd rfl hb) ?_).trans ?_
    · match k, hk with
      | 0, _ => simp
      | 1, _ => simp
      | 2, _ => simp; omega
      | 3, _ => simp; omega
    · show k * a + ((j 1).val - k * a) = (j 1).val; omega
    · refine congrArg _ ((hF _ (j 0).isLt _ hlt).trans ?_)
      show F _ (k * a + ((j 1).val - k * a)) = F _ (j 1).val
      congr 1; omega
  by_cases c0 : (j 1).val < a
  · exact key 0 (by omega) f₀ (by omega) (by omega) rfl (by simpa using h₀)
  by_cases c1 : (j 1).val < 2 * a
  · exact key 1 (by omega) f₁ (by omega) (by omega) rfl (by simpa using h₁)
  by_cases c2 : (j 1).val < 3 * a
  · exact key 2 (by omega) f₂ (by omega) (by omega) rfl h₂
  · exact key 3 (by omega) f₃ (by omega) (by omega) rfl h₃
end Layout

/-! ### Sums of products -/

/-- A sum of real numbers, taken among the ideal ones. -/
theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A matrix product over one contracted axis of extent `K`: `G` names the product of the two entries read at row `r`,
    column `c` of the result and position `k` of the contracted axis. -/
theorem matmul_E2 {a b c d m n : ℕ} {φ₁ φ₂ : FTy} (D : DotDims ⟨2, ![a, b]⟩ ⟨2, ![c, d]⟩ ⟨2, ![m, n]⟩) (K : ℕ)
    (hr : D.contr.rank = 1) (hs : D.contr.size ⟨0, by omega⟩ = K) (prec : Option ContractPrecision)
    (f g : ℕ → ℕ → ℝ) (G : ℕ → ℕ → ℕ → ℝ)
    (h : ∀ j k, f (D.lhsIdx j k 0).val (D.lhsIdx j k 1).val * g (D.rhsIdx j k 0).val (D.rhsIdx j k 1).val
      = G (j 0).val (j 1).val (k ⟨0, by omega⟩).val) :
    matmul (F := Ideal) (φ₁ := φ₁) (φ₂ := φ₂) D prec (E2 f) (E2 g) (constant ⟨2, ![m, n]⟩ .f32 0x00000000#32)
      = E2 fun i j => ∑ k ∈ Finset.range K, G i j k := by
  funext j
  show FloatOps.matmul (F := Ideal) (φ₁ := φ₁) (φ₂ := φ₂) D prec (E2 f) (E2 g) (constant _ .f32 0x00000000#32) j = _
  rw [Ideal.matmul_constant_zero_apply, ← Equiv.sum_comp (contrEquiv1 D K hr hs).symm]
  show _ = (((∑ k ∈ Finset.range K, G (j 0).val (j 1).val k : ℝ)) : EReal)
  rw [coe_sum, Finset.sum_range]
  refine Finset.sum_congr rfl fun k _ => ?_
  have := h j ((contrEquiv1 D K hr hs).symm k)
  rw [contrEquiv1_symm_val] at this
  rw [← this, EReal.coe_mul]
  rfl

end Cert.Lift

end
-- ==== Proof.Lift2.lean ====
/- More of what a program's operations make of real entries: vectors and arrays of three axes, sums along an axis,
   reciprocal square roots, constants, and the host program's operations. -/
module

public import proofs.«01_k».proof.Proof.Lift
public import Idealize.ShloMosaic.Lib.IdealHost

@[expose] public section

set_option maxRecDepth 16384

noncomputable section

namespace Cert.Lift

open Idealize.ShloMosaic Idealize.ShloMosaic.ValueIdx

/-- An array of real numbers read among the ideal ones. -/
def R {s : Shape} (f : s.Idx → ℝ) : s.Idx → EReal := fun i => ((f i : ℝ) : EReal)

/-- The vector whose entry at `r` is `f r`. -/
def E1 {m : ℕ} (f : ℕ → ℝ) : (⟨1, ![m]⟩ : Shape).Idx → EReal := R fun i => f (i 0).val

/-- The array of three axes whose entry at `r`, `h`, `c` is `f r h c`. -/
def E3 {m n o : ℕ} (f : ℕ → ℕ → ℕ → ℝ) : (⟨3, ![m, n, o]⟩ : Shape).Idx → EReal := R fun i => f (i 0).val (i 1).val (i 2).val

/-- The array without axes that holds `a`. -/
def E0 (a : ℝ) : (⟨0, ![]⟩ : Shape).Idx → EReal := fun _ => (a : EReal)

section Generic
variable {s : Shape} {φ : FTy} (f g : s.Idx → ℝ)
theorem addf_R : addf (F := Ideal) (s := s) (φ := φ) (R f) (R g) = R fun i => f i + g i := funext fun _ => (EReal.coe_add _ _).symm
theorem subf_R : subf (F := Ideal) (s := s) (φ := φ) (R f) (R g) = R fun i => f i - g i := funext fun _ => (EReal.coe_sub _ _).symm
theorem mulf_R : mulf (F := Ideal) (s := s) (φ := φ) (R f) (R g) = R fun i => f i * g i := funext fun _ => (EReal.coe_mul _ _).symm
theorem hdivf_R (hg : ∀ i, g i ≠ 0) : Host.divf (F := Ideal) (s := s) (φ := φ) (R f) (R g) = R fun i => f i / g i :=
  funext fun i => by
    show Ideal.div ((f _ : ℝ) : EReal) ((g _ : ℝ) : EReal) = _
    rw [Ideal.div_coe (hg _), ← EReal.coe_mul, mul_one_div]; rfl
theorem hrsqrt_R (hf : ∀ i, 0 < f i) : Host.rsqrt (F := Ideal) (s := s) (φ := φ) (R f) = R fun i => (Real.sqrt (f i))⁻¹ :=
  funext fun i => by
    show (if f i < 0 then ⊥ else if f i = 0 then ⊤ else (((Real.sqrt (f i))⁻¹ : ℝ) : EReal)) = _
    rw [if_neg (not_lt.mpr (hf i).le), if_neg (hf i).ne']; rfl
theorem rsqrt_R (hf : ∀ i, 0 < f i) : rsqrt (F := Ideal) (s := s) (φ := φ) (R f) = R fun i => (Real.sqrt (f i))⁻¹ :=
  hrsqrt_R (φ := φ) f hf
theorem hnegf_R : Host.negf (F := Ideal) (s := s) (φ := φ) (R f) = R fun i => - f i := funext fun _ => (EReal.coe_neg _).symm
theorem hexp_R : Host.exp (F := Ideal) (s := s) (φ := φ) (R f) = R fun i => Real.exp (f i) := rfl
end Generic

section Two
variable {m n : ℕ} {φ : FTy} (f g : ℕ → ℕ → ℝ)
theorem hdivf_E2 (hg : ∀ r c, g r c ≠ 0) :
    Host.divf (F := Ideal) (s := Mat m n) (φ := φ) (E2 f) (E2 g) = E2 fun r c => f r c / g r c := hdivf_R _ _ fun _ => hg _ _
theorem hrsqrt_E2 (hf : ∀ r c, 0 < f r c) :
    Host.rsqrt (F := Ideal) (s := Mat m n) (φ := φ) (E2 f) = E2 fun r c => (Real.sqrt (f r c))⁻¹ := hrsqrt_R _ fun _ => hf _ _
theorem rsqrt_E2 (hf : ∀ r c, 0 < f r c) :
    rsqrt (F := Ideal) (s := Mat m n) (φ := φ) (E2 f) = E2 fun r c => (Real.sqrt (f r c))⁻¹ := rsqrt_R _ fun _ => hf _ _
theorem hnegf_E2 : Host.negf (F := Ideal) (s := Mat m n) (φ := φ) (E2 f) = E2 fun r c => - f r c := hnegf_R _
theorem hexp_E2 : Host.exp (F := Ideal) (s := Mat m n) (φ := φ) (E2 f) = E2 fun r c => Real.exp (f r c) := rfl
theorem extf_E2 {ψ : FTy} (h : φ.bits < ψ.bits) : extf (F := Ideal) (s := Mat m n) (φ := φ) ψ (E2 f) h = E2 f := rfl
theorem broadcast_coe (a : ℝ) : broadcast (Mat m n) ((a : ℝ) : EReal) = E2 fun _ _ => a := rfl
theorem splat_E2 (a : ℝ) (h : (⟨0, ![]⟩ : Shape).BroadcastsInDim (Mat m n) ![]) :
    broadcastInDim (Mat m n) ![] h (E0 a) = E2 fun _ _ => a := rfl
end Two

section One
variable {m : ℕ} {φ : FTy} (f g : ℕ → ℝ)
theorem splat_E1 (a : ℝ) (h : (⟨0, ![]⟩ : Shape).BroadcastsInDim ⟨1, ![m]⟩ ![]) :
    broadcastInDim ⟨1, ![m]⟩ ![] h (E0 a) = E1 fun _ => a := rfl
theorem addf_E1 : addf (F := Ideal) (s := ⟨1, ![m]⟩) (φ := φ) (E1 f) (E1 g) = E1 fun r => f r + g r := addf_R _ _
end One

section Three
variable {m n o : ℕ} {φ : FTy} (f g : ℕ → ℕ → ℕ → ℝ)
theorem addf_E3 : addf (F := Ideal) (s := ⟨3, ![m, n, o]⟩) (φ := φ) (E3 f) (E3 g) = E3 fun r h c => f r h c + g r h c := addf_R _ _
theorem subf_E3 : subf (F := Ideal) (s := ⟨3, ![m, n, o]⟩) (φ := φ) (E3 f) (E3 g) = E3 fun r h c => f r h c - g r h c := subf_R _ _
theorem mulf_E3 : mulf (F := Ideal) (s := ⟨3, ![m, n, o]⟩) (φ := φ) (E3 f) (E3 g) = E3 fun r h c => f r h c * g r h c := mulf_R _ _
theorem hdivf_E3 (hg : ∀ r h c, g r h c ≠ 0) :
    Host.divf (F := Ideal) (s := ⟨3, ![m, n, o]⟩) (φ := φ) (E3 f) (E3 g) = E3 fun r h c => f r h c / g r h c :=
  hdivf_R _ _ fun _ => hg _ _ _
theorem hrsqrt_E3 (hf : ∀ r h c, 0 < f r h c) :
    Host.rsqrt (F := Ideal) (s := ⟨3, ![m, n, o]⟩) (φ := φ) (E3 f) = E3 fun r h c => (Real.sqrt (f r h c))⁻¹ := hrsqrt_R _ fun _ => hf _ _ _
theorem splat_E3 (a : ℝ) (h : (⟨0, ![]⟩ : Shape).BroadcastsInDim ⟨3, ![m, n, o]⟩ ![]) :
    broadcastInDim ⟨3, ![m, n, o]⟩ ![] h (E0 a) = E3 fun _ _ _ => a := rfl
end Three

/-! ### Constants -/
section Constants
theorem bits_zero : Ideal.ofBits .f32 0x00000000#32 = ((0 : ℝ) : EReal) := by simp
theorem bits_one : Ideal.ofBits .f32 0x3F800000#32 = ((1 : ℝ) : EReal) := by simp
theorem bits_two : Ideal.ofBits .f32 0x40000000#32 = ((2 : ℝ) : EReal) := by
  simp [Ideal.ofBits, Ideal.ieee, -EReal.coe_mul]; norm_num
theorem bits_neg_half : Ideal.ofBits .f32 0xBF000000#32 = ((-(1 / 2) : ℝ) : EReal) := by
  simp [Ideal.ofBits, Ideal.ieee, -EReal.coe_mul, -EReal.coe_neg]; norm_num
theorem bits_1024 : Ideal.ofBits .f32 0x44800000#32 = ((1024 : ℝ) : EReal) := by
  simp [Ideal.ofBits, Ideal.ieee, -EReal.coe_mul]; norm_num
theorem bits_128 : Ideal.ofBits .f32 0x43000000#32 = ((128 : ℝ) : EReal) := by
  simp [Ideal.ofBits, Ideal.ieee, -EReal.coe_mul]; norm_num
/-- The residual's factor, as its format holds it. -/
def alpha : ℝ := 9975792 / 8388608
theorem bits_alpha : Ideal.ofBits .f32 0x3F9837F0#32 = ((alpha : ℝ) : EReal) := by
  unfold alpha; simp [Ideal.ofBits, Ideal.ieee, -EReal.coe_mul]; norm_num
/-- The layer norm's small number, as its format holds it, -/
def eps5 : ℝ := 10995116 / 1099511627776
theorem bits_eps5 : Ideal.ofBits .f32 0x3727C5AC#32 = ((eps5 : ℝ) : EReal) := by
  unfold eps5; simp [Ideal.ofBits, Ideal.ieee, -EReal.coe_mul]; norm_num
/-- and the root-mean-square norm's. -/
def eps6 : ℝ := 8796093 / 8796093022208
theorem bits_eps6 : Ideal.ofBits .f32 0x358637BD#32 = ((eps6 : ℝ) : EReal) := by
  unfold eps6; simp [Ideal.ofBits, Ideal.ieee, -EReal.coe_mul]; norm_num
theorem eps5_pos : 0 < eps5 := by unfold eps5; norm_num
theorem eps6_pos : 0 < eps6 := by unfold eps6; norm_num
end Constants

theorem scalar_ofBits (w : BitVec 32) : Scalar.ofBits (F := Ideal) .f32 w = Ideal.ofBits .f32 w := rfl
theorem constant_E0 (w : BitVec 32) (a : ℝ) (h : Ideal.ofBits .f32 w = (a : EReal)) :
    constant (F := Ideal) (⟨0, ![]⟩ : Shape) .f32 w = E0 a := funext fun _ => h

/-! ### Between shapes -/
section Shapes
variable {m n o : ℕ}

theorem bid_1_col (f : ℕ → ℝ) (h : (⟨1, ![m]⟩ : Shape).BroadcastsInDim (Mat m n) ![0]) (hm : m ≠ 1) :
    broadcastInDim (Mat m n) ![0] h (E1 f) = E2 fun r _ => f r := funext fun j => by
  rw [broadcastInDim_apply (s := ⟨1, ![m]⟩) (t := Mat m n) ![0] h (E1 f) j (Idealize.ShloMosaic.ix1 (j 0)) (fun a => by
    match a with | ⟨0, _⟩ => simp [hm])]; rfl
theorem bid_1_row (f : ℕ → ℝ) (h : (⟨1, ![n]⟩ : Shape).BroadcastsInDim (Mat m n) ![1]) (hn : n ≠ 1) :
    broadcastInDim (Mat m n) ![1] h (E1 f) = E2 fun _ c => f c := funext fun j => by
  rw [broadcastInDim_apply (s := ⟨1, ![n]⟩) (t := Mat m n) ![1] h (E1 f) j (Idealize.ShloMosaic.ix1 (j 1)) (fun a => by
    match a with | ⟨0, _⟩ => simp [hn])]; rfl
theorem bid_col (f : ℕ → ℕ → ℝ) (h : (Mat m 1).BroadcastsInDim (Mat m n) ![0, 1]) (hm : m ≠ 1) :
    broadcastInDim (Mat m n) ![0, 1] h (E2 f) = E2 fun r _ => f r 0 := funext fun j => by
  rw [broadcastInDim_apply (s := Mat m 1) (t := Mat m n) ![0, 1] h (E2 f) j (Idealize.ShloMosaic.ix2 (j 0) 0) (fun a => by
    match a with | ⟨0, _⟩ => simp [hm] | ⟨1, _⟩ => simp)]; rfl
theorem bid_row (f : ℕ → ℕ → ℝ) (h : (Mat 1 n).BroadcastsInDim (Mat m n) ![0, 1]) (hn : n ≠ 1) :
    broadcastInDim (Mat m n) ![0, 1] h (E2 f) = E2 fun _ c => f 0 c := funext fun j => by
  rw [broadcastInDim_apply (s := Mat 1 n) (t := Mat m n) ![0, 1] h (E2 f) j (Idealize.ShloMosaic.ix2 0 (j 1)) (fun a => by
    match a with | ⟨0, _⟩ => simp | ⟨1, _⟩ => simp [hn])]; rfl
theorem bid_2_3 (f : ℕ → ℕ → ℝ) (h : (Mat m n).BroadcastsInDim ⟨3, ![m, n, o]⟩ ![0, 1]) (hm : m ≠ 1) (hn : n ≠ 1) :
    broadcastInDim ⟨3, ![m, n, o]⟩ ![0, 1] h (E2 f) = E3 fun r k _ => f r k := funext fun j => by
  rw [broadcastInDim_apply (s := Mat m n) (t := ⟨3, ![m, n, o]⟩) ![0, 1] h (E2 f) j (Idealize.ShloMosaic.ix2 (j 0) (j 1)) (fun a => by
    match a with | ⟨0, _⟩ => simp [hm] | ⟨1, _⟩ => simp [hn])]; rfl
theorem bid_3_last (f : ℕ → ℕ → ℕ → ℝ) (h : (⟨3, ![m, n, 1]⟩ : Shape).BroadcastsInDim ⟨3, ![m, n, o]⟩ ![0, 1, 2]) (hm : m ≠ 1) (hn : n ≠ 1) :
    broadcastInDim ⟨3, ![m, n, o]⟩ ![0, 1, 2] h (E3 f) = E3 fun r k _ => f r k 0 := funext fun j => by
  rw [broadcastInDim_apply (s := ⟨3, ![m, n, 1]⟩) (t := ⟨3, ![m, n, o]⟩) ![0, 1, 2] h (E3 f) j (Idealize.ShloMosaic.ix3 (j 0) (j 1) 0) (fun a => by
    match a with | ⟨0, _⟩ => simp [hm] | ⟨1, _⟩ => simp [hn] | ⟨2, _⟩ => simp)]; rfl
theorem bid_1_3 (f : ℕ → ℝ) (h : (⟨1, ![o]⟩ : Shape).BroadcastsInDim ⟨3, ![1, 1, o]⟩ ![2]) (ho : o ≠ 1) :
    broadcastInDim ⟨3, ![1, 1, o]⟩ ![2] h (E1 f) = E3 fun _ _ c => f c := funext fun j => by
  rw [broadcastInDim_apply (s := ⟨1, ![o]⟩) (t := ⟨3, ![1, 1, o]⟩) ![2] h (E1 f) j (Idealize.ShloMosaic.ix1 (j 2)) (fun a => by
    match a with | ⟨0, _⟩ => simp [ho])]; rfl
theorem bid_3_first (f : ℕ → ℕ → ℕ → ℝ) (h : (⟨3, ![1, 1, o]⟩ : Shape).BroadcastsInDim ⟨3, ![m, n, o]⟩ ![0, 1, 2]) (ho : o ≠ 1) :
    broadcastInDim ⟨3, ![m, n, o]⟩ ![0, 1, 2] h (E3 f) = E3 fun _ _ c => f 0 0 c := funext fun j => by
  rw [broadcastInDim_apply (s := ⟨3, ![1, 1, o]⟩) (t := ⟨3, ![m, n, o]⟩) ![0, 1, 2] h (E3 f) j (Idealize.ShloMosaic.ix3 0 0 (j 2)) (fun a => by
    match a with | ⟨0, _⟩ => simp | ⟨1, _⟩ => simp | ⟨2, _⟩ => simp [ho])]; rfl

theorem sc_1_col (f : ℕ → ℝ) (h : (⟨1, ![m]⟩ : Shape).ShapeCasts (Mat m 1)) :
    shapeCast (Mat m 1) (E1 f) h = E2 fun r _ => f r := funext fun j => by
  rw [shapeCast_apply (s := ⟨1, ![m]⟩) (t := Mat m 1) (E1 f) h j (Idealize.ShloMosaic.ix1 (j 0)) (by
    have h1 : (j 1).val < 1 := (j 1).isLt
    simp [Shape.rowMajor_val_one, Shape.rowMajor_val_two]; omega)]; rfl
theorem sc_1_row (f : ℕ → ℝ) (h : (⟨1, ![n]⟩ : Shape).ShapeCasts (Mat 1 n)) :
    shapeCast (Mat 1 n) (E1 f) h = E2 fun _ c => f c := funext fun j => by
  rw [shapeCast_apply (s := ⟨1, ![n]⟩) (t := Mat 1 n) (E1 f) h j (Idealize.ShloMosaic.ix1 (j 1)) (by
    have h0 : (j 0).val = 0 := by have h0 : (j 0).val < 1 := (j 0).isLt; omega
    simp [Shape.rowMajor_val_one, Shape.rowMajor_val_two, h0])]; rfl

theorem sc_row_1 (f : ℕ → ℕ → ℝ) (h : (Mat 1 n).ShapeCasts ⟨1, ![n]⟩) :
    shapeCast ⟨1, ![n]⟩ (E2 f) h = E1 fun c => f 0 c := funext fun j => by
  rw [shapeCast_apply (s := Mat 1 n) (t := ⟨1, ![n]⟩) (E2 f) h j (Idealize.ShloMosaic.ix2 0 (j 0)) (by
    simp [Shape.rowMajor_val_one, Shape.rowMajor_val_two])]; rfl
theorem sc_3_1 (f : ℕ → ℕ → ℕ → ℝ) (h : (⟨3, ![1, 1, n]⟩ : Shape).ShapeCasts ⟨1, ![n]⟩) :
    shapeCast ⟨1, ![n]⟩ (E3 f) h = E1 fun c => f 0 0 c := funext fun j => by
  rw [shapeCast_apply (s := ⟨3, ![1, 1, n]⟩) (t := ⟨1, ![n]⟩) (E3 f) h j (Idealize.ShloMosaic.ix3 0 0 (j 0)) (by
    simp [Shape.rowMajor_val_one, Shape.rowMajor_val_three])]; rfl
theorem sc_1_3 (f : ℕ → ℝ) (h : (⟨1, ![n]⟩ : Shape).ShapeCasts ⟨3, ![1, 1, n]⟩) :
    shapeCast ⟨3, ![1, 1, n]⟩ (E1 f) h = E3 fun _ _ c => f c := funext fun j => by
  rw [shapeCast_apply (s := ⟨1, ![n]⟩) (t := ⟨3, ![1, 1, n]⟩) (E1 f) h j (Idealize.ShloMosaic.ix1 (j 2)) (by
    have h0 : (j 0).val = 0 := by have h0 : (j 0).val < 1 := (j 0).isLt; omega
    have h1 : (j 1).val = 0 := by have h1 : (j 1).val < 1 := (j 1).isLt; omega
    simp [Shape.rowMajor_val_one, Shape.rowMajor_val_three, h0, h1])]; rfl
theorem sc_2_31 (f : ℕ → ℕ → ℝ) (h : (Mat m n).ShapeCasts ⟨3, ![m, n, 1]⟩) :
    shapeCast ⟨3, ![m, n, 1]⟩ (E2 f) h = E3 fun r k _ => f r k := funext fun j => by
  rw [shapeCast_apply (s := Mat m n) (t := ⟨3, ![m, n, 1]⟩) (E2 f) h j (Idealize.ShloMosaic.ix2 (j 0) (j 1)) (by
    have h2 : (j 2).val = 0 := by have h2 : (j 2).val < 1 := (j 2).isLt; omega
    simp [Shape.rowMajor_val_two, Shape.rowMajor_val_three, h2])]; rfl
theorem sc_31_2 (f : ℕ → ℕ → ℕ → ℝ) (h : (⟨3, ![m, n, 1]⟩ : Shape).ShapeCasts (Mat m n)) :
    shapeCast (Mat m n) (E3 f) h = E2 fun r k => f r k 0 := funext fun j => by
  rw [shapeCast_apply (s := ⟨3, ![m, n, 1]⟩) (t := Mat m n) (E3 f) h j (Idealize.ShloMosaic.ix3 (j 0) (j 1) 0) (by
    simp [Shape.rowMajor_val_two, Shape.rowMajor_val_three])]; rfl

/-- The columns of a matrix taken in `n` groups of `o`, -/
theorem split_columns {p : ℕ} (f : ℕ → ℕ → ℝ) (h : (Mat m p).ShapeCasts ⟨3, ![m, n, o]⟩) (hp : p = n * o) :
    shapeCast ⟨3, ![m, n, o]⟩ (E2 f) h = E3 fun r k c => f r (k * o + c) := funext fun j => by
  subst hp
  have h1 : (j 1).val < n := (j 1).isLt
  have h2 : (j 2).val < o := (j 2).isLt
  have hc : (j 1).val * o + (j 2).val < n * o :=
    lt_of_lt_of_le (Nat.add_lt_add_left h2 _) (by rw [← Nat.succ_mul]; exact Nat.mul_le_mul_right _ h1)
  rw [shapeCast_apply (s := Mat m (n * o)) (t := ⟨3, ![m, n, o]⟩) (E2 f) h j (Idealize.ShloMosaic.ix2 (j 0) ⟨_, hc⟩) (by
    simp [Shape.rowMajor_val_two, Shape.rowMajor_val_three, Nat.add_mul, Nat.mul_assoc, Nat.add_assoc])]; rfl
/-- and put side by side again. -/
theorem join_columns {p : ℕ} (f : ℕ → ℕ → ℕ → ℝ) (h : (⟨3, ![m, n, o]⟩ : Shape).ShapeCasts (Mat m p)) (hp : p = n * o) :
    shapeCast (Mat m p) (E3 f) h = E2 fun r c => f r (c / o) (c % o) := funext fun j => by
  subst hp
  have h1 : (j 1).val < n * o := (j 1).isLt
  have ho : 0 < o := Nat.pos_of_ne_zero fun h => by subst h; simp at h1
  have hd : (j 1).val / o < n := Nat.div_lt_of_lt_mul (lt_of_lt_of_eq h1 (Nat.mul_comm _ _))
  rw [shapeCast_apply (s := ⟨3, ![m, n, o]⟩) (t := Mat m (n * o)) (E3 f) h j
    (Idealize.ShloMosaic.ix3 (j 0) ⟨_, hd⟩ ⟨(j 1).val % o, Nat.mod_lt _ ho⟩) (by
    have e : (j 1).val / o * o + (j 1).val % o = (j 1).val := Nat.div_add_mod' _ _
    simp [Shape.rowMajor_val_two, Shape.rowMajor_val_three, Nat.add_mul, Nat.mul_assoc, Nat.add_assoc, e])]; rfl
end Shapes

/-! ### Sums along an axis -/
section Sums
variable {m n o : ℕ}

theorem coe_sum_fin (k : ℕ) (f : ℕ → ℝ) : (∑ i : Fin k, ((f i.val : ℝ) : EReal)) = ((∑ i ∈ Finset.range k, f i : ℝ) : EReal) := by
  rw [Finset.sum_range, coe_sum]

theorem reduces_of {s t : Shape} {axes : List (Fin s.rank)} (h : s.ReducesTo axes t) (ht : 0 < t.rank) : s.Reduces axes t :=
  ⟨h.1, ht, h.2⟩

theorem E0_first {h : 0 < (⟨0, ![]⟩ : Shape).numel} (a : ℝ) : E0 a (Shape.Idx.first h) = (a : EReal) := rfl

theorem rowSum_E1 (f : ℕ → ℕ → ℝ) (h : (Mat m n).Reduces [1] ⟨1, ![m]⟩) (hφ : FKind.Formats .f32)
    (hacc : (0x00000000#32 : BitVec (FTy.bits .f32)) = 0x00000000#32) :
    multiReduction (F := Ideal) .add (no_index [1]) (no_index ⟨1, ![m]⟩) (E2 f) (no_index 0x00000000#32) h hφ hacc = E1 fun r => ∑ k ∈ Finset.range n, f r k := funext fun j =>
  (Ideal.multiReduction_add_single _ _ h hφ hacc j).trans (coe_sum_fin n (fun k => f (j 0).val k))

theorem colSum_E1 (f : ℕ → ℕ → ℝ) (h : (Mat m n).Reduces [0] ⟨1, ![n]⟩) (hφ : FKind.Formats .f32)
    (hacc : (0x00000000#32 : BitVec (FTy.bits .f32)) = 0x00000000#32) :
    multiReduction (F := Ideal) .add (no_index [0]) (no_index ⟨1, ![n]⟩) (E2 f) (no_index 0x00000000#32) h hφ hacc = E1 fun c => ∑ k ∈ Finset.range m, f k c := funext fun j =>
  (Ideal.multiReduction_add_single _ _ h hφ hacc j).trans (coe_sum_fin m (fun k => f k (j 0).val))

theorem hostRowSum_E1 (f : ℕ → ℕ → ℝ) (h : (Mat m n).ReducesTo [1] ⟨1, ![m]⟩) (hu : 0 < (⟨0, ![]⟩ : Shape).numel) :
    Host.reduceAdd (F := Ideal) (φ := .f32) (E2 f) (E0 0) h hu = E1 fun r => ∑ k ∈ Finset.range n, f r k := funext fun j => by
  simp only [Host.reduceAdd, Ideal.hostReduceAdd_def]
  rw [Ideal.hostReduceAdd_single h (reduces_of h (Nat.zero_lt_succ _)), E0_first, EReal.coe_zero, zero_add]
  exact coe_sum_fin n (fun k => f (j 0).val k)

theorem hostColSum_E1 (f : ℕ → ℕ → ℝ) (h : (Mat m n).ReducesTo [0] ⟨1, ![n]⟩) (hu : 0 < (⟨0, ![]⟩ : Shape).numel) :
    Host.reduceAdd (F := Ideal) (φ := .f32) (E2 f) (E0 0) h hu = E1 fun c => ∑ k ∈ Finset.range m, f k c := funext fun j => by
  simp only [Host.reduceAdd, Ideal.hostReduceAdd_def]
  rw [Ideal.hostReduceAdd_single h (reduces_of h (Nat.zero_lt_succ _)), E0_first, EReal.coe_zero, zero_add]
  exact coe_sum_fin m (fun k => f k (j 0).val)

theorem hostLastSum_E2 (f : ℕ → ℕ → ℕ → ℝ) (h : (⟨3, ![m, n, o]⟩ : Shape).ReducesTo [2] (Mat m n)) (hu : 0 < (⟨0, ![]⟩ : Shape).numel) :
    Host.reduceAdd (F := Ideal) (φ := .f32) (E3 f) (E0 0) h hu = E2 fun r k => ∑ c ∈ Finset.range o, f r k c := funext fun j => by
  simp only [Host.reduceAdd, Ideal.hostReduceAdd_def]
  rw [Ideal.hostReduceAdd_single h (reduces_of h (Nat.zero_lt_succ _)), E0_first, EReal.coe_zero, zero_add]
  exact coe_sum_fin o (fun k => f (j 0).val (j 1).val k)

/-- The sum over the first two axes of three. -/
theorem hostFirstSum_E1 (f : ℕ → ℕ → ℕ → ℝ) (h : (⟨3, ![m, n, o]⟩ : Shape).ReducesTo [0, 1] ⟨1, ![o]⟩) (hu : 0 < (⟨0, ![]⟩ : Shape).numel) :
    Host.reduceAdd (F := Ideal) (φ := .f32) (E3 f) (E0 0) h hu
      = E1 fun c => ∑ r ∈ Finset.range m, ∑ k ∈ Finset.range n, f r k c := funext fun j => by
  simp only [Host.reduceAdd, Ideal.hostReduceAdd_def]
  unfold Ideal.hostReduceAdd
  rw [E0_first, EReal.coe_zero, zero_add]
  show _ = ((∑ r ∈ Finset.range m, ∑ k ∈ Finset.range n, f r k (j 0).val : ℝ) : EReal)
  rw [← coe_sum_fin m (fun r => ∑ k ∈ Finset.range n, f r k (j 0).val)]
  simp only [← coe_sum_fin]
  rw [← Finset.sum_product' (Finset.univ : Finset (Fin m)) (Finset.univ : Finset (Fin n))
    (fun r k => ((f r.val k.val (j 0).val : ℝ) : EReal))]
  have hd (i : (⟨3, ![m, n, o]⟩ : Shape).Idx) : h.drop i = j ↔ (i 2).val = (j 0).val := by
    have hv : (h.drop i 0 : ℕ) = i 2 := rfl
    refine ⟨fun e => by rw [← e]; exact hv.symm, fun e => funext fun b => ?_⟩
    match b with
    | ⟨0, _⟩ => exact Fin.ext (hv.trans e)
  refine Finset.sum_bij' (fun i _ => (i 0, i 1)) (fun q _ => Idealize.ShloMosaic.ix3 q.1 q.2 (j 0)) ?_ ?_ ?_ ?_ ?_
  · intros; simp
  · intro q _; simp [hd]
  · intro i hi
    have e := (hd i).1 (Finset.mem_filter.1 hi).2
    funext a
    match a with
    | ⟨0, _⟩ => rfl
    | ⟨1, _⟩ => rfl
    | ⟨2, _⟩ => exact Fin.ext e.symm
  · intros; rfl
  · intro i hi
    have e := (hd i).1 (Finset.mem_filter.1 hi).2
    show ((f (i 0).val (i 1).val (i 2).val : ℝ) : EReal) = ((f (i 0).val (i 1).val (j 0).val : ℝ) : EReal)
    rw [e]
end Sums

/-! ### The columns of a matrix, dealt between two and four heads -/

/-- The column that column `c` comes from when the columns, taken as two by four groups of 64, are put in four by two. -/
def dealt (c : ℕ) : ℕ := c % 128 / 64 * 256 + c / 128 * 64 + c % 64

theorem deal_columns (f : ℕ → ℕ → ℝ) (h : (Mat 4224 512).ShapeCasts ⟨4, ![4224, 2, 4, 64]⟩)
    (ht : (⟨4, ![4224, 2, 4, 64]⟩ : Shape).Transposes [0, 2, 1, 3] ⟨4, ![4224, 4, 2, 64]⟩)
    (h' : (⟨4, ![4224, 4, 2, 64]⟩ : Shape).ShapeCasts (Mat 4224 512)) :
    shapeCast (Mat 4224 512) (transpose ⟨4, ![4224, 4, 2, 64]⟩ [0, 2, 1, 3] (shapeCast ⟨4, ![4224, 2, 4, 64]⟩ (E2 f) h) ht) h'
      = E2 fun r c => f r (dealt c) := funext fun j => by
  have h0 : (j 0).val < 4224 := (j 0).isLt
  have h1 : (j 1).val < 512 := (j 1).isLt
  rw [shapeCast_apply (s := ⟨4, ![4224, 4, 2, 64]⟩) (t := Mat 4224 512) _ h' j
      (Idealize.ShloMosaic.ix4 (j 0) ⟨(j 1).val / 128, by omega⟩ ⟨(j 1).val % 128 / 64, by omega⟩ ⟨(j 1).val % 64, by omega⟩) (by
        simp [Shape.rowMajor_val_two, Shape.rowMajor_val_four]; omega),
    transpose_apply (s := ⟨4, ![4224, 2, 4, 64]⟩) (t := ⟨4, ![4224, 4, 2, 64]⟩) _ _ ht _
      (Idealize.ShloMosaic.ix4 (j 0) ⟨(j 1).val % 128 / 64, by omega⟩ ⟨(j 1).val / 128, by omega⟩ ⟨(j 1).val % 64, by omega⟩) (fun b => by
        match b with | ⟨0, _⟩ => rfl | ⟨1, _⟩ => rfl | ⟨2, _⟩ => rfl | ⟨3, _⟩ => rfl),
    shapeCast_apply (s := Mat 4224 512) (t := ⟨4, ![4224, 2, 4, 64]⟩) _ h _
      (Idealize.ShloMosaic.ix2 (j 0) ⟨dealt (j 1).val, by unfold dealt; omega⟩) (by
        simp [Shape.rowMajor_val_two, Shape.rowMajor_val_four, dealt]; omega)]
  rfl

end Cert.Lift

end
-- ==== Proof.Finite.lean ====
/- Arrays of finite numbers are arrays of real numbers: what the precondition's check of an array says of it. -/
module

public import proofs.«01_k».proof.Proof.Lift2
public import Idealize.ShloMosaic.Lib.ReduceAll

@[expose] public section

noncomputable section

namespace Cert.Lift

open Idealize.ShloMosaic

theorem real_of_below (x : EReal) (h : Ideal.cmp .olt (max x (-x)) (Ideal.ofBits .f32 0x7F800000#32) = 1#1) : ∃ a : ℝ, x = a := by
  have ht : Ideal.ofBits .f32 0x7F800000#32 = ⊤ := by simp [Ideal.ofBits, Ideal.ieee]
  rw [ht] at h
  induction x using EReal.rec with
  | bot => simp [Ideal.cmp] at h
  | top => simp [Ideal.cmp] at h
  | coe a => exact ⟨a, rfl⟩

/-- The check of one array: every element's magnitude is below infinity. -/
theorem real_of_check {s : Shape} (x : s.Idx → EReal) (hb : (⟨0, ![]⟩ : Shape).BroadcastsInDim s ![]) {axes : List (Fin s.rank)}
    (hr : s.ReducesTo axes ⟨0, ![]⟩) (hu : 0 < (⟨0, ![]⟩ : Shape).numel) (j : (⟨0, ![]⟩ : Shape).Idx)
    (h : Host.reduce IntOp.andi (cmpf (F := Ideal) (φ := .f32) .olt (Host.absf (F := Ideal) (φ := .f32) x)
      (broadcastInDim s ![] hb (constant (F := Ideal) ⟨0, ![]⟩ .f32 0x7F800000#32))) (constantI ⟨0, ![]⟩ 1 1#1) hr hu j = 1#1) (i : s.Idx) :
    ∃ a : ℝ, x i = a := by
  haveI : Subsingleton ((⟨0, ![]⟩ : Shape).Idx) := ⟨fun a b => funext fun k => k.elim0⟩
  exact real_of_below _ (Host.reduce_andi_all _ _ hr hu j h i)

theorem exists_E1 {m : ℕ} (x : (⟨1, ![m]⟩ : Shape).Idx → EReal) (h : ∀ i, ∃ a : ℝ, x i = a) : ∃ f, x = E1 f := by
  choose g hg using h
  refine ⟨fun r => if hr : r < m then g (ix1 ⟨r, hr⟩) else 0, funext fun i => ?_⟩
  show x i = (((if hr : (i 0).val < m then g (ix1 ⟨(i 0).val, hr⟩) else 0 : ℝ)) : EReal)
  rw [dif_pos (show (i 0).val < m from (i 0).isLt), hg i]
  congr 2
  funext a
  match a with | ⟨0, _⟩ => rfl

theorem exists_E2 {m n : ℕ} (x : (Mat m n).Idx → EReal) (h : ∀ i, ∃ a : ℝ, x i = a) : ∃ f, x = E2 f := by
  choose g hg using h
  refine ⟨fun r c => if hr : r < m ∧ c < n then g (ix2 ⟨r, hr.1⟩ ⟨c, hr.2⟩) else 0, funext fun i => ?_⟩
  show x i = (((if hr : (i 0).val < m ∧ (i 1).val < n then g (ix2 ⟨(i 0).val, hr.1⟩ ⟨(i 1).val, hr.2⟩) else 0 : ℝ)) : EReal)
  rw [dif_pos (show (i 0).val < m ∧ (i 1).val < n from ⟨(i 0).isLt, (i 1).isLt⟩), hg i]
  congr 2
  funext a
  match a with
  | ⟨0, _⟩ => rfl
  | ⟨1, _⟩ => rfl

end Cert.Lift

end
-- ==== Proof.Back.lean ====
/- The backward pass from the feed-forward block's gate and up products to the attention's two outputs, in real numbers,
   as the kernel takes it row by row: the cotangent `dh` of the first norm's output, that norm's gradient `dpre`, its product
   `dmix` with the output projection, and per head of 128 columns the gradients of the gated root-mean-square norm. -/
module

public import proofs.«01_k».proof.Proof.Lift2

@[expose] public section

noncomputable section

namespace Cert.Back

open Cert.Lift Finset

/-- What the pass reads: three cotangents, the saved input of the first norm, the two weights and the norm's gain, the output
    projection, and the recurrence's output, its gate and that norm's gain. -/
structure Data where
  dp : ℕ → ℕ → ℝ
  dg : ℕ → ℕ → ℝ
  du : ℕ → ℕ → ℝ
  pr : ℕ → ℕ → ℝ
  wg : ℕ → ℕ → ℝ
  wu : ℕ → ℕ → ℝ
  g1 : ℕ → ℝ
  wo : ℕ → ℕ → ℝ
  og : ℕ → ℕ → ℝ
  rg : ℕ → ℕ → ℝ
  gn : ℕ → ℝ

/-- The same with the rows counted from row `s`. -/
def Data.from (d : Data) (s : ℕ) : Data :=
  { d with dp := fun r => d.dp (s + r), dg := fun r => d.dg (s + r), du := fun r => d.du (s + r), pr := fun r => d.pr (s + r),
           og := fun r => d.og (s + r), rg := fun r => d.rg (s + r) }

variable (d : Data)

/-! ### The first norm -/
def dh (r c : ℕ) : ℝ := alpha * d.dp r c + ∑ k ∈ range 2816, d.dg r k * d.wg c k + ∑ k ∈ range 2816, d.du r k * d.wu c k
def mean (r : ℕ) : ℝ := (∑ k ∈ range 1024, d.pr r k) / 1024
def xc (r c : ℕ) : ℝ := d.pr r c - mean d r
def var (r : ℕ) : ℝ := (∑ k ∈ range 1024, xc d r k * xc d r k) / 1024 + eps5
def rs (r : ℕ) : ℝ := (Real.sqrt (var d r))⁻¹
def xh (r c : ℕ) : ℝ := xc d r c * rs d r
def dxh (r c : ℕ) : ℝ := dh d r c * d.g1 c
def dpre (r c : ℕ) : ℝ :=
  rs d r * (dxh d r c - (∑ k ∈ range 1024, dxh d r k) / 1024 - xh d r c * ((∑ k ∈ range 1024, dxh d r k * xh d r k) / 1024))

/-! ### The output projection and the gated norm of each head -/
def dmix (r c : ℕ) : ℝ := ∑ k ∈ range 1024, dpre d r k * d.wo c k
def vr (r h : ℕ) : ℝ := (∑ k ∈ range 128, d.og r (h * 128 + k) * d.og r (h * 128 + k)) / 128 + eps6
def rr (r h : ℕ) : ℝ := (Real.sqrt (vr d r h))⁻¹
def nx (r h c : ℕ) : ℝ := d.og r (h * 128 + c) * rr d r h
def sg (r c : ℕ) : ℝ := 1 / (1 + Real.exp (0 - d.rg r c))
def dgate (r h c : ℕ) : ℝ :=
  dmix d r (512 + (h * 128 + c)) * (nx d r h c * d.gn c)
    * (sg d r (h * 128 + c) * (1 + d.rg r (h * 128 + c) * (1 - sg d r (h * 128 + c))))
def dn (r h c : ℕ) : ℝ := dmix d r (512 + (h * 128 + c)) * (d.rg r (h * 128 + c) * sg d r (h * 128 + c))
def dnh (r h c : ℕ) : ℝ := dn d r h c * d.gn c
def dgla (r h c : ℕ) : ℝ := rr d r h * (dnh d r h c - nx d r h c * ((∑ k ∈ range 128, dnh d r h k * nx d r h k) / 128))

theorem var_pos (r : ℕ) : 0 < var d r :=
  add_pos_of_nonneg_of_pos (div_nonneg (sum_nonneg fun _ _ => mul_self_nonneg _) (by norm_num)) eps5_pos
theorem vr_pos (r h : ℕ) : 0 < vr d r h :=
  add_pos_of_nonneg_of_pos (div_nonneg (sum_nonneg fun _ _ => mul_self_nonneg _) (by norm_num)) eps6_pos

end Cert.Back

end
-- ==== Proof.BackPay.lean ====
/- The kernel's payloads at real entries: each is the formula of `Back` that it computes. -/
module

public import proofs.«01_k».proof.Proof.Gen.Kernel2Ideal.Skeleton
public import proofs.«01_k».proof.Proof.Back
public import Idealize.ShloMosaic.Lib.Pipeline.ValueKit.Acc

@[expose] public section

set_option maxRecDepth 16384

noncomputable section

namespace Cert.Back

open Cert.Lift Cert.Kernel2Ideal Cert.Kernel2Ideal.Gen Idealize.ShloMosaic Idealize.ShloMosaic.TcCoe Idealize.SL.Sem Finset

variable (d : Data)

theorem ld_E2 {m n p q : ℕ} (f : ℕ → ℕ → ℝ) (o : ℕ)
    (h : ∀ a, ![0, o] a + ![m, n] a ≤ (Mat p q).size a) :
    View.ld (Val := Elt Ideal) (S := Mat p q) (e' := .f32) (E2 f) (Rect.unit (s := Mat p q) ![0, o] ![m, n] h) = (E2 (m := m) (n := n) fun r c => f r (o + c)) := by
  funext j
  show ((f _ _ : ℝ) : EReal) = ((f _ _ : ℝ) : EReal)
  simp

theorem divf_lit {m n : ℕ} (f : ℕ → ℕ → ℝ) (a : ℝ) (ha : a ≠ 0) :
    divf (F := Ideal) (s := Mat m n) (φ := .f32) (E2 f) (E2 fun _ _ => a) = E2 fun r c => f r c / a := divf_E2 _ _ fun _ _ => ha
theorem sigmoid_E2 {m n : ℕ} (f : ℕ → ℕ → ℝ) :
    divf (F := Ideal) (s := Mat m n) (φ := .f32) (E2 fun _ _ => 1) (E2 fun r c => 1 + Real.exp (f r c))
      = E2 fun r c => 1 / (1 + Real.exp (f r c)) := divf_E2 _ _ fun _ _ => by positivity

theorem wide_mm (f g : ℕ → ℕ → ℝ) : matmul (F := Ideal) (φ₁ := .bf16) (φ₂ := .bf16) dot_S384x2816_S2816x1024_S384x1024_1_0_0_1_n_n none (E2 f) (E2 g)
    (constant S384x1024 .f32 0x00000000#32) = E2 fun r c => ∑ k ∈ range 2816, f r k * g k c :=
  matmul_E2 _ 2816 rfl rfl none f g _ fun _ _ => rfl
theorem turned_mm (f g : ℕ → ℕ → ℝ) : matmul (F := Ideal) (φ₁ := .bf16) (φ₂ := .bf16) dot_S384x1024_S1024x1024_S384x1024_1_1_0_0_n_n none (E2 f) (E2 g)
    (constant S384x1024 .f32 0x00000000#32) = E2 fun r c => ∑ k ∈ range 1024, f r k * g c k :=
  matmul_E2 _ 1024 rfl rfl none f g _ fun _ _ => rfl

theorem pay8_eq : k0_pay8 (F := Ideal) (E2 d.dp) (E2 d.dg) (E2 fun r c => d.wg c r) (E2 d.du) (E2 fun r c => d.wu c r) = E2 (dh d) := by
  simp only [k0_pay8, shapeCast_self_E2, scalar_ofBits, bits_alpha, broadcast_coe, mulf_E2, addf_E2, wide_mm]
  rfl

theorem pay9_eq : k0_pay9 (F := Ideal) (E2 d.pr) = E2 (xc d) := by
  simp only [k0_pay9, rowSum_E1, sc_1_col, scalar_ofBits, bits_1024, broadcast_coe, divf_lit _ 1024 (by norm_num)]
  rw [column_E2 (hm := by decide), subf_E2]
  rfl

theorem pay10_eq : k0_pay10 (F := Ideal) (E2 d.pr) = E2 fun r _ => rs d r := by
  simp only [k0_pay10, pay9_eq, mulf_E2, rowSum_E1, sc_1_col, scalar_ofBits, bits_1024, bits_eps5, broadcast_coe, divf_lit _ 1024 (by norm_num),
    addf_E2]
  exact rsqrt_E2 _ fun r _ => var_pos d r

theorem pay11_eq : k0_pay11 (F := Ideal) (E2 d.pr) = E2 (xh d) := by
  simp only [k0_pay11, pay9_eq, pay10_eq]
  rw [column_E2 (hm := by decide), mulf_E2]
  rfl

theorem pay12_eq : k0_pay12 (F := Ideal) (E2 (dh d)) (E2 fun r _ => rs d r) (E2 (xh d)) (E2 fun _ c => d.g1 c) = E2 (dpre d) := by
  simp only [k0_pay12, shapeCast_self_E2, row_E2 (hn := show 1024 ≠ 1 by decide), column_E2 (hm := show 384 ≠ 1 by decide), mulf_E2, subf_E2, rowSum_E1, sc_1_col,
    scalar_ofBits, bits_1024, broadcast_coe, divf_lit _ 1024 (by norm_num)]
  rfl

/-- The rows' gradient times the output projection. -/
theorem mix_eq : k0_pay17 (F := Ideal) (E2 (dpre d)) (k0_pay16 (E2 d.wo)) = E2 (dmix d) := by
  simp only [k0_pay16, k0_pay17, shapeCast_self_E2, truncf_E2, turned_mm]
  rfl

/-- The sums a point adds to the norm's two gradients. -/
theorem pay14_eq (f : ℕ → ℕ → ℝ) : k0_pay14 (F := Ideal) (E2 (dh d)) (E2 (xh d)) (E2 f)
    = E2 fun r c => f r c + ∑ k ∈ range 384, dh d k c * xh d k c := by
  simp only [k0_pay14, shapeCast_self_E2, mulf_E2, colSum_E1, sc_1_row, addf_E2]
theorem pay15_eq (f : ℕ → ℕ → ℝ) : k0_pay15 (F := Ideal) (E2 (dh d)) (E2 f) = E2 fun r c => f r c + ∑ k ∈ range 384, dh d k c := by
  simp only [k0_pay15, shapeCast_self_E2, colSum_E1, sc_1_row, addf_E2]
theorem pay5_eq : k0_pay5 (F := Ideal) = E2 fun _ _ => 0 := by
  simp only [k0_pay5, scalar_ofBits, bits_zero, broadcast_coe, shapeCast_self_E2]
theorem pay7_eq : k0_pay7 (F := Ideal) = E2 fun _ _ => 0 := by
  simp only [k0_pay7, scalar_ofBits, bits_zero, broadcast_coe, shapeCast_self_E2]

/-! ### One head -/
section Head
variable (h : ℕ)

theorem pay27_eq : k0_pay27 (F := Ideal) (E2 fun r c => d.og r (h * 128 + c)) = E2 fun r _ => rr d r h := by
  simp only [k0_pay27, mulf_E2, rowSum_E1, sc_1_col, scalar_ofBits, bits_128, bits_eps6, broadcast_coe, divf_lit _ 128 (by norm_num), addf_E2]
  exact rsqrt_E2 _ fun r _ => vr_pos d r h

theorem pay28_eq : k0_pay28 (F := Ideal) (E2 fun r c => d.og r (h * 128 + c)) = E2 fun r c => nx d r h c := by
  simp only [k0_pay28, pay27_eq]
  rw [column_E2 (hm := by decide), mulf_E2]
  rfl

theorem pay29_eq : k0_pay29 (F := Ideal) (E2 fun r c => d.rg r (h * 128 + c)) = E2 fun r c => sg d r (h * 128 + c) := by
  simp only [k0_pay29, scalar_ofBits, bits_zero, bits_one, broadcast_coe, subf_E2, exp_E2, addf_E2, sigmoid_E2]
  rfl

theorem pay42_eq : k0_pay42 (F := Ideal) (E2 fun r c => d.rg r (h * 128 + c)) (E2 fun r c => sg d r (h * 128 + c))
    (E2 fun r c => dmix d r (512 + (h * 128 + c))) = E2 fun r c => dn d r h c := by
  simp only [k0_pay42, mulf_E2]
  rfl

/-- The gate's gradient, -/
theorem gate_eq : k0_pay41 (F := Ideal) (E2 fun r c => d.rg r (h * 128 + c)) (E2 fun r c => sg d r (h * 128 + c))
    (mulf (E2 fun r c => dmix d r (512 + (h * 128 + c))) (mulf (E2 fun r c => nx d r h c)
      (broadcastTo S384x128 (E2 fun _ c => d.gn c : FVec Ideal S1x128 .f32) broadcasts_S1x128_S384x128)))
      = E2 fun r c => dgate d r h c := by
  simp only [k0_pay41, row_E2 (hn := show 128 ≠ 1 by decide), scalar_ofBits, bits_one, broadcast_coe, subf_E2, addf_E2, mulf_E2, shapeCast_self_E2]
  rfl

/-- what the head adds to the gain's, -/
theorem gain_eq (f : ℕ → ℕ → ℝ) : k0_pay43 (F := Ideal) (E2 fun r c => nx d r h c) (E2 fun r c => d.rg r (h * 128 + c))
    (E2 fun r c => sg d r (h * 128 + c)) (E2 fun r c => dmix d r (512 + (h * 128 + c))) (E2 f)
      = E2 fun r c => f r c + ∑ k ∈ range 384, dn d k h c * nx d k h c := by
  simp only [k0_pay43, pay42_eq, mulf_E2, colSum_E1, sc_1_row, addf_E2, shapeCast_self_E2]

/-- and the recurrence output's. -/
theorem gla_eq : k0_pay44 (F := Ideal) (E2 fun _ c => d.gn c) (E2 fun r _ => rr d r h) (E2 fun r c => nx d r h c)
    (E2 fun r c => d.rg r (h * 128 + c)) (E2 fun r c => sg d r (h * 128 + c)) (E2 fun r c => dmix d r (512 + (h * 128 + c)))
      = E2 fun r c => dgla d r h c := by
  simp only [k0_pay44, pay42_eq, row_E2 (hn := show 128 ≠ 1 by decide), column_E2 (hm := show 384 ≠ 1 by decide), mulf_E2, subf_E2, rowSum_E1,
    sc_1_col, scalar_ofBits, bits_128, broadcast_coe, divf_lit _ 128 (by norm_num), shapeCast_self_E2]
  rfl
end Head

end Cert.Back

end
-- ==== Proof.BackHead.lean ====
/- One head of the gated norm: whichever of the four heads' payloads, it is the first head's text at that head's columns. -/
module

public import proofs.«01_k».proof.Proof.BackPay

@[expose] public section

set_option maxRecDepth 16384

noncomputable section

namespace Cert.Back

open Cert.Lift Cert.Kernel2Ideal Cert.Kernel2Ideal.Gen Idealize.ShloMosaic Idealize.ShloMosaic.TcCoe Idealize.SL.Sem Finset

variable (d : Data) (h : ℕ)

/-- The columns of head `h` in the recurrence's output, in its gate, and in the cotangent's second half. -/
abbrev ogOf : Vec Ideal S384x128 .f32 := E2 fun r c => d.og r (h * 128 + c)
abbrev rgOf : Vec Ideal S384x128 .f32 := E2 fun r c => d.rg r (h * 128 + c)
abbrev dmOf : Vec Ideal S384x128 .f32 := E2 fun r c => dmix d r (512 + (h * 128 + c))
abbrev gnOf : Vec Ideal S1x128 .f32 := E2 fun _ c => d.gn c

theorem gate_head {X : Vec Ideal S1x128 .f32} (hX : X = gnOf d) {D : Vec Ideal S384x128 .f32} (hD : D = dmOf d h) :
    k0_pay41 (F := Ideal) (rgOf d h) (k0_pay29 (rgOf d h)) (mulf D (mulf (k0_pay28 (ogOf d h)) (broadcastTo S384x128 X broadcasts_S1x128_S384x128)))
      = E2 fun r c => dgate d r h c := by
  subst hX hD
  rw [pay28_eq, pay29_eq]
  exact gate_eq d h

theorem gain_head {D : Vec Ideal S384x128 .f32} (hD : D = dmOf d h) {A : Vec Ideal S1x128 .f32} {f : ℕ → ℕ → ℝ} (hA : A = E2 f) :
    k0_pay43 (F := Ideal) (k0_pay28 (ogOf d h)) (rgOf d h) (k0_pay29 (rgOf d h)) D A
      = E2 fun r c => f r c + ∑ k ∈ range 384, dn d k h c * nx d k h c := by
  subst hA hD
  rw [pay28_eq, pay29_eq]
  exact gain_eq d h f

theorem gla_head {X : Vec Ideal S1x128 .f32} (hX : X = gnOf d) {D : Vec Ideal S384x128 .f32} (hD : D = dmOf d h) :
    k0_pay44 (F := Ideal) X (k0_pay27 (ogOf d h)) (k0_pay28 (ogOf d h)) (rgOf d h) (k0_pay29 (rgOf d h)) D
      = E2 fun r c => dgla d r h c := by
  subst hX hD
  rw [pay27_eq, pay28_eq, pay29_eq]
  exact gla_eq d h

theorem pay26_eq : k0_pay26 (F := Ideal) (gnOf d) = gnOf d := by simp only [k0_pay26, shapeCast_self_E2]
theorem part0 : k0_pay30 (F := Ideal) (E2 (dmix d)) = dmOf d 0 := by
  rw [k0_pay30, slice_E2]; exact E2_congr fun r c _ _ => by congr 1 <;> omega
theorem part1 : k0_pay39 (F := Ideal) (E2 (dmix d)) = dmOf d 1 := by
  rw [k0_pay39, slice_E2]; exact E2_congr fun r c _ _ => by congr 1 <;> omega
theorem part2 : k0_pay50 (F := Ideal) (E2 (dmix d)) = dmOf d 2 := by
  rw [k0_pay50, slice_E2]; exact E2_congr fun r c _ _ => by congr 1 <;> omega
theorem part3 : k0_pay60 (F := Ideal) (E2 (dmix d)) = dmOf d 3 := by
  rw [k0_pay60, slice_E2]; exact E2_congr fun r c _ _ => by congr 1 <;> omega

/-- The cotangent of the mixed rows, from what the pass reads. -/
theorem rows_eq : k0_pay17 (F := Ideal) (k0_pay12 (k0_pay8 (E2 d.dp) (E2 d.dg) (E2 fun r c => d.wg c r) (E2 d.du) (E2 fun r c => d.wu c r))
    (k0_pay10 (E2 d.pr)) (k0_pay11 (E2 d.pr)) (E2 fun _ c => d.g1 c)) (k0_pay16 (E2 d.wo)) = E2 (dmix d) := by
  rw [pay8_eq, pay10_eq, pay11_eq, pay12_eq, mix_eq]
theorem pay13_eq : k0_pay13 (F := Ideal) (E2 (dh d)) (E2 fun r _ => rs d r) (E2 (xh d)) (E2 fun _ c => d.g1 c) = E2 (dpre d) := by
  rw [k0_pay13, pay12_eq, shapeCast_self_E2]
theorem pay6_eq : k0_pay6 (F := Ideal) = E2 fun _ _ => 0 := pay5_eq

/-! The eight strips of the first half, as they are stored. -/
theorem pay18_eq : k0_pay18 (F := Ideal) (E2 (dpre d)) (k0_pay16 (E2 d.wo)) = E2 fun r c => dmix d r (0 + c) := by
  rw [k0_pay18, mix_eq, slice_E2, shapeCast_self_E2]; simp only [Nat.zero_add]
theorem pay19_eq : k0_pay19 (F := Ideal) (E2 (dpre d)) (k0_pay16 (E2 d.wo)) = E2 fun r c => dmix d r (256 + c) := by
  rw [k0_pay19, mix_eq, slice_E2, shapeCast_self_E2]; simp only [Nat.zero_add]
theorem pay20_eq : k0_pay20 (F := Ideal) (E2 (dpre d)) (k0_pay16 (E2 d.wo)) = E2 fun r c => dmix d r (64 + c) := by
  rw [k0_pay20, mix_eq, slice_E2, shapeCast_self_E2]; simp only [Nat.zero_add]
theorem pay21_eq : k0_pay21 (F := Ideal) (E2 (dpre d)) (k0_pay16 (E2 d.wo)) = E2 fun r c => dmix d r (320 + c) := by
  rw [k0_pay21, mix_eq, slice_E2, shapeCast_self_E2]; simp only [Nat.zero_add]
theorem pay22_eq : k0_pay22 (F := Ideal) (E2 (dpre d)) (k0_pay16 (E2 d.wo)) = E2 fun r c => dmix d r (128 + c) := by
  rw [k0_pay22, mix_eq, slice_E2, shapeCast_self_E2]; simp only [Nat.zero_add]
theorem pay23_eq : k0_pay23 (F := Ideal) (E2 (dpre d)) (k0_pay16 (E2 d.wo)) = E2 fun r c => dmix d r (384 + c) := by
  rw [k0_pay23, mix_eq, slice_E2, shapeCast_self_E2]; simp only [Nat.zero_add]
theorem pay24_eq : k0_pay24 (F := Ideal) (E2 (dpre d)) (k0_pay16 (E2 d.wo)) = E2 fun r c => dmix d r (192 + c) := by
  rw [k0_pay24, mix_eq, slice_E2, shapeCast_self_E2]; simp only [Nat.zero_add]
theorem pay25_eq : k0_pay25 (F := Ideal) (E2 (dpre d)) (k0_pay16 (E2 d.wo)) = E2 fun r c => dmix d r (448 + c) := by
  rw [k0_pay25, mix_eq, slice_E2, shapeCast_self_E2]; simp only [Nat.zero_add]

/-! The recurrence output's gradient of each head, in that head's own payloads. -/
theorem gla0 : k0_pay35 (F := Ideal) (gnOf d) (k0_pay27 (ogOf d 0)) (k0_pay28 (ogOf d 0)) (k0_pay32 (E2 (dmix d)) (rgOf d 0)) = E2 fun r c => dgla d r 0 c := by
  rw [← gla_head d 0 rfl (part0 d), k0_pay35, k0_pay44, k0_pay32, k0_pay42]
theorem gla1 : k0_pay44 (F := Ideal) (gnOf d) (k0_pay36 (ogOf d 1)) (k0_pay37 (ogOf d 1)) (rgOf d 1) (k0_pay38 (rgOf d 1)) (k0_pay39 (E2 (dmix d)))
    = E2 fun r c => dgla d r 1 c := by
  rw [← gla_head d 1 rfl (part1 d)]; rfl
theorem gla2 : k0_pay56 (F := Ideal) (k0_pay47 (k0_pay45 (ogOf d 2)) k0_pay46) (k0_pay48 (ogOf d 2) (k0_pay45 (ogOf d 2)) k0_pay46)
    (k0_pay54 (E2 (dmix d)) (gnOf d) (rgOf d 2)) (k0_pay55 (E2 (dmix d)) (gnOf d) (ogOf d 2) (k0_pay45 (ogOf d 2)) k0_pay46 (rgOf d 2))
    = E2 fun r c => dgla d r 2 c := by
  rw [← gla_head d 2 rfl (part2 d), k0_pay56, k0_pay44, k0_pay55, k0_pay54, k0_pay52, k0_pay42]; rfl
theorem gla3 : k0_pay4 (F := Ideal) (gnOf d) (k0_pay57 (ogOf d 3)) (k0_pay58 (ogOf d 3)) (rgOf d 3) (k0_pay59 (rgOf d 3)) (k0_pay60 (E2 (dmix d)))
    = E2 fun r c => dgla d r 3 c := by
  rw [← gla_head d 3 rfl (part3 d)]; rfl

/-! The gate's gradient likewise. -/
theorem gate0 : k0_pay31 (F := Ideal) (E2 (dmix d)) (gnOf d) (ogOf d 0) (rgOf d 0) = E2 fun r c => dgate d r 0 c := by
  rw [← gate_head d 0 (pay26_eq d) (part0 d), k0_pay31, k0_pay41]
theorem gate1 : k0_pay41 (F := Ideal) (rgOf d 1) (k0_pay38 (rgOf d 1)) (k0_pay40 (E2 (dmix d)) (gnOf d) (ogOf d 1)) = E2 fun r c => dgate d r 1 c := by
  rw [← gate_head d 1 rfl (part1 d)]; rfl
theorem gate2 : k0_pay51 (F := Ideal) (E2 (dmix d)) (gnOf d) (ogOf d 2) (k0_pay45 (ogOf d 2)) k0_pay46 (rgOf d 2) = E2 fun r c => dgate d r 2 c := by
  rw [← gate_head d 2 rfl (part2 d), k0_pay51, k0_pay41]; rfl
theorem gate3 : k0_pay1 (F := Ideal) (k0_pay61 (E2 (dmix d)) (gnOf d) (ogOf d 3) (rgOf d 3)) = E2 fun r c => dgate d r 3 c := by
  rw [← gate_head d 3 rfl (part3 d), k0_pay1, k0_pay61, k0_pay41]; rfl

end Cert.Back

end
-- ==== Proof.BackBlock.lean ====
/- What one grid point leaves in each output's buffer, at real entries: the formulas of `Back` on the point's rows, and for the
   three gradients summed over rows what the point before left plus the point's own rows. -/
module

public import proofs.«01_k».proof.Proof.BackHead
public import proofs.«01_k».proof.Proof.Gen.Kernel2Ideal.Value
public import Idealize.ShloMosaic.Lib.Pipeline.ValueKit.Acc

@[expose] public section

set_option maxRecDepth 16384

noncomputable section

namespace Cert.Back

open Cert.Lift Cert.Kernel2Ideal Cert.Kernel2Ideal.Gen Idealize.ShloMosaic Idealize.ShloMosaic.TcCoe Idealize.SL.Sem Finset

/-- A strip of columns of the matrix `G`, stored at its own columns. -/
theorem strip {m n w o : ℕ} {inb : ∀ a, ![0, o] a + ![m, w] a ≤ (Mat m n).size a} {P : Vec Ideal (Mat m w) .f32} {f G : ℕ → ℕ → ℝ}
    (hP : P = E2 f) (h : ∀ r, ∀ c < w, f r c = G r (o + c)) (x : (Rect.unit (s := Mat m n) ![0, o] ![m, w] inb).shape.Idx) :
    P x = E2 (m := m) (n := n) G ((Rect.unit (s := Mat m n) ![0, o] ![m, w] inb).emb x) := by
  subst hP
  show ((f _ _ : ℝ) : EReal) = ((G _ _ : ℝ) : EReal)
  rw [h _ _ (x 1).isLt]
  simp

/-- Strips that cover a buffer leave the matrix they are strips of. -/
theorem strips {m n : ℕ} (G : ℕ → ℕ → ℝ) (size : Fin 2 → ℕ) {L : List (View.Piece (Elt Ideal) (Mat m n) .f32)}
    (hL : ∀ p ∈ L, ∀ x : p.1.shape.Idx, p.2 x = E2 (m := m) (n := n) G (p.1.emb x)) (h : View.Piece.tiledL L size = true) :
    View.canon L = E2 (m := m) (n := n) G := funext fun y =>
  View.canon_apply_of_pieces (E2 G) L hL y (View.cover_of_tiledL L size h y)

variable (d : Data)

theorem at0 (f : ℕ → ℕ → ℝ) : View.ld (Val := Elt Ideal) (S := S384x512) (e' := .f32) (E2 f) (Rect.unit ![0, 0] ![384, 128] inb_S384x512_S384x128_0_0)
    = E2 fun r c => f r (0 * 128 + c) := ld_E2 _ _ _
theorem at1 (f : ℕ → ℕ → ℝ) : View.ld (Val := Elt Ideal) (S := S384x512) (e' := .f32) (E2 f) (Rect.unit ![0, 128] ![384, 128] inb_S384x512_S384x128_0_128)
    = E2 fun r c => f r (1 * 128 + c) := ld_E2 _ _ _
theorem at2 (f : ℕ → ℕ → ℝ) : View.ld (Val := Elt Ideal) (S := S384x512) (e' := .f32) (E2 f) (Rect.unit ![0, 256] ![384, 128] inb_S384x512_S384x128_0_256)
    = E2 fun r c => f r (2 * 128 + c) := ld_E2 _ _ _
theorem at3 (f : ℕ → ℕ → ℝ) : View.ld (Val := Elt Ideal) (S := S384x512) (e' := .f32) (E2 f) (Rect.unit ![0, 384] ![384, 128] inb_S384x512_S384x128_0_384)
    = E2 fun r c => f r (3 * 128 + c) := ld_E2 _ _ _

/-- Of the four heads' strips: entry `c` of head `h` is column `h * 128 + c`. -/
theorem head_col (f : ℕ → ℕ → ℕ → ℝ) (h : ℕ) (r : ℕ) : ∀ c < 128, f r h c = f r ((h * 128 + c) / 128) ((h * 128 + c) % 128) := fun c hc => by
  rw [show (h * 128 + c) / 128 = h by omega, show (h * 128 + c) % 128 = c by omega]

/-- One strip of the dealt columns. -/
theorem deal_col (s j : ℕ) (hj : ∀ c < 64, dealt (j + c) = s + c) (r : ℕ) : ∀ c < 64, dmix d r (s + c) = dmix d r (dealt (j + c)) := fun c hc => by
  rw [hj c hc]

/-- What the heads add, one after the other, to the gain's gradient. -/
def gain (f : ℕ → ℕ → ℝ) (r c : ℕ) : ℝ :=
  f r c + ∑ k ∈ range 384, dn d k 0 c * nx d k 0 c + ∑ k ∈ range 384, dn d k 1 c * nx d k 1 c
    + ∑ k ∈ range 384, dn d k 2 c * nx d k 2 c + ∑ k ∈ range 384, dn d k 3 c * nx d k 3 c

section Point
variable (c : Dev nD) (i : grid0.Coords) (arg1 : Memref sig .tc .vmem S384x1024 .f32) (harg1 : arg1.IsWhole) (arg2 : Memref sig .tc .vmem S384x2816 .bf16) (harg2 : arg2.IsWhole) (arg3 : Memref sig .tc .vmem S384x2816 .bf16) (harg3 : arg3.IsWhole) (arg4 : Memref sig .tc .vmem S384x1024 .f32) (harg4 : arg4.IsWhole) (arg5 : Memref sig .tc .vmem S2816x1024 .bf16) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S384x512 .f32) (harg9 : arg9.IsWhole) (arg10 : Memref sig .tc .vmem S384x512 .f32) (harg10 : arg10.IsWhole) (arg11 : Memref sig .tc .vmem S1x128 .f32) (harg11 : arg11.IsWhole) (arg12 : Memref sig .tc .vmem S384x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S384x512 .f32) (harg15 : arg15.IsWhole) (arg16 : Memref sig .tc .vmem S384x512 .f32) (harg16 : arg16.IsWhole) (arg17 : Memref sig .tc .vmem S384x512 .f32) (harg17 : arg17.IsWhole) (arg18 : Memref sig .tc .vmem S1x128 .f32) (harg18 : arg18.IsWhole)

theorem outA_11 (hc0 : cond0_0 i) : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (E2 d.dp) (E2 d.dg) (E2 d.du) (E2 d.pr) (E2 fun r c => d.wg c r) (E2 fun r c => d.wu c r) (E2 fun _ c => d.g1 c) (E2 d.wo) (E2 d.og) (E2 d.rg) (E2 fun _ c => d.gn c) = E2 (dpre d) := by
  frame_out
  rw [pay8_eq, pay10_eq, pay11_eq]
  exact pay13_eq d

theorem outA_12 (hc0 : cond0_0 i) : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (E2 d.dp) (E2 d.dg) (E2 d.du) (E2 d.pr) (E2 fun r c => d.wg c r) (E2 fun r c => d.wu c r) (E2 fun _ c => d.g1 c) (E2 d.wo) (E2 d.og) (E2 d.rg) (E2 fun _ c => d.gn c) = E2 fun r c => 0 + ∑ k ∈ range 384, dh d k c * xh d k c := by
  frame_out
  rw [pay8_eq, pay11_eq, pay5_eq]
  exact pay14_eq d _

theorem outA_13 (hc0 : cond0_0 i) : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (E2 d.dp) (E2 d.dg) (E2 d.du) (E2 d.pr) (E2 fun r c => d.wg c r) (E2 fun r c => d.wu c r) (E2 fun _ c => d.g1 c) (E2 d.wo) (E2 d.og) (E2 d.rg) (E2 fun _ c => d.gn c) = E2 fun r c => 0 + ∑ k ∈ range 384, dh d k c := by
  frame_out
  rw [pay8_eq, pay6_eq]
  exact pay15_eq d _

theorem outA_14 (hc0 : cond0_0 i) : out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (E2 d.dp) (E2 d.dg) (E2 d.du) (E2 d.pr) (E2 fun r c => d.wg c r) (E2 fun r c => d.wu c r) (E2 fun _ c => d.g1 c) (E2 d.wo) (E2 d.og) (E2 d.rg) (E2 fun _ c => d.gn c) = E2 fun r c => dmix d r (dealt c) := by
  frame_out
  rw [pay8_eq, pay10_eq, pay11_eq, pay12_eq]
  refine strips (fun r c => dmix d r (dealt c)) S384x64.size ?_ (by sl_kernel_rfl)
  simp only [List.forall_mem_cons, List.not_mem_nil, false_imp_iff, implies_true, and_true]
  exact ⟨strip (f := fun r c => dmix d r (448 + c)) (pay25_eq d) (deal_col d 448 448 (by unfold dealt; omega)),
    strip (f := fun r c => dmix d r (192 + c)) (pay24_eq d) (deal_col d 192 384 (by unfold dealt; omega)),
    strip (f := fun r c => dmix d r (384 + c)) (pay23_eq d) (deal_col d 384 320 (by unfold dealt; omega)),
    strip (f := fun r c => dmix d r (128 + c)) (pay22_eq d) (deal_col d 128 256 (by unfold dealt; omega)),
    strip (f := fun r c => dmix d r (320 + c)) (pay21_eq d) (deal_col d 320 192 (by unfold dealt; omega)),
    strip (f := fun r c => dmix d r (64 + c)) (pay20_eq d) (deal_col d 64 128 (by unfold dealt; omega)),
    strip (f := fun r c => dmix d r (256 + c)) (pay19_eq d) (deal_col d 256 64 (by unfold dealt; omega)),
    strip (f := fun r c => dmix d r (0 + c)) (pay18_eq d) (deal_col d 0 0 (by unfold dealt; omega))⟩

theorem outA_15 (hc0 : cond0_0 i) : out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (E2 d.dp) (E2 d.dg) (E2 d.du) (E2 d.pr) (E2 fun r c => d.wg c r) (E2 fun r c => d.wu c r) (E2 fun _ c => d.g1 c) (E2 d.wo) (E2 d.og) (E2 d.rg) (E2 fun _ c => d.gn c) = E2 fun r c => dgla d r (c / 128) (c % 128) := by
  frame_out
  rw [rows_eq, pay26_eq]
  simp only [at0, at1, at2, at3]
  refine strips (fun r c => dgla d r (c / 128) (c % 128)) S384x128.size ?_ (by sl_kernel_rfl)
  simp only [List.forall_mem_cons, List.not_mem_nil, false_imp_iff, implies_true, and_true]
  exact ⟨strip (gla3 d) (head_col (dgla d) 3),
    strip (gla2 d) (head_col (dgla d) 2),
    strip (gla1 d) (head_col (dgla d) 1),
    strip (gla0 d) (head_col (dgla d) 0)⟩

theorem outA_16 (hc0 : cond0_0 i) : out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (E2 d.dp) (E2 d.dg) (E2 d.du) (E2 d.pr) (E2 fun r c => d.wg c r) (E2 fun r c => d.wu c r) (E2 fun _ c => d.g1 c) (E2 d.wo) (E2 d.og) (E2 d.rg) (E2 fun _ c => d.gn c) = E2 fun r c => dgate d r (c / 128) (c % 128) := by
  frame_out
  rw [rows_eq, pay26_eq]
  simp only [at0, at1, at2, at3]
  refine strips (fun r c => dgate d r (c / 128) (c % 128)) S384x128.size ?_ (by sl_kernel_rfl)
  simp only [List.forall_mem_cons, List.not_mem_nil, false_imp_iff, implies_true, and_true]
  exact ⟨strip (gate3 d) (head_col (dgate d) 3),
    strip (gate2 d) (head_col (dgate d) 2),
    strip (gate1 d) (head_col (dgate d) 1),
    strip (gate0 d) (head_col (dgate d) 0)⟩

theorem outA_17 (hc0 : cond0_0 i) : out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (E2 d.dp) (E2 d.dg) (E2 d.du) (E2 d.pr) (E2 fun r c => d.wg c r) (E2 fun r c => d.wu c r) (E2 fun _ c => d.g1 c) (E2 d.wo) (E2 d.og) (E2 d.rg) (E2 fun _ c => d.gn c) = E2 (gain d (fun _ _ => 0)) := by
  frame_out
  rw [rows_eq]
  simp only [at0, at1, at2, at3]
  exact gain_head d 3 (part3 d) (gain_head d 2 (part2 d) (gain_head d 1 (part1 d) (gain_head d 0 (part0 d) pay7_eq)))

theorem outB_11 (hc0 : ¬cond0_0 i) (f12 f13 f17 : ℕ → ℕ → ℝ) : out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (E2 d.dp) (E2 d.dg) (E2 d.du) (E2 d.pr) (E2 fun r c => d.wg c r) (E2 fun r c => d.wu c r) (E2 fun _ c => d.g1 c) (E2 d.wo) (E2 d.og) (E2 d.rg) (E2 fun _ c => d.gn c) (E2 f12) (E2 f13) (E2 f17) = E2 (dpre d) := by
  frame_out
  rw [pay8_eq, pay10_eq, pay11_eq]
  exact pay13_eq d

theorem outB_12 (hc0 : ¬cond0_0 i) (f12 f13 f17 : ℕ → ℕ → ℝ) : out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (E2 d.dp) (E2 d.dg) (E2 d.du) (E2 d.pr) (E2 fun r c => d.wg c r) (E2 fun r c => d.wu c r) (E2 fun _ c => d.g1 c) (E2 d.wo) (E2 d.og) (E2 d.rg) (E2 fun _ c => d.gn c) (E2 f12) (E2 f13) (E2 f17) = E2 fun r c => f12 r c + ∑ k ∈ range 384, dh d k c * xh d k c := by
  frame_out
  rw [pay8_eq, pay11_eq]
  exact pay14_eq d _

theorem outB_13 (hc0 : ¬cond0_0 i) (f12 f13 f17 : ℕ → ℕ → ℝ) : out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (E2 d.dp) (E2 d.dg) (E2 d.du) (E2 d.pr) (E2 fun r c => d.wg c r) (E2 fun r c => d.wu c r) (E2 fun _ c => d.g1 c) (E2 d.wo) (E2 d.og) (E2 d.rg) (E2 fun _ c => d.gn c) (E2 f12) (E2 f13) (E2 f17) = E2 fun r c => f13 r c + ∑ k ∈ range 384, dh d k c := by
  frame_out
  rw [pay8_eq]
  exact pay15_eq d _

theorem outB_14 (hc0 : ¬cond0_0 i) (f12 f13 f17 : ℕ → ℕ → ℝ) : out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (E2 d.dp) (E2 d.dg) (E2 d.du) (E2 d.pr) (E2 fun r c => d.wg c r) (E2 fun r c => d.wu c r) (E2 fun _ c => d.g1 c) (E2 d.wo) (E2 d.og) (E2 d.rg) (E2 fun _ c => d.gn c) (E2 f12) (E2 f13) (E2 f17) = E2 fun r c => dmix d r (dealt c) := by
  frame_out
  rw [pay8_eq, pay10_eq, pay11_eq, pay12_eq]
  refine strips (fun r c => dmix d r (dealt c)) S384x64.size ?_ (by sl_kernel_rfl)
  simp only [List.forall_mem_cons, List.not_mem_nil, false_imp_iff, implies_true, and_true]
  exact ⟨strip (f := fun r c => dmix d r (448 + c)) (pay25_eq d) (deal_col d 448 448 (by unfold dealt; omega)),
    strip (f := fun r c => dmix d r (192 + c)) (pay24_eq d) (deal_col d 192 384 (by unfold dealt; omega)),
    strip (f := fun r c => dmix d r (384 + c)) (pay23_eq d) (deal_col d 384 320 (by unfold dealt; omega)),
    strip (f := fun r c => dmix d r (128 + c)) (pay22_eq d) (deal_col d 128 256 (by unfold dealt; omega)),
    strip (f := fun r c => dmix d r (320 + c)) (pay21_eq d) (deal_col d 320 192 (by unfold dealt; omega)),
    strip (f := fun r c => dmix d r (64 + c)) (pay20_eq d) (deal_col d 64 128 (by unfold dealt; omega)),
    strip (f := fun r c => dmix d r (256 + c)) (pay19_eq d) (deal_col d 256 64 (by unfold dealt; omega)),
    strip (f := fun r c => dmix d r (0 + c)) (pay18_eq d) (deal_col d 0 0 (by unfold dealt; omega))⟩

theorem outB_15 (hc0 : ¬cond0_0 i) (f12 f13 f17 : ℕ → ℕ → ℝ) : out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (E2 d.dp) (E2 d.dg) (E2 d.du) (E2 d.pr) (E2 fun r c => d.wg c r) (E2 fun r c => d.wu c r) (E2 fun _ c => d.g1 c) (E2 d.wo) (E2 d.og) (E2 d.rg) (E2 fun _ c => d.gn c) (E2 f12) (E2 f13) (E2 f17) = E2 fun r c => dgla d r (c / 128) (c % 128) := by
  frame_out
  rw [rows_eq, pay26_eq]
  simp only [at0, at1, at2, at3]
  refine strips (fun r c => dgla d r (c / 128) (c % 128)) S384x128.size ?_ (by sl_kernel_rfl)
  simp only [List.forall_mem_cons, List.not_mem_nil, false_imp_iff, implies_true, and_true]
  exact ⟨strip (gla3 d) (head_col (dgla d) 3),
    strip (gla2 d) (head_col (dgla d) 2),
    strip (gla1 d) (head_col (dgla d) 1),
    strip (gla0 d) (head_col (dgla d) 0)⟩

theorem outB_16 (hc0 : ¬cond0_0 i) (f12 f13 f17 : ℕ → ℕ → ℝ) : out0_B_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (E2 d.dp) (E2 d.dg) (E2 d.du) (E2 d.pr) (E2 fun r c => d.wg c r) (E2 fun r c => d.wu c r) (E2 fun _ c => d.g1 c) (E2 d.wo) (E2 d.og) (E2 d.rg) (E2 fun _ c => d.gn c) (E2 f12) (E2 f13) (E2 f17) = E2 fun r c => dgate d r (c / 128) (c % 128) := by
  frame_out
  rw [rows_eq, pay26_eq]
  simp only [at0, at1, at2, at3]
  refine strips (fun r c => dgate d r (c / 128) (c % 128)) S384x128.size ?_ (by sl_kernel_rfl)
  simp only [List.forall_mem_cons, List.not_mem_nil, false_imp_iff, implies_true, and_true]
  exact ⟨strip (gate3 d) (head_col (dgate d) 3),
    strip (gate2 d) (head_col (dgate d) 2),
    strip (gate1 d) (head_col (dgate d) 1),
    strip (gate0 d) (head_col (dgate d) 0)⟩

theorem outB_17 (hc0 : ¬cond0_0 i) (f12 f13 f17 : ℕ → ℕ → ℝ) : out0_B_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (E2 d.dp) (E2 d.dg) (E2 d.du) (E2 d.pr) (E2 fun r c => d.wg c r) (E2 fun r c => d.wu c r) (E2 fun _ c => d.g1 c) (E2 d.wo) (E2 d.og) (E2 d.rg) (E2 fun _ c => d.gn c) (E2 f12) (E2 f13) (E2 f17) = E2 (gain d f17) := by
  frame_out
  rw [rows_eq]
  simp only [at0, at1, at2, at3]
  exact gain_head d 3 (part3 d) (gain_head d 2 (part2 d) (gain_head d 1 (part1 d) (gain_head d 0 (part0 d) rfl)))
end Point

end Cert.Back

end
-- ==== Proof.BackRun.lean ====
/- The kernel's run at real arguments: each point reads its 384 rows, and the seven result arrays end as the formulas of `Back` over
   all 4224 rows, the sums over rows block by block. -/
module

public import proofs.«01_k».proof.Proof.BackBlock
public import Idealize.ShloMosaic.Lib.Pipeline.ValueKit

@[expose] public section

set_option maxRecDepth 16384

noncomputable section

namespace Cert.Back

open Cert.Lift Cert.Kernel2Ideal Cert.Kernel2Ideal.Gen Idealize.ShloMosaic Idealize.ShloMosaic.TcCoe Idealize.SL.Sem Finset

theorem transpose_E2 {m n : ℕ} (f : ℕ → ℕ → ℝ) (h : (Mat m n).Transposes [1, 0] (Mat n m)) :
    transpose (Mat n m) [1, 0] (E2 f) h = E2 fun r c => f c r := funext fun j =>
  transpose_apply (s := Mat m n) (t := Mat n m) _ _ h j (fun a => match a with | 0 => j 1 | 1 => j 0) fun b => by
    match b with
    | 0 => rfl
    | 1 => rfl

variable (m : (ℓ : Loc nD τ sig) → Buf (Elt Ideal) ℓ) (c : Dev nD) (d : Data)

/-- The launched arguments are the data. -/
structure Args : Prop where
  a0 : m ((c : Thread nD τ).loc main_arg0) = E2 d.dp
  a1 : m ((c : Thread nD τ).loc main_arg1) = E2 d.dg
  a2 : m ((c : Thread nD τ).loc main_arg2) = E2 d.du
  a3 : m ((c : Thread nD τ).loc main_arg3) = E2 d.pr
  a4 : m ((c : Thread nD τ).loc main_arg4) = E2 d.wg
  a5 : m ((c : Thread nD τ).loc main_arg5) = E2 d.wu
  a6 : m ((c : Thread nD τ).loc main_arg6) = E1 d.g1
  a7 : m ((c : Thread nD τ).loc main_arg7) = E2 d.wo
  a8 : m ((c : Thread nD τ).loc main_arg8) = E2 d.og
  a9 : m ((c : Thread nD τ).loc main_arg9) = E2 d.rg
  a10 : m ((c : Thread nD τ).loc main_arg10) = E1 d.gn

/-! ### The host's preparation of the weights and gains -/
variable {m c d}

theorem v1 (h : Args m c d) : V m c main_v1 = E2 fun r k => d.wg k r :=
  (show V m c main_v1 = truncf (F := Ideal) (φ := .f32) .bf16 (transpose S2816x1024 [1, 0] (m ((c : Thread nD τ).loc main_arg4)) transposes_S1024x2816_S2816x1024_1_0)
    bitsLt_bf16_f32 from rfl).trans (by rw [h.a4]; erw [transpose_E2, truncf_E2])
theorem v3 (h : Args m c d) : V m c main_v3 = E2 fun r k => d.wu k r :=
  (show V m c main_v3 = truncf (F := Ideal) (φ := .f32) .bf16 (transpose S2816x1024 [1, 0] (m ((c : Thread nD τ).loc main_arg5)) transposes_S1024x2816_S2816x1024_1_0)
    bitsLt_bf16_f32 from rfl).trans (by rw [h.a5]; erw [transpose_E2, truncf_E2])
theorem v4 (h : Args m c d) : V m c main_v4 = E2 fun _ k => d.g1 k :=
  (show V m c main_v4 = shapeCast S1x1024 (m ((c : Thread nD τ).loc main_arg6)) shapeCasts_S1024_S1x1024 from rfl).trans (by rw [h.a6]; exact sc_1_row _ _)
theorem v5 (h : Args m c d) : V m c main_v5 = E2 d.wo :=
  (show V m c main_v5 = truncf (F := Ideal) (φ := .f32) .bf16 (m ((c : Thread nD τ).loc main_arg7)) bitsLt_bf16_f32 from rfl).trans (by rw [h.a7]; erw [truncf_E2])
theorem v6 (h : Args m c d) : V m c main_v6 = E2 fun _ k => d.gn k :=
  (show V m c main_v6 = shapeCast S1x128 (m ((c : Thread nD τ).loc main_arg10)) shapeCasts_S128_S1x128 from rfl).trans (by rw [h.a10]; exact sc_1_row _ _)

/-! ### The blocks: 384 rows of the row arrays, the whole of the others -/
theorem index0 : ∀ t : Fin cfg0.N, win0_0.index t = ![t.val, 0] := (by decide +kernel : ∀ t : Fin grid0.N, win0_0.index t = ![t.val, 0])
theorem index1 : ∀ t : Fin cfg0.N, win0_1.index t = ![t.val, 0] := (by decide +kernel : ∀ t : Fin grid0.N, win0_1.index t = ![t.val, 0])
theorem index2 : ∀ t : Fin cfg0.N, win0_2.index t = ![t.val, 0] := (by decide +kernel : ∀ t : Fin grid0.N, win0_2.index t = ![t.val, 0])
theorem index3 : ∀ t : Fin cfg0.N, win0_3.index t = ![t.val, 0] := (by decide +kernel : ∀ t : Fin grid0.N, win0_3.index t = ![t.val, 0])
theorem index4 : ∀ t : Fin cfg0.N, win0_4.index t = ![0, 0] := (by decide +kernel : ∀ t : Fin grid0.N, win0_4.index t = ![0, 0])
theorem index5 : ∀ t : Fin cfg0.N, win0_5.index t = ![0, 0] := (by decide +kernel : ∀ t : Fin grid0.N, win0_5.index t = ![0, 0])
theorem index6 : ∀ t : Fin cfg0.N, win0_6.index t = ![0, 0] := (by decide +kernel : ∀ t : Fin grid0.N, win0_6.index t = ![0, 0])
theorem index7 : ∀ t : Fin cfg0.N, win0_7.index t = ![0, 0] := (by decide +kernel : ∀ t : Fin grid0.N, win0_7.index t = ![0, 0])
theorem index8 : ∀ t : Fin cfg0.N, win0_8.index t = ![t.val, 0] := (by decide +kernel : ∀ t : Fin grid0.N, win0_8.index t = ![t.val, 0])
theorem index9 : ∀ t : Fin cfg0.N, win0_9.index t = ![t.val, 0] := (by decide +kernel : ∀ t : Fin grid0.N, win0_9.index t = ![t.val, 0])
theorem index10 : ∀ t : Fin cfg0.N, win0_10.index t = ![0, 0] := (by decide +kernel : ∀ t : Fin grid0.N, win0_10.index t = ![0, 0])
theorem index11 : ∀ t : Fin cfg0.N, win0_11.index t = ![t.val, 0] := (by decide +kernel : ∀ t : Fin grid0.N, win0_11.index t = ![t.val, 0])
theorem index12 : ∀ t : Fin cfg0.N, win0_12.index t = ![0, 0] := (by decide +kernel : ∀ t : Fin grid0.N, win0_12.index t = ![0, 0])
theorem index13 : ∀ t : Fin cfg0.N, win0_13.index t = ![0, 0] := (by decide +kernel : ∀ t : Fin grid0.N, win0_13.index t = ![0, 0])
theorem index14 : ∀ t : Fin cfg0.N, win0_14.index t = ![t.val, 0] := (by decide +kernel : ∀ t : Fin grid0.N, win0_14.index t = ![t.val, 0])
theorem index15 : ∀ t : Fin cfg0.N, win0_15.index t = ![t.val, 0] := (by decide +kernel : ∀ t : Fin grid0.N, win0_15.index t = ![t.val, 0])
theorem index16 : ∀ t : Fin cfg0.N, win0_16.index t = ![t.val, 0] := (by decide +kernel : ∀ t : Fin grid0.N, win0_16.index t = ![t.val, 0])
theorem index17 : ∀ t : Fin cfg0.N, win0_17.index t = ![0, 0] := (by decide +kernel : ∀ t : Fin grid0.N, win0_17.index t = ![0, 0])

theorem blk0 (h : Args m c d) (t : Fin cfg0.N) : iblk m c 0 t = E2 (m := 384) (n := 1024) ((d.from (t.val * 384)).dp) := by
  funext y
  blk_simp [iblk]
  rw [show V m c main_arg0 = E2 (d.dp) from (V_main_arg0 m c).trans h.a0]
  refine congrArg Real.toEReal (?_ : (d.dp) ((win0_0.blk t).view.emb y 0).val ((win0_0.blk t).view.emb y 1).val = _)
  blk_simp [index0]
  all_goals first | rfl | simp

theorem blk1 (h : Args m c d) (t : Fin cfg0.N) : iblk m c 1 t = E2 (m := 384) (n := 2816) ((d.from (t.val * 384)).dg) := by
  funext y
  blk_simp [iblk]
  rw [show V m c main_arg1 = E2 (d.dg) from (V_main_arg1 m c).trans h.a1]
  refine congrArg Real.toEReal (?_ : (d.dg) ((win0_1.blk t).view.emb y 0).val ((win0_1.blk t).view.emb y 1).val = _)
  blk_simp [index1]
  all_goals first | rfl | simp

theorem blk2 (h : Args m c d) (t : Fin cfg0.N) : iblk m c 2 t = E2 (m := 384) (n := 2816) ((d.from (t.val * 384)).du) := by
  funext y
  blk_simp [iblk]
  rw [show V m c main_arg2 = E2 (d.du) from (V_main_arg2 m c).trans h.a2]
  refine congrArg Real.toEReal (?_ : (d.du) ((win0_2.blk t).view.emb y 0).val ((win0_2.blk t).view.emb y 1).val = _)
  blk_simp [index2]
  all_goals first | rfl | simp

theorem blk3 (h : Args m c d) (t : Fin cfg0.N) : iblk m c 3 t = E2 (m := 384) (n := 1024) ((d.from (t.val * 384)).pr) := by
  funext y
  blk_simp [iblk]
  rw [show V m c main_arg3 = E2 (d.pr) from (V_main_arg3 m c).trans h.a3]
  refine congrArg Real.toEReal (?_ : (d.pr) ((win0_3.blk t).view.emb y 0).val ((win0_3.blk t).view.emb y 1).val = _)
  blk_simp [index3]
  all_goals first | rfl | simp

theorem blk4 (h : Args m c d) (t : Fin cfg0.N) : iblk m c 4 t = E2 (m := 2816) (n := 1024) (fun r k => d.wg k r) := by
  funext y
  blk_simp [iblk]
  rw [show V m c main_v1 = E2 (fun r k => d.wg k r) from v1 h]
  refine congrArg Real.toEReal (?_ : (fun r k => d.wg k r) ((win0_4.blk t).view.emb y 0).val ((win0_4.blk t).view.emb y 1).val = _)
  blk_simp [index4]
  all_goals first | rfl | simp

theorem blk5 (h : Args m c d) (t : Fin cfg0.N) : iblk m c 5 t = E2 (m := 2816) (n := 1024) (fun r k => d.wu k r) := by
  funext y
  blk_simp [iblk]
  rw [show V m c main_v3 = E2 (fun r k => d.wu k r) from v3 h]
  refine congrArg Real.toEReal (?_ : (fun r k => d.wu k r) ((win0_5.blk t).view.emb y 0).val ((win0_5.blk t).view.emb y 1).val = _)
  blk_simp [index5]
  all_goals first | rfl | simp

theorem blk6 (h : Args m c d) (t : Fin cfg0.N) : iblk m c 6 t = E2 (m := 1) (n := 1024) (fun _ k => d.g1 k) := by
  funext y
  blk_simp [iblk]
  rw [show V m c main_v4 = E2 (fun _ k => d.g1 k) from v4 h]
  refine congrArg Real.toEReal (?_ : (fun _ k => d.g1 k) ((win0_6.blk t).view.emb y 0).val ((win0_6.blk t).view.emb y 1).val = _)
  blk_simp [index6]
  all_goals first | rfl | simp

theorem blk7 (h : Args m c d) (t : Fin cfg0.N) : iblk m c 7 t = E2 (m := 1024) (n := 1024) (d.wo) := by
  funext y
  blk_simp [iblk]
  rw [show V m c main_v5 = E2 (d.wo) from v5 h]
  refine congrArg Real.toEReal (?_ : (d.wo) ((win0_7.blk t).view.emb y 0).val ((win0_7.blk t).view.emb y 1).val = _)
  blk_simp [index7]
  all_goals first | rfl | simp

theorem blk8 (h : Args m c d) (t : Fin cfg0.N) : iblk m c 8 t = E2 (m := 384) (n := 512) ((d.from (t.val * 384)).og) := by
  funext y
  blk_simp [iblk]
  rw [show V m c main_arg8 = E2 (d.og) from (V_main_arg8 m c).trans h.a8]
  refine congrArg Real.toEReal (?_ : (d.og) ((win0_8.blk t).view.emb y 0).val ((win0_8.blk t).view.emb y 1).val = _)
  blk_simp [index8]
  all_goals first | rfl | simp

theorem blk9 (h : Args m c d) (t : Fin cfg0.N) : iblk m c 9 t = E2 (m := 384) (n := 512) ((d.from (t.val * 384)).rg) := by
  funext y
  blk_simp [iblk]
  rw [show V m c main_arg9 = E2 (d.rg) from (V_main_arg9 m c).trans h.a9]
  refine congrArg Real.toEReal (?_ : (d.rg) ((win0_9.blk t).view.emb y 0).val ((win0_9.blk t).view.emb y 1).val = _)
  blk_simp [index9]
  all_goals first | rfl | simp

theorem blk10 (h : Args m c d) (t : Fin cfg0.N) : iblk m c 10 t = E2 (m := 1) (n := 128) (fun _ k => d.gn k) := by
  funext y
  blk_simp [iblk]
  rw [show V m c main_v6 = E2 (fun _ k => d.gn k) from v6 h]
  refine congrArg Real.toEReal (?_ : (fun _ k => d.gn k) ((win0_10.blk t).view.emb y 0).val ((win0_10.blk t).view.emb y 1).val = _)
  blk_simp [index10]
  all_goals first | rfl | simp

/-! ### What is left after point `n` -/
variable (d)

/-- The sums over the rows of the points up to `n`. -/
def scaleSum (n : ℕ) (_ k : ℕ) : ℝ := ∑ r ∈ range ((n + 1) * 384), dh d r k * xh d r k
def shiftSum (n : ℕ) (_ k : ℕ) : ℝ := ∑ r ∈ range ((n + 1) * 384), dh d r k
/-- The gain's gradient, head after head and point after point. -/
def gainSum : ℕ → ℕ → ℕ → ℝ
  | 0 => gain (d.from (0 * 384)) fun _ _ => 0
  | n + 1 => gain (d.from ((n + 1) * 384)) (gainSum n)

/-- The seven buffers after point `n`. -/
def left (n : ℕ) : Vec Ideal S384x1024 .f32 × Vec Ideal S1x1024 .f32 × Vec Ideal S1x1024 .f32 × Vec Ideal S384x512 .f32 × Vec Ideal S384x512 .f32
    × Vec Ideal S384x512 .f32 × Vec Ideal S1x128 .f32 :=
  (E2 (dpre (d.from (n * 384))), E2 (scaleSum d n), E2 (shiftSum d n), E2 fun r k => dmix (d.from (n * 384)) r (dealt k),
    E2 fun r k => dgla (d.from (n * 384)) r (k / 128) (k % 128), E2 fun r k => dgate (d.from (n * 384)) r (k / 128) (k % 128), E2 (gainSum d n))

theorem scaleSum_succ (n : ℕ) : scaleSum d (n + 1) = fun r k => scaleSum d n r k + ∑ i ∈ range 384, dh (d.from ((n + 1) * 384)) i k * xh (d.from ((n + 1) * 384)) i k := by
  funext r k
  rw [scaleSum, show (n + 1 + 1) * 384 = (n + 1) * 384 + 384 by ring, sum_range_add]; rfl
theorem shiftSum_succ (n : ℕ) : shiftSum d (n + 1) = fun r k => shiftSum d n r k + ∑ i ∈ range 384, dh (d.from ((n + 1) * 384)) i k := by
  funext r k
  rw [shiftSum, show (n + 1 + 1) * 384 = (n + 1) * 384 + 384 by ring, sum_range_add]; rfl

variable {d}

theorem outs (h : Args m c d) : ∀ (n : ℕ) (hn : n < cfg0.N), outsAt0 m c n hn = left d n
  | 0, hn => by
    rw [outsAt0_A m c ⟨0, hn⟩ rfl]
    simp only [blk0 h, blk1 h, blk2 h, blk3 h, blk4 h, blk5 h, blk6 h, blk7 h, blk8 h, blk9 h, blk10 h]
    unfold left
    refine congrArg₂ Prod.mk (outA_11 (d.from (0 * 384)) ..) (congrArg₂ Prod.mk ((outA_12 (d.from (0 * 384)) ..).trans ?_) (congrArg₂ Prod.mk ((outA_13 (d.from (0 * 384)) ..).trans ?_)
      (congrArg₂ Prod.mk (outA_14 (d.from (0 * 384)) ..) (congrArg₂ Prod.mk (outA_15 (d.from (0 * 384)) ..) (congrArg₂ Prod.mk (outA_16 (d.from (0 * 384)) ..) (outA_17 (d.from (0 * 384)) ..))))))
    · exact E2_congr fun r _ k _ => by simp [scaleSum, Data.from, dh, xh]
    · exact E2_congr fun r _ k _ => by simp [shiftSum, Data.from]
  | n + 1, hn => by
    have hN : cfg0.N = 11 := N_0
    have hB : ¬(⟨n + 1, hn⟩ : Fin cfg0.N).val % 11 = 0 := by dsimp only; omega
    rw [outsAt0_B m c ⟨n + 1, hn⟩ hB]
    simp only [blk0 h, blk1 h, blk2 h, blk3 h, blk4 h, blk5 h, blk6 h, blk7 h, blk8 h, blk9 h, blk10 h]
    have ih : outsAt0 m c ((⟨n + 1, hn⟩ : Fin cfg0.N).val - 1) (Nat.lt_of_succ_lt hn) = left d n := outs h n _
    rw [ih]
    unfold left
    dsimp only
    rw [scaleSum_succ, shiftSum_succ, gainSum]
    exact congrArg₂ Prod.mk (outB_11 (d.from ((n + 1) * 384)) _ _ _ _ _ _ _ _ _ _ _ _ _ _ _ _ _ _ _ _ _ _ _ _ _ _ _ _ _ _ _ _ _ _ _ _ _ _ _ (scaleSum d n) (shiftSum d n) (gainSum d n)) (congrArg₂ Prod.mk (outB_12 (d.from ((n + 1) * 384)) _ _ _ _ _ _ _ _ _ _ _ _ _ _ _ _ _ _ _ _ _ _ _ _ _ _ _ _ _ _ _ _ _ _ _ _ _ _ _ (scaleSum d n) (shiftSum d n) (gainSum d n))
      (congrArg₂ Prod.mk (outB_13 (d.from ((n + 1) * 384)) _ _ _ _ _ _ _ _ _ _ _ _ _ _ _ _ _ _ _ _ _ _ _ _ _ _ _ _ _ _ _ _ _ _ _ _ _ _ _ (scaleSum d n) (shiftSum d n) (gainSum d n)) (congrArg₂ Prod.mk (outB_14 (d.from ((n + 1) * 384)) _ _ _ _ _ _ _ _ _ _ _ _ _ _ _ _ _ _ _ _ _ _ _ _ _ _ _ _ _ _ _ _ _ _ _ _ _ _ _ (scaleSum d n) (shiftSum d n) (gainSum d n))
      (congrArg₂ Prod.mk (outB_15 (d.from ((n + 1) * 384)) _ _ _ _ _ _ _ _ _ _ _ _ _ _ _ _ _ _ _ _ _ _ _ _ _ _ _ _ _ _ _ _ _ _ _ _ _ _ _ (scaleSum d n) (shiftSum d n) (gainSum d n)) (congrArg₂ Prod.mk (outB_16 (d.from ((n + 1) * 384)) _ _ _ _ _ _ _ _ _ _ _ _ _ _ _ _ _ _ _ _ _ _ _ _ _ _ _ _ _ _ _ _ _ _ _ _ _ _ _ (scaleSum d n) (shiftSum d n) (gainSum d n))
      (outB_17 (d.from ((n + 1) * 384)) _ _ _ _ _ _ _ _ _ _ _ _ _ _ _ _ _ _ _ _ _ _ _ _ _ _ _ _ _ _ _ _ _ _ _ _ _ _ _ (scaleSum d n) (shiftSum d n) (gainSum d n)))))))

/-! ### The result arrays -/

theorem final11 (h : Args m c d) : (dats m 0 c).arrAt 11 cfg0.N = E2 (dpre d) := by
  refine (dats m 0 c).arrAt_eq_of_covers 11 _ (by decide +kernel) fun t _ y => ?_
  blk_simp
  rw [after0_11, outs h]
  refine congrArg Real.toEReal (?_ : _ = (dpre d) ((win0_11.blk t).view.emb y 0).val ((win0_11.blk t).view.emb y 1).val)
  blk_simp [index11]
  all_goals first | rfl | simp

theorem final14 (h : Args m c d) : (dats m 0 c).arrAt 14 cfg0.N = E2 (fun r k => dmix d r (dealt k)) := by
  refine (dats m 0 c).arrAt_eq_of_covers 14 _ (by decide +kernel) fun t _ y => ?_
  blk_simp
  rw [after0_14, outs h]
  refine congrArg Real.toEReal (?_ : _ = (fun r k => dmix d r (dealt k)) ((win0_14.blk t).view.emb y 0).val ((win0_14.blk t).view.emb y 1).val)
  blk_simp [index14]
  all_goals first | rfl | simp

theorem final15 (h : Args m c d) : (dats m 0 c).arrAt 15 cfg0.N = E2 (fun r k => dgla d r (k / 128) (k % 128)) := by
  refine (dats m 0 c).arrAt_eq_of_covers 15 _ (by decide +kernel) fun t _ y => ?_
  blk_simp
  rw [after0_15, outs h]
  refine congrArg Real.toEReal (?_ : _ = (fun r k => dgla d r (k / 128) (k % 128)) ((win0_15.blk t).view.emb y 0).val ((win0_15.blk t).view.emb y 1).val)
  blk_simp [index15]
  all_goals first | rfl | simp

theorem final16 (h : Args m c d) : (dats m 0 c).arrAt 16 cfg0.N = E2 (fun r k => dgate d r (k / 128) (k % 128)) := by
  refine (dats m 0 c).arrAt_eq_of_covers 16 _ (by decide +kernel) fun t _ y => ?_
  blk_simp
  rw [after0_16, outs h]
  refine congrArg Real.toEReal (?_ : _ = (fun r k => dgate d r (k / 128) (k % 128)) ((win0_16.blk t).view.emb y 0).val ((win0_16.blk t).view.emb y 1).val)
  blk_simp [index16]
  all_goals first | rfl | simp

theorem final12 (h : Args m c d) : (dats m 0 c).arrAt 12 cfg0.N = E2 (scaleSum d 10) := by
  refine (dats m 0 c).arrAt_eq_of_covers 12 _ (by decide +kernel) fun t hf y => ?_
  have hN : cfg0.N = 11 := N_0
  have ht : t.val = 10 := by have := (flush0_12 t).mp hf; have := t.isLt; omega
  blk_simp
  rw [after0_12, outs h, ht]
  refine congrArg Real.toEReal (?_ : _ = (scaleSum d 10) ((win0_12.blk t).view.emb y 0).val ((win0_12.blk t).view.emb y 1).val)
  blk_simp [index12]
  all_goals first | rfl | simp

theorem final13 (h : Args m c d) : (dats m 0 c).arrAt 13 cfg0.N = E2 (shiftSum d 10) := by
  refine (dats m 0 c).arrAt_eq_of_covers 13 _ (by decide +kernel) fun t hf y => ?_
  have hN : cfg0.N = 11 := N_0
  have ht : t.val = 10 := by have := (flush0_13 t).mp hf; have := t.isLt; omega
  blk_simp
  rw [after0_13, outs h, ht]
  refine congrArg Real.toEReal (?_ : _ = (shiftSum d 10) ((win0_13.blk t).view.emb y 0).val ((win0_13.blk t).view.emb y 1).val)
  blk_simp [index13]
  all_goals first | rfl | simp

theorem final17 (h : Args m c d) : (dats m 0 c).arrAt 17 cfg0.N = E2 (gainSum d 10) := by
  refine (dats m 0 c).arrAt_eq_of_covers 17 _ (by decide +kernel) fun t hf y => ?_
  have hN : cfg0.N = 11 := N_0
  have ht : t.val = 10 := by have := (flush0_17 t).mp hf; have := t.isLt; omega
  blk_simp
  rw [after0_17, outs h, ht]
  refine congrArg Real.toEReal (?_ : _ = (gainSum d 10) ((win0_17.blk t).view.emb y 0).val ((win0_17.blk t).view.emb y 1).val)
  blk_simp [index17]
  all_goals first | rfl | simp

end Cert.Back

end
-- ==== Proof.BackRef.lean ====
/- The reference at real arguments, one value of its program at a time: the first norm's gradient, written as the derivative of
   the norm's own formula, and the sums over rows. -/
module

public import proofs.«01_k».proof.Proof.Back
public import proofs.«01_k».proof.Proof.Gen.Reference2Ideal.Read

@[expose] public section

set_option maxRecDepth 16384

noncomputable section

namespace Cert.Back

open Cert.Lift Cert.Reference2Ideal Cert.Reference2Ideal.Gen Cert.Reference2Ideal.Read Idealize.ShloMosaic Finset

/-- A product over one contracted axis of extent `K`, taken by the host: `G` names the product of the two entries read. -/
theorem hostDot_E2 {a b c d m n : ℕ} {φ₁ φ₂ : FTy} (D : DotDims ⟨2, ![a, b]⟩ ⟨2, ![c, d]⟩ ⟨2, ![m, n]⟩) (K : ℕ)
    (hr : D.contr.rank = 1) (hs : D.contr.size ⟨0, by omega⟩ = K) (prec : Option ContractPrecision)
    (f g : ℕ → ℕ → ℝ) (G : ℕ → ℕ → ℕ → ℝ)
    (h : ∀ j k, f (D.lhsIdx j k 0).val (D.lhsIdx j k 1).val * g (D.rhsIdx j k 0).val (D.rhsIdx j k 1).val
      = G (j 0).val (j 1).val (k ⟨0, by omega⟩).val) :
    Host.dotGeneral (F := Ideal) (φ₁ := φ₁) (φ₂ := φ₂) D prec (E2 f) (E2 g) = E2 fun i j => ∑ k ∈ Finset.range K, G i j k := by
  funext j
  simp only [Host.dotGeneral]
  rw [Ideal.dotGeneral_apply, ← Equiv.sum_comp (ValueIdx.contrEquiv1 D K hr hs).symm]
  show _ = (((∑ k ∈ Finset.range K, G (j 0).val (j 1).val k : ℝ)) : EReal)
  rw [coe_sum, Finset.sum_range]
  refine Finset.sum_congr rfl fun k _ => ?_
  have := h j ((ValueIdx.contrEquiv1 D K hr hs).symm k)
  rw [ValueIdx.contrEquiv1_symm_val] at this
  rw [← this, EReal.coe_mul]
  rfl

variable (d : Data)

/-- The reciprocal root over its number is the reciprocal root's cube. -/
theorem inv_sqrt_cube {v : ℝ} (hv : 0 < v) : (Real.sqrt v)⁻¹ / v = (Real.sqrt v)⁻¹ * (Real.sqrt v)⁻¹ * (Real.sqrt v)⁻¹ := by
  have hs : Real.sqrt v ≠ 0 := (Real.sqrt_pos.2 hv).ne'
  have he : v = Real.sqrt v * Real.sqrt v := (Real.mul_self_sqrt hv.le).symm
  nth_rewrite 2 [he]
  field_simp

theorem sum_xc (r : ℕ) : ∑ k ∈ range 1024, xc d r k = 0 := by
  simp only [xc, sum_sub_distrib, sum_const, card_range, nsmul_eq_mul, mean]
  push_cast; ring

theorem r6 : val_main_v6 (F := Ideal) (E2 d.pr) = E2 fun r _ => mean d r := by
  unfold val_main_v6 val_main_v4 val_main_v3 val_main_v5 val_main_cst_0 val_main_cst_1
  rw [constant_E0 _ _ bits_zero, constant_E0 _ _ bits_1024, hostRowSum_E1, splat_E2, bid_1_col _ _ (by decide), hdivf_E2 _ _ (fun _ _ => by norm_num)]
  rfl
theorem r8 : val_main_v8 (F := Ideal) (E2 d.pr) = E2 (xc d) := by
  unfold val_main_v8 val_main_v7
  rw [r6, bid_col _ _ (by decide), subf_E2]; rfl
theorem r17 : val_main_v17 (F := Ideal) (E2 d.pr) = E2 (xc d) := r8 d
theorem r19 : val_main_v19 (F := Ideal) (E2 d.pr) = E2 fun r _ => var d r := by
  unfold val_main_v19 val_main_v18 val_main_v15 val_main_v14 val_main_v13 val_main_v12 val_main_v9 val_main_cst_3 val_main_cst_4 val_main_cst_5
  rw [r8, mulf_E2, constant_E0 _ _ bits_zero, constant_E0 _ _ bits_1024, constant_E0 _ _ bits_eps5, hostRowSum_E1, splat_E2, splat_E2,
    bid_1_col _ _ (by decide), hdivf_E2 _ _ (fun _ _ => by norm_num), addf_E2]
  rfl
theorem r20 : val_main_v20 (F := Ideal) (E2 d.pr) = E2 fun r _ => rs d r := by
  unfold val_main_v20; rw [r19, hrsqrt_E2 _ (fun r _ => var_pos d r)]; rfl
theorem r23 : val_main_v23 (F := Ideal) (E2 d.pr) = E2 fun r _ => -(1 / 2) * (rs d r / var d r) := by
  unfold val_main_v23 val_main_v22 val_main_v21 val_main_cst_6
  rw [r19, r20, constant_E0 _ _ bits_neg_half, splat_E2, hdivf_E2 _ _ (fun r _ => (var_pos d r).ne'), mulf_E2]
theorem r25 : val_main_v25 (F := Ideal) (E2 d.pr) = E2 (xh d) := by
  unfold val_main_v25 val_main_v24
  rw [r17, r20, bid_col _ _ (by decide), mulf_E2]; rfl
theorem r11 : val_main_v11 (F := Ideal) (E2 d.pr) = E2 fun r c => 2 * xc d r c := by
  unfold val_main_v11 val_main_v10 val_main_cst_2
  rw [r8, constant_E0 _ _ bits_two, splat_E2, mulf_E2]

theorem r41 : val_main_v41 (F := Ideal) (E2 d.dp) (E2 d.dg) (E2 d.du) (E2 d.wg) (E2 d.wu) = E2 (dh d) := by
  unfold val_main_v41 val_main_v40 val_main_v39 val_main_v38 val_main_v37 val_main_v36 val_main_v0 val_main_v1 val_main_cst_8
  rw [constant_E0 _ _ bits_alpha, splat_E2, mulf_E2, extf_E2, extf_E2,
    hostDot_E2 _ 2816 rfl rfl none d.du d.wu (fun i j k => d.du i k * d.wu j k) (fun _ _ => rfl),
    hostDot_E2 _ 2816 rfl rfl none d.dg d.wg (fun i j k => d.dg i k * d.wg j k) (fun _ _ => rfl), addf_E2, addf_E2]
  exact E2_congr fun r _ c _ => by unfold dh; ring
theorem r49 : val_main_v49 (F := Ideal) (E2 d.dp) (E2 d.dg) (E2 d.du) (E2 d.wg) (E2 d.wu) (E1 d.g1) = E2 (dxh d) := by
  unfold val_main_v49 val_main_v48 val_main_v26
  rw [r41, bid_1_row _ _ (by decide), bid_row _ _ (by decide), mulf_E2]; rfl
theorem r55 : val_main_v55 (F := Ideal) (E2 d.dp) (E2 d.dg) (E2 d.du) (E2 d.pr) (E2 d.wg) (E2 d.wu) (E1 d.g1)
    = E2 fun r c => dxh d r c * rs d r := by
  unfold val_main_v55 val_main_v54
  rw [r49, r20, bid_col _ _ (by decide), mulf_E2]
/-- What reaches the centred values through their mean square: this, times each of them. -/
def back (r : ℕ) : ℝ := (∑ k ∈ range 1024, xc d r k * dxh d r k) * (-(1 / 2) * (rs d r / var d r)) / 1024
theorem r64 : val_main_v64 (F := Ideal) (E2 d.dp) (E2 d.dg) (E2 d.du) (E2 d.pr) (E2 d.wg) (E2 d.wu) (E1 d.g1)
    = E2 fun r c => back d r * (2 * xc d r c) := by
  unfold val_main_v64 val_main_v63 val_main_v62 val_main_v61 val_main_v60 val_main_v56 val_main_v53 val_main_v52 val_main_v51 val_main_cst_13 val_main_cst_15 val_main_cst_16
  rw [r49, r17, r23, r11, mulf_E2, constant_E0 _ _ bits_zero, constant_E0 _ _ bits_1024, hostRowSum_E1, sc_1_col, mulf_E2, splat_E2,
    hdivf_E2 _ _ (fun _ _ => by norm_num), hostRowSum_E1, bid_1_col _ _ (by decide), mulf_E2]
  exact E2_congr fun r _ c _ => by simp [back]
theorem r74 : val_main_v74 (F := Ideal) (E2 d.dp) (E2 d.dg) (E2 d.du) (E2 d.pr) (E2 d.wg) (E2 d.wu) (E1 d.g1) = E2 (dpre d) := by
  unfold val_main_v74 val_main_v73 val_main_v72 val_main_v71 val_main_v70 val_main_v69 val_main_v68 val_main_v67 val_main_v66 val_main_v65 val_main_v59 val_main_v58 val_main_v57 val_main_cst_14 val_main_cst_17 val_main_cst_18 val_main_cst_19
  rw [r55, r64, hnegf_E2, hnegf_E2, constant_E0 _ _ bits_zero, constant_E0 _ _ bits_1024, hostRowSum_E1, hostRowSum_E1, sc_1_col, sc_1_col, addf_E2, addf_E2, splat_E2,
    hdivf_E2 _ _ (fun _ _ => by norm_num), hostRowSum_E1, bid_1_col _ _ (by decide), addf_E2]
  refine E2_congr fun r _ c _ => ?_
  have hz := sum_xc d r
  have hc := inv_sqrt_cube (var_pos d r)
  change rs d r / var d r = rs d r * rs d r * rs d r at hc
  simp only [sum_range_one, sum_neg_distrib, ← sum_mul, ← mul_sum, hz, dpre, back, hc, xh]
  have he : ∑ k ∈ range 1024, dxh d r k * (xc d r k * rs d r) = (∑ k ∈ range 1024, xc d r k * dxh d r k) * rs d r := by
    rw [sum_mul]; exact sum_congr rfl fun _ _ => by ring
  rw [he]; ring

theorem r130 : val_main_v130 (F := Ideal) (E2 d.dp) (E2 d.dg) (E2 d.du) (E2 d.wg) (E2 d.wu) = E2 fun _ k => ∑ r ∈ range 4224, dh d r k := by
  unfold val_main_v130 val_main_v44 val_main_v43 val_main_v42 val_main_cst_9 val_main_cst_10
  rw [r41, constant_E0 _ _ bits_zero, hostColSum_E1, sc_1_row, hostColSum_E1, bid_1_row _ _ (by decide)]
  exact E2_congr fun r _ c _ => by simp
theorem r129 : val_main_v129 (F := Ideal) (E2 d.dp) (E2 d.dg) (E2 d.du) (E2 d.pr) (E2 d.wg) (E2 d.wu)
    = E2 fun _ k => ∑ r ∈ range 4224, dh d r k * xh d r k := by
  unfold val_main_v129 val_main_v50 val_main_v47 val_main_v46 val_main_v45 val_main_cst_11 val_main_cst_12
  rw [r41, r25, mulf_E2, constant_E0 _ _ bits_zero, hostColSum_E1, sc_1_row, hostColSum_E1, bid_1_row _ _ (by decide)]
  exact E2_congr fun r _ c _ => by simp [mul_comm]

/-! ### The output projection, and the gated norm's gradient head by head -/

theorem project_E2 (f g : ℕ → ℕ → ℝ) : Host.dotGeneral (F := Ideal) (φ₁ := .f32) (φ₂ := .f32) dot_S4224x1024_S1024x1024_S4224x1024_1_1_0_0_n_n none (E2 f) (E2 g)
    = E2 fun i j => ∑ k ∈ range 1024, f i k * g j k := hostDot_E2 _ 1024 rfl rfl none f g _ fun _ _ => rfl

theorem r100 : val_main_v100 (F := Ideal) (E2 d.dp) (E2 d.dg) (E2 d.du) (E2 d.pr) (E2 d.wg) (E2 d.wu) (E1 d.g1) (E2 d.wo) = E2 (dmix d) := by
  unfold val_main_v100
  rw [r74]; exact project_E2 (dpre d) d.wo
theorem r128 : val_main_v128 (F := Ideal) (E2 d.dp) (E2 d.dg) (E2 d.du) (E2 d.pr) (E2 d.wg) (E2 d.wu) (E1 d.g1) (E2 d.wo)
    = E2 fun r k => dmix d r (dealt k) := by
  unfold val_main_v128 val_main_v127 val_main_v126 val_main_v101
  rw [r100, slice_E2]
  refine (deal_columns _ _ _ _).trans ?_
  exact E2_congr fun r _ c _ => by simp
theorem r102 : val_main_v102 (F := Ideal) (E2 d.dp) (E2 d.dg) (E2 d.du) (E2 d.pr) (E2 d.wg) (E2 d.wu) (E1 d.g1) (E2 d.wo)
    = E2 fun r k => dmix d r (512 + k) := by
  unfold val_main_v102
  rw [r100, slice_E2]
  exact E2_congr fun r _ c _ => by simp

theorem r76 : val_main_v76 (F := Ideal) (E2 d.og) = E3 fun r h c => d.og r (h * 128 + c) := split_columns _ _ rfl
theorem r79 : val_main_v79 (F := Ideal) (E2 d.og) = E3 fun r h c => 2 * d.og r (h * 128 + c) := by
  unfold val_main_v79 val_main_v78 val_main_cst_21
  rw [r76, constant_E0 _ _ bits_two, splat_E3, mulf_E3]
theorem r85 : val_main_v85 (F := Ideal) (E2 d.og) = E3 fun r h _ => vr d r h := by
  unfold val_main_v85 val_main_v84 val_main_v83 val_main_v82 val_main_v81 val_main_v80 val_main_v77 val_main_cst_22 val_main_cst_23 val_main_cst_24
  rw [r76, mulf_E3, constant_E0 _ _ bits_zero, constant_E0 _ _ bits_128, constant_E0 _ _ bits_eps6, hostLastSum_E2, splat_E3, splat_E3,
    bid_2_3 _ _ (by decide) (by decide), hdivf_E3 _ _ (fun _ _ _ => by norm_num), addf_E3]
  rfl
theorem r86 : val_main_v86 (F := Ideal) (E2 d.og) = E3 fun r h _ => rr d r h := by
  unfold val_main_v86; rw [r85, hrsqrt_E3 _ (fun r h _ => vr_pos d r h)]; rfl
theorem r89 : val_main_v89 (F := Ideal) (E2 d.og) = E3 fun r h _ => -(1 / 2) * (rr d r h / vr d r h) := by
  unfold val_main_v89 val_main_v88 val_main_v87 val_main_cst_25
  rw [r85, r86, constant_E0 _ _ bits_neg_half, splat_E3, hdivf_E3 _ _ (fun r h _ => (vr_pos d r h).ne'), mulf_E3]
theorem r91 : val_main_v91 (F := Ideal) (E2 d.og) = E3 (nx d) := by
  unfold val_main_v91 val_main_v90
  rw [r76, r86, bid_3_last _ _ (by decide) (by decide), mulf_E3]; rfl
theorem r93 : val_main_v93 (F := Ideal) (E1 d.gn) = E3 fun _ _ c => d.gn c := by
  unfold val_main_v93 val_main_v92
  rw [bid_1_3 _ _ (by decide), bid_3_first _ _ (by decide)]
theorem r95 : val_main_v95 (F := Ideal) (E2 d.og) (E1 d.gn) = E2 fun r k => nx d r (k / 128) (k % 128) * d.gn (k % 128) := by
  unfold val_main_v95 val_main_v94
  rw [r91, r93, mulf_E3, join_columns (n := 4) (o := 128) _ _ rfl]

theorem sg_eq (x : ℝ) : (1 : ℝ) + Real.exp (-x) ≠ 0 := (add_pos one_pos (Real.exp_pos _)).ne'
theorem r96_2 : val_main_v96_2 (F := Ideal) (E2 d.rg) = E2 (sg d) := by
  unfold val_main_v96_2 val_main_call0_v4 val_main_call0_v3 val_main_call0_v2 val_main_call0_v1 val_main_call0_v0 val_main_call0_cst val_main_call0_cst_0
  rw [hnegf_E2, hexp_E2, constant_E0 _ _ bits_one, splat_E2, addf_E2, hdivf_E2 _ _ (fun _ _ => sg_eq _)]
  exact E2_congr fun r _ c _ => by unfold sg; rw [zero_sub]
theorem r96_1 : val_main_v96_1 (F := Ideal) (E2 d.rg) = E2 fun r k => sg d r k * (1 - sg d r k) := by
  unfold val_main_v96_1 val_main_call0_v7 val_main_call0_v6 val_main_call0_cst_1
  rw [r96_2, constant_E0 _ _ bits_one, splat_E2, subf_E2, mulf_E2]
theorem r96_0 : val_main_v96_0 (F := Ideal) (E2 d.rg) = E2 fun r k => d.rg r k * sg d r k := by
  unfold val_main_v96_0; rw [r96_2, mulf_E2]

/-- Column `k` is column `k % 128` of head `k / 128`. -/
theorem head_of (k : ℕ) : k / 128 * 128 + k % 128 = k := Nat.div_add_mod' _ _

theorem r105 : val_main_v105 (F := Ideal) (E2 d.dp) (E2 d.dg) (E2 d.du) (E2 d.pr) (E2 d.wg) (E2 d.wu) (E1 d.g1) (E2 d.wo) (E2 d.og) (E2 d.rg) (E1 d.gn)
    = E2 fun r k => dgate d r (k / 128) (k % 128) := by
  unfold val_main_v105 val_main_call1_v2 val_main_call1_v1 val_main_call1_v0 val_main_v103
  rw [r95, r102, r96_2, r96_1, mulf_E2, mulf_E2, mulf_E2, mulf_E2, addf_E2]
  exact E2_congr fun r _ c _ => by unfold dgate; rw [head_of]; ring

theorem r106 : val_main_v106 (F := Ideal) (E2 d.dp) (E2 d.dg) (E2 d.du) (E2 d.pr) (E2 d.wg) (E2 d.wu) (E1 d.g1) (E2 d.wo) (E2 d.rg) = E3 (dn d) := by
  unfold val_main_v106 val_main_v104
  rw [r102, r96_0, mulf_E2, split_columns _ _ rfl]; rfl
theorem r131 : val_main_v131 (F := Ideal) (E2 d.dp) (E2 d.dg) (E2 d.du) (E2 d.pr) (E2 d.wg) (E2 d.wu) (E1 d.g1) (E2 d.wo) (E2 d.og) (E2 d.rg)
    = E2 fun _ c => ∑ r ∈ range 4224, ∑ h ∈ range 4, nx d r h c * dn d r h c := by
  unfold val_main_v131 val_main_v112 val_main_v109 val_main_v108 val_main_v107 val_main_cst_26 val_main_cst_27
  rw [r106, r91, mulf_E3, constant_E0 _ _ bits_zero, hostFirstSum_E1, sc_1_3, hostFirstSum_E1, bid_1_row _ _ (by decide)]
  exact E2_congr fun r _ c _ => by simp
theorem r111 : val_main_v111 (F := Ideal) (E2 d.dp) (E2 d.dg) (E2 d.du) (E2 d.pr) (E2 d.wg) (E2 d.wu) (E1 d.g1) (E2 d.wo) (E2 d.rg) (E1 d.gn) = E3 (dnh d) := by
  unfold val_main_v111
  rw [r106, show val_main_v110 (F := Ideal) (E1 d.gn) = _ from r93 d, mulf_E3]; rfl
theorem r125 : val_main_v125 (F := Ideal) (E2 d.dp) (E2 d.dg) (E2 d.du) (E2 d.pr) (E2 d.wg) (E2 d.wu) (E1 d.g1) (E2 d.wo) (E2 d.og) (E2 d.rg) (E1 d.gn)
    = E2 fun r k => dgla d r (k / 128) (k % 128) := by
  unfold val_main_v125 val_main_v124 val_main_v123 val_main_v122 val_main_v121 val_main_v120 val_main_v119 val_main_v118 val_main_v117 val_main_v116 val_main_v115 val_main_v114 val_main_v113 val_main_cst_28 val_main_cst_29 val_main_cst_30
  rw [r111, r76, r86, r89, r79, mulf_E3, constant_E0 _ _ bits_zero, constant_E0 _ _ bits_128, hostLastSum_E2, sc_2_31, mulf_E3, splat_E3,
    hdivf_E3 _ _ (fun _ _ _ => by norm_num), hostLastSum_E2, bid_2_3 _ _ (by decide) (by decide), mulf_E3,
    bid_3_last _ _ (by decide) (by decide), mulf_E3, addf_E3, join_columns (n := 4) (o := 128) _ _ rfl]
  refine E2_congr fun r _ c _ => ?_
  generalize c / 128 = h
  generalize c % 128 = c
  have hc := inv_sqrt_cube (vr_pos d r h)
  change rr d r h / vr d r h = rr d r h * rr d r h * rr d r h at hc
  have he : ∑ k ∈ range 128, dnh d r h k * (d.og r (h * 128 + k) * rr d r h) = (∑ k ∈ range 128, d.og r (h * 128 + k) * dnh d r h k) * rr d r h := by
    rw [sum_mul]; exact sum_congr rfl fun _ _ => by ring
  simp only [sum_range_one, dgla, hc, nx]
  rw [he]; ring

end Cert.Back

end
-- ==== Proof.BackJoin.lean ====
/- The kernel and the reference side by side: finite arguments are real data, and at real data the two end at the same seven arrays. -/
module

public import proofs.«01_k».proof.Defs
public import proofs.«01_k».proof.Proof.Finite
public import proofs.«01_k».proof.Proof.BackRun
public import proofs.«01_k».proof.Proof.BackRef
public import proofs.«01_k».proof.Proof.Gen.Pre_finite2

@[expose] public section

set_option maxRecDepth 16384

noncomputable section

namespace Cert.Back

open Cert.Lift Idealize.ShloMosaic Idealize.SL.Sem Finset

/-- A scalar check as a column of one. -/
def one (b : IVec Cert.Pre_finite2.S_ 1) : (s : Shape) × (s.Idx → BitVec 1) :=
  ⟨Cert.Pre_finite2.S1, broadcastInDim Cert.Pre_finite2.S1 ![] Cert.Pre_finite2.Facts.bcast_S_S1 b⟩

/-- Eleven checks stacked are all ones: each is one. -/
theorem checks (b0 b1 b2 b3 b4 b5 b6 b7 b8 b9 b10 : IVec Cert.Pre_finite2.S_ 1) (e : Cert.Pre_finite2.S_.Idx)
    (h : Cert.Pre_finite2.fn_part3 (F := Ideal) b4 b5 b6 b7 b8 b9 b10 (broadcastInDim Cert.Pre_finite2.S1 ![] Cert.Pre_finite2.Facts.bcast_S_S1 b0)
      (broadcastInDim Cert.Pre_finite2.S1 ![] Cert.Pre_finite2.Facts.bcast_S_S1 b1) (broadcastInDim Cert.Pre_finite2.S1 ![] Cert.Pre_finite2.Facts.bcast_S_S1 b2)
      (broadcastInDim Cert.Pre_finite2.S1 ![] Cert.Pre_finite2.Facts.bcast_S_S1 b3) = fun _ => 1#1) :
    b0 e = 1#1 ∧ b1 e = 1#1 ∧ b2 e = 1#1 ∧ b3 e = 1#1 ∧ b4 e = 1#1 ∧ b5 e = 1#1 ∧ b6 e = 1#1 ∧ b7 e = 1#1 ∧ b8 e = 1#1 ∧ b9 e = 1#1 ∧ b10 e = 1#1 := by
  haveI : Subsingleton Cert.Pre_finite2.S_.Idx := ⟨fun a b => funext fun k => k.elim0⟩
  have read (b : IVec Cert.Pre_finite2.S_ 1) (i : Cert.Pre_finite2.S1.Idx) : broadcastInDim Cert.Pre_finite2.S1 ![] Cert.Pre_finite2.Facts.bcast_S_S1 b i = b e :=
    congrArg b (Subsingleton.elim _ _)
  have at_ (k : Fin 11) (b : IVec Cert.Pre_finite2.S_ 1)
      (hx : ([one b0, one b1, one b2, one b3, one b4, one b5, one b6, one b7, one b8, one b9, one b10])[k.val]'k.isLt = one b)
      (hp : (((([one b0, one b1, one b2, one b3, one b4, one b5, one b6, one b7, one b8, one b9, one b10]).take k.val).map (·.1)).map fun s =>
        if h : s.rank = Cert.Pre_finite2.S11.rank then s.size ((0 : Fin 1).cast h.symm) else 0).sum = k.val) : b e = 1#1 :=
    (read b _).symm.trans ((concatenate_apply_piece (t := Cert.Pre_finite2.S11) 0 [one b0, one b1, one b2, one b3, one b4, one b5, one b6, one b7, one b8, one b9, one b10]
      Cert.Pre_finite2.Facts.concatenates_S1_S1_S1_S1_S1_S1_S1_S1_S1_S1_S1_S11_d0 (ix1 k) k.val k.isLt Cert.Pre_finite2.S1 (one b).2 hx rfl k.val hp (ix1 0)
      (fun b hb => absurd (Subsingleton.elim (b.cast rfl) 0) hb) rfl).symm.trans (congrFun h (ix1 k)))
  exact ⟨at_ 0 _ rfl rfl, at_ 1 _ rfl rfl, at_ 2 _ rfl rfl, at_ 3 _ rfl rfl, at_ 4 _ rfl rfl, at_ 5 _ rfl rfl, at_ 6 _ rfl rfl, at_ 7 _ rfl rfl, at_ 8 _ rfl rfl, at_ 9 _ rfl rfl, at_ 10 _ rfl rfl⟩

/-- Finite arguments are data. -/
theorem data_of_finite (x0 : (Mat 4224 1024).Idx → EReal) (x1 x2 : (Mat 4224 2816).Idx → EReal) (x3 : (Mat 4224 1024).Idx → EReal)
    (x4 x5 : (Mat 1024 2816).Idx → EReal) (x6 : (⟨1, ![1024]⟩ : Shape).Idx → EReal) (x7 : (Mat 1024 1024).Idx → EReal)
    (x8 x9 : (Mat 4224 512).Idx → EReal) (x10 : (⟨1, ![128]⟩ : Shape).Idx → EReal)
    (h : Cert.Pre_finite2.fn (F := Ideal) x0 x1 x2 x3 x4 x5 x6 x7 x8 x9 x10 = fun _ => 1#1) :
    ∃ d : Data, x0 = E2 d.dp ∧ x1 = E2 d.dg ∧ x2 = E2 d.du ∧ x3 = E2 d.pr ∧ x4 = E2 d.wg ∧ x5 = E2 d.wu ∧ x6 = E1 d.g1 ∧ x7 = E2 d.wo
      ∧ x8 = E2 d.og ∧ x9 = E2 d.rg ∧ x10 = E1 d.gn := by
  unfold Cert.Pre_finite2.fn Cert.Pre_finite2.fn_part1 Cert.Pre_finite2.fn_part2 at h
  obtain ⟨c0, c1, c2, c3, c4, c5, c6, c7, c8, c9, c10⟩ := checks _ _ _ _ _ _ _ _ _ _ _ (fun a => a.elim0) h
  obtain ⟨f0, h0⟩ := exists_E2 x0 (real_of_check x0 _ _ _ _ c0)
  obtain ⟨f3, h3⟩ := exists_E2 x3 (real_of_check x3 _ _ _ _ c1)
  obtain ⟨f4, h4⟩ := exists_E2 x4 (real_of_check x4 _ _ _ _ c2)
  obtain ⟨f5, h5⟩ := exists_E2 x5 (real_of_check x5 _ _ _ _ c3)
  obtain ⟨f6, h6⟩ := exists_E1 x6 (real_of_check x6 _ _ _ _ c4)
  obtain ⟨f7, h7⟩ := exists_E2 x7 (real_of_check x7 _ _ _ _ c5)
  obtain ⟨f8, h8⟩ := exists_E2 x8 (real_of_check x8 _ _ _ _ c6)
  obtain ⟨f9, h9⟩ := exists_E2 x9 (real_of_check x9 _ _ _ _ c7)
  obtain ⟨f10, h10⟩ := exists_E1 x10 (real_of_check x10 _ _ _ _ c8)
  obtain ⟨f1, h1⟩ := exists_E2 x1 (real_of_check x1 _ _ _ _ c9)
  obtain ⟨f2, h2⟩ := exists_E2 x2 (real_of_check x2 _ _ _ _ c10)
  exact ⟨⟨f0, f1, f2, f3, f4, f5, f6, f7, f8, f9, f10⟩, h0, h1, h2, h3, h4, h5, h6, h7, h8, h9, h10⟩

/-! ### Sums over rows block by block -/
variable (d : Data)

theorem scale_all : scaleSum d 10 = fun _ k => ∑ r ∈ range 4224, dh d r k * xh d r k := rfl
theorem shift_all : shiftSum d 10 = fun _ k => ∑ r ∈ range 4224, dh d r k := rfl
theorem gain_from (s : ℕ) (f : ℕ → ℕ → ℝ) (r c : ℕ) :
    gain (d.from s) f r c = f r c + ∑ k ∈ range 384, ∑ h ∈ range 4, nx d (s + k) h c * dn d (s + k) h c := by
  unfold gain
  simp only [sum_range_succ (n := 3), sum_range_succ (n := 2), sum_range_succ (n := 1), sum_range_one, sum_add_distrib, ← add_assoc]
  have e (h : ℕ) : ∑ k ∈ range 384, dn (d.from s) k h c * nx (d.from s) k h c = ∑ k ∈ range 384, nx d (s + k) h c * dn d (s + k) h c :=
    sum_congr rfl fun _ _ => mul_comm _ _
  rw [e 0, e 1, e 2, e 3]
theorem gain_all (n r c : ℕ) : gainSum d n r c = ∑ k ∈ range ((n + 1) * 384), ∑ h ∈ range 4, nx d k h c * dn d k h c := by
  induction n with
  | zero => simp only [gainSum, gain_from, zero_mul, zero_add, one_mul]
  | succ n ih => rw [gainSum, gain_from, ih, ← sum_range_add, ← Nat.succ_mul]

/-! ### The run -/
open Cert.Kernel2Ideal Cert.Kernel2Ideal.Gen in
/-- The kernel's run at data. -/
theorem kernel_run (m : (ℓ : Loc nD τ sig) → Buf (Elt Ideal) ℓ) (ρ : Dev nD → PrngReg) (d : Dev nD → Data) (h : ∀ c, Args m c (d c)) :
    θ_run (defs (F := Ideal)) (onTc (τ := τ) (main (F := Ideal))) ⟨m, fun _ => 0, ρ⟩ fun r => ∀ c : Dev nD,
      r.2.mem ((c.tc : Thread nD τ).loc main_v7_0) = E2 (dpre (d c))
      ∧ r.2.mem ((c.tc : Thread nD τ).loc main_v7_1) = E2 (fun _ k => ∑ r ∈ range 4224, dh (d c) r k * xh (d c) r k)
      ∧ r.2.mem ((c.tc : Thread nD τ).loc main_v7_2) = E2 (fun _ k => ∑ r ∈ range 4224, dh (d c) r k)
      ∧ r.2.mem ((c.tc : Thread nD τ).loc main_v7_3) = E2 (fun r k => dmix (d c) r (dealt k))
      ∧ r.2.mem ((c.tc : Thread nD τ).loc main_v7_4) = E2 (fun r k => dgla (d c) r (k / 128) (k % 128))
      ∧ r.2.mem ((c.tc : Thread nD τ).loc main_v7_5) = E2 (fun r k => dgate (d c) r (k / 128) (k % 128))
      ∧ r.2.mem ((c.tc : Thread nD τ).loc main_v7_6) = E2 (fun _ k => ∑ r ∈ range 4224, ∑ h ∈ range 4, nx (d c) r h k * dn (d c) r h k)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run (defs (F := Ideal)) _ _).mono (fun r hr c => by
    obtain ⟨o0, o1, o2, o3, o4, o5, o6, kept⟩ := hr c
    exact ⟨o0.trans (final11 (h c)), o1.trans ((final12 (h c)).trans (congrArg E2 (scale_all (d c)))),
      o2.trans ((final13 (h c)).trans (congrArg E2 (shift_all (d c)))), o3.trans (final14 (h c)), o4.trans (final15 (h c)), o5.trans (final16 (h c)),
      o6.trans ((final17 (h c)).trans (congrArg E2 (funext fun r => funext fun k => gain_all (d c) 10 r k))), kept⟩) (Cert.Kernel2Ideal.Value.run_blocks m ρ)

open Cert.Reference2Ideal Cert.Reference2Ideal.Gen Cert.Reference2Ideal.Read in
/-- The reference's run at the same data. -/
theorem reference_run (m : (ℓ : Loc nD τ sig) → Buf (Elt Ideal) ℓ) (ρ : Dev nD → PrngReg) (d : Dev nD → Data)
    (a0 : ∀ c : Dev nD, m ((c.tc : Thread nD τ).loc main_arg0) = E2 (d c).dp) (a1 : ∀ c : Dev nD, m ((c.tc : Thread nD τ).loc main_arg1) = E2 (d c).dg)
    (a2 : ∀ c : Dev nD, m ((c.tc : Thread nD τ).loc main_arg2) = E2 (d c).du) (a3 : ∀ c : Dev nD, m ((c.tc : Thread nD τ).loc main_arg3) = E2 (d c).pr)
    (a4 : ∀ c : Dev nD, m ((c.tc : Thread nD τ).loc main_arg4) = E2 (d c).wg) (a5 : ∀ c : Dev nD, m ((c.tc : Thread nD τ).loc main_arg5) = E2 (d c).wu)
    (a6 : ∀ c : Dev nD, m ((c.tc : Thread nD τ).loc main_arg6) = E1 (d c).g1) (a7 : ∀ c : Dev nD, m ((c.tc : Thread nD τ).loc main_arg7) = E2 (d c).wo)
    (a8 : ∀ c : Dev nD, m ((c.tc : Thread nD τ).loc main_arg8) = E2 (d c).og) (a9 : ∀ c : Dev nD, m ((c.tc : Thread nD τ).loc main_arg9) = E2 (d c).rg)
    (a10 : ∀ c : Dev nD, m ((c.tc : Thread nD τ).loc main_arg10) = E1 (d c).gn) :
    θ_run (defs (F := Ideal)) (onTc (τ := τ) (main (F := Ideal))) ⟨m, fun _ => 0, ρ⟩ fun r => ∀ c : Dev nD,
      r.2.mem ((c.tc : Thread nD τ).loc main_v74) = E2 (dpre (d c))
      ∧ r.2.mem ((c.tc : Thread nD τ).loc main_v129) = E2 (fun _ k => ∑ r ∈ range 4224, dh (d c) r k * xh (d c) r k)
      ∧ r.2.mem ((c.tc : Thread nD τ).loc main_v130) = E2 (fun _ k => ∑ r ∈ range 4224, dh (d c) r k)
      ∧ r.2.mem ((c.tc : Thread nD τ).loc main_v128) = E2 (fun r k => dmix (d c) r (dealt k))
      ∧ r.2.mem ((c.tc : Thread nD τ).loc main_v125) = E2 (fun r k => dgla (d c) r (k / 128) (k % 128))
      ∧ r.2.mem ((c.tc : Thread nD τ).loc main_v105) = E2 (fun r k => dgate (d c) r (k / 128) (k % 128))
      ∧ r.2.mem ((c.tc : Thread nD τ).loc main_v131) = E2 (fun _ k => ∑ r ∈ range 4224, ∑ h ∈ range 4, nx (d c) r h k * dn (d c) r h k)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run (defs (F := Ideal)) _ _).mono (fun r hr c => by
    obtain ⟨o0, o1, o2, o3, o4, o5, o6, kept⟩ := hr c
    refine ⟨(o0.trans (val_main_v74_eq m c)).trans ?_, (o1.trans (val_main_v129_eq _ _ _ _ _ _)).trans ?_, (o2.trans (val_main_v130_eq _ _ _ _ _)).trans ?_,
      (o3.trans (val_main_v128_eq m c)).trans ?_, (o4.trans (val_main_v125_eq m c)).trans ?_, (o5.trans (val_main_v105_eq m c)).trans ?_,
      (o6.trans (val_main_v131_eq m c)).trans ?_, kept⟩
    · rw [a0, a1, a2, a3, a4, a5, a6]; exact r74 _
    · rw [a0, a1, a2, a3, a4, a5]; exact r129 _
    · rw [a0, a1, a2, a4, a5]; exact r130 _
    · rw [a0, a1, a2, a3, a4, a5, a6, a7]; exact r128 _
    · rw [a0, a1, a2, a3, a4, a5, a6, a7, a8, a9, a10]; exact r125 _
    · rw [a0, a1, a2, a3, a4, a5, a6, a7, a8, a9, a10]; exact r105 _
    · rw [a0, a1, a2, a3, a4, a5, a6, a7, a8, a9]; exact r131 _) (Cert.Reference2Ideal.Value.run m ρ)

/-- The value claim. -/
theorem algebraic : Cert.algebraic_Kernel2Ideal_Reference2Ideal_pre_finite2 := by
  intro m ρ m' ρ' hpre heq
  choose d h0 h1 h2 h3 h4 h5 h6 h7 h8 h9 h10 using fun c => data_of_finite _ _ _ _ _ _ _ _ _ _ _ (hpre c)
  exact ⟨_, _, _, _, _, _, _, kernel_run m ρ d fun c => ⟨h0 c, h1 c, h2 c, h3 c, h4 c, h5 c, h6 c, h7 c, h8 c, h9 c, h10 c⟩,
    reference_run m' ρ' d (fun c => (heq c).1.trans (h0 c)) (fun c => (heq c).2.1.trans (h1 c)) (fun c => (heq c).2.2.1.trans (h2 c))
      (fun c => (heq c).2.2.2.1.trans (h3 c)) (fun c => (heq c).2.2.2.2.1.trans (h4 c)) (fun c => (heq c).2.2.2.2.2.1.trans (h5 c))
      (fun c => (heq c).2.2.2.2.2.2.1.trans (h6 c)) (fun c => (heq c).2.2.2.2.2.2.2.1.trans (h7 c)) (fun c => (heq c).2.2.2.2.2.2.2.2.1.trans (h8 c))
      (fun c => (heq c).2.2.2.2.2.2.2.2.2.1.trans (h9 c)) (fun c => (heq c).2.2.2.2.2.2.2.2.2.2.trans (h10 c))⟩

end Cert.Back

end
-- ==== Proof.Outer.lean ====
/- The weight gradients' products: each adds, one block of rows after the other, the products of the two operands' rows. Nothing in
   them needs the entries to be finite: a sum of ideal numbers may be taken in any order. -/
module

public import proofs.«01_k».proof.Proof.Lift
public import proofs.«01_k».proof.Proof.Gen.Kernel3Ideal.Frame
public import Idealize.ShloMosaic.Lib.Pipeline.ValueKit
public import Idealize.ShloMosaic.Lib.Pipeline.ValueKit.Acc

@[expose] public section

set_option maxRecDepth 16384

noncomputable section

namespace Cert.Outer

open Cert.Lift Cert.Kernel3Ideal Cert.Kernel3Ideal.Gen Idealize.ShloMosaic Idealize.ShloMosaic.TcCoe Idealize.SL.Sem Finset

/-- The matrix of ideal numbers whose entry at row `r` and column `c` is `f r c`. -/
def X2 {m n : ℕ} (f : ℕ → ℕ → EReal) : (⟨2, ![m, n]⟩ : Shape).Idx → EReal := fun i => f (i 0).val (i 1).val

/-- The entries of a matrix by row and column number, zero outside. -/
def entries {m n : ℕ} (x : (⟨2, ![m, n]⟩ : Shape).Idx → EReal) (r c : ℕ) : EReal :=
  if h : r < m ∧ c < n then x (ValueIdx.ix2 ⟨r, h.1⟩ ⟨c, h.2⟩) else 0

theorem X2_entries {m n : ℕ} (x : (⟨2, ![m, n]⟩ : Shape).Idx → EReal) : x = X2 (entries x) := funext fun i => by
  unfold X2 entries
  rw [dif_pos ⟨(i 0).isLt, (i 1).isLt⟩]
  refine congrArg x (funext fun a => ?_)
  match a with
  | 0 => rfl
  | 1 => rfl

theorem addf_X2 {m n : ℕ} {φ : FTy} (f g : ℕ → ℕ → EReal) :
    addf (F := Ideal) (s := Mat m n) (φ := φ) (X2 f) (X2 g) = X2 fun r c => f r c + g r c := rfl
theorem truncf_X2 {m n : ℕ} {φ ψ : FTy} (f : ℕ → ℕ → EReal) (h : ψ.bits < φ.bits) :
    truncf (F := Ideal) (s := Mat m n) (φ := φ) ψ (X2 f) h = X2 f := rfl
theorem extf_X2 {m n : ℕ} {φ ψ : FTy} (f : ℕ → ℕ → EReal) (h : φ.bits < ψ.bits) :
    extf (F := Ideal) (s := Mat m n) (φ := φ) ψ (X2 f) h = X2 f := rfl
theorem shapeCast_X2 {m n : ℕ} (f : ℕ → ℕ → EReal) (h) : shapeCast (s := ⟨2, ![m, n]⟩) ⟨2, ![m, n]⟩ (X2 f) h = X2 f := shapeCast_self _ _
theorem transpose_X2 {m n : ℕ} (f : ℕ → ℕ → EReal) (h : (Mat m n).Transposes [1, 0] (Mat n m)) :
    transpose (Mat n m) [1, 0] (X2 f) h = X2 fun r c => f c r := funext fun j =>
  transpose_apply (s := Mat m n) (t := Mat n m) _ _ h j (fun a => match a with | 0 => j 1 | 1 => j 0) fun b => by
    match b with
    | 0 => rfl
    | 1 => rfl

/-- A matrix product whose contracted axis is the rows of both operands, in a kernel. -/
theorem rows_mm {K m n : ℕ} {φ₁ φ₂ : FTy} (D : DotDims ⟨2, ![K, m]⟩ ⟨2, ![K, n]⟩ ⟨2, ![m, n]⟩)
    (hr : D.contr.rank = 1) (hs : D.contr.size ⟨0, by omega⟩ = K) (prec : Option ContractPrecision) (f g : ℕ → ℕ → EReal)
    (hl : ∀ j k, (D.lhsIdx j k 0).val = (k ⟨0, by omega⟩).val ∧ (D.lhsIdx j k 1).val = (j 0).val)
    (hr' : ∀ j k, (D.rhsIdx j k 0).val = (k ⟨0, by omega⟩).val ∧ (D.rhsIdx j k 1).val = (j 1).val) :
    matmul (F := Ideal) (φ₁ := φ₁) (φ₂ := φ₂) D prec (X2 f) (X2 g) (constant ⟨2, ![m, n]⟩ .f32 0x00000000#32)
      = X2 fun i j => ∑ k ∈ range K, f k i * g k j := by
  funext j
  show FloatOps.matmul (F := Ideal) (φ₁ := φ₁) (φ₂ := φ₂) D prec (X2 f) (X2 g) (constant _ .f32 0x00000000#32) j = _
  rw [Ideal.matmul_constant_zero_apply, ← Equiv.sum_comp (ValueIdx.contrEquiv1 D K hr hs).symm]
  show _ = ∑ k ∈ range K, f k (j 0).val * g k (j 1).val
  rw [Finset.sum_range]
  refine Finset.sum_congr rfl fun k _ => ?_
  show f _ _ * g _ _ = _
  rw [(hl j _).1, (hl j _).2, (hr' j _).1, (hr' j _).2, ValueIdx.contrEquiv1_symm_val]

/-- The same product on the host. -/
theorem rows_host {K m n : ℕ} {φ₁ φ₂ : FTy} (D : DotDims ⟨2, ![K, m]⟩ ⟨2, ![K, n]⟩ ⟨2, ![m, n]⟩)
    (hr : D.contr.rank = 1) (hs : D.contr.size ⟨0, by omega⟩ = K) (prec : Option ContractPrecision) (f g : ℕ → ℕ → EReal)
    (hl : ∀ j k, (D.lhsIdx j k 0).val = (k ⟨0, by omega⟩).val ∧ (D.lhsIdx j k 1).val = (j 0).val)
    (hr' : ∀ j k, (D.rhsIdx j k 0).val = (k ⟨0, by omega⟩).val ∧ (D.rhsIdx j k 1).val = (j 1).val) :
    Host.dotGeneral (F := Ideal) (φ₁ := φ₁) (φ₂ := φ₂) D prec (X2 f) (X2 g) = X2 fun i j => ∑ k ∈ range K, f k i * g k j := by
  funext j
  simp only [Host.dotGeneral]
  rw [Ideal.dotGeneral_apply, ← Equiv.sum_comp (ValueIdx.contrEquiv1 D K hr hs).symm]
  show _ = ∑ k ∈ range K, f k (j 0).val * g k (j 1).val
  rw [Finset.sum_range]
  refine Finset.sum_congr rfl fun k _ => ?_
  show f _ _ * g _ _ = _
  rw [(hl j _).1, (hl j _).2, (hr' j _).1, (hr' j _).2, ValueIdx.contrEquiv1_symm_val]

/-- The product of the two matrices' first `n` rows. -/
def upto (f g : ℕ → ℕ → EReal) (n i j : ℕ) : EReal := ∑ k ∈ range n, f k i * g k j

theorem upto_add (f g : ℕ → ℕ → EReal) (a b i j : ℕ) : upto f g a i j + ∑ k ∈ range b, f (a + k) i * g (a + k) j = upto f g (a + b) i j :=
  (sum_range_add _ a b).symm

theorem wide_mm (f g : ℕ → ℕ → EReal) : matmul (F := Ideal) (φ₁ := .bf16) (φ₂ := .bf16) dot_S1408x2816_S1408x512_S2816x512_0_0_1_1_n_n none (X2 f) (X2 g)
    (constant S2816x512 .f32 0x00000000#32) = X2 fun i j => ∑ k ∈ range 1408, f k i * g k j :=
  rows_mm _ rfl rfl none f g (fun _ _ => ⟨rfl, rfl⟩) fun _ _ => ⟨rfl, rfl⟩
theorem square_mm (f g : ℕ → ℕ → EReal) : matmul (F := Ideal) (φ₁ := .bf16) (φ₂ := .bf16) dot_S1408x1024_S1408x1024_S1024x1024_0_0_1_1_n_n none (X2 f) (X2 g)
    (constant S1024x1024 .f32 0x00000000#32) = X2 fun i j => ∑ k ∈ range 1408, f k i * g k j :=
  rows_mm _ rfl rfl none f g (fun _ _ => ⟨rfl, rfl⟩) fun _ _ => ⟨rfl, rfl⟩

theorem zero_X2 {m n : ℕ} : broadcast (Mat m n) (Scalar.ofBits (F := Ideal) .f32 0x00000000#32) = X2 fun _ _ => 0 := funext fun _ =>
  by simp [X2, broadcast]

/-! ### What a point adds -/
theorem start_wide : k0_pay1 (F := Ideal) = X2 fun _ _ => 0 := by simp only [k0_pay1, zero_X2, shapeCast_X2]
theorem step_wide (a f g : ℕ → ℕ → EReal) : k0_pay2 (F := Ideal) (X2 a) (X2 f) (X2 g) = X2 fun i j => a i j + ∑ k ∈ range 1408, f k i * g k j := by
  simp only [k0_pay2, truncf_X2, wide_mm, addf_X2, shapeCast_X2]
theorem start_square : k3_pay1 (F := Ideal) = X2 fun _ _ => 0 := by simp only [k3_pay1, zero_X2, shapeCast_X2]
theorem step_square (a f g : ℕ → ℕ → EReal) : k3_pay2 (F := Ideal) (X2 a) (X2 f) (X2 g) = X2 fun i j => a i j + ∑ k ∈ range 1408, f k i * g k j := by
  simp only [k3_pay2, truncf_X2, square_mm, addf_X2, shapeCast_X2]

/-- Blocks of 1408 rows added one after the other, a new sum begun at every third point: what stands after a point. -/
theorem accumulate {m w N : ℕ} {f g : ℕ → ℕ → EReal} (O : (n : ℕ) → n < N → (Mat m w).Idx → EReal) (b : ℕ)
    (hA : ∀ t : Fin N, t.val % 3 = 0 → O t.val t.isLt = X2 fun i j => 0 + ∑ k ∈ range 1408, f (t.val % 3 * 1408 + k) i * g (t.val % 3 * 1408 + k) (t.val / 3 * b + j))
    (hB : ∀ (t : Fin N) (a : ℕ → ℕ → EReal), ¬t.val % 3 = 0 → O (t.val - 1) (Nat.lt_of_le_of_lt (Nat.sub_le _ _) t.isLt) = X2 a →
      O t.val t.isLt = X2 fun i j => a i j + ∑ k ∈ range 1408, f (t.val % 3 * 1408 + k) i * g (t.val % 3 * 1408 + k) (t.val / 3 * b + j)) :
    (n : ℕ) → (hn : n < N) → O n hn = X2 fun i j => upto f g (n % 3 * 1408 + 1408) i (n / 3 * b + j)
  | 0, hn => by
    rw [hA ⟨0, hn⟩ rfl]
    simp [upto]
  | n + 1, hn => by
    by_cases h : (n + 1) % 3 = 0
    · rw [hA ⟨n + 1, hn⟩ h]
      simp [upto, h]
    · rw [hB ⟨n + 1, hn⟩ _ h (accumulate O b hA hB n (Nat.lt_of_succ_lt hn))]
      dsimp only
      rw [show (n + 1) % 3 = n % 3 + 1 by omega, show (n + 1) / 3 = n / 3 by omega]
      congr 1; funext i j
      rw [add_mul, one_mul]
      exact upto_add _ _ _ _ _ _

variable (V : (c : Dev nD) → (b : Ref sig .tc) → Buf (Elt Ideal) ((c : Thread nD τ).loc b)) (c : Dev nD)

/-! ### The feed-forward block's last weight: the block of columns `t / 3`, the rows block `t % 3` -/
section Down

theorem a_index0 : ∀ t : Fin cfg0.N, win0_0.index t = ![t.val % 3, 0] := (by decide +kernel : ∀ t : Fin grid0.N, win0_0.index t = ![t.val % 3, 0])
theorem b_index0 : ∀ t : Fin cfg0.N, win0_1.index t = ![t.val % 3, t.val / 3] :=
  (by decide +kernel : ∀ t : Fin grid0.N, win0_1.index t = ![t.val % 3, t.val / 3])
theorem o_index0 : ∀ t : Fin cfg0.N, win0_2.index t = ![0, t.val / 3] := (by decide +kernel : ∀ t : Fin grid0.N, win0_2.index t = ![0, t.val / 3])

variable {V c} {f g : ℕ → ℕ → EReal}

theorem a_blk0 (hf : V c main_arg0 = X2 f) (t : Fin cfg0.N) : iblk0 V c 0 t = X2 (m := 1408) (n := 2816) fun r k => f (t.val % 3 * 1408 + r) k := by
  funext y
  blk_simp [iblk0]
  rw [hf]
  refine (?_ : f ((win0_0.blk t).view.emb y 0).val ((win0_0.blk t).view.emb y 1).val = _)
  blk_simp [a_index0]
  all_goals first | rfl | simp [X2]
theorem b_blk0 (hg : V c main_arg5 = X2 g) (t : Fin cfg0.N) :
    iblk0 V c 1 t = X2 (m := 1408) (n := 512) fun r k => g (t.val % 3 * 1408 + r) (t.val / 3 * 512 + k) := by
  funext y
  blk_simp [iblk0]
  rw [hg]
  refine (?_ : g ((win0_1.blk t).view.emb y 0).val ((win0_1.blk t).view.emb y 1).val = _)
  blk_simp [b_index0]
  all_goals first | rfl | simp [X2]

theorem left0 (hf : V c main_arg0 = X2 f) (hg : V c main_arg5 = X2 g) : (n : ℕ) → (hn : n < cfg0.N) →
    outsAt0 V c n hn = X2 fun i j => upto f g (n % 3 * 1408 + 1408) i (n / 3 * 512 + j) :=
  accumulate (outsAt0 V c) 512
    (fun t h => by
      rw [outsAt0_A V c t h, a_blk0 hf, b_blk0 hg]
      frame_out
      rw [show k0_pay1 (F := Ideal) = X2 fun _ _ => 0 from start_wide]
      exact step_wide _ _ _)
    fun t a h e => by
      rw [outsAt0_B V c t h, a_blk0 hf, b_blk0 hg, e]
      frame_out
      exact step_wide _ _ _

theorem result0 (hf : V c main_arg0 = X2 f) (hg : V c main_arg5 = X2 g) : (dat0 V c).arrAt 2 cfg0.N = X2 (upto f g 4224) := by
  refine (dat0 V c).arrAt_eq_of_covers 2 _ (by decide +kernel) fun t hw y => ?_
  have ht : t.val % 3 = 2 := (flush0_2 t).mp hw
  blk_simp
  rw [after0_2, left0 hf hg, ht]
  refine (?_ : _ = upto f g 4224 ((win0_2.blk t).view.emb y 0).val ((win0_2.blk t).view.emb y 1).val)
  blk_simp [o_index0]
  all_goals first | rfl | simp [X2]

end Down

/-! ### Its gate's weight -/
section Gate

theorem a_index1 : ∀ t : Fin cfg1.N, win1_0.index t = ![t.val % 3, 0] := (by decide +kernel : ∀ t : Fin grid1.N, win1_0.index t = ![t.val % 3, 0])
theorem b_index1 : ∀ t : Fin cfg1.N, win1_1.index t = ![t.val % 3, t.val / 3] :=
  (by decide +kernel : ∀ t : Fin grid1.N, win1_1.index t = ![t.val % 3, t.val / 3])
theorem o_index1 : ∀ t : Fin cfg1.N, win1_2.index t = ![0, t.val / 3] := (by decide +kernel : ∀ t : Fin grid1.N, win1_2.index t = ![0, t.val / 3])

variable {V c} {f g : ℕ → ℕ → EReal}

theorem a_blk1 (hf : V c main_arg1 = X2 f) (t : Fin cfg1.N) : iblk1 V c 0 t = X2 (m := 1408) (n := 2816) fun r k => f (t.val % 3 * 1408 + r) k := by
  funext y
  blk_simp [iblk1]
  rw [hf]
  refine (?_ : f ((win1_0.blk t).view.emb y 0).val ((win1_0.blk t).view.emb y 1).val = _)
  blk_simp [a_index1]
  all_goals first | rfl | simp [X2]
theorem b_blk1 (hg : V c main_arg4 = X2 g) (t : Fin cfg1.N) :
    iblk1 V c 1 t = X2 (m := 1408) (n := 512) fun r k => g (t.val % 3 * 1408 + r) (t.val / 3 * 512 + k) := by
  funext y
  blk_simp [iblk1]
  rw [hg]
  refine (?_ : g ((win1_1.blk t).view.emb y 0).val ((win1_1.blk t).view.emb y 1).val = _)
  blk_simp [b_index1]
  all_goals first | rfl | simp [X2]

theorem left1 (hf : V c main_arg1 = X2 f) (hg : V c main_arg4 = X2 g) : (n : ℕ) → (hn : n < cfg1.N) →
    outsAt1 V c n hn = X2 fun i j => upto f g (n % 3 * 1408 + 1408) i (n / 3 * 512 + j) :=
  accumulate (outsAt1 V c) 512
    (fun t h => by
      rw [outsAt1_A V c t h, a_blk1 hf, b_blk1 hg]
      frame_out
      rw [show k1_pay1 (F := Ideal) = X2 fun _ _ => 0 from start_wide]
      exact step_wide _ _ _)
    fun t a h e => by
      rw [outsAt1_B V c t h, a_blk1 hf, b_blk1 hg, e]
      frame_out
      exact step_wide _ _ _

theorem result1 (hf : V c main_arg1 = X2 f) (hg : V c main_arg4 = X2 g) : (dat1 V c).arrAt 2 cfg1.N = X2 (upto f g 4224) := by
  refine (dat1 V c).arrAt_eq_of_covers 2 _ (by decide +kernel) fun t hw y => ?_
  have ht : t.val % 3 = 2 := (flush1_2 t).mp hw
  blk_simp
  rw [after1_2, left1 hf hg, ht]
  refine (?_ : _ = upto f g 4224 ((win1_2.blk t).view.emb y 0).val ((win1_2.blk t).view.emb y 1).val)
  blk_simp [o_index1]
  all_goals first | rfl | simp [X2]

end Gate

/-! ### Its other weight -/
section Up

theorem a_index2 : ∀ t : Fin cfg2.N, win2_0.index t = ![t.val % 3, 0] := (by decide +kernel : ∀ t : Fin grid2.N, win2_0.index t = ![t.val % 3, 0])
theorem b_index2 : ∀ t : Fin cfg2.N, win2_1.index t = ![t.val % 3, t.val / 3] :=
  (by decide +kernel : ∀ t : Fin grid2.N, win2_1.index t = ![t.val % 3, t.val / 3])
theorem o_index2 : ∀ t : Fin cfg2.N, win2_2.index t = ![0, t.val / 3] := (by decide +kernel : ∀ t : Fin grid2.N, win2_2.index t = ![0, t.val / 3])

variable {V c} {f g : ℕ → ℕ → EReal}

theorem a_blk2 (hf : V c main_arg2 = X2 f) (t : Fin cfg2.N) : iblk2 V c 0 t = X2 (m := 1408) (n := 2816) fun r k => f (t.val % 3 * 1408 + r) k := by
  funext y
  blk_simp [iblk2]
  rw [hf]
  refine (?_ : f ((win2_0.blk t).view.emb y 0).val ((win2_0.blk t).view.emb y 1).val = _)
  blk_simp [a_index2]
  all_goals first | rfl | simp [X2]
theorem b_blk2 (hg : V c main_arg4 = X2 g) (t : Fin cfg2.N) :
    iblk2 V c 1 t = X2 (m := 1408) (n := 512) fun r k => g (t.val % 3 * 1408 + r) (t.val / 3 * 512 + k) := by
  funext y
  blk_simp [iblk2]
  rw [hg]
  refine (?_ : g ((win2_1.blk t).view.emb y 0).val ((win2_1.blk t).view.emb y 1).val = _)
  blk_simp [b_index2]
  all_goals first | rfl | simp [X2]

theorem left2 (hf : V c main_arg2 = X2 f) (hg : V c main_arg4 = X2 g) : (n : ℕ) → (hn : n < cfg2.N) →
    outsAt2 V c n hn = X2 fun i j => upto f g (n % 3 * 1408 + 1408) i (n / 3 * 512 + j) :=
  accumulate (outsAt2 V c) 512
    (fun t h => by
      rw [outsAt2_A V c t h, a_blk2 hf, b_blk2 hg]
      frame_out
      rw [show k2_pay1 (F := Ideal) = X2 fun _ _ => 0 from start_wide]
      exact step_wide _ _ _)
    fun t a h e => by
      rw [outsAt2_B V c t h, a_blk2 hf, b_blk2 hg, e]
      frame_out
      exact step_wide _ _ _

theorem result2 (hf : V c main_arg2 = X2 f) (hg : V c main_arg4 = X2 g) : (dat2 V c).arrAt 2 cfg2.N = X2 (upto f g 4224) := by
  refine (dat2 V c).arrAt_eq_of_covers 2 _ (by decide +kernel) fun t hw y => ?_
  have ht : t.val % 3 = 2 := (flush2_2 t).mp hw
  blk_simp
  rw [after2_2, left2 hf hg, ht]
  refine (?_ : _ = upto f g 4224 ((win2_2.blk t).view.emb y 0).val ((win2_2.blk t).view.emb y 1).val)
  blk_simp [o_index2]
  all_goals first | rfl | simp [X2]

end Up

/-! ### The mixer's output weight, all its columns at once -/
section Out

theorem a_index3 : ∀ t : Fin cfg3.N, win3_0.index t = ![t.val % 3, 0] := (by decide +kernel : ∀ t : Fin grid3.N, win3_0.index t = ![t.val % 3, 0])
theorem b_index3 : ∀ t : Fin cfg3.N, win3_1.index t = ![t.val % 3, t.val / 3] :=
  (by decide +kernel : ∀ t : Fin grid3.N, win3_1.index t = ![t.val % 3, t.val / 3])
theorem o_index3 : ∀ t : Fin cfg3.N, win3_2.index t = ![0, t.val / 3] := (by decide +kernel : ∀ t : Fin grid3.N, win3_2.index t = ![0, t.val / 3])

variable {V c} {f g : ℕ → ℕ → EReal}

theorem a_blk3 (hf : V c main_arg3 = X2 f) (t : Fin cfg3.N) : iblk3 V c 0 t = X2 (m := 1408) (n := 1024) fun r k => f (t.val % 3 * 1408 + r) k := by
  funext y
  blk_simp [iblk3]
  rw [hf]
  refine (?_ : f ((win3_0.blk t).view.emb y 0).val ((win3_0.blk t).view.emb y 1).val = _)
  blk_simp [a_index3]
  all_goals first | rfl | simp [X2]
theorem b_blk3 (hg : V c main_arg6 = X2 g) (t : Fin cfg3.N) :
    iblk3 V c 1 t = X2 (m := 1408) (n := 1024) fun r k => g (t.val % 3 * 1408 + r) (t.val / 3 * 1024 + k) := by
  funext y
  blk_simp [iblk3]
  rw [hg]
  refine (?_ : g ((win3_1.blk t).view.emb y 0).val ((win3_1.blk t).view.emb y 1).val = _)
  blk_simp [b_index3]
  all_goals first | rfl | simp [X2]

theorem left3 (hf : V c main_arg3 = X2 f) (hg : V c main_arg6 = X2 g) : (n : ℕ) → (hn : n < cfg3.N) →
    outsAt3 V c n hn = X2 fun i j => upto f g (n % 3 * 1408 + 1408) i (n / 3 * 1024 + j) :=
  accumulate (outsAt3 V c) 1024
    (fun t h => by
      rw [outsAt3_A V c t h, a_blk3 hf, b_blk3 hg]
      frame_out
      rw [show k3_pay1 (F := Ideal) = X2 fun _ _ => 0 from start_square]
      exact step_square _ _ _)
    fun t a h e => by
      rw [outsAt3_B V c t h, a_blk3 hf, b_blk3 hg, e]
      frame_out
      exact step_square _ _ _

theorem result3 (hf : V c main_arg3 = X2 f) (hg : V c main_arg6 = X2 g) : (dat3 V c).arrAt 2 cfg3.N = X2 (upto f g 4224) := by
  refine (dat3 V c).arrAt_eq_of_covers 2 _ (by decide +kernel) fun t hw y => ?_
  have ht : t.val % 3 = 2 := (flush3_2 t).mp hw
  blk_simp
  rw [after3_2, left3 hf hg, ht]
  refine (?_ : _ = upto f g 4224 ((win3_2.blk t).view.emb y 0).val ((win3_2.blk t).view.emb y 1).val)
  blk_simp [o_index3]
  all_goals first | rfl | simp [X2]

end Out

end Cert.Outer

end
-- ==== Proof.OuterJoin.lean ====
/- The weight gradients' kernel and reference side by side: both end at the four products. -/
module

public import proofs.«01_k».proof.Defs
public import proofs.«01_k».proof.Proof.Outer
public import proofs.«01_k».proof.Proof.Gen.Reference3Ideal.Run

@[expose] public section

set_option maxRecDepth 16384

noncomputable section

namespace Cert.Outer

open Cert.Lift Idealize.ShloMosaic Idealize.ShloMosaic.TcCoe Idealize.SL.Sem Finset

/-- The product of two arrays by their rows. -/
def product {K m n : ℕ} (x : (Mat K m).Idx → EReal) (y : (Mat K n).Idx → EReal) : (Mat m n).Idx → EReal := X2 (upto (entries x) (entries y) K)

section Kernel
open Cert.Kernel3Ideal Cert.Kernel3Ideal.Gen Idealize.SL Idealize.SL.RA Idealize.SL.BI Idealize.ShloMosaic.Rounds
open scoped Idealize.SL.BI
open Idealize.SL.BI.BIBase Idealize.SL.BI.Laws Idealize.SL.ProofMode

variable (m : (ℓ : Loc nD τ sig) → Buf (Elt Ideal) ℓ) (ρ : Dev nD → PrngReg) (c : Dev nD)

theorem end0 : W4 m ρ c (Proc.devRef .tc main_v0) = product (K := 4224) (m := 2816) (n := 1024) (m ((c : Thread nD τ).loc main_arg0)) (m ((c : Thread nD τ).loc main_arg5)) :=
  (W4_of m ρ c main_v0 (by decide)).trans <| (W3_of m ρ c main_v0 (by decide)).trans <| (W2_of m ρ c main_v0 (by decide)).trans <|
    (W1_arr m ρ c 2).trans <| result0 (X2_entries _) (X2_entries _)
theorem end1 : W4 m ρ c (Proc.devRef .tc main_v1) = product (K := 4224) (m := 2816) (n := 1024) (m ((c : Thread nD τ).loc main_arg1)) (m ((c : Thread nD τ).loc main_arg4)) :=
  (W4_of m ρ c main_v1 (by decide)).trans <| (W3_of m ρ c main_v1 (by decide)).trans <| (W2_arr m ρ c 2).trans <|
    result1 ((W1_of m ρ c main_arg1 (by decide)).trans (X2_entries _)) ((W1_of m ρ c main_arg4 (by decide)).trans (X2_entries _))
theorem end2 : W4 m ρ c (Proc.devRef .tc main_v2) = product (K := 4224) (m := 2816) (n := 1024) (m ((c : Thread nD τ).loc main_arg2)) (m ((c : Thread nD τ).loc main_arg4)) :=
  (W4_of m ρ c main_v2 (by decide)).trans <| (W3_arr m ρ c 2).trans <|
    result2 ((W2_of m ρ c main_arg2 (by decide)).trans ((W1_of m ρ c main_arg2 (by decide)).trans (X2_entries _)))
      ((W2_of m ρ c main_arg4 (by decide)).trans ((W1_of m ρ c main_arg4 (by decide)).trans (X2_entries _)))
theorem end3 : W4 m ρ c (Proc.devRef .tc main_v3) = product (K := 4224) (m := 1024) (n := 1024) (m ((c : Thread nD τ).loc main_arg3)) (m ((c : Thread nD τ).loc main_arg6)) :=
  (W4_arr m ρ c 2).trans <|
    result3 ((W3_of m ρ c main_arg3 (by decide)).trans ((W2_of m ρ c main_arg3 (by decide)).trans ((W1_of m ρ c main_arg3 (by decide)).trans (X2_entries _))))
      ((W3_of m ρ c main_arg6 (by decide)).trans ((W2_of m ρ c main_arg6 (by decide)).trans ((W1_of m ρ c main_arg6 (by decide)).trans (X2_entries _))))

set_option backward.isDefEq.respectTransparency.types false in
/-- Every run ends with the buffers at the last boundary's contents. -/
theorem run_ends : θ_run (defs (F := Ideal)) (onTc (τ := τ) (main (F := Ideal))) ⟨m, fun _ => 0, ρ⟩ fun r =>
    ∀ c : Dev nD, ∀ b ∈ Pipeline.ucRefs τ sig, r.2.mem (((c : Thread nD τ)).1, b) = W4 m ρ c b :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h _ => h)

/-- The kernel's run. -/
theorem kernel_run : θ_run (defs (F := Ideal)) (onTc (τ := τ) (main (F := Ideal))) ⟨m, fun _ => 0, ρ⟩ fun r => ∀ c : Dev nD,
      r.2.mem ((c : Thread nD τ).loc main_v0) = product (K := 4224) (m := 2816) (n := 1024) (m ((c : Thread nD τ).loc main_arg0)) (m ((c : Thread nD τ).loc main_arg5))
      ∧ r.2.mem ((c : Thread nD τ).loc main_v1) = product (K := 4224) (m := 2816) (n := 1024) (m ((c : Thread nD τ).loc main_arg1)) (m ((c : Thread nD τ).loc main_arg4))
      ∧ r.2.mem ((c : Thread nD τ).loc main_v2) = product (K := 4224) (m := 2816) (n := 1024) (m ((c : Thread nD τ).loc main_arg2)) (m ((c : Thread nD τ).loc main_arg4))
      ∧ r.2.mem ((c : Thread nD τ).loc main_v3) = product (K := 4224) (m := 1024) (n := 1024) (m ((c : Thread nD τ).loc main_arg3)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run (defs (F := Ideal)) _ _).mono (fun r h c =>
    ⟨(h c _ (mem_uc main_v0 (by decide))).trans (end0 m ρ c), (h c _ (mem_uc main_v1 (by decide))).trans (end1 m ρ c),
      (h c _ (mem_uc main_v2 (by decide))).trans (end2 m ρ c), (h c _ (mem_uc main_v3 (by decide))).trans (end3 m ρ c),
      (h c _ (mem_uc main_arg0 (by decide))).trans (W4_main_arg0 m ρ c), (h c _ (mem_uc main_arg1 (by decide))).trans (W4_main_arg1 m ρ c),
      (h c _ (mem_uc main_arg2 (by decide))).trans (W4_main_arg2 m ρ c), (h c _ (mem_uc main_arg3 (by decide))).trans (W4_main_arg3 m ρ c),
      (h c _ (mem_uc main_arg4 (by decide))).trans (W4_main_arg4 m ρ c), (h c _ (mem_uc main_arg5 (by decide))).trans (W4_main_arg5 m ρ c),
      (h c _ (mem_uc main_arg6 (by decide))).trans (W4_main_arg6 m ρ c)⟩) (run_ends m ρ)

end Kernel

section Reference
open Cert.Reference3Ideal Cert.Reference3Ideal.Gen

theorem down_host (f g : ℕ → ℕ → EReal) : Host.dotGeneral (F := Ideal) (φ₁ := .f32) (φ₂ := .f32) dot_S4224x1024_S4224x2816_S1024x2816_0_0_1_1_n_n none (X2 f) (X2 g)
    = X2 fun i j => ∑ k ∈ range 4224, f k i * g k j :=
  rows_host _ rfl rfl none f g (fun _ _ => ⟨rfl, rfl⟩) fun _ _ => ⟨rfl, rfl⟩
theorem wide_host (f g : ℕ → ℕ → EReal) : Host.dotGeneral (F := Ideal) (φ₁ := .f32) (φ₂ := .f32) dot_S4224x2816_S4224x1024_S2816x1024_0_0_1_1_n_n none (X2 f) (X2 g)
    = X2 fun i j => ∑ k ∈ range 4224, f k i * g k j :=
  rows_host _ rfl rfl none f g (fun _ _ => ⟨rfl, rfl⟩) fun _ _ => ⟨rfl, rfl⟩
theorem square_host (f g : ℕ → ℕ → EReal) : Host.dotGeneral (F := Ideal) (φ₁ := .f32) (φ₂ := .f32) dot_S4224x1024_S4224x1024_S1024x1024_0_0_1_1_n_n none (X2 f) (X2 g)
    = X2 fun i j => ∑ k ∈ range 4224, f k i * g k j :=
  rows_host _ rfl rfl none f g (fun _ _ => ⟨rfl, rfl⟩) fun _ _ => ⟨rfl, rfl⟩

/-- The first product, its operands in the other order. -/
theorem down (x : (Mat 4224 2816).Idx → EReal) (y : (Mat 4224 1024).Idx → EReal) :
    transpose S2816x1024 [1, 0] (Host.dotGeneral (F := Ideal) (φ₁ := .f32) (φ₂ := .f32) dot_S4224x1024_S4224x2816_S1024x2816_0_0_1_1_n_n none y
      (extf (F := Ideal) (s := S4224x2816) (φ := .bf16) .f32 x bitsLt_bf16_f32)) transposes_S1024x2816_S2816x1024_1_0 = product x y := by
  rw [X2_entries x, X2_entries y, extf_X2, down_host, transpose_X2, product, ← X2_entries x, ← X2_entries y]
  exact congrArg X2 (funext fun i => funext fun j => Finset.sum_congr rfl fun k _ => mul_comm _ _)
/-- The second and the third, transposed twice. -/
theorem wide (x : (Mat 4224 2816).Idx → EReal) (y : (Mat 4224 1024).Idx → EReal) :
    transpose S2816x1024 [1, 0] (transpose S1024x2816 [1, 0] (Host.dotGeneral (F := Ideal) (φ₁ := .f32) (φ₂ := .f32) dot_S4224x2816_S4224x1024_S2816x1024_0_0_1_1_n_n none
      (extf (F := Ideal) (s := S4224x2816) (φ := .bf16) .f32 x bitsLt_bf16_f32) y) transposes_S2816x1024_S1024x2816_1_0) transposes_S1024x2816_S2816x1024_1_0 = product x y := by
  rw [X2_entries x, X2_entries y, extf_X2, wide_host, transpose_X2, transpose_X2, product, ← X2_entries x, ← X2_entries y]
  rfl
theorem square (x : (Mat 4224 1024).Idx → EReal) (y : (Mat 4224 1024).Idx → EReal) :
    transpose S1024x1024 [1, 0] (Host.dotGeneral (F := Ideal) (φ₁ := .f32) (φ₂ := .f32) dot_S4224x1024_S4224x1024_S1024x1024_0_0_1_1_n_n none y
      (extf (F := Ideal) (s := S4224x1024) (φ := .bf16) .f32 x bitsLt_bf16_f32)) transposes_S1024x1024_S1024x1024_1_0 = product x y := by
  rw [X2_entries x, X2_entries y, extf_X2, square_host, transpose_X2, product, ← X2_entries x, ← X2_entries y]
  exact congrArg X2 (funext fun i => funext fun j => Finset.sum_congr rfl fun k _ => mul_comm _ _)

end Reference

open Cert.Reference3Ideal Cert.Reference3Ideal.Gen in
/-- The value claim. -/
theorem algebraic : Cert.algebraic_Kernel3Ideal_Reference3Ideal := by
  intro m ρ m' ρ' _ heq
  refine ⟨_, _, _, _, kernel_run m ρ, (θ_run (defs (F := Ideal)) _ _).mono (fun r h c => ?_) (Cert.Reference3Ideal.Value.run m' ρ')⟩
  obtain ⟨o0, o1, o2, o3, kept⟩ := h c
  obtain ⟨e0, e1, e2, e3, e4, e5, e6⟩ := heq c
  rw [e0, e5] at o0; rw [e1, e4] at o1; rw [e2, e4] at o2; rw [e3, e6] at o3
  exact ⟨o0.trans (down _ _), o1.trans (wide _ _), o2.trans (wide _ _), o3.trans (square _ _), kept⟩

end Cert.Outer

end
-- ==== Proof.Loss.lean ====
/- The feed-forward block's forward pass, the loss at its end, and the way back to the block's gate and up products, in real
   numbers, as the kernel takes it row by row: rows past the 4096 of the sequence have no target and add nothing to the loss. -/
module

public import proofs.«01_k».proof.Proof.Lift2

@[expose] public section

noncomputable section

namespace Cert.Loss

open Cert.Lift Finset

/-- What the pass reads: the block's input `h`, its three weights, the target, and the last norm's gain and shift; `off` is the
    number of the row that row `0` here is. -/
structure Data where
  h : ℕ → ℕ → ℝ
  wg : ℕ → ℕ → ℝ
  wu : ℕ → ℕ → ℝ
  wd : ℕ → ℕ → ℝ
  t : ℕ → ℕ → ℝ
  g2 : ℕ → ℝ
  b2 : ℕ → ℝ
  off : ℕ

/-- The same with the rows counted from row `s`. -/
def Data.from (d : Data) (s : ℕ) : Data :=
  { d with h := fun r => d.h (s + r), t := fun r => d.t (s + r), off := d.off + s }

variable (d : Data)

/-! ### Forward: the gated block and its norm -/
def g (r f : ℕ) : ℝ := ∑ k ∈ range 1024, d.h r k * d.wg k f
def u (r f : ℕ) : ℝ := ∑ k ∈ range 1024, d.h r k * d.wu k f
def sg (r f : ℕ) : ℝ := 1 / (1 + Real.exp (0 - g d r f))
def act (r f : ℕ) : ℝ := g d r f * sg d r f * u d r f
/-- The columns of the inner width are taken in two halves of 1408. -/
def half (r c o : ℕ) : ℝ := ∑ k ∈ range 1408, act d r (o + k) * d.wd (o + k) c
def pre (r c : ℕ) : ℝ := alpha * d.h r c + half d r c 0 + half d r c 1408
def mean (r : ℕ) : ℝ := (∑ k ∈ range 1024, pre d r k) / 1024
def xc (r c : ℕ) : ℝ := pre d r c - mean d r
def var (r : ℕ) : ℝ := (∑ k ∈ range 1024, xc d r k * xc d r k) / 1024 + eps5
def rs (r : ℕ) : ℝ := (Real.sqrt (var d r))⁻¹
def xh (r c : ℕ) : ℝ := xc d r c * rs d r

/-! ### The loss and its gradient down to the block's products -/
def diff (r c : ℕ) : ℝ := if d.off + r < 4096 then xh d r c * d.g2 c + d.b2 c - d.t r c else 0
def dy (r c : ℕ) : ℝ := diff d r c * (1 / 1024)
def dxh (r c : ℕ) : ℝ := dy d r c * d.g2 c
def dpre (r c : ℕ) : ℝ :=
  rs d r * (dxh d r c - (∑ k ∈ range 1024, dxh d r k) / 1024 - xh d r c * ((∑ k ∈ range 1024, dxh d r k * xh d r k) / 1024))
def da (r f : ℕ) : ℝ := ∑ k ∈ range 1024, dpre d r k * d.wd f k
def dgate (r f : ℕ) : ℝ := da d r f * u d r f * (sg d r f * (1 + g d r f * (1 - sg d r f)))
def dup (r f : ℕ) : ℝ := da d r f * (g d r f * sg d r f)

theorem var_pos (r : ℕ) : 0 < var d r :=
  add_pos_of_nonneg_of_pos (div_nonneg (sum_nonneg fun _ _ => mul_self_nonneg _) (by norm_num)) eps5_pos

end Cert.Loss

end
-- ==== Proof.LossPay.lean ====
/- The kernel's payloads at real entries: each is the formula of `Loss` that it computes. -/
module

public import proofs.«01_k».proof.Proof.Gen.Kernel4Ideal.Skeleton
public import proofs.«01_k».proof.Proof.Loss
public import Idealize.ShloMosaic.Lib.Pipeline.ValueKit.Acc

@[expose] public section

set_option maxRecDepth 16384

noncomputable section

namespace Cert.Loss

open Cert.Lift Cert.Kernel4Ideal Cert.Kernel4Ideal.Gen Idealize.ShloMosaic Idealize.ShloMosaic.TcCoe Idealize.SL.Sem Finset

variable (d : Data)

theorem divf_lit {m n : ℕ} (f : ℕ → ℕ → ℝ) (a : ℝ) (ha : a ≠ 0) :
    divf (F := Ideal) (s := Mat m n) (φ := .f32) (E2 f) (E2 fun _ _ => a) = E2 fun r c => f r c / a := divf_E2 _ _ fun _ _ => ha
theorem sigmoid_E2 {m n : ℕ} (f : ℕ → ℕ → ℝ) :
    divf (F := Ideal) (s := Mat m n) (φ := .f32) (E2 fun _ _ => 1) (E2 fun r c => 1 + Real.exp (f r c))
      = E2 fun r c => 1 / (1 + Real.exp (f r c)) := divf_E2 _ _ fun _ _ => by positivity

theorem turned_mm (f w : ℕ → ℕ → ℝ) : matmul (F := Ideal) (φ₁ := .bf16) (φ₂ := .bf16) dot_S384x1024_S1408x1024_S384x1408_1_1_0_0_n_n none (E2 f) (E2 w)
    (constant S384x1408 .f32 0x00000000#32) = E2 fun r c => ∑ k ∈ range 1024, f r k * w c k :=
  matmul_E2 _ 1024 rfl rfl none f w _ fun _ _ => rfl
theorem plain_mm (f w : ℕ → ℕ → ℝ) : matmul (F := Ideal) (φ₁ := .bf16) (φ₂ := .bf16) dot_S384x1408_S1408x1024_S384x1024_1_0_0_1_n_n none (E2 f) (E2 w)
    (constant S384x1024 .f32 0x00000000#32) = E2 fun r c => ∑ k ∈ range 1408, f r k * w k c :=
  matmul_E2 _ 1408 rfl rfl none f w _ fun _ _ => rfl

/-! ### Literals -/
theorem bits_mean : Ideal.ofBits .f32 0x3A800000#32 = ((1 / 1024 : ℝ) : EReal) := by
  simp [Ideal.ofBits, Ideal.ieee, -EReal.coe_mul]; norm_num
theorem bits_half_mean : Ideal.ofBits .f32 0x3A000000#32 = ((1 / 2048 : ℝ) : EReal) := by
  simp [Ideal.ofBits, Ideal.ieee, -EReal.coe_mul]; norm_num

/-! ### The two halves of the inner width, `o` the first column -/
section Half
variable (o : ℕ)

/-- One half of a weight whose rows are the inner width, and of a matrix whose columns are. -/
abbrev wgOf : Vec Ideal S1408x1024 .bf16 := E2 fun r c => d.wg c (o + r)
abbrev wuOf : Vec Ideal S1408x1024 .bf16 := E2 fun r c => d.wu c (o + r)
abbrev wdOf : Vec Ideal S1408x1024 .bf16 := E2 fun r c => d.wd (o + r) c
abbrev gOf : Vec Ideal S384x1408 .f32 := E2 fun r c => g d r (o + c)
abbrev uOf : Vec Ideal S384x1408 .f32 := E2 fun r c => u d r (o + c)

theorem pay11_eq : k0_pay11 (F := Ideal) (E2 d.h) = E2 d.h := rfl
theorem pay12_eq : k0_pay12 (F := Ideal) (E2 d.h) (wgOf d o) = gOf d o := by
  simp only [k0_pay12, pay11_eq, shapeCast_self_E2, turned_mm]
  rfl
theorem pay13_eq : k0_pay13 (F := Ideal) (E2 d.h) (wuOf d o) = uOf d o := by
  simp only [k0_pay13, pay11_eq, shapeCast_self_E2, turned_mm]
  rfl
theorem pay14_eq : k0_pay14 (F := Ideal) (E2 d.h) (wgOf d o) = gOf d o := by
  simp only [k0_pay14, pay12_eq, shapeCast_self_E2]
theorem pay15_eq : k0_pay15 (F := Ideal) (E2 d.h) (wuOf d o) = uOf d o := by
  simp only [k0_pay15, pay13_eq, shapeCast_self_E2]
theorem pay17_eq : k0_pay17 (F := Ideal) (E2 d.h) (wgOf d o) = gOf d o := by
  simp only [k0_pay17, shapeCast_self_E2, turned_mm]
  rfl
theorem pay18_eq : k0_pay18 (F := Ideal) (E2 d.h) (wuOf d o) = uOf d o := by
  simp only [k0_pay18, shapeCast_self_E2, turned_mm]
  rfl
theorem pay19_eq : k0_pay19 (F := Ideal) (E2 d.h) (wgOf d o) = gOf d o := by
  simp only [k0_pay19, pay17_eq, shapeCast_self_E2]
theorem pay20_eq : k0_pay20 (F := Ideal) (E2 d.h) (wuOf d o) = uOf d o := by
  simp only [k0_pay20, pay18_eq, shapeCast_self_E2]

/-- The block's sum after one half. -/
theorem pay16_eq : k0_pay16 (F := Ideal) (E2 d.h) (wgOf d o) (wuOf d o) (wdOf d o) = E2 fun r c => alpha * d.h r c + half d r c o := by
  simp only [k0_pay16, pay12_eq, pay13_eq, scalar_ofBits, bits_zero, bits_one, bits_alpha, broadcast_coe, subf_E2, exp_E2, addf_E2, sigmoid_E2,
    mulf_E2, truncf_E2, shapeCast_self_E2, plain_mm]
  rfl

/-- The logistic function of the gate, the two ways it is written. -/
theorem pay34_eq : k0_pay34 (F := Ideal) (gOf d o) = E2 fun r c => sg d r (o + c) := by
  simp only [k0_pay34, scalar_ofBits, bits_zero, bits_one, broadcast_coe, subf_E2, exp_E2, addf_E2, sigmoid_E2]
  rfl
theorem pay1_eq : k0_pay1 (F := Ideal) (gOf d o) k0_pay40 = E2 fun r c => sg d r (o + c) := by
  simp only [k0_pay1, k0_pay40, scalar_ofBits, bits_zero, bits_one, broadcast_coe, subf_E2, exp_E2, addf_E2, sigmoid_E2]
  rfl
theorem pay35_eq : k0_pay35 (F := Ideal) (gOf d o) = E2 fun r c => g d r (o + c) * sg d r (o + c) := by
  simp only [k0_pay35, pay34_eq, mulf_E2]
theorem pay2_eq : k0_pay2 (F := Ideal) (gOf d o) k0_pay40 = E2 fun r c => g d r (o + c) * sg d r (o + c) := by
  simp only [k0_pay2, pay1_eq, mulf_E2]
theorem pay36_eq : k0_pay36 (F := Ideal) (E2 (dpre d)) (wdOf d o) = E2 fun r c => da d r (o + c) := by
  simp only [k0_pay36, shapeCast_self_E2, turned_mm]
  rfl
theorem pay3_eq : k0_pay3 (F := Ideal) (E2 (dpre d)) (wdOf d o) = E2 fun r c => da d r (o + c) := by
  simp only [k0_pay3, shapeCast_self_E2, turned_mm]
  rfl

/-- What is stored of one half: the activation and the gradients of the gate and of the up product. -/
theorem pay37_eq : k0_pay37 (F := Ideal) (gOf d o) (uOf d o) = E2 fun r c => act d r (o + c) := by
  simp only [k0_pay37, pay35_eq, mulf_E2, truncf_E2, shapeCast_self_E2]
  rfl
theorem pay4_eq : k0_pay4 (F := Ideal) (gOf d o) (uOf d o) k0_pay40 = E2 fun r c => act d r (o + c) := by
  simp only [k0_pay4, pay2_eq, mulf_E2, truncf_E2, shapeCast_self_E2]
  rfl
theorem pay38_eq : k0_pay38 (F := Ideal) (E2 (dpre d)) (gOf d o) (uOf d o) (wdOf d o) = E2 fun r c => dgate d r (o + c) := by
  simp only [k0_pay38, pay36_eq, pay34_eq, scalar_ofBits, bits_one, broadcast_coe, subf_E2, addf_E2, mulf_E2, truncf_E2, shapeCast_self_E2]
  rfl
theorem pay5_eq : k0_pay5 (F := Ideal) (E2 (dpre d)) (gOf d o) (uOf d o) k0_pay40 (wdOf d o) = E2 fun r c => dgate d r (o + c) := by
  simp only [k0_pay5, pay3_eq, pay1_eq, scalar_ofBits, bits_one, broadcast_coe, subf_E2, addf_E2, mulf_E2, truncf_E2, shapeCast_self_E2]
  rfl
theorem pay39_eq : k0_pay39 (F := Ideal) (E2 (dpre d)) (gOf d o) (wdOf d o) = E2 fun r c => dup d r (o + c) := by
  simp only [k0_pay39, pay36_eq, pay35_eq, mulf_E2, truncf_E2, shapeCast_self_E2]
  rfl
theorem pay6_eq : k0_pay6 (F := Ideal) (E2 (dpre d)) (gOf d o) k0_pay40 (wdOf d o) = E2 fun r c => dup d r (o + c) := by
  simp only [k0_pay6, pay3_eq, pay2_eq, mulf_E2, truncf_E2, shapeCast_self_E2]
  rfl
end Half

/-! ### The norm -/
theorem pay21_eq : k0_pay21 (F := Ideal) (E2 d.h) (E2 fun r c => alpha * d.h r c + half d r c 0) (wgOf d 1408) (wuOf d 1408) (wdOf d 1408) = E2 (xc d) := by
  simp only [k0_pay21, pay17_eq, pay18_eq, scalar_ofBits, bits_zero, bits_one, bits_1024, broadcast_coe, subf_E2, exp_E2, addf_E2, sigmoid_E2,
    mulf_E2, truncf_E2, shapeCast_self_E2, plain_mm, rowSum_E1, sc_1_col, divf_lit _ 1024 (by norm_num)]
  rw [column_E2 (hm := by decide), subf_E2]
  rfl
theorem pay22_eq : k0_pay22 (F := Ideal) (E2 d.h) (E2 fun r c => alpha * d.h r c + half d r c 0) (wgOf d 1408) (wuOf d 1408) (wdOf d 1408)
    = E2 fun r _ => var d r := by
  simp only [k0_pay22, pay21_eq, mulf_E2, rowSum_E1, sc_1_col, scalar_ofBits, bits_1024, bits_eps5, broadcast_coe, divf_lit _ 1024 (by norm_num), addf_E2]
  rfl
theorem pay23_eq : k0_pay23 (F := Ideal) (E2 fun r _ => var d r) = E2 fun r _ => rs d r := rsqrt_E2 _ fun r _ => var_pos d r
theorem pay24_eq : k0_pay24 (F := Ideal) (E2 (xc d)) (E2 fun r _ => var d r) = E2 (xh d) := by
  simp only [k0_pay24, pay23_eq]
  rw [column_E2 (hm := by decide), mulf_E2]
  rfl

/-! ### The rows with a target -/

/-- The words of two sums. -/
theorem addi_N2 {m n : ℕ} (f f' : ℕ → ℕ → ℕ) : addi (s := Mat m n) (N2 f) (N2 f') = N2 fun r c => f r c + f' r c :=
  funext fun _ => (BitVec.ofNat_add ..).symm
theorem shapeCast_self_M2 {m n : ℕ} (p : ℕ → ℕ → Prop) [∀ r c, Decidable (p r c)] (h) : shapeCast (s := Mat m n) (Mat m n) (M2 p) h = M2 p := shapeCast_self _ _
theorem column_M2 {m n : ℕ} (p : ℕ → Prop) [∀ r, Decidable (p r)] (h : (Mat m 1).Broadcasts (Mat m n)) (hm : m ≠ 1) :
    broadcastTo (Mat m n) (M2 fun r _ => p r) h = M2 fun r _ => p r := funext fun j =>
  congrArg (fun r => BitVec.ofBool (decide (p r))) (by
    simp [hm])

/-- Three blocks of 128 rows one below the other. -/
theorem rows_E2 (f₀ f₁ f₂ T : ℕ → ℕ → ℝ) (h₀ : ∀ r < 128, ∀ c < 1024, f₀ r c = T r c) (h₁ : ∀ r < 128, ∀ c < 1024, f₁ r c = T (128 + r) c)
    (h₂ : ∀ r < 128, ∀ c < 1024, f₂ r c = T (256 + r) c) :
    concatenate S384x1024 0 [⟨S128x1024, (E2 f₀ : _ → EReal)⟩, ⟨S128x1024, E2 f₁⟩, ⟨S128x1024, E2 f₂⟩]
      concatenates_S128x1024_S128x1024_S128x1024_S384x1024_d0 = E2 T := by
  funext j
  have hj : (j 0).val < 384 := (j 0).isLt
  have key : ∀ (k : ℕ) (hk : k < 3) (fk : ℕ → ℕ → ℝ) (hlo : k * 128 ≤ (j 0).val) (hhi : (j 0).val < k * 128 + 128)
      (hxk : [(⟨S128x1024, (E2 f₀ : _ → EReal)⟩ : (s : Shape) × (s.Idx → EReal)), ⟨S128x1024, E2 f₁⟩, ⟨S128x1024, E2 f₂⟩][k] = ⟨S128x1024, E2 fk⟩)
      (hF : ∀ r < 128, ∀ c < 1024, fk r c = T (k * 128 + r) c),
      concatenate S384x1024 0 [⟨S128x1024, (E2 f₀ : _ → EReal)⟩, ⟨S128x1024, E2 f₁⟩, ⟨S128x1024, E2 f₂⟩]
        concatenates_S128x1024_S128x1024_S128x1024_S384x1024_d0 j = E2 T j := by
    intro k hk fk hlo hhi hxk hF
    have hlt : (j 0).val - k * 128 < 128 := by omega
    refine (concatenate_apply_piece 0 [⟨S128x1024, (E2 f₀ : _ → EReal)⟩, ⟨S128x1024, E2 f₁⟩, ⟨S128x1024, E2 f₂⟩] _ j k hk S128x1024 (E2 fk) hxk rfl (k * 128) ?_ (ValueIdx.ix2 ⟨(j 0).val - k * 128, hlt⟩ (j 1))
      (fun b hb => by match b with | ⟨0, _⟩ => exact absurd rfl hb | ⟨1, _⟩ => rfl) ?_).trans ?_
    · match k, hk with
      | 0, _ => rfl
      | 1, _ => rfl
      | 2, _ => rfl
    · show k * 128 + ((j 0).val - k * 128) = (j 0).val; omega
    · refine congrArg _ ((hF _ hlt _ (j 1).isLt).trans ?_)
      show T (k * 128 + ((j 0).val - k * 128)) _ = T (j 0).val _
      congr 1; omega
  by_cases c0 : (j 0).val < 128
  · exact key 0 (by omega) f₀ (by omega) (by omega) rfl (by simpa using h₀)
  by_cases c1 : (j 0).val < 256
  · exact key 1 (by omega) f₁ (by omega) (by omega) rfl h₁
  · exact key 2 (by omega) f₂ (by omega) (by omega) rfl h₂

/-- A point's number, the first of its rows, and that the point's three blocks of the target are those rows'. -/
structure Point (n : ℕ) (t₀ t₁ t₂ : ℕ → ℕ → ℝ) : Prop where
  lt : n < 11
  off : d.off = n * 384
  rows : ∀ r < 384, n * 384 + r < 4096 → ∀ c < 1024, (if r < 128 then t₀ r c else if r < 256 then t₁ (r - 128) c else t₂ (r - 256) c) = d.t r c

section Point
variable {d} {n : ℕ} {t₀ t₁ t₂ : ℕ → ℕ → ℝ} (p : Point d n t₀ t₁ t₂)
include p

theorem pay25_eq : k0_pay25 (F := Ideal) (BitVec.ofNat 32 n) (E2 (xc d)) (E2 fun r _ => var d r) (E2 t₀) (E2 t₁) (E2 t₂) (E2 fun _ c => d.g2 c) (E2 fun _ c => d.b2 c)
    = E2 (diff d) := by
  have hn := p.lt
  have hm : Scalar.muli (BitVec.ofNat 32 n) 384#32 = BitVec.ofNat 32 (n * 384) := (BitVec.ofNat_mul ..).symm
  simp only [k0_pay25, pay24_eq, hm, shapeCast_self_E2, row_E2 (hn := show 1024 ≠ 1 by decide), mulf_E2, addf_E2, scalar_ofBits, bits_zero, broadcast_coe]
  rw [iota0_N2, show broadcast S384x1 (BitVec.ofNat 32 (n * 384)) = N2 fun _ _ => n * 384 from rfl,
    show broadcast S384x1 4096#32 = N2 fun _ _ => 4096 from rfl, addi_N2,
    slt_N2 (fun r _ => n * 384 + r) _ (fun r hr _ _ => by show n * 384 + r < _; omega) (fun _ _ _ _ => by norm_num), shapeCast_self_M2,
    column_M2 (fun r => n * 384 + r < 4096) (hm := by decide),
    rows_E2 t₀ t₁ t₂ (fun r c => if r < 128 then t₀ r c else if r < 256 then t₁ (r - 128) c else t₂ (r - 256) c)
      (fun r hr c _ => by simp [hr]) (fun r hr c _ => by rw [if_neg (by omega), if_pos (by omega)]; congr 1; omega)
      (fun r hr c _ => by rw [if_neg (by omega), if_neg (by omega)]; congr 1; omega), subf_E2, select_E2]
  refine E2_congr fun r hr c hc => ?_
  rw [diff, p.off]
  by_cases h : n * 384 + r < 4096
  · rw [if_pos h, if_pos h, p.rows r hr h c hc]
  · rw [if_neg h, if_neg h]

theorem pay26_eq (f : ℕ → ℕ → ℝ) : k0_pay26 (F := Ideal) (BitVec.ofNat 32 n) (E2 (xc d)) (E2 fun r _ => var d r) (E2 t₀) (E2 t₁) (E2 t₂) (E2 fun _ c => d.g2 c)
    (E2 fun _ c => d.b2 c) (E2 f) = E2 fun r c => f r c + ∑ k ∈ range 384, diff d k c * diff d k c := by
  simp only [k0_pay26, pay25_eq p, shapeCast_self_E2, mulf_E2, colSum_E1, sc_1_row, addf_E2]
theorem pay27_eq : k0_pay27 (F := Ideal) (BitVec.ofNat 32 n) (E2 (xc d)) (E2 fun r _ => var d r) (E2 t₀) (E2 t₁) (E2 t₂) (E2 fun _ c => d.g2 c)
    (E2 fun _ c => d.b2 c) = E2 (dy d) := by
  simp only [k0_pay27, pay25_eq p, scalar_ofBits, bits_mean, broadcast_coe, mulf_E2]
  rfl
end Point

/-! ### The gradient through the norm, and the sums over rows -/
theorem pay28_eq (f : ℕ → ℕ → ℝ) : k0_pay28 (F := Ideal) (E2 f) = E2 f := shapeCast_self _ _
theorem pay29_eq : k0_pay29 (F := Ideal) (E2 fun r _ => rs d r) (E2 (xh d)) (E2 (dy d)) (E2 fun _ c => d.g2 c) = E2 (dpre d) := by
  simp only [k0_pay29, row_E2 (hn := show 1024 ≠ 1 by decide), column_E2 (hm := show 384 ≠ 1 by decide), mulf_E2, subf_E2, rowSum_E1, sc_1_col,
    scalar_ofBits, bits_1024, broadcast_coe, divf_lit _ 1024 (by norm_num)]
  rfl
theorem pay30_eq : k0_pay30 (F := Ideal) (E2 fun r _ => rs d r) (E2 (xh d)) (E2 (dy d)) (E2 fun _ c => d.g2 c) = E2 (dpre d) := by
  simp only [k0_pay30, pay29_eq, shapeCast_self_E2]
theorem pay33_eq : k0_pay33 (F := Ideal) (E2 fun r _ => rs d r) (E2 (xh d)) (E2 (dy d)) (E2 fun _ c => d.g2 c) = E2 (dpre d) := by
  simp only [k0_pay33, pay29_eq, truncf_E2]
theorem pay31_eq (f : ℕ → ℕ → ℝ) : k0_pay31 (F := Ideal) (E2 (xh d)) (E2 (dy d)) (E2 f) = E2 fun r c => f r c + ∑ k ∈ range 384, dy d k c * xh d k c := by
  simp only [k0_pay31, shapeCast_self_E2, mulf_E2, colSum_E1, sc_1_row, addf_E2]
theorem pay32_eq (f : ℕ → ℕ → ℝ) : k0_pay32 (F := Ideal) (E2 (dy d)) (E2 f) = E2 fun r c => f r c + ∑ k ∈ range 384, dy d k c := by
  simp only [k0_pay32, shapeCast_self_E2, colSum_E1, sc_1_row, addf_E2]
theorem pay8_eq : k0_pay8 (F := Ideal) = E2 fun _ _ => 0 := by
  simp only [k0_pay8, scalar_ofBits, bits_zero, broadcast_coe, shapeCast_self_E2]
theorem pay9_eq : k0_pay9 (F := Ideal) = E2 fun _ _ => 0 := by
  simp only [k0_pay9, scalar_ofBits, bits_zero, broadcast_coe, shapeCast_self_E2]
theorem pay10_eq : k0_pay10 (F := Ideal) = E2 fun _ _ => 0 := by
  simp only [k0_pay10, scalar_ofBits, bits_zero, broadcast_coe, shapeCast_self_E2]

theorem one_E2 (f : ℕ → ℕ → ℝ) (h : (Mat 1 1).Broadcasts (Mat 1 128)) : broadcastTo (Mat 1 128) (E2 f) h = E2 fun _ _ => f 0 0 := by
  funext j
  show ((f _ _ : ℝ) : EReal) = ((f _ _ : ℝ) : EReal)
  simp
/-- The loss: the sum over all columns of the squares kept so far, halved and averaged over the width. -/
theorem pay7_eq (f : ℕ → ℕ → ℝ) : k0_pay7 (F := Ideal) (E2 f) = E2 fun _ _ => 0 + 1 / 2048 * ∑ k ∈ range 1024, f 0 k := by
  simp only [k0_pay7, rowSum_E1, sc_1_col, scalar_ofBits, bits_zero, bits_half_mean, broadcast_coe, mulf_E2, one_E2, addf_E2, shapeCast_self_E2]

end Cert.Loss

end
-- ==== Proof.LossArgs.lean ====
/- The kernel's blocks at real arguments: 384 rows of the block's input, three pieces of 128 rows of the target, the weights whole. -/
module

public import proofs.«01_k».proof.Proof.LossPay
public import proofs.«01_k».proof.Proof.BackRun
public import proofs.«01_k».proof.Proof.Gen.Kernel4Ideal.Frame
public import Idealize.ShloMosaic.Lib.Pipeline.ValueKit

@[expose] public section

set_option maxRecDepth 16384

noncomputable section

namespace Cert.Loss

open Cert.Lift Cert.Kernel4Ideal Cert.Kernel4Ideal.Gen Idealize.ShloMosaic Idealize.ShloMosaic.TcCoe Idealize.SL.Sem Finset
open Cert.Back (transpose_E2)

variable (m : (ℓ : Loc nD τ sig) → Buf (Elt Ideal) ℓ) (c : Dev nD) (d : Data)

/-- The launched arguments are the data, its rows counted from the first. -/
structure Args : Prop where
  off : d.off = 0
  a0 : m ((c : Thread nD τ).loc main_arg0) = E2 d.h
  a1 : m ((c : Thread nD τ).loc main_arg1) = E2 d.wg
  a2 : m ((c : Thread nD τ).loc main_arg2) = E2 d.wu
  a3 : m ((c : Thread nD τ).loc main_arg3) = E2 d.wd
  a4 : m ((c : Thread nD τ).loc main_arg4) = E2 d.t
  a5 : m ((c : Thread nD τ).loc main_arg5) = E1 d.g2
  a6 : m ((c : Thread nD τ).loc main_arg6) = E1 d.b2

/-! ### The host's preparation of the weights, the gain and the shift -/
variable {m c d}

theorem v1 (h : Args m c d) : V m c main_v1 = E2 fun r k => d.wg k r :=
  (show V m c main_v1 = truncf (F := Ideal) (φ := .f32) .bf16 (transpose S2816x1024 [1, 0] (m ((c : Thread nD τ).loc main_arg1)) transposes_S1024x2816_S2816x1024_1_0)
    bitsLt_bf16_f32 from rfl).trans (by rw [h.a1]; erw [transpose_E2, truncf_E2])
theorem v3 (h : Args m c d) : V m c main_v3 = E2 fun r k => d.wu k r :=
  (show V m c main_v3 = truncf (F := Ideal) (φ := .f32) .bf16 (transpose S2816x1024 [1, 0] (m ((c : Thread nD τ).loc main_arg2)) transposes_S1024x2816_S2816x1024_1_0)
    bitsLt_bf16_f32 from rfl).trans (by rw [h.a2]; erw [transpose_E2, truncf_E2])
theorem v4 (h : Args m c d) : V m c main_v4 = E2 d.wd :=
  (show V m c main_v4 = truncf (F := Ideal) (φ := .f32) .bf16 (m ((c : Thread nD τ).loc main_arg3)) bitsLt_bf16_f32 from rfl).trans (by rw [h.a3]; erw [truncf_E2])
theorem v5 (h : Args m c d) : V m c main_v5 = E2 fun _ k => d.g2 k :=
  (show V m c main_v5 = shapeCast S1x1024 (m ((c : Thread nD τ).loc main_arg5)) shapeCasts_S1024_S1x1024 from rfl).trans (by rw [h.a5]; exact sc_1_row _ _)
theorem v6 (h : Args m c d) : V m c main_v6 = E2 fun _ k => d.b2 k :=
  (show V m c main_v6 = shapeCast S1x1024 (m ((c : Thread nD τ).loc main_arg6)) shapeCasts_S1024_S1x1024 from rfl).trans (by rw [h.a6]; exact sc_1_row _ _)

/-! ### The blocks -/
theorem index0 : ∀ t : Fin cfg0.N, win0_0.index t = ![t.val, 0] := (by decide +kernel : ∀ t : Fin grid0.N, win0_0.index t = ![t.val, 0])
theorem index1 : ∀ t : Fin cfg0.N, win0_1.index t = ![0, 0] := (by decide +kernel : ∀ t : Fin grid0.N, win0_1.index t = ![0, 0])
theorem index2 : ∀ t : Fin cfg0.N, win0_2.index t = ![0, 0] := (by decide +kernel : ∀ t : Fin grid0.N, win0_2.index t = ![0, 0])
theorem index3 : ∀ t : Fin cfg0.N, win0_3.index t = ![0, 0] := (by decide +kernel : ∀ t : Fin grid0.N, win0_3.index t = ![0, 0])
theorem index4 : ∀ t : Fin cfg0.N, win0_4.index t = ![min (3 * t.val + 0) 31, 0] := (by decide +kernel : ∀ t : Fin grid0.N, win0_4.index t = ![min (3 * t.val + 0) 31, 0])
theorem index5 : ∀ t : Fin cfg0.N, win0_5.index t = ![min (3 * t.val + 1) 31, 0] := (by decide +kernel : ∀ t : Fin grid0.N, win0_5.index t = ![min (3 * t.val + 1) 31, 0])
theorem index6 : ∀ t : Fin cfg0.N, win0_6.index t = ![min (3 * t.val + 2) 31, 0] := (by decide +kernel : ∀ t : Fin grid0.N, win0_6.index t = ![min (3 * t.val + 2) 31, 0])
theorem index7 : ∀ t : Fin cfg0.N, win0_7.index t = ![0, 0] := (by decide +kernel : ∀ t : Fin grid0.N, win0_7.index t = ![0, 0])
theorem index8 : ∀ t : Fin cfg0.N, win0_8.index t = ![0, 0] := (by decide +kernel : ∀ t : Fin grid0.N, win0_8.index t = ![0, 0])
theorem index9 : ∀ t : Fin cfg0.N, win0_9.index t = ![t.val, 0] := (by decide +kernel : ∀ t : Fin grid0.N, win0_9.index t = ![t.val, 0])
theorem index10 : ∀ t : Fin cfg0.N, win0_10.index t = ![t.val, 0] := (by decide +kernel : ∀ t : Fin grid0.N, win0_10.index t = ![t.val, 0])
theorem index11 : ∀ t : Fin cfg0.N, win0_11.index t = ![t.val, 0] := (by decide +kernel : ∀ t : Fin grid0.N, win0_11.index t = ![t.val, 0])
theorem index12 : ∀ t : Fin cfg0.N, win0_12.index t = ![t.val, 0] := (by decide +kernel : ∀ t : Fin grid0.N, win0_12.index t = ![t.val, 0])
theorem index13 : ∀ t : Fin cfg0.N, win0_13.index t = ![0, 0] := (by decide +kernel : ∀ t : Fin grid0.N, win0_13.index t = ![0, 0])
theorem index14 : ∀ t : Fin cfg0.N, win0_14.index t = ![0, 0] := (by decide +kernel : ∀ t : Fin grid0.N, win0_14.index t = ![0, 0])
theorem index15 : ∀ t : Fin cfg0.N, win0_15.index t = ![0, 0] := (by decide +kernel : ∀ t : Fin grid0.N, win0_15.index t = ![0, 0])

theorem blk0 (h : Args m c d) (t : Fin cfg0.N) : iblk m c 0 t = E2 (m := 384) (n := 1024) ((d.from (t.val * 384)).h) := by
  funext y
  blk_simp [iblk]
  rw [show V m c main_arg0 = E2 d.h from (V_main_arg0 m c).trans h.a0]
  refine congrArg Real.toEReal (?_ : d.h ((win0_0.blk t).view.emb y 0).val ((win0_0.blk t).view.emb y 1).val = _)
  blk_simp [index0]
  all_goals first | rfl | simp

theorem blk1 (h : Args m c d) (t : Fin cfg0.N) : iblk m c 1 t = E2 (m := 2816) (n := 1024) (fun r k => (d.from (t.val * 384)).wg k r) := by
  funext y
  blk_simp [iblk]
  rw [show V m c main_v1 = E2 (fun r k => d.wg k r) from v1 h]
  refine congrArg Real.toEReal (?_ : (fun r k => d.wg k r) ((win0_1.blk t).view.emb y 0).val ((win0_1.blk t).view.emb y 1).val = _)
  blk_simp [index1]
  all_goals first | rfl | simp

theorem blk2 (h : Args m c d) (t : Fin cfg0.N) : iblk m c 2 t = E2 (m := 2816) (n := 1024) (fun r k => (d.from (t.val * 384)).wu k r) := by
  funext y
  blk_simp [iblk]
  rw [show V m c main_v3 = E2 (fun r k => d.wu k r) from v3 h]
  refine congrArg Real.toEReal (?_ : (fun r k => d.wu k r) ((win0_2.blk t).view.emb y 0).val ((win0_2.blk t).view.emb y 1).val = _)
  blk_simp [index2]
  all_goals first | rfl | simp

theorem blk3 (h : Args m c d) (t : Fin cfg0.N) : iblk m c 3 t = E2 (m := 2816) (n := 1024) ((d.from (t.val * 384)).wd) := by
  funext y
  blk_simp [iblk]
  rw [show V m c main_v4 = E2 d.wd from v4 h]
  refine congrArg Real.toEReal (?_ : d.wd ((win0_3.blk t).view.emb y 0).val ((win0_3.blk t).view.emb y 1).val = _)
  blk_simp [index3]
  all_goals first | rfl | simp

theorem blk4 (h : Args m c d) (t : Fin cfg0.N) : iblk m c 4 t = E2 (m := 128) (n := 1024) (fun r k => d.t (min (3 * t.val + 0) 31 * 128 + r) k) := by
  funext y
  blk_simp [iblk]
  rw [show V m c main_arg4 = E2 d.t from (V_main_arg4 m c).trans h.a4]
  refine congrArg Real.toEReal (?_ : d.t ((win0_4.blk t).view.emb y 0).val ((win0_4.blk t).view.emb y 1).val = _)
  blk_simp [index4]
  all_goals first | rfl | simp

theorem blk5 (h : Args m c d) (t : Fin cfg0.N) : iblk m c 5 t = E2 (m := 128) (n := 1024) (fun r k => d.t (min (3 * t.val + 1) 31 * 128 + r) k) := by
  funext y
  blk_simp [iblk]
  rw [show V m c main_arg4 = E2 d.t from (V_main_arg4 m c).trans h.a4]
  refine congrArg Real.toEReal (?_ : d.t ((win0_5.blk t).view.emb y 0).val ((win0_5.blk t).view.emb y 1).val = _)
  blk_simp [index5]
  all_goals first | rfl | simp

theorem blk6 (h : Args m c d) (t : Fin cfg0.N) : iblk m c 6 t = E2 (m := 128) (n := 1024) (fun r k => d.t (min (3 * t.val + 2) 31 * 128 + r) k) := by
  funext y
  blk_simp [iblk]
  rw [show V m c main_arg4 = E2 d.t from (V_main_arg4 m c).trans h.a4]
  refine congrArg Real.toEReal (?_ : d.t ((win0_6.blk t).view.emb y 0).val ((win0_6.blk t).view.emb y 1).val = _)
  blk_simp [index6]
  all_goals first | rfl | simp

theorem blk7 (h : Args m c d) (t : Fin cfg0.N) : iblk m c 7 t = E2 (m := 1) (n := 1024) (fun _ k => (d.from (t.val * 384)).g2 k) := by
  funext y
  blk_simp [iblk]
  rw [show V m c main_v5 = E2 (fun _ k => d.g2 k) from v5 h]
  refine congrArg Real.toEReal (?_ : (fun _ k => d.g2 k) ((win0_7.blk t).view.emb y 0).val ((win0_7.blk t).view.emb y 1).val = _)
  blk_simp [index7]
  all_goals first | rfl | simp

theorem blk8 (h : Args m c d) (t : Fin cfg0.N) : iblk m c 8 t = E2 (m := 1) (n := 1024) (fun _ k => (d.from (t.val * 384)).b2 k) := by
  funext y
  blk_simp [iblk]
  rw [show V m c main_v6 = E2 (fun _ k => d.b2 k) from v6 h]
  refine congrArg Real.toEReal (?_ : (fun _ k => d.b2 k) ((win0_8.blk t).view.emb y 0).val ((win0_8.blk t).view.emb y 1).val = _)
  blk_simp [index8]
  all_goals first | rfl | simp

/-- A point's blocks are a point's. -/
theorem point (h : Args m c d) (n : ℕ) (hn : n < 11) : Point (d.from (n * 384)) n (fun r k => d.t (min (3 * n + 0) 31 * 128 + r) k)
    (fun r k => d.t (min (3 * n + 1) 31 * 128 + r) k) (fun r k => d.t (min (3 * n + 2) 31 * 128 + r) k) where
  lt := hn
  off := by show d.off + n * 384 = _; rw [h.off, zero_add]
  rows r hr hin k _ := by
    show _ = d.t (n * 384 + r) k
    split_ifs <;> exact congrArg (d.t · k) (by omega)

end Cert.Loss

end
-- ==== Proof.LossBlock.lean ====
/- What one grid point leaves in the outputs' buffers, at real entries: the formulas of `Loss` on the point's rows, and for the sums
   over rows what the point before left plus the point's own rows. -/
module

public import proofs.«01_k».proof.Proof.LossArgs
public import Idealize.ShloMosaic.Lib.Pipeline.ValueKit.Acc
public import Idealize.ShloMosaic.Lib.Pipeline.ReadBack

@[expose] public section

set_option maxRecDepth 16384

noncomputable section

namespace Cert.Loss

open Cert.Lift Cert.Kernel4Ideal Cert.Kernel4Ideal.Gen Idealize.ShloMosaic Idealize.ShloMosaic.TcCoe Idealize.SL.Sem Finset

theorem coord (t : Fin cfg0.N) : (grid0.coords t 0).val = t.val := (by decide +kernel : ∀ t : Fin grid0.N, (grid0.coords t 0).val = t.val) t

/-! ### The halves of a weight, and of a buffer of the inner width -/
section Halves
variable (f : ℕ → ℕ → ℝ)

theorem top : View.ld (Val := Elt Ideal) (S := S2816x1024) (e' := .bf16) (E2 f) (Rect.unit ![0, 0] ![1408, 1024] inb_S2816x1024_S1408x1024_0_0)
    = E2 fun r c => f (0 + r) c := by
  funext y
  refine congrArg Real.toEReal (?_ : f _ _ = f _ _)
  simp
theorem bottom : View.ld (Val := Elt Ideal) (S := S2816x1024) (e' := .bf16) (E2 f) (Rect.unit ![1408, 0] ![1408, 1024] inb_S2816x1024_S1408x1024_1408_0)
    = E2 fun r c => f (1408 + r) c := by
  funext y
  refine congrArg Real.toEReal (?_ : f _ _ = f _ _)
  simp

/-- The left and the right half of the columns. -/
abbrev lft : Rect S384x2816 := Rect.unit ![0, 0] ![384, 1408] inb_S384x2816_S384x1408_0_0
abbrev rgt : Rect S384x2816 := Rect.unit ![0, 1408] ![384, 1408] inb_S384x2816_S384x1408_0_1408

variable {e : EltTy} (v : View sig .tc .vmem S384x2816 e) (P Q : S384x1408.Idx → Elt Ideal e)

theorem read_rgt : v.readCov [⟨rgt, Q⟩, ⟨lft, P⟩] rgt.toLoadRect = Q := View.readCov_cons_toLoadRect v rgt Q _
theorem read_lft : v.readCov [⟨rgt, Q⟩, ⟨lft, P⟩] lft.toLoadRect = P :=
  (View.readCov_cons_of_disjoint v ⟨rgt, Q⟩ _ _ (Rect.unit_disjoint (inb := inb_S384x2816_S384x1408_0_1408) 1 (Or.inr (by decide)))).trans (View.readCov_cons_toLoadRect v lft P _)

/-- A buffer written in two halves. -/
theorem halves {P Q : S384x1408.Idx → Elt Ideal .bf16} (hP : P = E2 fun r c => f r (0 + c)) (hQ : Q = E2 fun r c => f r (1408 + c)) :
    View.canon (Val := Elt Ideal) (e := .bf16) [⟨rgt, Q⟩, ⟨lft, P⟩] = E2 f := by
  subst hP; subst hQ
  funext y
  refine View.canon_apply_of_pieces (Val := Elt Ideal) (S := S384x2816) (e := .bf16) (E2 f) _ ?_ y (View.cover_of_tiledL [⟨rgt, _⟩, ⟨lft, _⟩] S384x1408.size (by sl_kernel_rfl) y)
  simp only [List.forall_mem_cons, List.not_mem_nil, false_imp_iff, implies_true, and_true]
  exact ⟨fun x => congrArg Real.toEReal (by simp), fun x => congrArg Real.toEReal (by simp)⟩
end Halves

/-! ### The outputs of a point, one theorem for the first point, one for the points between, one for the last -/
variable {m : (ℓ : Loc nD τ sig) → Buf (Elt Ideal) ℓ} {c : Dev nD} {d : Data}

/-- What a point leaves: its own rows of the four row outputs, and three sums over rows on top of `f`, `f'` and `f''`. -/
def After (d : Data) (f f' f'' : ℕ → ℕ → ℝ) (x : Vec Ideal S384x2816 .bf16 × Vec Ideal S384x2816 .bf16 × Vec Ideal S384x2816 .bf16 × Vec Ideal S384x1024 .f32
    × Vec Ideal S1x128 .f32 × Vec Ideal S1x1024 .f32 × Vec Ideal S1x1024 .f32 × Vec Ideal S1x1024 .f32) : Prop :=
  x.1 = E2 (act d) ∧ x.2.1 = E2 (dgate d) ∧ x.2.2.1 = E2 (dup d) ∧ x.2.2.2.1 = E2 (dpre d)
    ∧ x.2.2.2.2.2.1 = (E2 fun r c => f r c + ∑ k ∈ range 384, dy d k c * xh d k c)
    ∧ x.2.2.2.2.2.2.1 = (E2 fun r c => f' r c + ∑ k ∈ range 384, dy d k c)
    ∧ x.2.2.2.2.2.2.2 = E2 fun r c => f'' r c + ∑ k ∈ range 384, diff d k c * diff d k c

theorem first (h : Args m c d) (t : Fin cfg0.N) (h0 : t.val % 11 = 0) (h1 : ¬t.val % 11 = 10) :
    After (d.from (t.val * 384)) (fun _ _ => 0) (fun _ _ => 0) (fun _ _ => 0) (outsAt0 m c t.val t.isLt) := by
  rw [outsAt0_A m c t h0 h1]
  simp only [blk0 h, blk1 h, blk2 h, blk3 h, blk4 h, blk5 h, blk6 h, blk7 h, blk8 h]
  have p := point h t.val (t.isLt.trans_eq N_0)
  generalize d.from (t.val * 384) = e at p
  refine ⟨?_, ?_, ?_, ?_, ?_, ?_, ?_⟩ <;> frame_out
  all_goals simp only [top, bottom, coord, pay8_eq, pay9_eq, pay10_eq, pay11_eq, pay14_eq, pay15_eq, pay16_eq, pay19_eq, pay20_eq, pay21_eq, pay22_eq, pay23_eq,
    pay24_eq, pay26_eq p, pay27_eq p, pay28_eq, pay30_eq, pay31_eq, pay32_eq, pay33_eq, read_lft, read_rgt, read_unread_whole]
  · exact halves _ (pay37_eq e 0) (pay4_eq e 1408)
  · exact halves _ (pay38_eq e 0) (pay5_eq e 1408)
  · exact halves _ (pay39_eq e 0) (pay6_eq e 1408)

theorem between (h : Args m c d) (t : Fin cfg0.N) (h0 : ¬t.val % 11 = 0) (h1 : ¬t.val % 11 = 10) (d' : Data) (f f' f'' : ℕ → ℕ → ℝ)
    (hb : After d' f f' f'' (outsAt0 m c (t.val - 1) ((Nat.sub_le t.val 1).trans_lt t.isLt))) :
    After (d.from (t.val * 384)) (fun r c => f r c + ∑ k ∈ range 384, dy d' k c * xh d' k c) (fun r c => f' r c + ∑ k ∈ range 384, dy d' k c)
      (fun r c => f'' r c + ∑ k ∈ range 384, diff d' k c * diff d' k c) (outsAt0 m c t.val t.isLt) := by
  obtain ⟨-, -, -, -, b0, b1, b2⟩ := hb
  rw [outsAt0_B m c t h0 h1]
  simp only [blk0 h, blk1 h, blk2 h, blk3 h, blk4 h, blk5 h, blk6 h, blk7 h, blk8 h, b0, b1, b2]
  have p := point h t.val (t.isLt.trans_eq N_0)
  generalize d.from (t.val * 384) = e at p
  refine ⟨?_, ?_, ?_, ?_, ?_, ?_, ?_⟩ <;> frame_out
  all_goals simp only [top, bottom, coord, pay8_eq, pay9_eq, pay10_eq, pay11_eq, pay14_eq, pay15_eq, pay16_eq, pay19_eq, pay20_eq, pay21_eq, pay22_eq, pay23_eq,
    pay24_eq, pay26_eq p, pay27_eq p, pay28_eq, pay30_eq, pay31_eq, pay32_eq, pay33_eq, read_lft, read_rgt, read_unread_whole]
  · exact halves _ (pay37_eq e 0) (pay4_eq e 1408)
  · exact halves _ (pay38_eq e 0) (pay5_eq e 1408)
  · exact halves _ (pay39_eq e 0) (pay6_eq e 1408)

/-- The last point also leaves the loss, from all rows' squares. -/
theorem last (h : Args m c d) (t : Fin cfg0.N) (h0 : ¬t.val % 11 = 0) (h1 : t.val % 11 = 10) (d' : Data) (f f' f'' : ℕ → ℕ → ℝ)
    (hb : After d' f f' f'' (outsAt0 m c (t.val - 1) ((Nat.sub_le t.val 1).trans_lt t.isLt))) :
    After (d.from (t.val * 384)) (fun r c => f r c + ∑ k ∈ range 384, dy d' k c * xh d' k c) (fun r c => f' r c + ∑ k ∈ range 384, dy d' k c)
      (fun r c => f'' r c + ∑ k ∈ range 384, diff d' k c * diff d' k c) (outsAt0 m c t.val t.isLt)
    ∧ (outsAt0 m c t.val t.isLt).2.2.2.2.1 = E2 fun _ _ => 0 + 1 / 2048 * ∑ k ∈ range 1024, (f'' 0 k + ∑ r ∈ range 384, diff d' r k * diff d' r k
        + ∑ r ∈ range 384, diff (d.from (t.val * 384)) r k * diff (d.from (t.val * 384)) r k) := by
  obtain ⟨-, -, -, -, b0, b1, b2⟩ := hb
  rw [outsAt0_C m c t h0 h1]
  simp only [blk0 h, blk1 h, blk2 h, blk3 h, blk4 h, blk5 h, blk6 h, blk7 h, blk8 h, b0, b1, b2]
  have p := point h t.val (t.isLt.trans_eq N_0)
  generalize d.from (t.val * 384) = e at p
  refine ⟨⟨?_, ?_, ?_, ?_, ?_, ?_, ?_⟩, ?_⟩ <;> frame_out
  all_goals simp only [top, bottom, coord, pay7_eq, pay8_eq, pay9_eq, pay10_eq, pay11_eq, pay14_eq, pay15_eq, pay16_eq, pay19_eq, pay20_eq, pay21_eq, pay22_eq, pay23_eq,
    pay24_eq, pay26_eq p, pay27_eq p, pay28_eq, pay30_eq, pay31_eq, pay32_eq, pay33_eq, read_lft, read_rgt, read_unread_whole]
  · exact halves _ (pay37_eq e 0) (pay4_eq e 1408)
  · exact halves _ (pay38_eq e 0) (pay5_eq e 1408)
  · exact halves _ (pay39_eq e 0) (pay6_eq e 1408)

end Cert.Loss

end
-- ==== Proof.LossRun.lean ====
/- The kernel's run at real arguments: the seven result arrays end as the formulas of `Loss` over all 4224 rows. -/
module

public import proofs.«01_k».proof.Proof.LossBlock

@[expose] public section

set_option maxRecDepth 16384

noncomputable section

namespace Cert.Loss

open Cert.Lift Cert.Kernel4Ideal Cert.Kernel4Ideal.Gen Idealize.ShloMosaic Idealize.ShloMosaic.TcCoe Idealize.SL.Sem Finset

/-- The rows before row `n * 384` of a sum over rows. -/
def upto (f : ℕ → ℕ → ℝ) (n : ℕ) (_ k : ℕ) : ℝ := ∑ r ∈ range (n * 384), f r k

theorem upto_zero (f : ℕ → ℕ → ℝ) : upto f 0 = fun _ _ => 0 := by
  funext r k; simp [upto]
theorem upto_succ (f : ℕ → ℕ → ℝ) (n : ℕ) : upto f (n + 1) = fun r k => upto f n r k + ∑ i ∈ range 384, f (n * 384 + i) k := by
  funext r k
  rw [upto, Nat.succ_mul, sum_range_add]; rfl

/-! ### A row's formulas do not see where the rows are counted from -/
section Shift
variable (d : Data) (s r k : ℕ)
theorem xh_from : xh (d.from s) r k = xh d (s + r) k := rfl
theorem act_from : act (d.from s) r k = act d (s + r) k := rfl
theorem diff_from : diff (d.from s) r k = diff d (s + r) k := by
  show (if d.off + s + r < 4096 then _ else _) = if d.off + (s + r) < 4096 then _ else _
  rw [add_assoc]; rfl
theorem dy_from : dy (d.from s) r k = dy d (s + r) k := congrArg (· * (1 / 1024 : ℝ)) (diff_from d s r k)
theorem dpre_from : dpre (d.from s) r k = dpre d (s + r) k := by
  unfold dpre dxh
  simp only [dy_from, xh_from]; rfl
theorem da_from : da (d.from s) r k = da d (s + r) k := by
  unfold da
  simp only [dpre_from]; rfl
theorem dgate_from : dgate (d.from s) r k = dgate d (s + r) k := by
  unfold dgate
  rw [da_from]; rfl
theorem dup_from : dup (d.from s) r k = dup d (s + r) k := by
  unfold dup
  rw [da_from]; rfl
end Shift

variable {m : (ℓ : Loc nD τ sig) → Buf (Elt Ideal) ℓ} {c : Dev nD} {d : Data}

/-- What point `n` leaves. -/
abbrev At (d : Data) (n : ℕ) := After (d.from (n * 384)) (upto (fun r k => dy d r k * xh d r k) n) (upto (dy d) n) (upto (fun r k => diff d r k * diff d r k) n)

theorem at_succ (d : Data) (n : ℕ) : At d (n + 1) = After (d.from ((n + 1) * 384))
    (fun r c => upto (fun r k => dy d r k * xh d r k) n r c + ∑ k ∈ range 384, dy (d.from (n * 384)) k c * xh (d.from (n * 384)) k c)
    (fun r c => upto (dy d) n r c + ∑ k ∈ range 384, dy (d.from (n * 384)) k c)
    (fun r c => upto (fun r k => diff d r k * diff d r k) n r c + ∑ k ∈ range 384, diff (d.from (n * 384)) k c * diff (d.from (n * 384)) k c) := by
  simp only [At, upto_succ, dy_from, xh_from, diff_from]

theorem outs (h : Args m c d) : ∀ (n : ℕ) (hn : n < cfg0.N), At d n (outsAt0 m c n hn)
  | 0, hn => by
    unfold At
    rw [upto_zero, upto_zero, upto_zero]
    exact first h ⟨0, hn⟩ rfl (by show ¬0 % 11 = 10; decide)
  | n + 1, hn => by
    have hN : n + 1 < 11 := hn.trans_eq N_0
    rw [at_succ]
    by_cases hl : n + 1 = 10
    · exact (last h ⟨n + 1, hn⟩ (by dsimp only; omega) (by dsimp only; omega) _ _ _ _ (outs h n (Nat.lt_of_succ_lt hn))).1
    · exact between h ⟨n + 1, hn⟩ (by dsimp only; omega) (by dsimp only; omega) _ _ _ _ (outs h n (Nat.lt_of_succ_lt hn))

/-- The last point's outputs that sum over all rows. -/
theorem sums_last (h : Args m c d) (t : Fin cfg0.N) (ht : t.val = 10) :
    (outsAt0 m c t.val t.isLt).2.2.2.2.1 = (E2 fun _ _ => 0 + 1 / 2048 * ∑ k ∈ range 1024, ∑ r ∈ range 4224, diff d r k * diff d r k)
      ∧ (outsAt0 m c t.val t.isLt).2.2.2.2.2.1 = (E2 fun _ k => ∑ r ∈ range 4224, dy d r k * xh d r k)
      ∧ (outsAt0 m c t.val t.isLt).2.2.2.2.2.2.1 = E2 fun _ k => ∑ r ∈ range 4224, dy d r k := by
  obtain ⟨_ | n, hn⟩ := t
  · exact absurd ht (by show ¬0 = 10; decide)
  have hn9 : n = 9 := Nat.succ.inj ht
  have hb := last h ⟨n + 1, hn⟩ (by dsimp only; omega) (by dsimp only; omega) _ _ _ _ (outs h n (Nat.lt_of_succ_lt hn))
  obtain ⟨⟨-, -, -, -, b0, b1, -⟩, b2⟩ := hb
  subst hn9
  refine ⟨b2.trans (congrArg E2 ?_), b0.trans (congrArg E2 ?_), b1.trans (congrArg E2 ?_)⟩
  · funext r c
    refine congrArg (fun x : ℝ => 0 + 1 / 2048 * x) (sum_congr rfl fun k _ => ?_)
    simp only [diff_from]
    refine Eq.trans ?_ (congrFun (congrFun (upto_succ (fun r k => diff d r k * diff d r k) 10) 0) k).symm
    rw [upto_succ (fun r k => diff d r k * diff d r k) 9]
  · simp only [dy_from, xh_from]
    refine Eq.trans ?_ (upto_succ (fun r k => dy d r k * xh d r k) 10).symm
    rw [upto_succ (fun r k => dy d r k * xh d r k) 9]
  · simp only [dy_from]
    refine Eq.trans ?_ (upto_succ (dy d) 10).symm
    rw [upto_succ (dy d) 9]

/-! ### The result arrays -/

theorem final9 (h : Args m c d) : (dats m 0 c).arrAt 9 cfg0.N = E2 (act d) := by
  refine (dats m 0 c).arrAt_eq_of_covers 9 _ (by decide +kernel) fun t _ y => ?_
  blk_simp
  rw [after0_9, (outs h t.val t.isLt).1]
  refine congrArg Real.toEReal (?_ : _ = (act d) ((win0_9.blk t).view.emb y 0).val ((win0_9.blk t).view.emb y 1).val)
  blk_simp [index9]
  exact (act_from d _ _ _).trans (by simp)

theorem final10 (h : Args m c d) : (dats m 0 c).arrAt 10 cfg0.N = E2 (dgate d) := by
  refine (dats m 0 c).arrAt_eq_of_covers 10 _ (by decide +kernel) fun t _ y => ?_
  blk_simp
  rw [after0_10, (outs h t.val t.isLt).2.1]
  refine congrArg Real.toEReal (?_ : _ = (dgate d) ((win0_10.blk t).view.emb y 0).val ((win0_10.blk t).view.emb y 1).val)
  blk_simp [index10]
  exact (dgate_from d _ _ _).trans (by simp)

theorem final11 (h : Args m c d) : (dats m 0 c).arrAt 11 cfg0.N = E2 (dup d) := by
  refine (dats m 0 c).arrAt_eq_of_covers 11 _ (by decide +kernel) fun t _ y => ?_
  blk_simp
  rw [after0_11, (outs h t.val t.isLt).2.2.1]
  refine congrArg Real.toEReal (?_ : _ = (dup d) ((win0_11.blk t).view.emb y 0).val ((win0_11.blk t).view.emb y 1).val)
  blk_simp [index11]
  exact (dup_from d _ _ _).trans (by simp)

theorem final12 (h : Args m c d) : (dats m 0 c).arrAt 12 cfg0.N = E2 (dpre d) := by
  refine (dats m 0 c).arrAt_eq_of_covers 12 _ (by decide +kernel) fun t _ y => ?_
  blk_simp
  rw [after0_12, (outs h t.val t.isLt).2.2.2.1]
  refine congrArg Real.toEReal (?_ : _ = (dpre d) ((win0_12.blk t).view.emb y 0).val ((win0_12.blk t).view.emb y 1).val)
  blk_simp [index12]
  exact (dpre_from d _ _ _).trans (by simp)

theorem final13 (h : Args m c d) : (dats m 0 c).arrAt 13 cfg0.N = E2 (fun _ _ => 0 + 1 / 2048 * ∑ k ∈ range 1024, ∑ r ∈ range 4224, diff d r k * diff d r k) := by
  refine (dats m 0 c).arrAt_eq_of_covers 13 _ (by decide +kernel) fun t hf y => ?_
  have ht : t.val = 10 := by have := (flush0_13 t).mp hf; have := t.isLt.trans_eq N_0; omega
  blk_simp
  rw [after0_13, (sums_last h t ht).1]
  refine congrArg Real.toEReal (?_ : _ = (fun _ _ => 0 + 1 / 2048 * ∑ k ∈ range 1024, ∑ r ∈ range 4224, diff d r k * diff d r k) ((win0_13.blk t).view.emb y 0).val ((win0_13.blk t).view.emb y 1).val)
  blk_simp [index13]
  all_goals first | rfl | simp

theorem final14 (h : Args m c d) : (dats m 0 c).arrAt 14 cfg0.N = E2 (fun _ k => ∑ r ∈ range 4224, dy d r k * xh d r k) := by
  refine (dats m 0 c).arrAt_eq_of_covers 14 _ (by decide +kernel) fun t hf y => ?_
  have ht : t.val = 10 := by have := (flush0_14 t).mp hf; have := t.isLt.trans_eq N_0; omega
  blk_simp
  rw [after0_14, (sums_last h t ht).2.1]
  refine congrArg Real.toEReal (?_ : _ = (fun _ k => ∑ r ∈ range 4224, dy d r k * xh d r k) ((win0_14.blk t).view.emb y 0).val ((win0_14.blk t).view.emb y 1).val)
  blk_simp [index14]
  all_goals first | rfl | simp

theorem final15 (h : Args m c d) : (dats m 0 c).arrAt 15 cfg0.N = E2 (fun _ k => ∑ r ∈ range 4224, dy d r k) := by
  refine (dats m 0 c).arrAt_eq_of_covers 15 _ (by decide +kernel) fun t hf y => ?_
  have ht : t.val = 10 := by have := (flush0_15 t).mp hf; have := t.isLt.trans_eq N_0; omega
  blk_simp
  rw [after0_15, (sums_last h t ht).2.2]
  refine congrArg Real.toEReal (?_ : _ = (fun _ k => ∑ r ∈ range 4224, dy d r k) ((win0_15.blk t).view.emb y 0).val ((win0_15.blk t).view.emb y 1).val)
  blk_simp [index15]
  all_goals first | rfl | simp

end Cert.Loss

end
-- ==== Proof.LossRef.lean ====
/- The reference at real arguments, one value of its program at a time: the block forward, the loss, and the derivative of both
   written as the derivative of the norm's and the gate's own formulas. -/
module

public import proofs.«01_k».proof.Proof.BackRef
public import proofs.«01_k».proof.Proof.Loss
public import proofs.«01_k».proof.Proof.Gen.Reference4Ideal.Read
public import Idealize.ShloMosaic.Lib.Pipeline.ValueKit.Acc

@[expose] public section

set_option maxRecDepth 16384

noncomputable section

namespace Cert.Loss

open Cert.Lift Cert.Reference4Ideal Cert.Reference4Ideal.Gen Cert.Reference4Ideal.Read Idealize.ShloMosaic Finset
open Cert.Back (hostDot_E2 inv_sqrt_cube sg_eq)

theorem bits_half : Ideal.ofBits .f32 0x3F000000#32 = ((1 / 2 : ℝ) : EReal) := by
  simp [Ideal.ofBits, Ideal.ieee, -EReal.coe_mul]; norm_num

theorem into_E2 (f w : ℕ → ℕ → ℝ) : Host.dotGeneral (F := Ideal) (φ₁ := .f32) (φ₂ := .f32) dot_S4224x1024_S1024x2816_S4224x2816_1_0_0_1_n_n none (E2 f) (E2 w)
    = E2 fun i j => ∑ k ∈ range 1024, f i k * w k j := hostDot_E2 _ 1024 rfl rfl none f w _ fun _ _ => rfl
theorem out_E2 (f w : ℕ → ℕ → ℝ) : Host.dotGeneral (F := Ideal) (φ₁ := .f32) (φ₂ := .f32) dot_S4224x2816_S2816x1024_S4224x1024_1_0_0_1_n_n none (E2 f) (E2 w)
    = E2 fun i j => ∑ k ∈ range 2816, f i k * w k j := hostDot_E2 _ 2816 rfl rfl none f w _ fun _ _ => rfl
theorem turned_E2 (f w : ℕ → ℕ → ℝ) : Host.dotGeneral (F := Ideal) (φ₁ := .f32) (φ₂ := .f32) dot_S4224x1024_S2816x1024_S4224x2816_1_1_0_0_n_n none (E2 f) (E2 w)
    = E2 fun i j => ∑ k ∈ range 1024, f i k * w j k := hostDot_E2 _ 1024 rfl rfl none f w _ fun _ _ => rfl

/-- Rows of zeros below a matrix. -/
theorem pad_rows {a m n p : ℕ} (f : ℕ → ℕ → ℝ) (h : (Mat a n).Pads ![0, 0] ![p, 0] ![0, 0] (Mat m n)) (hu : 0 < (⟨0, ![]⟩ : Shape).numel) :
    pad (Mat m n) ![0, 0] ![p, 0] ![0, 0] (E2 f : (Mat a n).Idx → EReal) (E0 0) h hu = E2 fun r c => if r < a then f r c else 0 := by
  funext j
  by_cases hj : (j 0).val < a
  · rw [pad_apply_of_inside _ _ _ _ _ h hu j (ValueIdx.ix2 ⟨(j 0).val, hj⟩ (j 1)) fun b => by
      match b with
      | ⟨0, _⟩ => show (j 0).val = 0 + (j 0).val * (0 + 1); omega
      | ⟨1, _⟩ => show (j 1).val = 0 + (j 1).val * (0 + 1); omega]
    show ((f (j 0).val (j 1).val : ℝ) : EReal) = (((if (j 0).val < a then f (j 0).val (j 1).val else 0) : ℝ) : EReal)
    rw [if_pos hj]
  · rw [pad_apply_of_not_inside _ _ _ _ _ h hu j 0 fun hin => by
      have h2 : ((j 0).val - 0) / (0 + 1) < a := hin.2.2
      omega]
    show ((0 : ℝ) : EReal) = (((if (j 0).val < a then f (j 0).val (j 1).val else 0) : ℝ) : EReal)
    rw [if_neg hj]

/-- The sum of all entries of a vector. -/
theorem hostSum_E0 {m : ℕ} (f : ℕ → ℝ) (h : (⟨1, ![m]⟩ : Shape).ReducesTo [0] ⟨0, ![]⟩) (hu : 0 < (⟨0, ![]⟩ : Shape).numel) :
    Host.reduceAdd (F := Ideal) (φ := .f32) (E1 f) (E0 0) h hu = E0 (∑ k ∈ range m, f k) := funext fun j => by
  simp only [Host.reduceAdd, Ideal.hostReduceAdd_def]
  unfold Ideal.hostReduceAdd
  rw [E0_first, EReal.coe_zero, zero_add, filter_true_of_mem fun i _ => funext fun a => a.elim0]
  exact (Fin.sum_idx1_range ![m] fun k => ((f k : ℝ) : EReal)).trans (coe_sum (range m) f).symm

variable (d : Data)

theorem sum_xc (r : ℕ) : ∑ k ∈ range 1024, xc d r k = 0 := by
  simp only [xc, sum_sub_distrib, sum_const, card_range, nsmul_eq_mul, mean]
  push_cast; ring

/-! ### Forward -/
theorem r0 : val_main_v0 (F := Ideal) (E2 d.h) (E2 d.wg) = E2 (g d) := into_E2 _ _
theorem r1 : val_main_v1 (F := Ideal) (E2 d.h) (E2 d.wu) = E2 (u d) := into_E2 _ _
theorem r4_2 : val_main_v4_2 (F := Ideal) (E2 d.h) (E2 d.wg) = E2 (sg d) := by
  unfold val_main_v4_2 val_main_call0_v4 val_main_call0_v3 val_main_call0_v2 val_main_call0_v1 val_main_call0_v0 val_main_call0_cst val_main_call0_cst_0
  rw [r0, hnegf_E2, hexp_E2, constant_E0 _ _ bits_one, splat_E2, addf_E2, hdivf_E2 _ _ (fun _ _ => sg_eq _)]
  exact E2_congr fun r _ c _ => by unfold sg; rw [zero_sub]
theorem r4_1 : val_main_v4_1 (F := Ideal) (E2 d.h) (E2 d.wg) = E2 fun r c => sg d r c * (1 - sg d r c) := by
  unfold val_main_v4_1 val_main_call0_v7 val_main_call0_v6 val_main_call0_cst_1
  rw [r4_2, constant_E0 _ _ bits_one, splat_E2, subf_E2, mulf_E2]
theorem r4_0 : val_main_v4_0 (F := Ideal) (E2 d.h) (E2 d.wg) = E2 fun r c => g d r c * sg d r c := by
  unfold val_main_v4_0; rw [r4_2, r0, mulf_E2]
theorem r5 : val_main_v5 (F := Ideal) (E2 d.h) (E2 d.wg) (E2 d.wu) = E2 (act d) := by
  unfold val_main_v5; rw [r4_0, r1, mulf_E2]; rfl
theorem r7 : val_main_v7 (F := Ideal) (E2 d.h) (E2 d.wg) (E2 d.wu) (E2 d.wd) = E2 (pre d) := by
  unfold val_main_v7 val_main_v3 val_main_v2 val_main_v6 val_main_cst
  rw [r5, constant_E0 _ _ bits_alpha, splat_E2, mulf_E2, out_E2, addf_E2]
  exact E2_congr fun r _ c _ => by
    rw [show (2816 : ℕ) = 1408 + 1408 from rfl, sum_range_add]; unfold pre half; simp only [zero_add]; ring
theorem r11 : val_main_v11 (F := Ideal) (E2 d.h) (E2 d.wg) (E2 d.wu) (E2 d.wd) = E2 fun r _ => mean d r := by
  unfold val_main_v11 val_main_v9 val_main_v8 val_main_v10 val_main_cst_0 val_main_cst_1
  rw [r7, constant_E0 _ _ bits_zero, constant_E0 _ _ bits_1024, hostRowSum_E1, splat_E2, bid_1_col _ _ (by decide), hdivf_E2 _ _ (fun _ _ => by norm_num)]
  rfl
theorem r13 : val_main_v13 (F := Ideal) (E2 d.h) (E2 d.wg) (E2 d.wu) (E2 d.wd) = E2 (xc d) := by
  unfold val_main_v13 val_main_v12
  rw [r11, r7, bid_col _ _ (by decide), subf_E2]; rfl
theorem r22 : val_main_v22 (F := Ideal) (E2 d.h) (E2 d.wg) (E2 d.wu) (E2 d.wd) = E2 (xc d) := r13 d
theorem r24 : val_main_v24 (F := Ideal) (E2 d.h) (E2 d.wg) (E2 d.wu) (E2 d.wd) = E2 fun r _ => var d r := by
  unfold val_main_v24 val_main_v23 val_main_v20 val_main_v19 val_main_v18 val_main_v17 val_main_v14 val_main_cst_3 val_main_cst_4 val_main_cst_5
  rw [r13, mulf_E2, constant_E0 _ _ bits_zero, constant_E0 _ _ bits_1024, constant_E0 _ _ bits_eps5, hostRowSum_E1, splat_E2, splat_E2,
    bid_1_col _ _ (by decide), hdivf_E2 _ _ (fun _ _ => by norm_num), addf_E2]
  rfl
theorem r25 : val_main_v25 (F := Ideal) (E2 d.h) (E2 d.wg) (E2 d.wu) (E2 d.wd) = E2 fun r _ => rs d r := by
  unfold val_main_v25; rw [r24, hrsqrt_E2 _ (fun r _ => var_pos d r)]; rfl
theorem r28 : val_main_v28 (F := Ideal) (E2 d.h) (E2 d.wg) (E2 d.wu) (E2 d.wd) = E2 fun r _ => -(1 / 2) * (rs d r / var d r) := by
  unfold val_main_v28 val_main_v27 val_main_v26 val_main_cst_6
  rw [r24, r25, constant_E0 _ _ bits_neg_half, splat_E2, hdivf_E2 _ _ (fun r _ => (var_pos d r).ne'), mulf_E2]
theorem r30 : val_main_v30 (F := Ideal) (E2 d.h) (E2 d.wg) (E2 d.wu) (E2 d.wd) = E2 (xh d) := by
  unfold val_main_v30 val_main_v29
  rw [r22, r25, bid_col _ _ (by decide), mulf_E2]; rfl
theorem r16 : val_main_v16 (F := Ideal) (E2 d.h) (E2 d.wg) (E2 d.wu) (E2 d.wd) = E2 fun r c => 2 * xc d r c := by
  unfold val_main_v16 val_main_v15 val_main_cst_2
  rw [r13, constant_E0 _ _ bits_two, splat_E2, mulf_E2]

/-! ### The loss -/
theorem r38 : val_main_v38 (F := Ideal) (E2 d.h) (E2 d.wg) (E2 d.wu) (E2 d.wd) (E2 d.t) (E1 d.g2) (E1 d.b2)
    = E2 fun r c => xh d r c * d.g2 c + d.b2 c - d.t r c := by
  unfold val_main_v38 val_main_v37 val_main_v36 val_main_v35 val_main_v34 val_main_v33 val_main_v32 val_main_v31
  rw [r30, bid_1_row _ _ (by decide), bid_row _ _ (by decide), mulf_E2, bid_1_row _ _ (by decide), bid_row _ _ (by decide), addf_E2, slice_E2, subf_E2]
  exact E2_congr fun r _ c _ => by simp only [zero_add]
/-- The rows past the sequence's end reach the reference's sums as rows of zeros. -/
theorem r53 (h0 : d.off = 0) : val_main_v53 (F := Ideal) (E2 d.h) (E2 d.wg) (E2 d.wu) (E2 d.wd) (E2 d.t) (E1 d.g2) (E1 d.b2) = E2 (dy d) := by
  unfold val_main_v53 val_main_v52 val_main_v51 val_main_v50 val_main_v49 val_main_v48 val_main_v47 val_main_v41 val_main_v40 val_main_cst_7 val_main_cst_12 val_main_cst_13 val_main_cst_14 val_main_cst_15
  rw [r38, constant_E0 _ _ bits_two, constant_E0 _ _ bits_half, constant_E0 _ _ bits_one, constant_E0 _ _ bits_1024, constant_E0 _ _ bits_zero, splat_E2, mulf_E2,
    show mulf (F := Ideal) (φ := .f32) (E0 (1 / 2)) (E0 1) = E0 (1 / 2 * 1) from mulf_R _ _, splat_E1, splat_E1,
    show Host.divf (F := Ideal) (φ := .f32) (E1 (m := 4096) fun _ => 1 / 2 * 1) (E1 fun _ => 1024) = E1 fun _ => 1 / 2 * 1 / 1024 from hdivf_R _ _ fun _ => by norm_num,
    bid_1_col _ _ (by decide), mulf_E2, pad_rows]
  refine E2_congr fun r _ c _ => ?_
  unfold dy diff
  rw [h0, zero_add]
  by_cases h : r < 4096
  · rw [if_pos h, if_pos h]; ring
  · rw [if_neg h, if_neg h]; ring
theorem r96 (h0 : d.off = 0) : val_main_v96 (F := Ideal) (E2 d.h) (E2 d.wg) (E2 d.wu) (E2 d.wd) (E2 d.t) (E1 d.g2) (E1 d.b2)
    = E2 fun _ _ => 1 / 2 * ∑ r ∈ range 4096, (∑ c ∈ range 1024, diff d r c * diff d r c) / 1024 := by
  unfold val_main_v96 val_main_v46 val_main_v45 val_main_v44 val_main_v43 val_main_v42 val_main_v39 val_main_cst_8 val_main_cst_9 val_main_cst_10 val_main_cst_11
  rw [r38, constant_E0 _ _ bits_half, constant_E0 _ _ bits_1024, constant_E0 _ _ bits_zero, mulf_E2, hostRowSum_E1, splat_E1,
    show ∀ f : ℕ → ℝ, Host.divf (F := Ideal) (φ := .f32) (E1 (m := 4096) f) (E1 fun _ => 1024) = E1 fun r => f r / 1024 from
      fun f => hdivf_R _ _ fun _ => by norm_num, hostSum_E0,
    show ∀ a b : ℝ, mulf (F := Ideal) (φ := .f32) (E0 a) (E0 b) = E0 (a * b) from fun a b => mulf_R _ _, splat_E2]
  refine E2_congr fun _ _ _ _ => congrArg _ (sum_congr rfl fun r hr => congrArg (· / (1024 : ℝ)) (sum_congr rfl fun c _ => ?_))
  unfold diff
  rw [h0, zero_add, if_pos (mem_range.1 hr)]

/-! ### Back through the norm -/
theorem r61 (h0 : d.off = 0) : val_main_v61 (F := Ideal) (E2 d.h) (E2 d.wg) (E2 d.wu) (E2 d.wd) (E2 d.t) (E1 d.g2) (E1 d.b2) = E2 (dxh d) := by
  unfold val_main_v61 val_main_v60 val_main_v31
  rw [r53 d h0, bid_1_row _ _ (by decide), bid_row _ _ (by decide), mulf_E2]; rfl
theorem r67 (h0 : d.off = 0) : val_main_v67 (F := Ideal) (E2 d.h) (E2 d.wg) (E2 d.wu) (E2 d.wd) (E2 d.t) (E1 d.g2) (E1 d.b2)
    = E2 fun r c => dxh d r c * rs d r := by
  unfold val_main_v67 val_main_v66
  rw [r61 d h0, r25, bid_col _ _ (by decide), mulf_E2]
/-- What reaches the centred values through their mean square: this, times each of them. -/
def back (r : ℕ) : ℝ := (∑ k ∈ range 1024, xc d r k * dxh d r k) * (-(1 / 2) * (rs d r / var d r)) / 1024
theorem r76 (h0 : d.off = 0) : val_main_v76 (F := Ideal) (E2 d.h) (E2 d.wg) (E2 d.wu) (E2 d.wd) (E2 d.t) (E1 d.g2) (E1 d.b2)
    = E2 fun r c => back d r * (2 * xc d r c) := by
  unfold val_main_v76 val_main_v75 val_main_v74 val_main_v73 val_main_v72 val_main_v68 val_main_v65 val_main_v64 val_main_v63 val_main_cst_20 val_main_cst_22 val_main_cst_23
  rw [r61 d h0, r22, r28, r16, mulf_E2, constant_E0 _ _ bits_zero, constant_E0 _ _ bits_1024, hostRowSum_E1, sc_1_col, mulf_E2, splat_E2,
    hdivf_E2 _ _ (fun _ _ => by norm_num), hostRowSum_E1, bid_1_col _ _ (by decide), mulf_E2]
  exact E2_congr fun r _ c _ => by simp [back]
theorem r86 (h0 : d.off = 0) : val_main_v86 (F := Ideal) (E2 d.h) (E2 d.wg) (E2 d.wu) (E2 d.wd) (E2 d.t) (E1 d.g2) (E1 d.b2) = E2 (dpre d) := by
  unfold val_main_v86 val_main_v85 val_main_v84 val_main_v83 val_main_v82 val_main_v81 val_main_v80 val_main_v79 val_main_v78 val_main_v77 val_main_v71 val_main_v70 val_main_v69 val_main_cst_21 val_main_cst_24 val_main_cst_25 val_main_cst_26
  rw [r67 d h0, r76 d h0, hnegf_E2, hnegf_E2, constant_E0 _ _ bits_zero, constant_E0 _ _ bits_1024, hostRowSum_E1, hostRowSum_E1, sc_1_col, sc_1_col, addf_E2, addf_E2, splat_E2,
    hdivf_E2 _ _ (fun _ _ => by norm_num), hostRowSum_E1, bid_1_col _ _ (by decide), addf_E2]
  refine E2_congr fun r _ c _ => ?_
  have hz := sum_xc d r
  have hc := inv_sqrt_cube (var_pos d r)
  change rs d r / var d r = rs d r * rs d r * rs d r at hc
  simp only [sum_range_one, sum_neg_distrib, ← sum_mul, ← mul_sum, hz, dpre, back, hc, xh]
  have he : ∑ k ∈ range 1024, dxh d r k * (xc d r k * rs d r) = (∑ k ∈ range 1024, xc d r k * dxh d r k) * rs d r := by
    rw [sum_mul]; exact sum_congr rfl fun _ _ => by ring
  rw [he]; ring
theorem r98 (h0 : d.off = 0) : val_main_v98 (F := Ideal) (E2 d.h) (E2 d.wg) (E2 d.wu) (E2 d.wd) (E2 d.t) (E1 d.g2) (E1 d.b2)
    = E2 fun _ k => ∑ r ∈ range 4224, dy d r k := by
  unfold val_main_v98 val_main_v56 val_main_v55 val_main_v54 val_main_cst_16 val_main_cst_17
  rw [r53 d h0, constant_E0 _ _ bits_zero, hostColSum_E1, sc_1_row, hostColSum_E1, bid_1_row _ _ (by decide)]
  exact E2_congr fun r _ c _ => by simp
theorem r97 (h0 : d.off = 0) : val_main_v97 (F := Ideal) (E2 d.h) (E2 d.wg) (E2 d.wu) (E2 d.wd) (E2 d.t) (E1 d.g2) (E1 d.b2)
    = E2 fun _ k => ∑ r ∈ range 4224, dy d r k * xh d r k := by
  unfold val_main_v97 val_main_v62 val_main_v59 val_main_v58 val_main_v57 val_main_cst_18 val_main_cst_19
  rw [r53 d h0, r30, mulf_E2, constant_E0 _ _ bits_zero, hostColSum_E1, sc_1_row, hostColSum_E1, bid_1_row _ _ (by decide)]
  exact E2_congr fun r _ c _ => by simp [mul_comm]

/-! ### Back through the gate -/
theorem r87 (h0 : d.off = 0) : val_main_v87 (F := Ideal) (E2 d.h) (E2 d.wg) (E2 d.wu) (E2 d.wd) (E2 d.t) (E1 d.g2) (E1 d.b2) = E2 (da d) := by
  unfold val_main_v87
  rw [r86 d h0]; exact turned_E2 _ _
theorem r95 (h0 : d.off = 0) : val_main_v95 (F := Ideal) (E2 d.h) (E2 d.wg) (E2 d.wu) (E2 d.wd) (E2 d.t) (E1 d.g2) (E1 d.b2) = E2 (dup d) := by
  unfold val_main_v95 val_main_v88
  rw [r87 d h0, r4_0, mulf_E2, truncf_E2]
  exact E2_congr fun r _ c _ => mul_comm _ _
theorem r94 (h0 : d.off = 0) : val_main_v94 (F := Ideal) (E2 d.h) (E2 d.wg) (E2 d.wu) (E2 d.wd) (E2 d.t) (E1 d.g2) (E1 d.b2) = E2 (dgate d) := by
  unfold val_main_v94 val_main_v90 val_main_call1_v2 val_main_call1_v1 val_main_call1_v0 val_main_v89
  rw [r87 d h0, r1, r0, r4_2, r4_1, mulf_E2, mulf_E2, mulf_E2, mulf_E2, addf_E2, truncf_E2]
  exact E2_congr fun r _ c _ => by unfold dgate; ring
theorem r93 : val_main_v93 (F := Ideal) (E2 d.h) (E2 d.wg) (E2 d.wu) = E2 (act d) := by
  unfold val_main_v93 val_main_v92 val_main_v91
  rw [show val_main_call2_v5 (F := Ideal) (E2 d.h) (E2 d.wg) = E2 (sg d) from r4_2 d, r0, r1, mulf_E2, mulf_E2, truncf_E2]
  rfl

end Cert.Loss

end
-- ==== Proof.LossJoin.lean ====
/- The feed-forward and loss kernel and its reference side by side: finite arguments are real data, and at real data the two end at
   the same seven arrays. -/
module

public import proofs.«01_k».proof.Defs
public import proofs.«01_k».proof.Proof.Finite
public import proofs.«01_k».proof.Proof.LossRun
public import proofs.«01_k».proof.Proof.LossRef
public import proofs.«01_k».proof.Proof.Gen.Reference4Ideal.Run
public import proofs.«01_k».proof.Proof.Gen.Pre_finite4

@[expose] public section

set_option maxRecDepth 16384

noncomputable section

namespace Cert.Loss

open Cert.Lift Idealize.ShloMosaic Idealize.SL.Sem Finset

/-- A scalar check as a column of one. -/
def one (b : IVec Cert.Pre_finite4.S_ 1) : (s : Shape) × (s.Idx → BitVec 1) :=
  ⟨Cert.Pre_finite4.S1, broadcastInDim Cert.Pre_finite4.S1 ![] Cert.Pre_finite4.Facts.bcast_S_S1 b⟩

/-- Seven checks stacked are all ones: each is one. -/
theorem checks (b0 b1 b2 b3 b4 b5 b6 : IVec Cert.Pre_finite4.S_ 1) (e : Cert.Pre_finite4.S_.Idx)
    (h : Cert.Pre_finite4.fn_part2 (F := Ideal) b6 (broadcastInDim Cert.Pre_finite4.S1 ![] Cert.Pre_finite4.Facts.bcast_S_S1 b0)
      (broadcastInDim Cert.Pre_finite4.S1 ![] Cert.Pre_finite4.Facts.bcast_S_S1 b1)
      (broadcastInDim Cert.Pre_finite4.S1 ![] Cert.Pre_finite4.Facts.bcast_S_S1 b2)
      (broadcastInDim Cert.Pre_finite4.S1 ![] Cert.Pre_finite4.Facts.bcast_S_S1 b3)
      (broadcastInDim Cert.Pre_finite4.S1 ![] Cert.Pre_finite4.Facts.bcast_S_S1 b4)
      (broadcastInDim Cert.Pre_finite4.S1 ![] Cert.Pre_finite4.Facts.bcast_S_S1 b5) = fun _ => 1#1) :
    b0 e = 1#1 ∧ b1 e = 1#1 ∧ b2 e = 1#1 ∧ b3 e = 1#1 ∧ b4 e = 1#1 ∧ b5 e = 1#1 ∧ b6 e = 1#1 := by
  haveI : Subsingleton Cert.Pre_finite4.S_.Idx := ⟨fun a b => funext fun k => k.elim0⟩
  have read (b : IVec Cert.Pre_finite4.S_ 1) (i : Cert.Pre_finite4.S1.Idx) : broadcastInDim Cert.Pre_finite4.S1 ![] Cert.Pre_finite4.Facts.bcast_S_S1 b i = b e :=
    congrArg b (Subsingleton.elim _ _)
  have at_ (k : Fin 7) (b : IVec Cert.Pre_finite4.S_ 1)
      (hx : ([one b0, one b1, one b2, one b3, one b4, one b5, one b6])[k.val]'k.isLt = one b)
      (hp : (((([one b0, one b1, one b2, one b3, one b4, one b5, one b6]).take k.val).map (·.1)).map fun s =>
        if h : s.rank = Cert.Pre_finite4.S7.rank then s.size ((0 : Fin 1).cast h.symm) else 0).sum = k.val) : b e = 1#1 :=
    (read b _).symm.trans ((concatenate_apply_piece (t := Cert.Pre_finite4.S7) 0 [one b0, one b1, one b2, one b3, one b4, one b5, one b6]
      Cert.Pre_finite4.Facts.concatenates_S1_S1_S1_S1_S1_S1_S1_S7_d0 (ix1 k) k.val k.isLt Cert.Pre_finite4.S1 (one b).2 hx rfl k.val hp (ix1 0)
      (fun b hb => absurd (Subsingleton.elim (b.cast rfl) 0) hb) rfl).symm.trans (congrFun h (ix1 k)))
  exact ⟨at_ 0 _ rfl rfl, at_ 1 _ rfl rfl, at_ 2 _ rfl rfl, at_ 3 _ rfl rfl, at_ 4 _ rfl rfl, at_ 5 _ rfl rfl, at_ 6 _ rfl rfl⟩

/-- Finite arguments are data. -/
theorem data_of_finite (x0 : (Mat 4224 1024).Idx → EReal) (x1 x2 : (Mat 1024 2816).Idx → EReal) (x3 : (Mat 2816 1024).Idx → EReal)
    (x4 : (Mat 4096 1024).Idx → EReal) (x5 x6 : (⟨1, ![1024]⟩ : Shape).Idx → EReal)
    (h : Cert.Pre_finite4.fn (F := Ideal) x0 x1 x2 x3 x4 x5 x6 = fun _ => 1#1) :
    ∃ d : Data, d.off = 0 ∧ x0 = E2 d.h ∧ x1 = E2 d.wg ∧ x2 = E2 d.wu ∧ x3 = E2 d.wd ∧ x4 = E2 d.t ∧ x5 = E1 d.g2 ∧ x6 = E1 d.b2 := by
  unfold Cert.Pre_finite4.fn Cert.Pre_finite4.fn_part1 at h
  obtain ⟨c0, c1, c2, c3, c4, c5, c6⟩ := checks _ _ _ _ _ _ _ (fun a => a.elim0) h
  obtain ⟨f0, h0⟩ := exists_E2 x0 (real_of_check x0 _ _ _ _ c0)
  obtain ⟨f1, h1⟩ := exists_E2 x1 (real_of_check x1 _ _ _ _ c1)
  obtain ⟨f2, h2⟩ := exists_E2 x2 (real_of_check x2 _ _ _ _ c2)
  obtain ⟨f3, h3⟩ := exists_E2 x3 (real_of_check x3 _ _ _ _ c3)
  obtain ⟨f4, h4⟩ := exists_E2 x4 (real_of_check x4 _ _ _ _ c4)
  obtain ⟨f5, h5⟩ := exists_E1 x5 (real_of_check x5 _ _ _ _ c5)
  obtain ⟨f6, h6⟩ := exists_E1 x6 (real_of_check x6 _ _ _ _ c6)
  exact ⟨⟨f0, f1, f2, f3, f4, f5, f6, 0⟩, rfl, h0, h1, h2, h3, h4, h5, h6⟩

/-- The loss summed column by column over all rows is the loss summed row by row over the rows that have a target. -/
theorem loss_rows (d : Data) (h0 : d.off = 0) : 0 + 1 / 2048 * ∑ k ∈ range 1024, ∑ r ∈ range 4224, diff d r k * diff d r k
    = 1 / 2 * ∑ r ∈ range 4096, (∑ k ∈ range 1024, diff d r k * diff d r k) / 1024 := by
  rw [sum_comm, show (4224 : ℕ) = 4096 + 128 from rfl, sum_range_add,
    sum_eq_zero (s := range 128) fun r _ => sum_eq_zero fun k _ => by
      rw [show diff d (4096 + r) k = 0 from if_neg (by omega), zero_mul],
    ← sum_div]
  ring

/-! ### The runs -/
open Cert.Kernel4Ideal Cert.Kernel4Ideal.Gen in
/-- The kernel's run at data. -/
theorem kernel_run (m : (ℓ : Loc nD τ sig) → Buf (Elt Ideal) ℓ) (ρ : Dev nD → PrngReg) (d : Dev nD → Data) (h : ∀ c, Args m c (d c)) :
    θ_run (defs (F := Ideal)) (onTc (τ := τ) (main (F := Ideal))) ⟨m, fun _ => 0, ρ⟩ fun r => ∀ c : Dev nD,
      r.2.mem ((c.tc : Thread nD τ).loc main_v7_0) = E2 (act (d c))
      ∧ r.2.mem ((c.tc : Thread nD τ).loc main_v7_1) = E2 (dgate (d c))
      ∧ r.2.mem ((c.tc : Thread nD τ).loc main_v7_2) = E2 (dup (d c))
      ∧ r.2.mem ((c.tc : Thread nD τ).loc main_v7_3) = E2 (dpre (d c))
      ∧ r.2.mem ((c.tc : Thread nD τ).loc main_v7_4) = E2 (fun _ _ => 1 / 2 * ∑ r ∈ range 4096, (∑ k ∈ range 1024, diff (d c) r k * diff (d c) r k) / 1024)
      ∧ r.2.mem ((c.tc : Thread nD τ).loc main_v7_5) = E2 (fun _ k => ∑ r ∈ range 4224, dy (d c) r k * xh (d c) r k)
      ∧ r.2.mem ((c.tc : Thread nD τ).loc main_v7_6) = E2 (fun _ k => ∑ r ∈ range 4224, dy (d c) r k)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run (defs (F := Ideal)) _ _).mono (fun r hr c => ⟨((hr.2 c).1 9).trans (final9 (h c)), ((hr.2 c).1 10).trans (final10 (h c)),
      ((hr.2 c).1 11).trans (final11 (h c)), ((hr.2 c).1 12).trans (final12 (h c)),
      (((hr.2 c).1 13).trans (final13 (h c))).trans (E2_congr fun _ _ _ _ => loss_rows (d c) (h c).off),
      ((hr.2 c).1 14).trans (final14 (h c)), ((hr.2 c).1 15).trans (final15 (h c)), hr.1 c⟩)
    (θ_run_and (unchanged m ρ) (run_main m ρ))

open Cert.Reference4Ideal Cert.Reference4Ideal.Gen Cert.Reference4Ideal.Read in
/-- The reference's run at the same data. -/
theorem reference_run (m : (ℓ : Loc nD τ sig) → Buf (Elt Ideal) ℓ) (ρ : Dev nD → PrngReg) (d : Dev nD → Data) (h0 : ∀ c, (d c).off = 0)
    (a0 : ∀ c : Dev nD, m ((c.tc : Thread nD τ).loc main_arg0) = E2 (d c).h)
    (a1 : ∀ c : Dev nD, m ((c.tc : Thread nD τ).loc main_arg1) = E2 (d c).wg)
    (a2 : ∀ c : Dev nD, m ((c.tc : Thread nD τ).loc main_arg2) = E2 (d c).wu)
    (a3 : ∀ c : Dev nD, m ((c.tc : Thread nD τ).loc main_arg3) = E2 (d c).wd)
    (a4 : ∀ c : Dev nD, m ((c.tc : Thread nD τ).loc main_arg4) = E2 (d c).t)
    (a5 : ∀ c : Dev nD, m ((c.tc : Thread nD τ).loc main_arg5) = E1 (d c).g2)
    (a6 : ∀ c : Dev nD, m ((c.tc : Thread nD τ).loc main_arg6) = E1 (d c).b2) :
    θ_run (defs (F := Ideal)) (onTc (τ := τ) (main (F := Ideal))) ⟨m, fun _ => 0, ρ⟩ fun r => ∀ c : Dev nD,
      r.2.mem ((c.tc : Thread nD τ).loc main_v93) = E2 (act (d c))
      ∧ r.2.mem ((c.tc : Thread nD τ).loc main_v94) = E2 (dgate (d c))
      ∧ r.2.mem ((c.tc : Thread nD τ).loc main_v95) = E2 (dup (d c))
      ∧ r.2.mem ((c.tc : Thread nD τ).loc main_v86) = E2 (dpre (d c))
      ∧ r.2.mem ((c.tc : Thread nD τ).loc main_v96) = E2 (fun _ _ => 1 / 2 * ∑ r ∈ range 4096, (∑ k ∈ range 1024, diff (d c) r k * diff (d c) r k) / 1024)
      ∧ r.2.mem ((c.tc : Thread nD τ).loc main_v97) = E2 (fun _ k => ∑ r ∈ range 4224, dy (d c) r k * xh (d c) r k)
      ∧ r.2.mem ((c.tc : Thread nD τ).loc main_v98) = E2 (fun _ k => ∑ r ∈ range 4224, dy (d c) r k)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run (defs (F := Ideal)) _ _).mono (fun r hr c => by
    obtain ⟨o0, o1, o2, o3, o4, o5, o6, kept⟩ := hr c
    have at_ : ∀ f : (S4224x1024.Idx → EReal) → (S1024x2816.Idx → EReal) → (S1024x2816.Idx → EReal) → (S2816x1024.Idx → EReal)
        → (S4096x1024.Idx → EReal) → (S1024.Idx → EReal) → (S1024.Idx → EReal) → Prop,
        f (E2 (d c).h) (E2 (d c).wg) (E2 (d c).wu) (E2 (d c).wd) (E2 (d c).t) (E1 (d c).g2) (E1 (d c).b2)
        → f (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := fun f hf => by rw [a0, a1, a2, a3, a4, a5, a6]; exact hf
    exact ⟨(o0.trans (val_main_v93_eq _)).trans (at_ (fun x0 x1 x2 _ _ _ _ => val_main_v93 (F := Ideal) x0 x1 x2 = _) (r93 _)),
      (o1.trans (val_main_v94_eq _)).trans (at_ (fun x0 x1 x2 x3 x4 x5 x6 => val_main_v94 (F := Ideal) x0 x1 x2 x3 x4 x5 x6 = _) (r94 _ (h0 c))),
      (o2.trans (val_main_v95_eq _)).trans (at_ (fun x0 x1 x2 x3 x4 x5 x6 => val_main_v95 (F := Ideal) x0 x1 x2 x3 x4 x5 x6 = _) (r95 _ (h0 c))),
      (o3.trans (val_main_v86_eq _)).trans (at_ (fun x0 x1 x2 x3 x4 x5 x6 => val_main_v86 (F := Ideal) x0 x1 x2 x3 x4 x5 x6 = _) (r86 _ (h0 c))),
      (o4.trans (val_main_v96_eq _)).trans (at_ (fun x0 x1 x2 x3 x4 x5 x6 => val_main_v96 (F := Ideal) x0 x1 x2 x3 x4 x5 x6 = _) (r96 _ (h0 c))),
      (o5.trans (val_main_v97_eq _)).trans (at_ (fun x0 x1 x2 x3 x4 x5 x6 => val_main_v97 (F := Ideal) x0 x1 x2 x3 x4 x5 x6 = _) (r97 _ (h0 c))),
      (o6.trans (val_main_v98_eq _)).trans (at_ (fun x0 x1 x2 x3 x4 x5 x6 => val_main_v98 (F := Ideal) x0 x1 x2 x3 x4 x5 x6 = _) (r98 _ (h0 c))),
      kept⟩) (Cert.Reference4Ideal.Value.run m ρ)

/-- The value claim. -/
theorem algebraic : Cert.algebraic_Kernel4Ideal_Reference4Ideal_pre_finite4 := by
  intro m ρ m' ρ' hpre heq
  choose d hz h0 h1 h2 h3 h4 h5 h6 using fun c => data_of_finite _ _ _ _ _ _ _ (hpre c)
  exact ⟨_, _, _, _, _, _, _, kernel_run m ρ d fun c => ⟨hz c, h0 c, h1 c, h2 c, h3 c, h4 c, h5 c, h6 c⟩,
    reference_run m' ρ' d hz (fun c => (heq c).1.trans (h0 c)) (fun c => (heq c).2.1.trans (h1 c)) (fun c => (heq c).2.2.1.trans (h2 c))
      (fun c => (heq c).2.2.2.1.trans (h3 c)) (fun c => (heq c).2.2.2.2.1.trans (h4 c)) (fun c => (heq c).2.2.2.2.2.1.trans (h5 c))
      (fun c => (heq c).2.2.2.2.2.2.trans (h6 c))⟩

end Cert.Loss

end
-- ==== Proof.Windows.lean ====
/- The gradient of the mixer's input weight: the two operands' product by their rows, added block of rows after block of rows in a
   buffer of its own, and at the last block written out as the four windows of rows that the devices keep. -/
module

public import proofs.«01_k».proof.Proof.Outer
public import proofs.«01_k».proof.Proof.Gen.Kernel5Ideal.Frame
public import Idealize.ShloMosaic.Lib.Pipeline.ReadBack

@[expose] public section

set_option maxRecDepth 16384

noncomputable section

namespace Cert.Outer.Windows

open Cert.Lift Cert.Outer Cert.Kernel5Ideal Cert.Kernel5Ideal.Gen Idealize.ShloMosaic Idealize.ShloMosaic.TcCoe Idealize.SL.Sem Finset

/-- The windows of 608 rows, each 576 rows after the one before, of the matrix with entries `f`. -/
def windows {w : ℕ} (f : ℕ → ℕ → EReal) : (⟨3, ![4, 608, w]⟩ : Shape).Idx → EReal := fun y => f (576 * (y 0).val + (y 1).val) (y 2).val

theorem mm (f g : ℕ → ℕ → EReal) : matmul (F := Ideal) (φ₁ := .bf16) (φ₂ := .bf16) dot_S1408x2432_S1408x512_S2432x512_0_0_1_1_n_n none (X2 f) (X2 g)
    (constant S2432x512 .f32 0x00000000#32) = X2 fun i j => ∑ k ∈ range 1408, f k i * g k j :=
  rows_mm _ rfl rfl none f g (fun _ _ => ⟨rfl, rfl⟩) fun _ _ => ⟨rfl, rfl⟩

theorem start : k0_pay1 (F := Ideal) = X2 fun _ _ => 0 := by simp only [k0_pay1, zero_X2, shapeCast_X2]
theorem step (a f g : ℕ → ℕ → EReal) : k0_pay2 (F := Ideal) (X2 a) (X2 f) (X2 g) = X2 fun i j => a i j + ∑ k ∈ range 1408, f k i * g k j := by
  simp only [k0_pay2, truncf_X2, mm, addf_X2, shapeCast_X2]

theorem a_index : ∀ t : Fin cfg0.N, win0_0.index t = ![t.val % 3, 0] := (by decide +kernel : ∀ t : Fin grid0.N, win0_0.index t = ![t.val % 3, 0])
theorem b_index : ∀ t : Fin cfg0.N, win0_1.index t = ![t.val % 3, t.val / 3] :=
  (by decide +kernel : ∀ t : Fin grid0.N, win0_1.index t = ![t.val % 3, t.val / 3])
theorem o_index : ∀ t : Fin cfg0.N, win0_2.index t = ![0, 0, t.val / 3] := (by decide +kernel : ∀ t : Fin grid0.N, win0_2.index t = ![0, 0, t.val / 3])

variable {m : (ℓ : Loc nD τ sig) → Buf (Elt Ideal) ℓ} {c : Dev nD} {f g : ℕ → ℕ → EReal}

theorem a_blk (hf : m ((c : Thread nD τ).loc main_arg0) = X2 f) (t : Fin cfg0.N) :
    iblk m c 0 t = X2 (m := 1408) (n := 2432) fun r k => f (t.val % 3 * 1408 + r) k := by
  funext y
  blk_simp [iblk]
  rw [show V m c main_arg0 = X2 f from hf]
  refine (?_ : f ((win0_0.blk t).view.emb y 0).val ((win0_0.blk t).view.emb y 1).val = _)
  blk_simp [a_index]
  all_goals first | rfl | simp [X2]
theorem b_blk (hg : m ((c : Thread nD τ).loc main_arg1) = X2 g) (t : Fin cfg0.N) :
    iblk m c 1 t = X2 (m := 1408) (n := 512) fun r k => g (t.val % 3 * 1408 + r) (t.val / 3 * 512 + k) := by
  funext y
  blk_simp [iblk]
  rw [show V m c main_arg1 = X2 g from hg]
  refine (?_ : g ((win0_1.blk t).view.emb y 0).val ((win0_1.blk t).view.emb y 1).val = _)
  blk_simp [b_index]
  all_goals first | rfl | simp [X2]

theorem left (hf : m ((c : Thread nD τ).loc main_arg0) = X2 f) (hg : m ((c : Thread nD τ).loc main_arg1) = X2 g) : (n : ℕ) → (hn : n < cfg0.N) →
    (outsAt0 m c n hn).2 = X2 fun i j => upto f g (n % 3 * 1408 + 1408) i (n / 3 * 512 + j) :=
  accumulate (fun n hn => (outsAt0 m c n hn).2) 512
    (fun t h => by
      rw [outsAt0_A m c t h (by omega), a_blk hf, b_blk hg]
      frame_out
      rw [start]
      exact step _ _ _)
    fun t a h e => by
      by_cases h1 : t.val % 3 = 2
      · rw [outsAt0_C m c t h h1, a_blk hf, b_blk hg, e]
        frame_out
        rw [read_unread_whole]
        exact step _ _ _
      · rw [outsAt0_B m c t h h1, a_blk hf, b_blk hg, e]
        frame_out
        rw [read_unread_whole]
        exact step _ _ _

/-- The rows from row `o` on of the buffer, as a window. -/
theorem rows_from (a : ℕ → ℕ → EReal) (o : ℕ) (inb : ∀ x, ![o, 0] x + ![608, 512] x ≤ S2432x512.size x) (h : S608x512.ShapeCasts S1x608x512)
    (y : S1x608x512.Idx) :
    shapeCast S1x608x512 (View.ld (Val := Elt Ideal) (S := S2432x512) (e' := .f32) (X2 a) (Rect.unit ![o, 0] ![608, 512] inb)) h y
      = a (o + (y 1).val) (y 2).val := by
  rw [shapeCast_apply (s := S608x512) (t := S1x608x512) _ h y (Idealize.ShloMosaic.ix2 (y 1) (y 2)) (by
    have h0 : (y 0).val = 0 := by have h0 : (y 0).val < 1 := (y 0).isLt; omega
    simp [Shape.rowMajor_val_two, Shape.rowMajor_val_three, h0])]
  refine (?_ : a _ _ = a _ _)
  simp

/-- The same, where the buffer has just been filled. -/
theorem rows_of_fill (a : ℕ → ℕ → EReal) (o : ℕ) (inb : ∀ x, ![o, 0] x + ![608, 512] x ≤ S2432x512.size x) (h : S608x512.ShapeCasts S1x608x512)
    (v : View sig .tc .vmem S2432x512 .f32) (y : S1x608x512.Idx) :
    shapeCast (s := S608x512) S1x608x512 (View.readCov (Val := Elt Ideal) (s := S2432x512) (e := .f32) v [⟨Rect.unit ![0, 0] ![2432, 512] inb_S2432x512_S2432x512_0_0, (X2 a : S2432x512.Idx → EReal)⟩]
      (Rect.unit ![o, 0] ![608, 512] inb).toLoadRect) h y = a (o + (y 1).val) (y 2).val := by
  rw [← rows_from a o inb h y]
  exact congrFun (congrArg (fun x => shapeCast (s := S608x512) S1x608x512 x h) (View.readCov_fill (Val := Elt Ideal) (s := S2432x512) (e := .f32) v
    (off := ![0, 0]) inb_S2432x512_S2432x512_0_0 (X2 a) [] (Rect.unit ![o, 0] ![608, 512] inb) (by decide))) y

theorem written (hf : m ((c : Thread nD τ).loc main_arg0) = X2 f) (hg : m ((c : Thread nD τ).loc main_arg1) = X2 g) (t : Fin cfg0.N) (h : t.val % 3 = 2) :
    (outsAt0 m c t.val t.isLt).1 = windows (w := 512) fun i j => upto f g 4224 i (t.val / 3 * 512 + j) := by
  have e := left hf hg (t.val - 1) (Nat.lt_of_le_of_lt (Nat.sub_le _ _) t.isLt)
  have e' := left hf hg t.val t.isLt
  rw [h] at e'
  rw [outsAt0_C m c t (by omega) h, a_blk hf, b_blk hg, e] at e' ⊢
  revert e'
  frame_out
  intro e'
  rw [e']
  funext y
  refine View.canon_apply_of_pieces (Val := Elt Ideal) (S := S4x608x512) (e := .f32) (windows _) _ ?_ y
    (View.cover_of_tiledL (s := S4x608x512) _ S1x608x512.size (by sl_kernel_rfl) y)
  simp only [List.forall_mem_cons, List.not_mem_nil, false_imp_iff, implies_true, and_true]
  refine ⟨fun x => ?_, fun x => ?_, fun x => ?_, fun x => ?_⟩
  · refine (rows_of_fill _ 1728 _ _ _ x).trans ?_
    simp [windows]
  · refine (rows_of_fill _ 1152 _ _ _ x).trans ?_
    simp [windows]
  · refine (rows_of_fill _ 576 _ _ _ x).trans ?_
    simp [windows]
  · refine (rows_of_fill _ 0 _ _ _ x).trans ?_
    simp [windows]

theorem result (hf : m ((c : Thread nD τ).loc main_arg0) = X2 f) (hg : m ((c : Thread nD τ).loc main_arg1) = X2 g) :
    (dats m 0 c).arrAt 2 cfg0.N = windows (w := 1024) (upto f g 4224) := by
  refine (dats m 0 c).arrAt_eq_of_covers 2 _ (by decide +kernel) fun t hw y => ?_
  have ht : t.val % 3 = 2 := (flush0_2 t).mp hw
  blk_simp
  rw [after0_2, written hf hg t ht]
  refine (?_ : _ = upto f g 4224 (576 * ((win0_2.blk t).view.emb y 0).val + ((win0_2.blk t).view.emb y 1).val) ((win0_2.blk t).view.emb y 2).val)
  blk_simp [o_index]
  all_goals first | rfl | simp [windows]

end Cert.Outer.Windows

end
-- ==== Proof.WindowsJoin.lean ====
/- The input weight's gradient, kernel and reference side by side: both end at the four windows of the same product. -/
module

public import proofs.«01_k».proof.Defs
public import proofs.«01_k».proof.Proof.OuterJoin
public import proofs.«01_k».proof.Proof.Windows
public import proofs.«01_k».proof.Proof.Gen.Reference5Ideal.Run

@[expose] public section

set_option maxRecDepth 16384

noncomputable section

namespace Cert.Outer.Windows

open Cert.Lift Cert.Outer Idealize.ShloMosaic Idealize.ShloMosaic.TcCoe Idealize.SL.Sem Finset

section Kernel
open Cert.Kernel5Ideal Cert.Kernel5Ideal.Gen

/-- The kernel's run. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v0) = windows (w := 1024) (upto (entries (m := 4224) (n := 2432) (m ((c : Thread nD τ).loc main_arg0)))
        (entries (m := 4224) (n := 1024) (m ((c : Thread nD τ).loc main_arg1))) 4224)
      ∧ r.2.mem ((c : Thread nD τ).loc main_arg0) = m ((c : Thread nD τ).loc main_arg0)
      ∧ r.2.mem ((c : Thread nD τ).loc main_arg1) = m ((c : Thread nD τ).loc main_arg1) :=
  (θ_run (defs (F := Ideal)) _ _).mono (fun r h c => ⟨((h.2 c).1 2).trans (result (X2_entries _) (X2_entries _)), h.1 c⟩)
    (θ_run_and (unchanged m ρ) (run_main m ρ))

end Kernel

section Reference
open Cert.Reference5Ideal Cert.Reference5Ideal.Gen

theorem host (f g : ℕ → ℕ → EReal) : Host.dotGeneral (F := Ideal) (φ₁ := .f32) (φ₂ := .f32) dot_S4224x2432_S4224x1024_S2432x1024_0_0_1_1_n_n none (X2 f) (X2 g)
    = X2 fun i j => ∑ k ∈ range 4224, f k i * g k j :=
  rows_host _ rfl rfl none f g (fun _ _ => ⟨rfl, rfl⟩) fun _ _ => ⟨rfl, rfl⟩

/-- The weight's gradient, transposed twice. -/
theorem gradient (x : (Mat 4224 2432).Idx → EReal) (y : (Mat 4224 1024).Idx → EReal) :
    transpose S2432x1024 [1, 0] (transpose S1024x2432 [1, 0] (Host.dotGeneral (F := Ideal) (φ₁ := .f32) (φ₂ := .f32) dot_S4224x2432_S4224x1024_S2432x1024_0_0_1_1_n_n none
      (extf (F := Ideal) (s := S4224x2432) (φ := .bf16) .f32 x bitsLt_bf16_f32) y) transposes_S2432x1024_S1024x2432_1_0) transposes_S1024x2432_S2432x1024_1_0
      = product x y := by
  rw [X2_entries x, X2_entries y, extf_X2, host, transpose_X2, transpose_X2, product, ← X2_entries x, ← X2_entries y]
  rfl

/-- One window of it. -/
abbrev piece (p : (Mat 2432 1024).Idx → EReal) (o : ℕ) (h : Shape.Slices ![o, 0] S608x1024 (s := S2432x1024)) : S1x608x1024.Idx → EReal :=
  broadcastInDim S1x608x1024 ![1, 2] bcast_S608x1024_S1x608x1024_1_2 (extractStridedSlice (s := S2432x1024) S608x1024 ![o, 0] p h)

theorem piece_apply (f : ℕ → ℕ → EReal) (o : ℕ) (h : Shape.Slices ![o, 0] S608x1024 (s := S2432x1024)) (y : S1x608x1024.Idx) :
    piece (X2 f) o h y = f (o + (y 1).val) (y 2).val := by
  refine (?_ : f _ _ = f _ _)
  simp

/-- The windows one after the other. -/
theorem stacked (f : ℕ → ℕ → EReal) : concatenate S4x608x1024 0
    [⟨S1x608x1024, piece (X2 f) 0 slices_S2432x1024_S608x1024_0_0⟩, ⟨S1x608x1024, piece (X2 f) 576 slices_S2432x1024_S608x1024_576_0⟩,
      ⟨S1x608x1024, piece (X2 f) 1152 slices_S2432x1024_S608x1024_1152_0⟩, ⟨S1x608x1024, piece (X2 f) 1728 slices_S2432x1024_S608x1024_1728_0⟩]
    concatenates_S1x608x1024_S1x608x1024_S1x608x1024_S1x608x1024_S4x608x1024_d0 = windows (w := 1024) f := by
  funext j
  have hj : (j 0).val < 4 := (j 0).isLt
  have key : ∀ (k : ℕ) (hk : k < 4) (h : Shape.Slices ![576 * k, 0] S608x1024 (s := S2432x1024)) (hjk : (j 0).val = k)
      (hx : [(⟨S1x608x1024, piece (X2 f) 0 slices_S2432x1024_S608x1024_0_0⟩ : (s : Shape) × (s.Idx → EReal)),
        ⟨S1x608x1024, piece (X2 f) 576 slices_S2432x1024_S608x1024_576_0⟩, ⟨S1x608x1024, piece (X2 f) 1152 slices_S2432x1024_S608x1024_1152_0⟩,
        ⟨S1x608x1024, piece (X2 f) 1728 slices_S2432x1024_S608x1024_1728_0⟩][k] = ⟨S1x608x1024, piece (X2 f) (576 * k) h⟩),
      concatenate S4x608x1024 0 [⟨S1x608x1024, piece (X2 f) 0 slices_S2432x1024_S608x1024_0_0⟩, ⟨S1x608x1024, piece (X2 f) 576 slices_S2432x1024_S608x1024_576_0⟩,
        ⟨S1x608x1024, piece (X2 f) 1152 slices_S2432x1024_S608x1024_1152_0⟩, ⟨S1x608x1024, piece (X2 f) 1728 slices_S2432x1024_S608x1024_1728_0⟩]
        concatenates_S1x608x1024_S1x608x1024_S1x608x1024_S1x608x1024_S4x608x1024_d0 j = windows (w := 1024) f j := by
    intro k hk h hjk hx
    refine (concatenate_apply_piece 0 [⟨S1x608x1024, piece (X2 f) 0 slices_S2432x1024_S608x1024_0_0⟩, ⟨S1x608x1024, piece (X2 f) 576 slices_S2432x1024_S608x1024_576_0⟩,
      ⟨S1x608x1024, piece (X2 f) 1152 slices_S2432x1024_S608x1024_1152_0⟩, ⟨S1x608x1024, piece (X2 f) 1728 slices_S2432x1024_S608x1024_1728_0⟩]
      concatenates_S1x608x1024_S1x608x1024_S1x608x1024_S1x608x1024_S4x608x1024_d0 j k hk S1x608x1024 (piece (X2 f) (576 * k) h) hx rfl k ?_
      (Idealize.ShloMosaic.ix3 0 (j 1) (j 2))
      (fun b hb => by match b with | ⟨0, _⟩ => exact absurd rfl hb | ⟨1, _⟩ => rfl | ⟨2, _⟩ => rfl) ?_).trans ?_
    · match k, hk with
      | 0, _ => simp
      | 1, _ => simp
      | 2, _ => simp
      | 3, _ => simp
    · show k + 0 = (j 0).val; omega
    · refine (piece_apply f _ h _).trans ?_
      unfold windows
      rw [hjk]; rfl
  by_cases c0 : (j 0).val = 0
  · exact key 0 (by omega) _ c0 rfl
  by_cases c1 : (j 0).val = 1
  · exact key 1 (by omega) _ c1 rfl
  by_cases c2 : (j 0).val = 2
  · exact key 2 (by omega) _ c2 rfl
  · exact key 3 (by omega) _ (by omega) rfl

/-- The reference's result. -/
theorem reference_result (x : (Mat 4224 2432).Idx → EReal) (y : (Mat 4224 1024).Idx → EReal) (p : (Mat 2432 1024).Idx → EReal) (h : p = product x y) :
    concatenate S4x608x1024 0
    [⟨S1x608x1024, piece p 0 slices_S2432x1024_S608x1024_0_0⟩, ⟨S1x608x1024, piece p 576 slices_S2432x1024_S608x1024_576_0⟩,
      ⟨S1x608x1024, piece p 1152 slices_S2432x1024_S608x1024_1152_0⟩, ⟨S1x608x1024, piece p 1728 slices_S2432x1024_S608x1024_1728_0⟩]
    concatenates_S1x608x1024_S1x608x1024_S1x608x1024_S1x608x1024_S4x608x1024_d0 = windows (w := 1024) (upto (entries x) (entries y) 4224) := by
  subst h
  exact stacked _

end Reference

open Cert.Reference5Ideal Cert.Reference5Ideal.Gen in
/-- The value claim. -/
theorem algebraic : Cert.algebraic_Kernel5Ideal_Reference5Ideal := by
  intro m ρ m' ρ' _ heq
  refine ⟨_, kernel_run m ρ, (θ_run (defs (F := Ideal)) _ _).mono (fun r h c => ?_) (Cert.Reference5Ideal.Value.run m' ρ')⟩
  obtain ⟨o, kept⟩ := h c
  obtain ⟨e0, e1⟩ := heq c
  rw [e0, e1] at o
  exact ⟨o.trans (reference_result _ _ _ (gradient _ _)), kept⟩

end Cert.Outer.Windows

end
-- ==== Proof.GateWeight.lean ====
/- The gradient of the low rank gate's small weight: the product of the two operands by their rows, added block of rows after block of
   rows. The call also takes a token, which it does not read. -/
module

public import proofs.«01_k».proof.Defs
public import proofs.«01_k».proof.Proof.OuterJoin
public import proofs.«01_k».proof.Proof.Gen.Kernel7Ideal.Frame
public import proofs.«01_k».proof.Proof.Gen.Reference7Ideal.Run

@[expose] public section

set_option maxRecDepth 16384

noncomputable section

namespace Cert.Outer.Gate

open Cert.Lift Cert.Outer Idealize.ShloMosaic Idealize.ShloMosaic.TcCoe Idealize.SL.Sem Finset

section Kernel
open Cert.Kernel7Ideal Cert.Kernel7Ideal.Gen

theorem mm (f g : ℕ → ℕ → EReal) : matmul (F := Ideal) (φ₁ := .bf16) (φ₂ := .bf16) dot_S1408x128_S1408x256_S128x256_0_0_1_1_n_n none (X2 f) (X2 g)
    (constant S128x256 .f32 0x00000000#32) = X2 fun i j => ∑ k ∈ range 1408, f k i * g k j :=
  rows_mm _ rfl rfl none f g (fun _ _ => ⟨rfl, rfl⟩) fun _ _ => ⟨rfl, rfl⟩

theorem start : k0_pay1 (F := Ideal) = X2 fun _ _ => 0 := by simp only [k0_pay1, zero_X2, shapeCast_X2]
theorem step (a f g : ℕ → ℕ → EReal) : k0_pay2 (F := Ideal) (X2 a) (X2 f) (X2 g) = X2 fun i j => a i j + ∑ k ∈ range 1408, f k i * g k j := by
  simp only [k0_pay2, truncf_X2, mm, addf_X2, shapeCast_X2]

theorem a_index : ∀ t : Fin cfg0.N, win0_0.index t = ![t.val % 3, 0] := (by decide +kernel : ∀ t : Fin grid0.N, win0_0.index t = ![t.val % 3, 0])
theorem b_index : ∀ t : Fin cfg0.N, win0_1.index t = ![t.val % 3, t.val / 3] :=
  (by decide +kernel : ∀ t : Fin grid0.N, win0_1.index t = ![t.val % 3, t.val / 3])
theorem o_index : ∀ t : Fin cfg0.N, win0_3.index t = ![0, t.val / 3] := (by decide +kernel : ∀ t : Fin grid0.N, win0_3.index t = ![0, t.val / 3])

variable {m : (ℓ : Loc nD τ sig) → Buf (Elt Ideal) ℓ} {c : Dev nD} {f g : ℕ → ℕ → EReal}

theorem a_blk (hf : m ((c : Thread nD τ).loc main_arg0) = X2 f) (t : Fin cfg0.N) :
    iblk m c 0 t = X2 (m := 1408) (n := 128) fun r k => f (t.val % 3 * 1408 + r) k := by
  funext y
  blk_simp [iblk]
  rw [show V m c main_arg0 = X2 f from (V_main_arg0 m c).trans hf]
  refine (?_ : f ((win0_0.blk t).view.emb y 0).val ((win0_0.blk t).view.emb y 1).val = _)
  blk_simp [a_index]
  all_goals first | rfl | simp [X2]
theorem b_blk (hg : m ((c : Thread nD τ).loc main_arg1) = X2 g) (t : Fin cfg0.N) :
    iblk m c 1 t = X2 (m := 1408) (n := 256) fun r k => g (t.val % 3 * 1408 + r) (t.val / 3 * 256 + k) := by
  funext y
  blk_simp [iblk]
  rw [show V m c main_arg1 = X2 g from (V_main_arg1 m c).trans hg]
  refine (?_ : g ((win0_1.blk t).view.emb y 0).val ((win0_1.blk t).view.emb y 1).val = _)
  blk_simp [b_index]
  all_goals first | rfl | simp [X2]

theorem left (hf : m ((c : Thread nD τ).loc main_arg0) = X2 f) (hg : m ((c : Thread nD τ).loc main_arg1) = X2 g) : (n : ℕ) → (hn : n < cfg0.N) →
    outsAt0 m c n hn = X2 fun i j => upto f g (n % 3 * 1408 + 1408) i (n / 3 * 256 + j) :=
  accumulate (outsAt0 m c) 256
    (fun t h => by
      rw [outsAt0_A m c t h, a_blk hf, b_blk hg]
      frame_out
      rw [start]
      exact step _ _ _)
    fun t a h e => by
      rw [outsAt0_B m c t h, a_blk hf, b_blk hg, e]
      frame_out
      exact step _ _ _

theorem result (hf : m ((c : Thread nD τ).loc main_arg0) = X2 f) (hg : m ((c : Thread nD τ).loc main_arg1) = X2 g) :
    (dats m 0 c).arrAt 3 cfg0.N = X2 (upto f g 4224) := by
  refine (dats m 0 c).arrAt_eq_of_covers 3 _ (by decide +kernel) fun t hw y => ?_
  have ht : t.val % 3 = 2 := (flush0_3 t).mp hw
  blk_simp
  rw [after0_3, left hf hg, ht]
  refine (?_ : _ = upto f g 4224 ((win0_3.blk t).view.emb y 0).val ((win0_3.blk t).view.emb y 1).val)
  blk_simp [o_index]
  all_goals first | rfl | simp [X2]

/-- The kernel's run. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v1) = product (K := 4224) (m := 128) (n := 256) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run (defs (F := Ideal)) _ _).mono (fun r h c => ⟨((h.2 c).1 3).trans (result (X2_entries _) (X2_entries _)), h.1 c⟩)
    (θ_run_and (unchanged m ρ) (run_main m ρ))

end Kernel

section Reference
open Cert.Reference7Ideal Cert.Reference7Ideal.Gen

/-- The reference's result: the product the other way round, transposed. -/
theorem gradient (x : (Mat 4224 128).Idx → EReal) (y : (Mat 4224 256).Idx → EReal) :
    transpose S128x256 [1, 0] (Host.dotGeneral (F := Ideal) (φ₁ := .f32) (φ₂ := .f32) dot_S4224x256_S4224x128_S256x128_0_0_1_1_n_n none y x)
      transposes_S256x128_S128x256_1_0 = product x y := by
  rw [product, X2_entries x, X2_entries y,
    rows_host dot_S4224x256_S4224x128_S256x128_0_0_1_1_n_n rfl rfl none _ _ (fun _ _ => ⟨rfl, rfl⟩) fun _ _ => ⟨rfl, rfl⟩, transpose_X2,
    ← X2_entries x, ← X2_entries y]
  unfold upto
  congr 1; funext i j
  exact Finset.sum_congr rfl fun _ _ => mul_comm _ _

end Reference

open Cert.Reference7Ideal Cert.Reference7Ideal.Gen in
/-- The value claim. -/
theorem algebraic : Cert.algebraic_Kernel7Ideal_Reference7Ideal := by
  intro m ρ m' ρ' _ heq
  refine ⟨_, kernel_run m ρ, (θ_run (defs (F := Ideal)) _ _).mono (fun r h c => ?_) (Cert.Reference7Ideal.Value.run m' ρ')⟩
  obtain ⟨o, kept⟩ := h c
  obtain ⟨e0, e1⟩ := heq c
  rw [e0, e1] at o
  exact ⟨o.trans (gradient _ _), kept⟩

end Cert.Outer.Gate

end
-- ==== Proof.InMath.lean ====
/- The matrix forms used by the input projection: products by columns, padded matrices, rows repeated down a matrix. As in the weight
   gradients' products nothing needs the entries to be finite: zero times any ideal number is zero. -/
module

public import proofs.«01_k».proof.Proof.Outer
public import Idealize.ShloMosaic.Lib.KernelVsHost

@[expose] public section

set_option maxRecDepth 16384

noncomputable section

namespace Cert.InProj

open Cert.Lift Cert.Outer Idealize.ShloMosaic Idealize.ShloMosaic.TcCoe Idealize.SL.Sem Finset

/-- The vector with entries `f`, -/
def X1 {n : ℕ} (f : ℕ → EReal) : (⟨1, ![n]⟩ : Shape).Idx → EReal := fun i => f (i 0).val

/-- and the entries of a vector, zero outside. -/
def vec {n : ℕ} (x : (⟨1, ![n]⟩ : Shape).Idx → EReal) (k : ℕ) : EReal := if h : k < n then x (Idealize.ShloMosaic.ix1 ⟨k, h⟩) else 0

theorem X1_vec {n : ℕ} (x : (⟨1, ![n]⟩ : Shape).Idx → EReal) : x = X1 (vec x) := funext fun i => by
  unfold X1 vec
  have hi : (i 0).val < n := (i 0).isLt
  rw [dif_pos hi]
  refine congrArg x (funext fun a => ?_)
  match a with
  | 0 => rfl

theorem vec_out {n : ℕ} (x : (⟨1, ![n]⟩ : Shape).Idx → EReal) (k : ℕ) (h : n ≤ k) : vec x k = 0 := dif_neg (by omega)
theorem entries_out {m n : ℕ} (x : (⟨2, ![m, n]⟩ : Shape).Idx → EReal) (r k : ℕ) (h : m ≤ r ∨ n ≤ k) : entries x r k = 0 := dif_neg (by omega)
theorem entries_X2 {m n : ℕ} (f : ℕ → ℕ → EReal) (r k : ℕ) (hr : r < m) (hk : k < n) : entries (m := m) (n := n) (X2 f) r k = f r k := dif_pos ⟨hr, hk⟩

/-- A matrix product whose contracted axis is the columns of both operands, in a kernel. -/
theorem cols_mm {K m n : ℕ} {φ₁ φ₂ : FTy} (D : DotDims ⟨2, ![m, K]⟩ ⟨2, ![n, K]⟩ ⟨2, ![m, n]⟩)
    (hr : D.contr.rank = 1) (hs : D.contr.size ⟨0, by omega⟩ = K) (prec : Option ContractPrecision) (f g : ℕ → ℕ → EReal)
    (hl : ∀ j k, (D.lhsIdx j k 0).val = (j 0).val ∧ (D.lhsIdx j k 1).val = (k ⟨0, by omega⟩).val)
    (hr' : ∀ j k, (D.rhsIdx j k 0).val = (j 1).val ∧ (D.rhsIdx j k 1).val = (k ⟨0, by omega⟩).val) :
    matmul (F := Ideal) (φ₁ := φ₁) (φ₂ := φ₂) D prec (X2 f) (X2 g) (constant ⟨2, ![m, n]⟩ .f32 0x00000000#32)
      = X2 fun i j => ∑ k ∈ range K, f i k * g j k := by
  funext j
  show FloatOps.matmul (F := Ideal) (φ₁ := φ₁) (φ₂ := φ₂) D prec (X2 f) (X2 g) (constant _ .f32 0x00000000#32) j = _
  rw [Ideal.matmul_constant_zero_apply, ← Equiv.sum_comp (ValueIdx.contrEquiv1 D K hr hs).symm]
  show _ = ∑ k ∈ range K, f (j 0).val k * g (j 1).val k
  rw [Finset.sum_range]
  refine Finset.sum_congr rfl fun k _ => ?_
  show f _ _ * g _ _ = _
  rw [(hl j _).1, (hl j _).2, (hr' j _).1, (hr' j _).2, ValueIdx.contrEquiv1_symm_val]

/-- A plain matrix product, in a kernel, -/
theorem plain_mm {K m n : ℕ} {φ₁ φ₂ : FTy} (D : DotDims ⟨2, ![m, K]⟩ ⟨2, ![K, n]⟩ ⟨2, ![m, n]⟩)
    (hr : D.contr.rank = 1) (hs : D.contr.size ⟨0, by omega⟩ = K) (prec : Option ContractPrecision) (f g : ℕ → ℕ → EReal)
    (hl : ∀ j k, (D.lhsIdx j k 0).val = (j 0).val ∧ (D.lhsIdx j k 1).val = (k ⟨0, by omega⟩).val)
    (hr' : ∀ j k, (D.rhsIdx j k 0).val = (k ⟨0, by omega⟩).val ∧ (D.rhsIdx j k 1).val = (j 1).val) :
    matmul (F := Ideal) (φ₁ := φ₁) (φ₂ := φ₂) D prec (X2 f) (X2 g) (constant ⟨2, ![m, n]⟩ .f32 0x00000000#32)
      = X2 fun i j => ∑ k ∈ range K, f i k * g k j := by
  funext j
  show FloatOps.matmul (F := Ideal) (φ₁ := φ₁) (φ₂ := φ₂) D prec (X2 f) (X2 g) (constant _ .f32 0x00000000#32) j = _
  rw [Ideal.matmul_constant_zero_apply, ← Equiv.sum_comp (ValueIdx.contrEquiv1 D K hr hs).symm]
  show _ = ∑ k ∈ range K, f (j 0).val k * g k (j 1).val
  rw [Finset.sum_range]
  refine Finset.sum_congr rfl fun k _ => ?_
  show f _ _ * g _ _ = _
  rw [(hl j _).1, (hl j _).2, (hr' j _).1, (hr' j _).2, ValueIdx.contrEquiv1_symm_val]

/-- and on the host. -/
theorem plain_host {K m n : ℕ} {φ₁ φ₂ : FTy} (D : DotDims ⟨2, ![m, K]⟩ ⟨2, ![K, n]⟩ ⟨2, ![m, n]⟩)
    (hr : D.contr.rank = 1) (hs : D.contr.size ⟨0, by omega⟩ = K) (prec : Option ContractPrecision) (f g : ℕ → ℕ → EReal)
    (hl : ∀ j k, (D.lhsIdx j k 0).val = (j 0).val ∧ (D.lhsIdx j k 1).val = (k ⟨0, by omega⟩).val)
    (hr' : ∀ j k, (D.rhsIdx j k 0).val = (k ⟨0, by omega⟩).val ∧ (D.rhsIdx j k 1).val = (j 1).val) :
    Host.dotGeneral (F := Ideal) (φ₁ := φ₁) (φ₂ := φ₂) D prec (X2 f) (X2 g) = X2 fun i j => ∑ k ∈ range K, f i k * g k j := by
  funext j
  simp only [Host.dotGeneral]
  rw [Ideal.dotGeneral_apply, ← Equiv.sum_comp (ValueIdx.contrEquiv1 D K hr hs).symm]
  show _ = ∑ k ∈ range K, f (j 0).val k * g k (j 1).val
  rw [Finset.sum_range]
  refine Finset.sum_congr rfl fun k _ => ?_
  show f _ _ * g _ _ = _
  rw [(hl j _).1, (hl j _).2, (hr' j _).1, (hr' j _).2, ValueIdx.contrEquiv1_symm_val]

section Layout
variable {a b m n : ℕ} (f : ℕ → ℕ → EReal)

theorem slice_X2 (o₀ o₁ : ℕ) (h : Shape.Slices ![o₀, o₁] (⟨2, ![a, b]⟩ : Shape) (s := ⟨2, ![m, n]⟩)) :
    extractStridedSlice (s := ⟨2, ![m, n]⟩) ⟨2, ![a, b]⟩ ![o₀, o₁] (X2 f) h = X2 fun r c => f (o₀ + r) (o₁ + c) := rfl

/-- One row repeated, in a kernel, -/
theorem row_X2 (h : Shape.Broadcasts (⟨2, ![1, n]⟩ : Shape) ⟨2, ![m, n]⟩) (hn : n ≠ 1) :
    broadcastTo (s := ⟨2, ![1, n]⟩) ⟨2, ![m, n]⟩ (X2 f) h = X2 fun _ c => f 0 c := funext fun i => by
  simp [broadcastTo, X2, hn]

/-- on the host from a vector, -/
theorem row_X1 (g : ℕ → EReal) (h : (⟨1, ![n]⟩ : Shape).BroadcastsInDim (Mat 1 n) ![1]) (hn : n ≠ 1) :
    broadcastInDim (Mat 1 n) ![1] h (X1 g) = X2 fun _ c => g c := funext fun j => by
  rw [broadcastInDim_apply (s := ⟨1, ![n]⟩) (t := Mat 1 n) ![1] h (X1 g) j (Idealize.ShloMosaic.ix1 (j 1)) (fun a => by
    match a with
    | ⟨0, _⟩ => simp [hn])]
  rfl

/-- and from one row. -/
theorem rows_X2 (h : (Mat 1 n).BroadcastsInDim (Mat m n) ![0, 1]) (hn : n ≠ 1) :
    broadcastInDim (Mat m n) ![0, 1] h (X2 f) = X2 fun _ c => f 0 c := funext fun j => by
  rw [broadcastInDim_apply (s := Mat 1 n) (t := Mat m n) ![0, 1] h (X2 f) j (Idealize.ShloMosaic.ix2 0 (j 1)) (fun a => by
    match a with
    | ⟨0, _⟩ => simp
    | ⟨1, _⟩ => simp [hn])]
  rfl

/-- A vector cast to one row. -/
theorem cast_X1 (g : ℕ → EReal) (h : (⟨1, ![n]⟩ : Shape).ShapeCasts (Mat 1 n)) :
    shapeCast (Mat 1 n) (X1 g) h = X2 fun _ c => g c := funext fun j => by
  rw [shapeCast_apply (s := ⟨1, ![n]⟩) (t := Mat 1 n) (X1 g) h j (Idealize.ShloMosaic.ix1 (j 1)) (by
    have h0 : (j 0).val = 0 := by have h0 : (j 0).val < 1 := (j 0).isLt; omega
    simp [Shape.rowMajor_val_one, Shape.rowMajor_val_two, h0])]; rfl

/-- A matrix padded with zeros after its last row or column has the same entries. -/
theorem pad_X2 {φ : FTy} (p q : ℕ) (x : (⟨2, ![a, b]⟩ : Shape).Idx → EReal) (h : (⟨2, ![a, b]⟩ : Shape).Pads ![0, 0] ![p, q] ![0, 0] ⟨2, ![m, n]⟩)
    (hu : 0 < (⟨0, ![]⟩ : Shape).numel) :
    pad (⟨2, ![m, n]⟩ : Shape) ![0, 0] ![p, q] ![0, 0] x (sitofp (F := Ideal) φ (constantI (⟨0, ![]⟩ : Shape) 32 0#32)) h hu = X2 (entries x) := funext fun j => by
  show _ = entries x (j 0).val (j 1).val
  by_cases hj : (j 0).val < a ∧ (j 1).val < b
  · rw [pad_apply_of_inside _ _ _ _ _ h hu j (ValueIdx.ix2 ⟨(j 0).val, hj.1⟩ ⟨(j 1).val, hj.2⟩) (fun i => by
      match i with
      | ⟨0, _⟩ => show (j 0).val = 0 + (j 0).val * (0 + 1); omega
      | ⟨1, _⟩ => show (j 1).val = 0 + (j 1).val * (0 + 1); omega)]
    unfold entries; rw [dif_pos hj]
  · rw [show entries x (j 0).val (j 1).val = 0 from dif_neg hj]
    by_cases h0 : (j 0).val < a
    · rw [pad_apply_of_not_inside _ _ _ _ _ h hu j 1 (fun hk => hj ⟨h0, by
        have := hk.2.2
        change ((j 1).val - 0) / (0 + 1) < b at this
        omega⟩)]
      exact sitofp_zero (φ := φ)
    · rw [pad_apply_of_not_inside _ _ _ _ _ h hu j 0 (fun hk => h0 (by
        have := hk.2.2
        change ((j 0).val - 0) / (0 + 1) < a at this
        omega))]
      exact sitofp_zero (φ := φ)

end Layout

/-! ### What the projection computes -/

/-- The projection: rows of `h` times columns of `w`, and the bias; -/
def proj (h w : ℕ → ℕ → EReal) (b : ℕ → EReal) (r j : ℕ) : EReal := ∑ k ∈ range 1024, h r k * w k j + b j

/-- and the gate's logits: the projection's columns from column 2304 on times a small weight of `K` rows, and a bias. -/
def logits (K : ℕ) (h w : ℕ → ℕ → EReal) (b : ℕ → EReal) (g : ℕ → ℕ → EReal) (d : ℕ → EReal) (r j : ℕ) : EReal :=
  ∑ k ∈ range K, proj h w b r (2304 + k) * g k j + d j

/-- Where the small weight's rows end, so does the sum. -/
theorem logits_short (h w : ℕ → ℕ → EReal) (b : ℕ → EReal) (g : ℕ → ℕ → EReal) (d : ℕ → EReal) (hg : ∀ k j, 16 ≤ k → g k j = 0) :
    logits 128 h w b g d = logits 16 h w b g d := by
  funext r j
  unfold logits
  rw [show (128 : ℕ) = 16 + 112 from rfl, Finset.sum_range_add]
  rw [show ∑ x ∈ range 112, proj h w b r (2304 + (16 + x)) * g (16 + x) j = 0 from
    Finset.sum_eq_zero fun x _ => by rw [hg _ _ (Nat.le_add_right _ _), mul_zero], add_zero]

/-- The projection's columns after the weight's last are zero. -/
theorem proj_out (h w : ℕ → ℕ → EReal) (b : ℕ → EReal) (r j : ℕ) (hw : ∀ k, w k j = 0) (hb : b j = 0) : proj h w b r j = 0 := by
  unfold proj
  rw [hb, add_zero]
  exact Finset.sum_eq_zero fun x _ => by rw [hw, mul_zero]

/-- The order in which the first 512 columns are kept: the heads of the second half between those of the first. -/
def order (j : ℕ) : ℕ := 256 * (j / 64 % 2) + 64 * (j / 128) + j % 64

end Cert.InProj

end
-- ==== Proof.PostMath.lean ====
/- What the layer's mixing step computes, over the ideal numbers: the heads' outputs put side by side, the second half normed and
   gated, then the residual with the output projection, then the layer norm. The kernel and the host do the same operations on each
   entry, so nothing needs the entries to be finite. -/
module

public import proofs.«01_k».proof.Proof.InMath
public import proofs.«01_k».proof.Proof.Lift2

@[expose] public section

set_option maxRecDepth 16384

noncomputable section

namespace Cert.PostMix

open Cert.Lift Cert.Outer Cert.InProj Idealize.ShloMosaic Idealize.ShloMosaic.TcCoe Idealize.SL.Sem Finset

/-- A constant by its bits. -/
abbrev lit (b : BitVec 32) : EReal := Ideal.ofBits .f32 b

/-! ### The formulas -/

/-- The column of the first half's argument that stands in column `j` of the joined rows: the heads come in pairs, the first of each
    pair, then the second. -/
def place (j : ℕ) : ℕ := 128 * (j / 64 % 4) + 64 * (j / 256) + j % 64

/-- `1 / (1 + exp (-r))` times `r`; -/
def silu (r : EReal) : EReal := r * Ideal.div (lit 0x3F800000#32) (lit 0x3F800000#32 + Ideal.exp (-r))
/-- one over the root of a head's mean square, -/
def rms (x : ℕ → EReal) : EReal := Ideal.rsqrt (Ideal.div (∑ k ∈ range 128, x k * x k) (lit 0x43000000#32) + lit 0x358637BD#32)
/-- a head normed and gated, -/
def gated (x r g : ℕ → EReal) (j : ℕ) : EReal := x j * rms x * g j * silu (r j)
/-- the second half's columns, -/
def second (o r : ℕ → ℕ → EReal) (g : ℕ → EReal) (i j : ℕ) : EReal :=
  gated (fun k => o i (j / 128 * 128 + k)) (fun k => r i (j / 128 * 128 + k)) g (j % 128)
/-- the joined rows, -/
def joined (s o r : ℕ → ℕ → EReal) (g : ℕ → EReal) (i j : ℕ) : EReal := if j < 512 then s i (place j) else second o r g i (j - 512)
/-- the residual with the projection, -/
def pre (h o w : ℕ → ℕ → EReal) (i j : ℕ) : EReal := lit 0x3F9837F0#32 * h i j + ∑ k ∈ range 1024, o i k * w k j
/-- a row's mean, -/
def mean (p : ℕ → EReal) : EReal := Ideal.div (∑ k ∈ range 1024, p k) (lit 0x44800000#32)
/-- and the layer norm. -/
def normed (p : ℕ → ℕ → EReal) (g b : ℕ → EReal) (i j : ℕ) : EReal :=
  (p i j - mean (p i)) * Ideal.rsqrt (mean (fun k => (p i k - mean (p i)) * (p i k - mean (p i))) + lit 0x3727C5AC#32) * g j + b j

/-! ### Entry by entry -/
section Entries
variable {m n : ℕ} (f g : ℕ → ℕ → EReal)
theorem mulf_X2 : mulf (F := Ideal) (s := Mat m n) (φ := .f32) (X2 f) (X2 g) = X2 fun r c => f r c * g r c := rfl
theorem subf_X2 : subf (F := Ideal) (s := Mat m n) (φ := .f32) (X2 f) (X2 g) = X2 fun r c => f r c - g r c := rfl
theorem divf_X2 : divf (F := Ideal) (s := Mat m n) (φ := .f32) (X2 f) (X2 g) = X2 fun r c => Ideal.div (f r c) (g r c) := rfl
theorem hdivf_X2 : Host.divf (F := Ideal) (s := Mat m n) (φ := .f32) (X2 f) (X2 g) = X2 fun r c => Ideal.div (f r c) (g r c) := rfl
theorem rsqrt_X2 : rsqrt (F := Ideal) (s := Mat m n) (φ := .f32) (X2 f) = X2 fun r c => Ideal.rsqrt (f r c) := rfl
theorem hrsqrt_X2 : Host.rsqrt (F := Ideal) (s := Mat m n) (φ := .f32) (X2 f) = X2 fun r c => Ideal.rsqrt (f r c) := rfl
theorem exp_X2 : exp (F := Ideal) (s := Mat m n) (φ := .f32) (X2 f) = X2 fun r c => Ideal.exp (f r c) := rfl
theorem hexp_X2 : Host.exp (F := Ideal) (s := Mat m n) (φ := .f32) (X2 f) = X2 fun r c => Ideal.exp (f r c) := rfl
theorem hnegf_X2 : Host.negf (F := Ideal) (s := Mat m n) (φ := .f32) (X2 f) = X2 fun r c => -f r c := rfl
theorem lit_X2 (b : BitVec 32) : broadcast (Mat m n) (Scalar.ofBits (F := Ideal) .f32 b) = X2 fun _ _ => lit b := rfl
theorem hlit_X2 (b : BitVec 32) (h : (⟨0, ![]⟩ : Shape).BroadcastsInDim (Mat m n) ![]) :
    broadcastInDim (Mat m n) ![] h (constant (F := Ideal) (⟨0, ![]⟩ : Shape) .f32 b) = X2 fun _ _ => lit b := rfl
theorem lit_zero : lit 0x00000000#32 = 0 := bits_zero
end Entries

/-! ### Columns and sums -/
section Columns
variable {m n o : ℕ}
theorem column_X2 (f : ℕ → ℕ → EReal) (h : Shape.Broadcasts (⟨2, ![m, 1]⟩ : Shape) ⟨2, ![m, n]⟩) (hm : m ≠ 1) :
    broadcastTo (s := ⟨2, ![m, 1]⟩) ⟨2, ![m, n]⟩ (X2 f) h = X2 fun r _ => f r 0 := funext fun i => by
  simp [broadcastTo, X2, hm]
theorem rowSum_X1 (f : ℕ → ℕ → EReal) (h : (Mat m n).Reduces [1] ⟨1, ![m]⟩) (hφ : FKind.Formats .f32)
    (hacc : (0x00000000#32 : BitVec (FTy.bits .f32)) = 0x00000000#32) :
    multiReduction (F := Ideal) .add (no_index [1]) (no_index ⟨1, ![m]⟩) (X2 f) (no_index 0x00000000#32) h hφ hacc = X1 fun r => ∑ k ∈ range n, f r k := funext fun j =>
  (Ideal.multiReduction_add_single _ _ h hφ hacc j).trans (Finset.sum_range (fun k => f (j 0).val k)).symm
theorem stand_X1 (f : ℕ → EReal) (h : (⟨1, ![m]⟩ : Shape).ShapeCasts (Mat m 1)) :
    shapeCast (Mat m 1) (X1 f) h = X2 fun r _ => f r := funext fun j => by
  rw [shapeCast_apply (s := ⟨1, ![m]⟩) (t := Mat m 1) (X1 f) h j (Idealize.ShloMosaic.ix1 (j 0)) (by
    have h1 : (j 1).val < 1 := (j 1).isLt
    simp [Shape.rowMajor_val_one, Shape.rowMajor_val_two])]; rfl
theorem hRowSum_X1 (f : ℕ → ℕ → EReal) (h : (Mat m n).ReducesTo [1] ⟨1, ![m]⟩) (hu : 0 < (⟨0, ![]⟩ : Shape).numel) :
    Host.reduceAdd (F := Ideal) (φ := .f32) (X2 f) (constant (F := Ideal) (⟨0, ![]⟩ : Shape) .f32 0x00000000#32) h hu = X1 fun r => ∑ k ∈ range n, f r k := funext fun j => by
  simp only [Host.reduceAdd, Ideal.hostReduceAdd_def]
  rw [Ideal.hostReduceAdd_single h (reduces_of h (Nat.zero_lt_succ _)),
    show constant (F := Ideal) (⟨0, ![]⟩ : Shape) .f32 0x00000000#32 (Shape.Idx.first hu) = 0 from lit_zero, zero_add]
  exact (Finset.sum_range (fun k => f (j 0).val k)).symm
theorem stand_host (f : ℕ → EReal) (h : (⟨1, ![m]⟩ : Shape).BroadcastsInDim (Mat m 1) ![0]) (hm : m ≠ 1) :
    broadcastInDim (Mat m 1) ![0] h (X1 f) = X2 fun r _ => f r := funext fun j => by
  rw [broadcastInDim_apply (s := ⟨1, ![m]⟩) (t := Mat m 1) ![0] h (X1 f) j (Idealize.ShloMosaic.ix1 (j 0)) (fun a => by
    match a with | ⟨0, _⟩ => simp [hm])]; rfl
theorem column_host (f : ℕ → ℕ → EReal) (h : (Mat m 1).BroadcastsInDim (Mat m n) ![0, 1]) (hm : m ≠ 1) :
    broadcastInDim (Mat m n) ![0, 1] h (X2 f) = X2 fun r _ => f r 0 := funext fun j => by
  rw [broadcastInDim_apply (s := Mat m 1) (t := Mat m n) ![0, 1] h (X2 f) j (Idealize.ShloMosaic.ix2 (j 0) 0) (fun a => by
    match a with | ⟨0, _⟩ => simp [hm] | ⟨1, _⟩ => simp)]; rfl
end Columns

/-! ### Heads of rows, on the host -/
section Heads
variable {m n o : ℕ}
/-- The tensor of three axes with entries `f`. -/
def X3 {m n o : ℕ} (f : ℕ → ℕ → ℕ → EReal) : (⟨3, ![m, n, o]⟩ : Shape).Idx → EReal := fun i => f (i 0).val (i 1).val (i 2).val
section Entries3
variable (f g : ℕ → ℕ → ℕ → EReal)
theorem mulf_X3 : mulf (F := Ideal) (s := ⟨3, ![m, n, o]⟩) (φ := .f32) (X3 f) (X3 g) = X3 fun r h c => f r h c * g r h c := rfl
theorem addf_X3 : addf (F := Ideal) (s := ⟨3, ![m, n, o]⟩) (φ := .f32) (X3 f) (X3 g) = X3 fun r h c => f r h c + g r h c := rfl
theorem hdivf_X3 : Host.divf (F := Ideal) (s := ⟨3, ![m, n, o]⟩) (φ := .f32) (X3 f) (X3 g) = X3 fun r h c => Ideal.div (f r h c) (g r h c) := rfl
theorem hrsqrt_X3 : Host.rsqrt (F := Ideal) (s := ⟨3, ![m, n, o]⟩) (φ := .f32) (X3 f) = X3 fun r h c => Ideal.rsqrt (f r h c) := rfl
theorem hlit_X3 (b : BitVec 32) (h : (⟨0, ![]⟩ : Shape).BroadcastsInDim ⟨3, ![m, n, o]⟩ ![]) :
    broadcastInDim ⟨3, ![m, n, o]⟩ ![] h (constant (F := Ideal) (⟨0, ![]⟩ : Shape) .f32 b) = X3 fun _ _ _ => lit b := rfl
end Entries3
theorem lastSum_X2 (f : ℕ → ℕ → ℕ → EReal) (h : (⟨3, ![m, n, o]⟩ : Shape).ReducesTo [2] (Mat m n)) (hu : 0 < (⟨0, ![]⟩ : Shape).numel) :
    Host.reduceAdd (F := Ideal) (φ := .f32) (X3 f) (constant (F := Ideal) (⟨0, ![]⟩ : Shape) .f32 0x00000000#32) h hu = X2 fun r k => ∑ c ∈ range o, f r k c := funext fun j => by
  simp only [Host.reduceAdd, Ideal.hostReduceAdd_def]
  rw [Ideal.hostReduceAdd_single h (reduces_of h (Nat.zero_lt_succ _)),
    show constant (F := Ideal) (⟨0, ![]⟩ : Shape) .f32 0x00000000#32 (Shape.Idx.first hu) = 0 from lit_zero, zero_add]
  exact (Finset.sum_range (fun k => f (j 0).val (j 1).val k)).symm
theorem deepen_X2 (f : ℕ → ℕ → EReal) (h : (Mat m n).BroadcastsInDim ⟨3, ![m, n, o]⟩ ![0, 1]) (hm : m ≠ 1) (hn : n ≠ 1) :
    broadcastInDim ⟨3, ![m, n, o]⟩ ![0, 1] h (X2 f) = X3 fun r k _ => f r k := funext fun j => by
  rw [broadcastInDim_apply (s := Mat m n) (t := ⟨3, ![m, n, o]⟩) ![0, 1] h (X2 f) j (Idealize.ShloMosaic.ix2 (j 0) (j 1)) (fun a => by
    match a with | ⟨0, _⟩ => simp [hm] | ⟨1, _⟩ => simp [hn])]; rfl
theorem last_X3 (f : ℕ → ℕ → ℕ → EReal) (h : (⟨3, ![m, n, 1]⟩ : Shape).BroadcastsInDim ⟨3, ![m, n, o]⟩ ![0, 1, 2]) (hm : m ≠ 1) (hn : n ≠ 1) :
    broadcastInDim ⟨3, ![m, n, o]⟩ ![0, 1, 2] h (X3 f) = X3 fun r k _ => f r k 0 := funext fun j => by
  rw [broadcastInDim_apply (s := ⟨3, ![m, n, 1]⟩) (t := ⟨3, ![m, n, o]⟩) ![0, 1, 2] h (X3 f) j (Idealize.ShloMosaic.ix3 (j 0) (j 1) 0) (fun a => by
    match a with | ⟨0, _⟩ => simp [hm] | ⟨1, _⟩ => simp [hn] | ⟨2, _⟩ => simp)]; rfl
theorem gain_X1 (f : ℕ → EReal) (h : (⟨1, ![o]⟩ : Shape).BroadcastsInDim ⟨3, ![1, 1, o]⟩ ![2]) (ho : o ≠ 1) :
    broadcastInDim ⟨3, ![1, 1, o]⟩ ![2] h (X1 f) = X3 fun _ _ c => f c := funext fun j => by
  rw [broadcastInDim_apply (s := ⟨1, ![o]⟩) (t := ⟨3, ![1, 1, o]⟩) ![2] h (X1 f) j (Idealize.ShloMosaic.ix1 (j 2)) (fun a => by
    match a with | ⟨0, _⟩ => simp [ho])]; rfl
theorem first_X3 (f : ℕ → ℕ → ℕ → EReal) (h : (⟨3, ![1, 1, o]⟩ : Shape).BroadcastsInDim ⟨3, ![m, n, o]⟩ ![0, 1, 2]) (ho : o ≠ 1) :
    broadcastInDim ⟨3, ![m, n, o]⟩ ![0, 1, 2] h (X3 f) = X3 fun _ _ c => f 0 0 c := funext fun j => by
  rw [broadcastInDim_apply (s := ⟨3, ![1, 1, o]⟩) (t := ⟨3, ![m, n, o]⟩) ![0, 1, 2] h (X3 f) j (Idealize.ShloMosaic.ix3 0 0 (j 2)) (fun a => by
    match a with | ⟨0, _⟩ => simp | ⟨1, _⟩ => simp | ⟨2, _⟩ => simp [ho])]; rfl
/-- The columns of a matrix taken in `n` groups of `o`, -/
theorem split_X2 {p : ℕ} (f : ℕ → ℕ → EReal) (h : (Mat m p).ShapeCasts ⟨3, ![m, n, o]⟩) (hp : p = n * o) :
    shapeCast ⟨3, ![m, n, o]⟩ (X2 f) h = X3 fun r k c => f r (k * o + c) := funext fun j => by
  subst hp
  have h1 : (j 1).val < n := (j 1).isLt
  have h2 : (j 2).val < o := (j 2).isLt
  have hc : (j 1).val * o + (j 2).val < n * o :=
    lt_of_lt_of_le (Nat.add_lt_add_left h2 _) (by rw [← Nat.succ_mul]; exact Nat.mul_le_mul_right _ h1)
  rw [shapeCast_apply (s := Mat m (n * o)) (t := ⟨3, ![m, n, o]⟩) (X2 f) h j (Idealize.ShloMosaic.ix2 (j 0) ⟨_, hc⟩) (by
    simp [Shape.rowMajor_val_two, Shape.rowMajor_val_three, Nat.add_mul, Nat.mul_assoc, Nat.add_assoc])]; rfl
/-- and put side by side again. -/
theorem join_X3 {p : ℕ} (f : ℕ → ℕ → ℕ → EReal) (h : (⟨3, ![m, n, o]⟩ : Shape).ShapeCasts (Mat m p)) (hp : p = n * o) :
    shapeCast (Mat m p) (X3 f) h = X2 fun r c => f r (c / o) (c % o) := funext fun j => by
  subst hp
  have h1 : (j 1).val < n * o := (j 1).isLt
  have ho : 0 < o := Nat.pos_of_ne_zero fun h => by subst h; simp at h1
  have hd : (j 1).val / o < n := Nat.div_lt_of_lt_mul (lt_of_lt_of_eq h1 (Nat.mul_comm _ _))
  rw [shapeCast_apply (s := ⟨3, ![m, n, o]⟩) (t := Mat m (n * o)) (X3 f) h j
    (Idealize.ShloMosaic.ix3 (j 0) ⟨_, hd⟩ ⟨(j 1).val % o, Nat.mod_lt _ ho⟩) (by
    have e : (j 1).val / o * o + (j 1).val % o = (j 1).val := Nat.div_add_mod' _ _
    simp [Shape.rowMajor_val_two, Shape.rowMajor_val_three, Nat.add_mul, Nat.mul_assoc, Nat.add_assoc, e])]; rfl
/-- Two matrices side by side. -/
theorem beside_X2 {a b n : ℕ} (f g : ℕ → ℕ → EReal) (h) (hn : n = a + b) :
    concatenate (⟨2, ![m, n]⟩ : Shape) 1 [⟨⟨2, ![m, a]⟩, (X2 f : _ → EReal)⟩, ⟨⟨2, ![m, b]⟩, X2 g⟩] h
      = X2 fun r c => if c < a then f r c else g r (c - a) := funext fun j => by
  show _ = if (j 1).val < a then f (j 0).val (j 1).val else g (j 0).val ((j 1).val - a)
  by_cases hj : (j 1).val < a
  · rw [if_pos hj, concatenate_pair_apply_left 1 _ _ h j rfl (ValueIdx.ix2 (j 0) ⟨(j 1).val, hj⟩)
      (fun b => by match b with | 0 => rfl | 1 => rfl)]
    rfl
  · have hj' : (j 1).val - a < b := by have h1 : (j 1).val < n := (j 1).isLt; omega
    rw [if_neg hj, concatenate_pair_apply_right 1 _ _ h j rfl rfl (ValueIdx.ix2 (j 0) ⟨(j 1).val - a, hj'⟩)
      (fun b hb => by match b with | 0 => rfl | 1 => exact absurd rfl hb)
      (by show (j 1).val - a + a = (j 1).val; omega)]
    rfl
end Heads

end Cert.PostMix

end
-- ==== Proof.PostPay.lean ====
/- What the mixing kernel's body computes from the blocks it reads: the formulas of the mixing step on those blocks. -/
module

public import proofs.«01_k».proof.Proof.PostMath
public import proofs.«01_k».proof.Proof.Gen.Kernel8Ideal.Skeleton

@[expose] public section

set_option maxRecDepth 16384

noncomputable section

namespace Cert.PostMix

open Cert.Lift Cert.Outer Cert.InProj Cert.Kernel8Ideal Cert.Kernel8Ideal.Gen Idealize.ShloMosaic Idealize.ShloMosaic.TcCoe Idealize.SL.Sem Finset

theorem out_mm (f g : ℕ → ℕ → EReal) : matmul (F := Ideal) (φ₁ := .bf16) (φ₂ := .bf16) dot_S384x1024_S1024x1024_S384x1024_1_0_0_1_n_n none (X2 f) (X2 g)
    (constant S384x1024 .f32 0x00000000#32) = X2 fun i j => ∑ k ∈ range 1024, f i k * g k j :=
  plain_mm _ rfl rfl none f g (fun _ _ => ⟨rfl, rfl⟩) fun _ _ => ⟨rfl, rfl⟩

variable (x r : ℕ → ℕ → EReal) (g : ℕ → EReal)

/-- A head normed and gated: the four heads are computed alike. -/
theorem head1 : k0_pay14 (F := Ideal) (k0_pay13 (X2 x) (X2 fun _ j => g j) (X2 r)) = X2 (m := 384) (n := 128) fun i j => gated (x i) (r i) g j := by
  unfold k0_pay14 k0_pay13
  simp only [mulf_X2, rowSum_X1, stand_X1, lit_X2, divf_X2, addf_X2, rsqrt_X2, column_X2 _ _ (by decide : (384 : ℕ) ≠ 1), shapeCast_X2,
    row_X2 _ _ (by decide : (128 : ℕ) ≠ 1), subf_X2, exp_X2, truncf_X2, lit_zero, zero_sub]
  rfl
theorem head0 : k0_pay12 (F := Ideal) (k0_pay10 (X2 x) (X2 fun _ j => g j)) (X2 r) (k0_pay11 (X2 r)) = X2 (m := 384) (n := 128) fun i j => gated (x i) (r i) g j := head1 x r g
theorem head2 : k0_pay15 (F := Ideal) (X2 x) (X2 fun _ j => g j) (X2 r) = X2 (m := 384) (n := 128) fun i j => gated (x i) (r i) g j := head1 x r g
theorem head3 : k0_pay16 (F := Ideal) (X2 x) (X2 fun _ j => g j) (X2 r) = X2 (m := 384) (n := 128) fun i j => gated (x i) (r i) g j := head1 x r g

variable (h o w : ℕ → ℕ → EReal) (b : ℕ → EReal)

/-- The residual's block comes with an axis of size one. -/
theorem scaled (v : S1x384x1024.Idx → EReal) (hv : ∀ y : S1x384x1024.Idx, v y = h (y 1).val (y 2).val) :
    k0_pay17 (F := Ideal) v = X2 (m := 384) (n := 1024) fun i j => lit 0x3F9837F0#32 * h i j := by
  unfold k0_pay17
  rw [show shapeCast S384x1024 v shapeCasts_S1x384x1024_S384x1024 = X2 (m := 384) (n := 1024) h from funext fun y => by
    rw [shapeCast_apply (s := S1x384x1024) (t := S384x1024) _ _ y (Idealize.ShloMosaic.ix3 0 (y 0) (y 1)) (by
      simp [Shape.rowMajor_val_two, Shape.rowMajor_val_three]), hv]; rfl]
  rfl

/-- The residual with the projection, -/
theorem pre_pay : k0_pay18 (F := Ideal) (X2 fun i j => lit 0x3F9837F0#32 * h i j) (X2 o) (X2 w) = X2 (m := 384) (n := 1024) (pre h o w) := by
  unfold k0_pay18
  dsimp only
  rw [shapeCast_X2, out_mm, addf_X2]
  rfl
theorem pre_pay' : k0_pay19 (F := Ideal) (X2 fun i j => lit 0x3F9837F0#32 * h i j) (X2 o) (X2 w) = X2 (m := 384) (n := 1024) (pre h o w) := by
  unfold k0_pay19
  dsimp only
  rw [pre_pay, shapeCast_X2]
/-- and the layer norm. -/
theorem norm_pay : k0_pay1 (F := Ideal) (k0_pay20 (X2 fun i j => lit 0x3F9837F0#32 * h i j) (X2 o) (X2 w) (X2 fun _ j => g j) (X2 fun _ j => b j))
    = X2 (m := 384) (n := 1024) (normed (pre h o w) g b) := by
  unfold k0_pay1 k0_pay20
  rw [pre_pay]
  simp only [mulf_X2, rowSum_X1, stand_X1, lit_X2, divf_X2, addf_X2, rsqrt_X2, column_X2 _ _ (by decide : (384 : ℕ) ≠ 1), shapeCast_X2,
    row_X2 _ _ (by decide : (1024 : ℕ) ≠ 1), subf_X2]
  rfl

end Cert.PostMix

end
-- ==== Proof.PostSlots.lean ====
/- What the mixing kernel reads off its streamed blocks. The block it works on at a grid point has been copied into one slot of a buffer
of three; a part of that slot read back is the same part of the rows of the array the block was copied from. -/
module

public import proofs.«01_k».proof.Proof.PostPay
public import proofs.«01_k».proof.Proof.Gen.Kernel8Ideal.Frame.RunC
public import Idealize.ShloMosaic.Lib.Pipeline.ReadBack
public import Idealize.ShloMosaic.Lib.WholeRead

@[expose] public section

set_option maxRecDepth 16384

noncomputable section

namespace Cert.PostMix

open Cert.Lift Cert.Outer Cert.InProj Cert.Kernel8Ideal Cert.Kernel8Ideal.Gen Idealize.ShloMosaic Idealize.ShloMosaic.TcCoe Idealize.SL.Sem Finset

/-- A column part of a slot that holds a block `w`. -/
theorem slot_part {sig : RefSig} {κ : Kind} {sp : Space} {m n k o : ℕ} (v : View sig κ sp (⟨2, ![m, n]⟩ : Shape) .f32)
    (g : ℕ → ℕ → EReal) (w : (⟨2, ![m, n]⟩ : Shape).Idx → Elt Ideal .f32) (hw : w = X2 g)
    (inb : ∀ a, (![0, o] : Fin 2 → ℕ) a + (![m, k] : Fin 2 → ℕ) a ≤ (![m, n] : Fin 2 → ℕ) a) :
    v.readCov (Val := Elt Ideal) [⟨Rect.whole _, w⟩] (Rect.unit (s := ⟨2, ![m, n]⟩) ![0, o] ![m, k] inb).toLoadRect
      = (X2 (fun r j => g r (o + j)) : (⟨2, ![m, k]⟩ : Shape).Idx → EReal) := by
  subst hw
  show v.readAt (Elt Ideal) _ (v.rep _) = _
  rw [View.readAt_rep]
  funext y
  simp [X2]

variable (c : Dev nD) (t : Fin grid0.N) (f : ℕ → ℕ → EReal)

/-! ### The blocks copied for a point -/
theorem block0 (W : HbBuf0 (F := Ideal) c hbM0_0) (hW : W = X2 (m := 4224) (n := 512) f) :
    View.read (Elt Ideal) (srcB0_0 (Ring.bk 11 t.val)).view W = X2 (m := 384) (n := 512) fun r j => f (384 * t.val + r) j := by
  subst hW
  funext y
  show f ((Rect.unit (s := S4224x512) ![384 * (Ring.bk 11 t.val).val, 0] S384x512.size (inb_src0_0 _)).emb y 0).val
    ((Rect.unit (s := S4224x512) ![384 * (Ring.bk 11 t.val).val, 0] S384x512.size (inb_src0_0 _)).emb y 1).val = _
  have hb : t.val % 11 = t.val := Ring.bk_val t.isLt
  simp [X2, hb]
theorem block1 (W : HbBuf0 (F := Ideal) c hbM0_1) (hW : W = X2 (m := 4224) (n := 512) f) :
    View.read (Elt Ideal) (srcB0_1 (Ring.bk 11 t.val)).view W = X2 (m := 384) (n := 512) fun r j => f (384 * t.val + r) j := by
  subst hW
  funext y
  show f ((Rect.unit (s := S4224x512) ![384 * (Ring.bk 11 t.val).val, 0] S384x512.size (inb_src0_1 _)).emb y 0).val
    ((Rect.unit (s := S4224x512) ![384 * (Ring.bk 11 t.val).val, 0] S384x512.size (inb_src0_1 _)).emb y 1).val = _
  have hb : t.val % 11 = t.val := Ring.bk_val t.isLt
  simp [X2, hb]
theorem block2 (W : HbBuf0 (F := Ideal) c hbM0_2) (hW : W = X2 (m := 4224) (n := 512) f) :
    View.read (Elt Ideal) (srcB0_2 (Ring.bk 11 t.val)).view W = X2 (m := 384) (n := 512) fun r j => f (384 * t.val + r) j := by
  subst hW
  funext y
  show f ((Rect.unit (s := S4224x512) ![384 * (Ring.bk 11 t.val).val, 0] S384x512.size (inb_src0_2 _)).emb y 0).val
    ((Rect.unit (s := S4224x512) ![384 * (Ring.bk 11 t.val).val, 0] S384x512.size (inb_src0_2 _)).emb y 1).val = _
  have hb : t.val % 11 = t.val := Ring.bk_val t.isLt
  simp [X2, hb]
theorem block3 (W : HbBuf0 (F := Ideal) c hbM0_3) (hW : W = X2 (m := 4224) (n := 1024) f) :
    View.read (Elt Ideal) (srcB0_3 (Ring.bk 11 t.val)).view W = X2 (m := 384) (n := 1024) fun r j => f (384 * t.val + r) j := by
  subst hW
  funext y
  show f ((Rect.unit (s := S4224x1024) ![384 * (Ring.bk 11 t.val).val, 0] S384x1024.size (inb_src0_3 _)).emb y 0).val
    ((Rect.unit (s := S4224x1024) ![384 * (Ring.bk 11 t.val).val, 0] S384x1024.size (inb_src0_3 _)).emb y 1).val = _
  have hb : t.val % 11 = t.val := Ring.bk_val t.isLt
  simp [X2, hb]

/-- The residual's slot is read with its axis of size one. -/
theorem slot3 (g : ℕ → ℕ → EReal) (w : S384x1024.Idx → EReal) (hw : w = X2 (m := 384) (n := 1024) g) (y : S1x384x1024.Idx) :
    View.readAt (Elt Ideal) scM0_3.view (Rect.unit (s := S3x384x1024) (k0_off17 (grid0.coords t)) S1x384x1024.size (k0_off17_inb (grid0.coords t))).toLoadRect
      ((rslot0_3 (Ring.sl 3 t.val)).view.writes (Elt Ideal) (rslot0_3 (Ring.sl 3 t.val)).view.junk [⟨Rect.whole S384x1024, w⟩]) y
      = g (y 1).val (y 2).val := by
  subst hw
  have hr := congrFun (View.read_writes_whole (Val := Elt Ideal) (rslot0_3 (Ring.sl 3 t.val)).view (rslot0_3 (Ring.sl 3 t.val)).view.junk
    (X2 (m := 384) (n := 1024) g)) (Idealize.ShloMosaic.ix2 (y 1) (y 2))
  refine Eq.trans ?_ hr
  have he : scM0_3.view.emb ((Rect.unit (s := S3x384x1024) (k0_off17 (grid0.coords t)) S1x384x1024.size (k0_off17_inb (grid0.coords t))).toLoadRect.idx y)
      = (rslot0_3 (Ring.sl 3 t.val)).view.emb (Idealize.ShloMosaic.ix2 (y 1) (y 2)) := by
    have hy : (Shape.reshapeEquiv (show S384x1024.numel = S1x384x1024.numel by decide) (Idealize.ShloMosaic.ix2 (y 1) (y 2)) : S1x384x1024.Idx) = y := by
      refine Shape.reshapeEquiv_eq_of_rowMajor _ ?_
      have h0 : (y 0).val = 0 := Nat.lt_one_iff.mp (y 0).isLt
      rw [Shape.rowMajor_val_three, Shape.rowMajor_val_two]
      simp [h0]
    refine Eq.trans ?_ (congrArg (fun z : S1x384x1024.Idx => scM0_3.view.emb
      ((Rect.unit (s := S3x384x1024) ![(Ring.sl 3 t.val).val, 0, 0] S1x384x1024.size (inb_slot0_3 (Ring.sl 3 t.val))).emb z)) hy).symm
    refine congrArg scM0_3.view.emb (funext fun a => Fin.ext ?_)
    have ho := congrFun (coff0_3_13 t) a
    simp [ho]
  generalize ((rslot0_3 (Ring.sl 3 t.val)).view.writes (Elt Ideal) (rslot0_3 (Ring.sl 3 t.val)).view.junk [⟨Rect.whole S384x1024, X2 (m := 384) (n := 1024) g⟩]) = G
  exact congrArg G he

end Cert.PostMix
-- ==== Proof.PostPieces.lean ====
/- What the mixing kernel's body stores, in the terms of what it reads: the same pieces at every point, whichever blocks the point starts. -/
module

public import proofs.«01_k».proof.Proof.PostFrame
public import proofs.«01_k».proof.Proof.PostSlots

@[expose] public section

set_option maxRecDepth 16384

noncomputable section

namespace Cert.PostMix

open Cert.Lift Cert.Outer Cert.InProj Cert.Kernel8Ideal Cert.Kernel8Ideal.Gen Cert.Kernel8Ideal.Own Idealize.ShloMosaic Idealize.ShloMosaic.TcCoe Idealize.SL.Sem Finset

/-- The pieces of the joined rows, from the parts read of the first stream (64 columns each), of the second and third (128 each) and the gain. -/
abbrev mixed (s : (o : ℕ) → (∀ a, (![0, o] : Fin 2 → ℕ) a + S384x64.size a ≤ S384x512.size a) → S384x64.Idx → EReal)
    (x r : (o : ℕ) → (∀ a, (![0, o] : Fin 2 → ℕ) a + S384x128.size a ≤ S384x512.size a) → S384x128.Idx → EReal)
    (g : S1x128.Idx → EReal) : List (View.Piece (Elt Ideal) S384x1024 .bf16) :=
  [⟨Rect.unit ![0, 896] S384x128.size inb_S384x1024_S384x128_0_896, k0_pay16 (F := Ideal) (x 384 inb_S384x512_S384x128_0_384) g (r 384 inb_S384x512_S384x128_0_384)⟩,
    ⟨Rect.unit ![0, 768] S384x128.size inb_S384x1024_S384x128_0_768, k0_pay15 (F := Ideal) (x 256 inb_S384x512_S384x128_0_256) g (r 256 inb_S384x512_S384x128_0_256)⟩,
    ⟨Rect.unit ![0, 640] S384x128.size inb_S384x1024_S384x128_0_640, k0_pay14 (F := Ideal) (k0_pay13 (x 128 inb_S384x512_S384x128_0_128) g (r 128 inb_S384x512_S384x128_0_128))⟩,
    ⟨Rect.unit ![0, 512] S384x128.size inb_S384x1024_S384x128_0_512, k0_pay12 (F := Ideal) (k0_pay10 (x 0 inb_S384x512_S384x128_0_0) g) (r 0 inb_S384x512_S384x128_0_0) (k0_pay11 (r 0 inb_S384x512_S384x128_0_0))⟩,
    ⟨Rect.unit ![0, 448] S384x64.size inb_S384x1024_S384x64_0_448, k0_pay9 (F := Ideal) (s 448 inb_S384x512_S384x64_0_448)⟩,
    ⟨Rect.unit ![0, 192] S384x64.size inb_S384x1024_S384x64_0_192, k0_pay8 (F := Ideal) (s 384 inb_S384x512_S384x64_0_384)⟩,
    ⟨Rect.unit ![0, 384] S384x64.size inb_S384x1024_S384x64_0_384, k0_pay7 (F := Ideal) (s 320 inb_S384x512_S384x64_0_320)⟩,
    ⟨Rect.unit ![0, 128] S384x64.size inb_S384x1024_S384x64_0_128, k0_pay6 (F := Ideal) (s 256 inb_S384x512_S384x64_0_256)⟩,
    ⟨Rect.unit ![0, 320] S384x64.size inb_S384x1024_S384x64_0_320, k0_pay5 (F := Ideal) (s 192 inb_S384x512_S384x64_0_192)⟩,
    ⟨Rect.unit ![0, 64] S384x64.size inb_S384x1024_S384x64_0_64, k0_pay4 (F := Ideal) (s 128 inb_S384x512_S384x64_0_128)⟩,
    ⟨Rect.unit ![0, 256] S384x64.size inb_S384x1024_S384x64_0_256, k0_pay3 (F := Ideal) (s 64 inb_S384x512_S384x64_0_64)⟩,
    ⟨Rect.unit ![0, 0] S384x64.size inb_S384x1024_S384x64_0_0, k0_pay2 (F := Ideal) (s 0 inb_S384x512_S384x64_0_0)⟩]

variable (m : (ℓ : Loc nD τ sig) → Buf (Elt Ideal) ℓ) (c : Dev nD) (t : Fin cfg0.N)

/-! What a point reads: parts of the first three streams' slots, -/
abbrev part0 (o : ℕ) (inb : ∀ a, (![0, o] : Fin 2 → ℕ) a + S384x64.size a ≤ S384x512.size a) : S384x64.Idx → EReal :=
  (rslot0_0 (Ring.sl 3 t.val)).view.readCov (Val := Elt Ideal) [⟨Rect.whole S384x512, View.read (Elt Ideal) (srcB0_0 (Ring.bk 11 t.val)).view (V m c main_arg0)⟩]
    (Rect.unit (s := S384x512) ![0, o] S384x64.size inb).toLoadRect
abbrev part1 (o : ℕ) (inb : ∀ a, (![0, o] : Fin 2 → ℕ) a + S384x128.size a ≤ S384x512.size a) : S384x128.Idx → EReal :=
  (rslot0_1 (Ring.sl 3 t.val)).view.readCov (Val := Elt Ideal) [⟨Rect.whole S384x512, View.read (Elt Ideal) (srcB0_1 (Ring.bk 11 t.val)).view (V m c main_arg1)⟩]
    (Rect.unit (s := S384x512) ![0, o] S384x128.size inb).toLoadRect
abbrev part2 (o : ℕ) (inb : ∀ a, (![0, o] : Fin 2 → ℕ) a + S384x128.size a ≤ S384x512.size a) : S384x128.Idx → EReal :=
  (rslot0_2 (Ring.sl 3 t.val)).view.readCov (Val := Elt Ideal) [⟨Rect.whole S384x512, View.read (Elt Ideal) (srcB0_2 (Ring.bk 11 t.val)).view (V m c main_arg2)⟩]
    (Rect.unit (s := S384x512) ![0, o] S384x128.size inb).toLoadRect
/-! the residual's slot, -/
abbrev part3 : S1x384x1024.Idx → EReal :=
  View.readAt (Elt Ideal) scM0_3.view (Rect.unit (s := S3x384x1024) (k0_off17 (grid0.coords t)) S1x384x1024.size (k0_off17_inb (grid0.coords t))).toLoadRect
    ((rslot0_3 (Ring.sl 3 t.val)).view.writes (Elt Ideal) (rslot0_3 (Ring.sl 3 t.val)).view.junk
      [⟨Rect.whole S384x1024, View.read (Elt Ideal) (srcB0_3 (Ring.bk 11 t.val)).view (V m c main_arg3)⟩])
/-! and the resident arguments. -/
abbrev gain : S1x128.Idx → EReal := View.readAt (Elt Ideal) (ms0_0 t).view (Rect.unit (s := S1x128) ![0, 0] S1x128.size inb_S1x128_S1x128_0_0).toLoadRect ((hs0_0 t).unread (iblk m c 0 t))
abbrev weight : S1024x1024.Idx → EReal := View.readAt (Elt Ideal) (ms0_1 t).view (Rect.unit (s := S1024x1024) ![0, 0] S1024x1024.size inb_S1024x1024_S1024x1024_0_0).toLoadRect ((hs0_1 t).unread (iblk m c 1 t))
abbrev scale : S1x1024.Idx → EReal := View.readAt (Elt Ideal) (ms0_2 t).view (Rect.unit (s := S1x1024) ![0, 0] S1x1024.size inb_S1x1024_S1x1024_0_0).toLoadRect ((hs0_2 t).unread (iblk m c 2 t))
abbrev shift : S1x1024.Idx → EReal := View.readAt (Elt Ideal) (ms0_3 t).view (Rect.unit (s := S1x1024) ![0, 0] S1x1024.size inb_S1x1024_S1x1024_0_0).toLoadRect ((hs0_3 t).unread (iblk m c 3 t))

/-- The pieces of the joined rows; -/
abbrev oPieces : List (View.Piece (Elt Ideal) S384x1024 .bf16) := mixed (part0 m c t) (part1 m c t) (part2 m c t) (gain m c t)
/-- the joined rows as they are read back; -/
abbrev oRead : S384x1024.Idx → EReal :=
  (ms0_5 t).view.readCov (Val := Elt Ideal) (oPieces m c t) (Rect.unit (s := S384x1024) ![0, 0] S384x1024.size inb_S384x1024_S384x1024_0_0).toLoadRect
/-- the other two results' pieces. -/
abbrev prePieces : List (View.Piece (Elt Ideal) S384x1024 .f32) :=
  [⟨Rect.unit ![0, 0] S384x1024.size inb_S384x1024_S384x1024_0_0, k0_pay19 (F := Ideal) (k0_pay17 (part3 m c t)) (oRead m c t) (weight m c t)⟩]
abbrev hPieces : List (View.Piece (Elt Ideal) S384x1024 .f32) :=
  [⟨Rect.unit ![0, 0] S384x1024.size inb_S384x1024_S384x1024_0_0,
    k0_pay1 (F := Ideal) (k0_pay20 (k0_pay17 (part3 m c t)) (oRead m c t) (weight m c t) (scale m c t) (shift m c t))⟩]

theorem runA_o (h0) (h1) : (runA m c t h0 h1).1 = oPieces m c t := rfl
theorem runB_o (h0) (h1) : (runB m c t h0 h1).1 = oPieces m c t := rfl
theorem runC_o (h0) (h1) : (runC m c t h0 h1).1 = oPieces m c t := rfl
theorem runA_pre (h0) (h1) : (runA m c t h0 h1).2.1 = prePieces m c t := rfl
theorem runB_pre (h0) (h1) : (runB m c t h0 h1).2.1 = prePieces m c t := rfl
theorem runC_pre (h0) (h1) : (runC m c t h0 h1).2.1 = prePieces m c t := rfl
theorem runA_h (h0) (h1) : (runA m c t h0 h1).2.2.1 = hPieces m c t := rfl
theorem runB_h (h0) (h1) : (runB m c t h0 h1).2.2.1 = hPieces m c t := rfl
theorem runC_h (h0) (h1) : (runC m c t h0 h1).2.2.1 = hPieces m c t := rfl

end Cert.PostMix

end
-- ==== Proof.PostBlock.lean ====
/- The mixing kernel's results: each block of 384 rows of the joined rows, of the residual with the projection and of its layer norm is those
   rows of what the whole arrays determine. -/
module

public import proofs.«01_k».proof.Proof.PostPieces

@[expose] public section

set_option maxRecDepth 16384

noncomputable section

namespace Cert.PostMix

open Cert.Lift Cert.Outer Cert.InProj Cert.Kernel8Ideal Cert.Kernel8Ideal.Gen Cert.Kernel8Ideal.Own Idealize.ShloMosaic Idealize.ShloMosaic.TcCoe Idealize.SL.Sem Finset
open Idealize.ShloMosaic.Pipeline (Dat)

variable (m : (ℓ : Loc nD τ sig) → Buf (Elt Ideal) ℓ) (c : Dev nD) (t : Fin cfg0.N)

/-! ### The arguments' entries -/
abbrev aS : ℕ → ℕ → EReal := entries (m := 4224) (n := 512) (m ((c : Thread nD τ).loc main_arg0))
abbrev aO : ℕ → ℕ → EReal := entries (m := 4224) (n := 512) (m ((c : Thread nD τ).loc main_arg1))
abbrev aR : ℕ → ℕ → EReal := entries (m := 4224) (n := 512) (m ((c : Thread nD τ).loc main_arg2))
abbrev aH : ℕ → ℕ → EReal := entries (m := 4224) (n := 1024) (m ((c : Thread nD τ).loc main_arg3))
abbrev aN : ℕ → EReal := vec (n := 128) (m ((c : Thread nD τ).loc main_arg4))
abbrev aW : ℕ → ℕ → EReal := entries (m := 1024) (n := 1024) (m ((c : Thread nD τ).loc main_arg5))
abbrev aG : ℕ → EReal := vec (n := 1024) (m ((c : Thread nD τ).loc main_arg6))
abbrev aB : ℕ → EReal := vec (n := 1024) (m ((c : Thread nD τ).loc main_arg7))

/-! ### The resident arguments -/
theorem v0 : V m c main_v0 = X2 (m := 1) (n := 128) fun _ j => aN m c j :=
  (show V m c main_v0 = shapeCast S1x128 (m ((c : Thread nD τ).loc main_arg4)) shapeCasts_S128_S1x128 from rfl).trans
    ((congrArg (fun x => shapeCast S1x128 x shapeCasts_S128_S1x128) (X1_vec _)).trans (cast_X1 _ _))
theorem v1 : V m c main_v1 = X2 (m := 1024) (n := 1024) (aW m c) :=
  (show V m c main_v1 = truncf (F := Ideal) (φ := .f32) .bf16 (m ((c : Thread nD τ).loc main_arg5)) bitsLt_bf16_f32 from rfl).trans (X2_entries _)
theorem v2 : V m c main_v2 = X2 (m := 1) (n := 1024) fun _ j => aG m c j :=
  (show V m c main_v2 = shapeCast S1x1024 (m ((c : Thread nD τ).loc main_arg6)) shapeCasts_S1024_S1x1024 from rfl).trans
    ((congrArg (fun x => shapeCast S1x1024 x shapeCasts_S1024_S1x1024) (X1_vec _)).trans (cast_X1 _ _))
theorem v3 : V m c main_v3 = X2 (m := 1) (n := 1024) fun _ j => aB m c j :=
  (show V m c main_v3 = shapeCast S1x1024 (m ((c : Thread nD τ).loc main_arg7)) shapeCasts_S1024_S1x1024 from rfl).trans
    ((congrArg (fun x => shapeCast S1x1024 x shapeCasts_S1024_S1x1024) (X1_vec _)).trans (cast_X1 _ _))

theorem gain_index : ∀ t : Fin cfg0.N, win0_0.index t = ![0, 0] := (by decide +kernel : ∀ t : Fin grid0.N, win0_0.index t = ![0, 0])
theorem weight_index : ∀ t : Fin cfg0.N, win0_1.index t = ![0, 0] := (by decide +kernel : ∀ t : Fin grid0.N, win0_1.index t = ![0, 0])
theorem scale_index : ∀ t : Fin cfg0.N, win0_2.index t = ![0, 0] := (by decide +kernel : ∀ t : Fin grid0.N, win0_2.index t = ![0, 0])
theorem shift_index : ∀ t : Fin cfg0.N, win0_3.index t = ![0, 0] := (by decide +kernel : ∀ t : Fin grid0.N, win0_3.index t = ![0, 0])

theorem gain_blk : iblk m c 0 t = X2 (m := 1) (n := 128) fun _ j => aN m c j := by
  funext y
  blk_simp [iblk]
  rw [show V m c main_v0 = X2 (m := 1) (n := 128) (fun _ j => aN m c j) from v0 m c]
  refine (?_ : aN m c ((win0_0.blk t).view.emb y 1).val = _)
  blk_simp [gain_index]
  all_goals first | rfl | simp [X2]
theorem weight_blk : iblk m c 1 t = X2 (m := 1024) (n := 1024) (aW m c) := by
  funext y
  blk_simp [iblk]
  rw [show V m c main_v1 = X2 (m := 1024) (n := 1024) (aW m c) from v1 m c]
  refine (?_ : aW m c ((win0_1.blk t).view.emb y 0).val ((win0_1.blk t).view.emb y 1).val = _)
  blk_simp [weight_index]
  all_goals first | rfl | simp [X2]
theorem scale_blk : iblk m c 2 t = X2 (m := 1) (n := 1024) fun _ j => aG m c j := by
  funext y
  blk_simp [iblk]
  rw [show V m c main_v2 = X2 (m := 1) (n := 1024) (fun _ j => aG m c j) from v2 m c]
  refine (?_ : aG m c ((win0_2.blk t).view.emb y 1).val = _)
  blk_simp [scale_index]
  all_goals first | rfl | simp [X2]
theorem shift_blk : iblk m c 3 t = X2 (m := 1) (n := 1024) fun _ j => aB m c j := by
  funext y
  blk_simp [iblk]
  rw [show V m c main_v3 = X2 (m := 1) (n := 1024) (fun _ j => aB m c j) from v3 m c]
  refine (?_ : aB m c ((win0_3.blk t).view.emb y 1).val = _)
  blk_simp [shift_index]
  all_goals first | rfl | simp [X2]

/-- A whole buffer read whole. -/
theorem read_all {k n : ℕ} {φ : EltTy} (a : Memref sig .tc .vmem ⟨2, ![k, n]⟩ φ) (ha : a.IsWhole) (x : (⟨2, ![k, n]⟩ : Shape).Idx → Elt Ideal φ)
    (inb : ∀ b, (![0, 0] : Fin 2 → ℕ) b + (![k, n] : Fin 2 → ℕ) b ≤ (![k, n] : Fin 2 → ℕ) b) :
    View.readAt (Elt Ideal) a.view (Rect.unit (s := ⟨2, ![k, n]⟩) ![0, 0] ![k, n] inb).toLoadRect (ha.unread x) = x := funext fun y => by
  refine (ha.readAt_unread _ _ _).trans (congrArg x (funext fun b => Fin.ext ?_))
  match b with
  | 0 => simp
  | 1 => simp

theorem gain_eq : gain m c t = X2 (m := 1) (n := 128) fun _ j => aN m c j := (read_all _ _ _ _).trans (gain_blk m c t)
theorem weight_eq : weight m c t = X2 (m := 1024) (n := 1024) (aW m c) := (read_all _ _ _ _).trans (weight_blk m c t)
theorem scale_eq : scale m c t = X2 (m := 1) (n := 1024) fun _ j => aG m c j := (read_all _ _ _ _).trans (scale_blk m c t)
theorem shift_eq : shift m c t = X2 (m := 1) (n := 1024) fun _ j => aB m c j := (read_all _ _ _ _).trans (shift_blk m c t)

/-! ### The streamed arguments -/
theorem part0_eq (o : ℕ) (inb) : part0 m c t o inb = X2 (m := 384) (n := 64) fun r j => aS m c (384 * t.val + r) (o + j) :=
  slot_part _ (fun r j => aS m c (384 * t.val + r) j) _ (block0 c t (aS m c) _ ((V_main_arg0 m c).trans (X2_entries _))) inb
theorem part1_eq (o : ℕ) (inb) : part1 m c t o inb = X2 (m := 384) (n := 128) fun r j => aO m c (384 * t.val + r) (o + j) :=
  slot_part _ (fun r j => aO m c (384 * t.val + r) j) _ (block1 c t (aO m c) _ ((V_main_arg1 m c).trans (X2_entries _))) inb
theorem part2_eq (o : ℕ) (inb) : part2 m c t o inb = X2 (m := 384) (n := 128) fun r j => aR m c (384 * t.val + r) (o + j) :=
  slot_part _ (fun r j => aR m c (384 * t.val + r) j) _ (block2 c t (aR m c) _ ((V_main_arg2 m c).trans (X2_entries _))) inb
theorem part3_eq (y : S1x384x1024.Idx) : part3 m c t y = aH m c (384 * t.val + (y 1).val) (y 2).val :=
  slot3 t (fun r j => aH m c (384 * t.val + r) j) _ (block3 c t (aH m c) _ ((V_main_arg3 m c).trans (X2_entries _))) y

/-! ### The joined rows -/
abbrev J : ℕ → ℕ → EReal := joined (aS m c) (aO m c) (aR m c) (aN m c)
/-- The rows of a point's block. -/
abbrev rows (f : ℕ → ℕ → EReal) (r j : ℕ) : EReal := f (384 * t.val + r) j

theorem copied (v : S384x64.Idx → EReal) : (shapeCast S384x64 (truncf (F := Ideal) (φ := .f32) .bf16 v bitsLt_bf16_f32) shapeCasts_S384x64_S384x64 : S384x64.Idx → EReal) = v :=
  shapeCast_self _ _

/-- A part of the first half where it is stored, -/
theorem first_at (o o' : ℕ) (inb : ∀ a, (![0, o] : Fin 2 → ℕ) a + S384x64.size a ≤ S384x512.size a)
    (inb' : ∀ a, ![0, o'] a + S384x64.size a ≤ S384x1024.size a) (x : S384x64.Idx) (ho : ∀ j < 64, o' + j < 512 ∧ place (o' + j) = o + j) :
    (shapeCast S384x64 (truncf (F := Ideal) (φ := .f32) .bf16 (part0 m c t o inb) bitsLt_bf16_f32) shapeCasts_S384x64_S384x64 : S384x64.Idx → EReal) x
      = X2 (m := 384) (n := 1024) (rows t (J m c)) ((Rect.unit (s := S384x1024) ![0, o'] S384x64.size inb').emb x) := by
  rw [copied, part0_eq]
  have h := ho _ (x 1).isLt
  show aS m c _ (o + (x 1).val) = joined _ _ _ _ _ _
  unfold joined
  simp [h.1, h.2]
/-- and a head of the second. -/
theorem second_at (o o' : ℕ) (inb' : ∀ a, ![0, o'] a + S384x128.size a ≤ S384x1024.size a) (x : S384x128.Idx) (ho : o' = 512 + o) (hd : o % 128 = 0) :
    X2 (m := 384) (n := 128) (fun i j => gated (fun k => aO m c (384 * t.val + i) (o + k)) (fun k => aR m c (384 * t.val + i) (o + k)) (aN m c) j) x
      = X2 (m := 384) (n := 1024) (rows t (J m c)) ((Rect.unit (s := S384x1024) ![0, o'] S384x128.size inb').emb x) := by
  have hx : (x 1).val < 128 := (x 1).isLt
  subst ho
  have h1 : ¬(512 + o + (x 1).val < 512) := by omega
  have h2 : (512 + o + (x 1).val - 512) / 128 * 128 = o := by omega
  have h3 : (512 + o + (x 1).val - 512) % 128 = (x 1).val := by omega
  have key : ∀ i, gated (fun k => aO m c i (o + k)) (fun k => aR m c i (o + k)) (aN m c) (x 1).val = J m c i (512 + o + (x 1).val) := by
    intro i
    unfold J joined second
    rw [if_neg h1, h2, h3]
  refine (key _).trans ?_
  simp [X2, rows]

theorem each_o : ∀ p ∈ oPieces m c t, ∀ x : p.1.shape.Idx, p.2 x = X2 (m := 384) (n := 1024) (rows t (J m c)) (p.1.emb x) := by
  simp only [List.forall_mem_cons, List.not_mem_nil, false_imp_iff, implies_true, and_true]
  refine ⟨fun x => ?_, fun x => ?_, fun x => ?_, fun x => ?_, fun x => ?_, fun x => ?_, fun x => ?_, fun x => ?_, fun x => ?_, fun x => ?_, fun x => ?_, fun x => ?_⟩
  · rw [part1_eq, part2_eq, gain_eq]
    exact (congrFun (head3 (fun r j => aO m c (384 * t.val + r) (384 + j)) (fun r j => aR m c (384 * t.val + r) (384 + j)) (aN m c)) x).trans (second_at m c t 384 896 _ x rfl rfl)
  · rw [part1_eq, part2_eq, gain_eq]
    exact (congrFun (head2 (fun r j => aO m c (384 * t.val + r) (256 + j)) (fun r j => aR m c (384 * t.val + r) (256 + j)) (aN m c)) x).trans (second_at m c t 256 768 _ x rfl rfl)
  · rw [part1_eq, part2_eq, gain_eq]
    exact (congrFun (head1 (fun r j => aO m c (384 * t.val + r) (128 + j)) (fun r j => aR m c (384 * t.val + r) (128 + j)) (aN m c)) x).trans (second_at m c t 128 640 _ x rfl rfl)
  · rw [part1_eq, part2_eq, gain_eq]
    exact (congrFun (head0 (fun r j => aO m c (384 * t.val + r) (0 + j)) (fun r j => aR m c (384 * t.val + r) (0 + j)) (aN m c)) x).trans (second_at m c t 0 512 _ x rfl rfl)
  all_goals exact first_at m c t _ _ _ _ x fun j hj => by unfold place; omega

theorem canon_o (hc : ∀ y, ∃ p ∈ oPieces m c t, y ∈ p.1.set) : View.canon (oPieces m c t) = X2 (m := 384) (n := 1024) (rows t (J m c)) := funext fun y =>
  View.canon_apply_of_pieces (Val := Elt Ideal) (S := S384x1024) (e := .bf16) (X2 (rows t (J m c))) _ (each_o m c t) y (hc y)

theorem oRead_eq (hc : ∀ y, ∃ p ∈ oPieces m c t, y ∈ p.1.set) : oRead m c t = X2 (m := 384) (n := 1024) (rows t (J m c)) := by
  unfold oRead
  rw [View.readCov_eq_canon', canon_o m c t hc]
  funext y
  simp [X2]

/-- One piece over the whole block. -/
theorem canon_one (w : S384x1024.Idx → EReal) (inb) : View.canon (Val := Elt Ideal) (s := S384x1024) (e := .f32) [⟨Rect.unit ![0, 0] S384x1024.size inb, w⟩] = w := by
  funext y
  have he : (Rect.unit (s := S384x1024) ![0, 0] S384x1024.size inb).emb y = y := funext fun b => Fin.ext (by
    match b with
    | 0 => simp
    | 1 => simp)
  have h := View.canon_cons_emb (Val := Elt Ideal) (e := .f32) (Rect.unit (s := S384x1024) ![0, 0] S384x1024.size inb) w [] y
  rw [he] at h
  exact h

abbrev Q : ℕ → ℕ → EReal := pre (aH m c) (J m c) (aW m c)

theorem scaled_eq : k0_pay17 (F := Ideal) (part3 m c t) = X2 (m := 384) (n := 1024) fun i j => lit 0x3F9837F0#32 * rows t (aH m c) i j :=
  scaled (rows t (aH m c)) _ (part3_eq m c t)

/-- What a point stores, whichever case it falls in. -/
structure Same (p : Pieces Ideal) : Prop where
  o : p.o = oPieces m c t
  pre : p.pre = prePieces m c t
  h : p.h = hPieces m c t
  cover : ∀ y, ∃ p ∈ oPieces m c t, y ∈ p.1.set

theorem same : Same m c t (stored m c t) := by
  have ht : t.val < 11 := t.isLt
  unfold stored
  by_cases h0 : t.val % 11 = 0
  · have h1 : t.val < 9 := by omega
    have e0 := (hcond0_0 t).mpr h0
    have e1 := (hcond0_1 t).mpr h1
    rw [dif_pos h0, dif_pos h1]
    exact ⟨runA_o m c t e0 e1, runA_pre m c t e0 e1, runA_h m c t e0 e1, runA_o m c t e0 e1 ▸ o_A m c t e0 e1⟩
  · have e0 := fun h => h0 ((hcond0_0 t).mp h)
    rw [dif_neg h0]
    by_cases h1 : t.val < 9
    · have e1 := (hcond0_1 t).mpr h1
      rw [dif_pos h1]
      exact ⟨runB_o m c t e0 e1, runB_pre m c t e0 e1, runB_h m c t e0 e1, runB_o m c t e0 e1 ▸ o_B m c t e0 e1⟩
    · have e1 := fun h => h1 ((hcond0_1 t).mp h)
      rw [dif_neg h1]
      exact ⟨runC_o m c t e0 e1, runC_pre m c t e0 e1, runC_h m c t e0 e1, runC_o m c t e0 e1 ▸ o_C m c t e0 e1⟩

/-! ### What a point leaves -/
theorem left_o : (dats m 0 c).after 5 t = X2 (m := 384) (n := 1024) (rows t (J m c)) := by
  rw [after5]
  unfold leftO
  rw [View.read_writes_junk_eq_canon, (same m c t).o, canon_o m c t (same m c t).cover]
theorem left_pre : (dats m 0 c).after 6 t = X2 (m := 384) (n := 1024) (rows t (Q m c)) := by
  rw [after6]
  unfold leftPre
  rw [View.read_writes_junk_eq_canon, (same m c t).pre]
  unfold prePieces
  rw [canon_one, oRead_eq m c t (same m c t).cover, scaled_eq, weight_eq]
  exact pre_pay' _ _ _
theorem left_h : (dats m 0 c).after 7 t = X2 (m := 384) (n := 1024) (rows t (normed (Q m c) (aG m c) (aB m c))) := by
  rw [after7]
  unfold leftH
  rw [View.read_writes_junk_eq_canon, (same m c t).h]
  unfold hPieces
  rw [canon_one, oRead_eq m c t (same m c t).cover, scaled_eq, weight_eq, scale_eq, shift_eq]
  exact norm_pay _ _ _ _ _

/-! ### The results -/
theorem o_index : ∀ t : Fin cfg0.N, win0_5.index t = ![t.val, 0] := (by decide +kernel : ∀ t : Fin grid0.N, win0_5.index t = ![t.val, 0])
theorem pre_index : ∀ t : Fin cfg0.N, win0_6.index t = ![t.val, 0] := (by decide +kernel : ∀ t : Fin grid0.N, win0_6.index t = ![t.val, 0])
theorem h_index : ∀ t : Fin cfg0.N, win0_7.index t = ![t.val, 0] := (by decide +kernel : ∀ t : Fin grid0.N, win0_7.index t = ![t.val, 0])

theorem result_o : (dats m 0 c).arrAt 5 cfg0.N = X2 (m := 4224) (n := 1024) (J m c) := by
  refine (dats m 0 c).arrAt_eq_of_covers 5 _ (by decide +kernel) fun t hw y => ?_
  blk_simp
  rw [left_o]
  refine (?_ : _ = J m c ((win0_5.blk t).view.emb y 0).val ((win0_5.blk t).view.emb y 1).val)
  blk_simp [o_index]
  all_goals first | rfl | simp [X2, rows, Nat.mul_comm]
theorem result_pre : (dats m 0 c).arrAt 6 cfg0.N = X2 (m := 4224) (n := 1024) (Q m c) := by
  refine (dats m 0 c).arrAt_eq_of_covers 6 _ (by decide +kernel) fun t hw y => ?_
  blk_simp
  rw [left_pre]
  refine (?_ : _ = Q m c ((win0_6.blk t).view.emb y 0).val ((win0_6.blk t).view.emb y 1).val)
  blk_simp [pre_index]
  all_goals first | rfl | simp [X2, rows, Nat.mul_comm]
theorem result_h : (dats m 0 c).arrAt 7 cfg0.N = X2 (m := 4224) (n := 1024) (normed (Q m c) (aG m c) (aB m c)) := by
  refine (dats m 0 c).arrAt_eq_of_covers 7 _ (by decide +kernel) fun t hw y => ?_
  blk_simp
  rw [left_h]
  refine (?_ : _ = normed (Q m c) (aG m c) (aB m c) ((win0_7.blk t).view.emb y 0).val ((win0_7.blk t).view.emb y 1).val)
  blk_simp [h_index]
  all_goals first | rfl | simp [X2, rows, Nat.mul_comm]

end Cert.PostMix

end
-- ==== Proof.PostRef.lean ====
/- The mixing step's reference: its three results are the joined rows, the residual with the projection, and the layer norm. -/
module

public import proofs.«01_k».proof.Proof.PostMath
public import proofs.«01_k».proof.Proof.Gen.Reference8Ideal.Run

@[expose] public section

set_option maxRecDepth 16384

noncomputable section

namespace Cert.PostMix

open Cert.Lift Cert.Outer Cert.InProj Cert.Reference8Ideal Cert.Reference8Ideal.Gen Idealize.ShloMosaic Idealize.ShloMosaic.TcCoe Idealize.SL.Sem Finset

theorem out_host (f g : ℕ → ℕ → EReal) : Host.dotGeneral (F := Ideal) (φ₁ := .f32) (φ₂ := .f32) dot_S4224x1024_S1024x1024_S4224x1024_1_0_0_1_n_n none (X2 f) (X2 g)
    = X2 fun i j => ∑ k ∈ range 1024, f i k * g k j :=
  plain_host _ rfl rfl none f g (fun _ _ => ⟨rfl, rfl⟩) fun _ _ => ⟨rfl, rfl⟩

/-- The first half's heads, in the order the second weight expects them. -/
theorem heads_back (f : ℕ → ℕ → EReal) : shapeCast S4224x512 (transpose S4224x2x4x64 [0, 2, 1, 3] (shapeCast S4224x4x2x64 (X2 (m := 4224) (n := 512) f) shapeCasts_S4224x512_S4224x4x2x64)
      transposes_S4224x4x2x64_S4224x2x4x64_0_2_1_3) shapeCasts_S4224x2x4x64_S4224x512 = X2 (m := 4224) (n := 512) fun r j => f r (place j) := by
  funext y
  have hy : (y 1).val < 512 := (y 1).isLt
  rw [shapeCast_apply (s := S4224x2x4x64) (t := S4224x512) _ _ y (Idealize.ShloMosaic.ix4 (y 0) ⟨(y 1).val / 256, by omega⟩ ⟨(y 1).val / 64 % 4, by omega⟩ ⟨(y 1).val % 64, by omega⟩) (by
      simp [Shape.rowMajor_val_two, Shape.rowMajor_val_four]; omega),
    transpose_apply (s := S4224x4x2x64) (t := S4224x2x4x64) _ _ _ _
      (Idealize.ShloMosaic.ix4 (y 0) ⟨(y 1).val / 64 % 4, by omega⟩ ⟨(y 1).val / 256, by omega⟩ ⟨(y 1).val % 64, by omega⟩) (fun a => by
      match a with
      | 0 => rfl
      | 1 => rfl
      | 2 => rfl
      | 3 => rfl),
    shapeCast_apply (s := S4224x512) (t := S4224x4x2x64) _ _ _
      (Idealize.ShloMosaic.ix2 (y 0) ⟨place (y 1).val, by unfold place; omega⟩) (by
      simp [Shape.rowMajor_val_two, Shape.rowMajor_val_four, place]; omega)]
  rfl

variable (s o r : S4224x512.Idx → EReal) (h : S4224x1024.Idx → EReal) (gn : S128.Idx → EReal) (w : S1024x1024.Idx → EReal) (g b : S1024.Idx → EReal)

/-- The second half, on the host, -/
abbrev hostSecond : S4224x512.Idx → EReal :=
  mulf (F := Ideal) (φ := .f32) (shapeCast S4224x512 (mulf (F := Ideal) (φ := .f32) (mulf (F := Ideal) (φ := .f32) (shapeCast S4224x4x128 o shapeCasts_S4224x512_S4224x4x128)
      (broadcastInDim S4224x4x128 ![0, 1, 2] bcast_S4224x4x1_S4224x4x128_0_1_2 (Host.rsqrt (F := Ideal) (φ := .f32) (addf (F := Ideal) (φ := .f32) (Host.divf (F := Ideal) (φ := .f32)
        (broadcastInDim S4224x4x1 ![0, 1] bcast_S4224x4_S4224x4x1_0_1 (Host.reduceAdd (F := Ideal) (φ := .f32)
          (mulf (F := Ideal) (φ := .f32) (shapeCast S4224x4x128 o shapeCasts_S4224x512_S4224x4x128) (shapeCast S4224x4x128 o shapeCasts_S4224x512_S4224x4x128))
          (constant (F := Ideal) S_ .f32 0x00000000#32) reducesTo_S4224x4x128_S4224x4_d2 h_S_))
        (broadcastInDim S4224x4x1 ![] bcast_S_S4224x4x1 (constant (F := Ideal) S_ .f32 0x43000000#32)))
        (broadcastInDim S4224x4x1 ![] bcast_S_S4224x4x1 (constant (F := Ideal) S_ .f32 0x358637BD#32))))))
      (broadcastInDim S4224x4x128 ![0, 1, 2] bcast_S1x1x128_S4224x4x128_0_1_2 (broadcastInDim S1x1x128 ![2] bcast_S128_S1x1x128_2 gn))) shapeCasts_S4224x4x128_S4224x512)
    (mulf (F := Ideal) (φ := .f32) r (Host.divf (F := Ideal) (φ := .f32) (broadcastInDim S4224x512 ![] bcast_S_S4224x512 (constant (F := Ideal) S_ .f32 0x3F800000#32))
      (addf (F := Ideal) (φ := .f32) (broadcastInDim S4224x512 ![] bcast_S_S4224x512 (constant (F := Ideal) S_ .f32 0x3F800000#32)) (Host.exp (F := Ideal) (φ := .f32) (Host.negf (F := Ideal) (φ := .f32) r)))))

theorem lit_heads (a : BitVec 32) : broadcastInDim S4224x4x1 ![] bcast_S_S4224x4x1 (constant (F := Ideal) S_ .f32 a) = X3 (m := 4224) (n := 4) (o := 1) fun _ _ _ => lit a := rfl
theorem lit_half (a : BitVec 32) : broadcastInDim S4224x512 ![] bcast_S_S4224x512 (constant (F := Ideal) S_ .f32 a) = X2 (m := 4224) (n := 512) fun _ _ => lit a := rfl

theorem second_eq : hostSecond o r gn = X2 (second (entries o) (entries r) (vec gn)) := by
  unfold hostSecond
  conv_lhs => rw [X2_entries o, X2_entries r, X1_vec gn]
  rw [split_X2 _ _ (by decide : 512 = 4 * 128), mulf_X3, lastSum_X2, deepen_X2 _ _ (by decide : (4224 : ℕ) ≠ 1) (by decide : (4 : ℕ) ≠ 1), lit_heads, lit_heads, hdivf_X3, addf_X3, hrsqrt_X3,
    last_X3 _ _ (by decide : (4224 : ℕ) ≠ 1) (by decide : (4 : ℕ) ≠ 1), gain_X1 _ _ (by decide : (128 : ℕ) ≠ 1), first_X3 _ _ (by decide : (128 : ℕ) ≠ 1), mulf_X3, mulf_X3,
    join_X3 _ _ (by decide : 512 = 4 * 128), hnegf_X2, hexp_X2, lit_half, addf_X2, hdivf_X2, mulf_X2, mulf_X2]
  funext i
  show _ = second _ _ _ (i 0).val (i 1).val
  unfold second gated rms silu X2
  dsimp only
  rw [Nat.div_add_mod' (i 1).val 128]

/-- the joined rows, -/
abbrev hostJoined : S4224x1024.Idx → EReal :=
  concatenate S4224x1024 1 [⟨S4224x512, shapeCast S4224x512 (transpose S4224x2x4x64 [0, 2, 1, 3] (shapeCast S4224x4x2x64 s shapeCasts_S4224x512_S4224x4x2x64)
      transposes_S4224x4x2x64_S4224x2x4x64_0_2_1_3) shapeCasts_S4224x2x4x64_S4224x512⟩, ⟨S4224x512, hostSecond o r gn⟩] concatenates_S4224x512_S4224x512_S4224x1024_d1

theorem joined_eq : hostJoined s o r gn = X2 (joined (entries s) (entries o) (entries r) (vec gn)) := by
  unfold hostJoined
  rw [second_eq]
  conv_lhs => rw [X2_entries s]
  rw [heads_back]
  exact beside_X2 _ _ _ rfl

/-- the residual with the projection, -/
abbrev hostPre (u : S4224x1024.Idx → EReal) : S4224x1024.Idx → EReal :=
  addf (F := Ideal) (φ := .f32) (mulf (F := Ideal) (φ := .f32) (broadcastInDim S4224x1024 ![] bcast_S_S4224x1024 (constant (F := Ideal) S_ .f32 0x3F9837F0#32)) h)
    (Host.dotGeneral (F := Ideal) (φ₁ := .f32) (φ₂ := .f32) dot_S4224x1024_S1024x1024_S4224x1024_1_0_0_1_n_n none u w)

theorem pre_eq (u : ℕ → ℕ → EReal) : hostPre h w (X2 u) = X2 (pre (entries h) u (entries w)) := by
  unfold hostPre
  conv_lhs => rw [X2_entries h, X2_entries w]
  rw [out_host, hlit_X2, mulf_X2, addf_X2]
  rfl

/-- a row's mean, in a column, -/
abbrev hostMean (p : S4224x1024.Idx → EReal) : S4224x1.Idx → EReal :=
  Host.divf (F := Ideal) (φ := .f32) (broadcastInDim S4224x1 ![0] bcast_S4224_S4224x1_0 (Host.reduceAdd (F := Ideal) (φ := .f32) p (constant (F := Ideal) S_ .f32 0x00000000#32)
    reducesTo_S4224x1024_S4224_d1 h_S_)) (broadcastInDim S4224x1 ![] bcast_S_S4224x1 (constant (F := Ideal) S_ .f32 0x44800000#32))

theorem mean_eq (p : ℕ → ℕ → EReal) : hostMean (X2 p) = X2 fun i _ => mean (p i) := by
  unfold hostMean
  rw [hRowSum_X1, stand_host _ _ (by decide), hlit_X2, hdivf_X2]
  rfl

/-- and the layer norm. -/
abbrev hostNormed (p : S4224x1024.Idx → EReal) : S4224x1024.Idx → EReal :=
  addf (F := Ideal) (φ := .f32) (mulf (F := Ideal) (φ := .f32) (mulf (F := Ideal) (φ := .f32) (subf (F := Ideal) (φ := .f32) p (broadcastInDim S4224x1024 ![0, 1] bcast_S4224x1_S4224x1024_0_1 (hostMean p)))
      (broadcastInDim S4224x1024 ![0, 1] bcast_S4224x1_S4224x1024_0_1 (Host.rsqrt (F := Ideal) (φ := .f32) (addf (F := Ideal) (φ := .f32)
        (hostMean (mulf (F := Ideal) (φ := .f32) (subf (F := Ideal) (φ := .f32) p (broadcastInDim S4224x1024 ![0, 1] bcast_S4224x1_S4224x1024_0_1 (hostMean p)))
          (subf (F := Ideal) (φ := .f32) p (broadcastInDim S4224x1024 ![0, 1] bcast_S4224x1_S4224x1024_0_1 (hostMean p)))))
        (broadcastInDim S4224x1 ![] bcast_S_S4224x1 (constant (F := Ideal) S_ .f32 0x3727C5AC#32))))))
      (broadcastInDim S4224x1024 ![0, 1] bcast_S1x1024_S4224x1024_0_1 (broadcastInDim S1x1024 ![1] bcast_S1024_S1x1024_1 g)))
    (broadcastInDim S4224x1024 ![0, 1] bcast_S1x1024_S4224x1024_0_1 (broadcastInDim S1x1024 ![1] bcast_S1024_S1x1024_1 b))

theorem normed_eq (p : ℕ → ℕ → EReal) : hostNormed g b (X2 p) = X2 (normed p (vec g) (vec b)) := by
  unfold hostNormed
  conv_lhs => rw [X1_vec g, X1_vec b]
  rw [mean_eq, column_host _ _ (by decide), subf_X2, mulf_X2, mean_eq, hlit_X2, addf_X2, hrsqrt_X2, column_host _ _ (by decide), mulf_X2,
    row_X1 _ _ (by decide), row_X1 _ _ (by decide), rows_X2 _ _ (by decide), rows_X2 _ _ (by decide), mulf_X2, addf_X2]
  rfl

/-- The reference's last result is these operations. -/
theorem res_eq (m : (ℓ : Loc nD τ sig) → Buf (Elt Ideal) ℓ) (c : Dev nD) : Cert.Reference8Ideal.Value.res_out2 m c
    = hostNormed (m ((c : Thread nD τ).loc main_arg6)) (m ((c : Thread nD τ).loc main_arg7)) (hostPre (m ((c : Thread nD τ).loc main_arg3)) (m ((c : Thread nD τ).loc main_arg5))
      (hostJoined (m ((c : Thread nD τ).loc main_arg0)) (m ((c : Thread nD τ).loc main_arg1)) (m ((c : Thread nD τ).loc main_arg2)) (m ((c : Thread nD τ).loc main_arg4)))) := rfl

end Cert.PostMix

end
-- ==== Proof.PostJoin.lean ====
/- The mixing step, kernel and reference side by side: both end at the joined rows, the residual with their projection and its layer norm. -/
module

public import proofs.«01_k».proof.Defs
public import proofs.«01_k».proof.Proof.PostBlock
public import proofs.«01_k».proof.Proof.PostRef

@[expose] public section

set_option maxRecDepth 16384

noncomputable section

namespace Cert.PostMix

open Cert.Lift Cert.Outer Cert.InProj Idealize.ShloMosaic Idealize.ShloMosaic.TcCoe Idealize.SL.Sem Finset

section Kernel
open Cert.Kernel8Ideal Cert.Kernel8Ideal.Gen Cert.Kernel8Ideal.Own

set_option maxHeartbeats 4000000 in
/-- The kernel's run. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v5_0) = X2 (m := 4224) (n := 1024) (J m c)
      ∧ r.2.mem ((c : Thread nD τ).loc main_v5_1) = X2 (m := 4224) (n := 1024) (Q m c)
      ∧ r.2.mem ((c : Thread nD τ).loc main_v5_2) = X2 (m := 4224) (n := 1024) (normed (Q m c) (aG m c) (aB m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run (defs (F := Ideal)) _ _).mono (fun r h c => ⟨((h.2 c).1 5).trans (result_o m c), ((h.2 c).1 6).trans (result_pre m c), ((h.2 c).1 7).trans (result_h m c), h.1.1 c⟩)
    (θ_run_and (frame m ρ) (run_main m ρ))

end Kernel

open Cert.Reference8Ideal Cert.Reference8Ideal.Gen in
/-- The value claim. -/
theorem algebraic : Cert.algebraic_Kernel8Ideal_Reference8Ideal := by
  intro m ρ m' ρ' _ heq
  refine ⟨_, _, _, kernel_run m ρ, (θ_run (defs (F := Ideal)) _ _).mono (fun r h c => ?_) (Cert.Reference8Ideal.Value.run m' ρ')⟩
  obtain ⟨o0, o1, o2, kept⟩ := h c
  obtain ⟨e0, e1, e2, e3, e4, e5, e6, e7⟩ := heq c
  have j := joined_eq (m' ((c : Thread nD τ).loc main_arg0)) (m' ((c : Thread nD τ).loc main_arg1)) (m' ((c : Thread nD τ).loc main_arg2)) (m' ((c : Thread nD τ).loc main_arg4))
  have p := (congrArg (hostPre (m' ((c : Thread nD τ).loc main_arg3)) (m' ((c : Thread nD τ).loc main_arg5))) j).trans (pre_eq _ _ _)
  have n := (congrArg (hostNormed (m' ((c : Thread nD τ).loc main_arg6)) (m' ((c : Thread nD τ).loc main_arg7))) p).trans (normed_eq _ _ _)
  rw [e0, e1, e2, e4] at j
  rw [e0, e1, e2, e3, e4, e5] at p
  rw [e0, e1, e2, e3, e4, e5, e6, e7] at n
  rw [e0, e1, e2, e4] at o0
  rw [e0, e1, e2, e3, e4, e5] at o1
  exact ⟨o0.trans j, o1.trans p, (o2.trans (res_eq m' c)).trans (by rw [e0, e1, e2, e3, e4, e5, e6, e7]; exact n), kept⟩

end Cert.PostMix

end
-- ==== Proof.InPrep.lean ====
/- What the host lines before the input projection make of its arguments: the four windows of the transposed weight, and the bias and
   the small weight padded with zeros. -/
module

public import proofs.«01_k».proof.Proof.InFrame
public import proofs.«01_k».proof.Proof.InMath

@[expose] public section

set_option maxRecDepth 16384

noncomputable section

namespace Cert.InProj

open Cert.Lift Cert.Outer Cert.Kernel6Ideal Cert.Kernel6Ideal.Gen Idealize.ShloMosaic Idealize.ShloMosaic.TcCoe Idealize.SL.Sem Finset

variable (m : (ℓ : Loc nD τ sig) → Buf (Elt Ideal) ℓ) (c : Dev nD)

/-! The arguments' entries: the rows that are projected, the weight, its bias, the small weight and its bias. -/
def aH : ℕ → ℕ → EReal := entries (m := 4224) (n := 1024) (m ((c : Thread nD τ).loc main_arg0))
def aW : ℕ → ℕ → EReal := entries (m := 1024) (n := 2320) (m ((c : Thread nD τ).loc main_arg1))
def aB : ℕ → EReal := vec (n := 2320) (m ((c : Thread nD τ).loc main_arg2))
def aG : ℕ → ℕ → EReal := entries (m := 16) (n := 256) (m ((c : Thread nD τ).loc main_arg3))
def aD : ℕ → EReal := vec (n := 256) (m ((c : Thread nD τ).loc main_arg4))

/-- The bias, padded, -/
theorem v22 : V m c main_v22 = X2 (m := 1) (n := 2432) fun _ j => aB m c j :=
  (show V m c main_v22 = pad S1x2432 ![0, 0] ![0, 112] ![0, 0] (shapeCast S1x2320 (m ((c : Thread nD τ).loc main_arg2)) shapeCasts_S2320_S1x2320)
    (sitofp (F := Ideal) .f32 (constantI S_ 32 0#32)) pads_S1x2320_S1x2432_000_01120 h_S_ from rfl).trans (by
    refine (pad_X2 0 112 _ _ _).trans (funext fun i => ?_)
    have h0 : (i 0).val = 0 := by have h0 : (i 0).val < 1 := (i 0).isLt; omega
    show entries _ (i 0).val (i 1).val = aB m c (i 1).val
    rw [X1_vec (n := 2320) (m ((c : Thread nD τ).loc main_arg2)), cast_X1]
    by_cases h : (i 1).val < 2320
    · exact entries_X2 _ _ _ (by omega) h
    · rw [entries_out _ _ _ (.inr (by omega))]
      exact (vec_out _ _ (by omega)).symm)

/-- the small weight, padded, -/
theorem v24 : V m c main_v24 = X2 (m := 128) (n := 256) (aG m c) :=
  (show V m c main_v24 = truncf (F := Ideal) (φ := .f32) .bf16 (pad S128x256 ![0, 0] ![112, 0] ![0, 0] (m ((c : Thread nD τ).loc main_arg3))
    (sitofp (F := Ideal) .f32 (constantI S_ 32 0#32)) pads_S16x256_S128x256_01120_000 h_S_) bitsLt_bf16_f32 from rfl).trans (by
    rw [show pad S128x256 ![0, 0] ![112, 0] ![0, 0] (m ((c : Thread nD τ).loc main_arg3)) (sitofp (F := Ideal) .f32 (constantI S_ 32 0#32))
      pads_S16x256_S128x256_01120_000 h_S_ = X2 (m := 128) (n := 256) (aG m c) from pad_X2 112 0 _ _ _]
    rfl)

/-- and its bias. -/
theorem v25 : V m c main_v25 = X2 (m := 1) (n := 256) fun _ j => aD m c j :=
  (show V m c main_v25 = shapeCast S1x256 (m ((c : Thread nD τ).loc main_arg4)) shapeCasts_S256_S1x256 from rfl).trans (by
    rw [X1_vec (n := 256) (m ((c : Thread nD τ).loc main_arg4))]; exact cast_X1 _ _)

/-- A window of the weight: 580 of its columns as rows, and 28 rows of zeros. -/
abbrev window (w : S1024x2320.Idx → EReal) (o : ℕ) (h : Shape.Slices ![0, o] S1024x580 (s := S1024x2320)) : S1x608x1024.Idx → EReal :=
  broadcastInDim S1x608x1024 ![1, 2] bcast_S608x1024_S1x608x1024_1_2 (pad S608x1024 ![0, 0] ![28, 0] ![0, 0]
    (truncf (F := Ideal) (φ := .f32) .bf16 (transpose S580x1024 [1, 0] (extractStridedSlice (s := S1024x2320) S1024x580 ![0, o] w h) transposes_S1024x580_S580x1024_1_0) bitsLt_bf16_f32)
    (sitofp (F := Ideal) .bf16 (constantI S_ 32 0#32)) pads_S580x1024_S608x1024_0280_000 h_S_)

theorem window_apply (w : S1024x2320.Idx → EReal) (o : ℕ) (h : Shape.Slices ![0, o] S1024x580 (s := S1024x2320)) (y : S1x608x1024.Idx) (hy : (y 1).val < 580) :
    window w o h y = entries w (y 2).val (o + (y 1).val) := by
  have e : pad S608x1024 ![0, 0] ![28, 0] ![0, 0]
      (truncf (F := Ideal) (φ := .f32) .bf16 (transpose S580x1024 [1, 0] (extractStridedSlice (s := S1024x2320) S1024x580 ![0, o] w h) transposes_S1024x580_S580x1024_1_0) bitsLt_bf16_f32)
      (sitofp (F := Ideal) .bf16 (constantI S_ 32 0#32)) pads_S580x1024_S608x1024_0280_000 h_S_
      = X2 (m := 608) (n := 1024) (entries (m := 580) (n := 1024) (X2 fun r k => entries w (0 + k) (o + r))) := by
    refine (pad_X2 28 0 _ _ _).trans ?_
    conv_lhs => rw [X2_entries w]
    rw [slice_X2, transpose_X2]; rfl
  unfold window
  rw [e]
  refine (?_ : entries (m := 580) (n := 1024) (X2 fun r k => entries w (0 + k) (o + r)) _ _ = _)
  have hk : (y 2).val < 1024 := (y 2).isLt
  simp only [S608x1024, S1x608x1024]
  refine (entries_X2 _ _ _ ?_ ?_).trans ?_
  all_goals simp [hy, hk]

/-- The four windows, one after the other, -/
abbrev four (w : S1024x2320.Idx → EReal) : List ((s : Shape) × (s.Idx → EReal)) :=
  [⟨S1x608x1024, window w 0 slices_S1024x2320_S1024x580_0_0⟩, ⟨S1x608x1024, window w 580 slices_S1024x2320_S1024x580_0_580⟩,
    ⟨S1x608x1024, window w 1160 slices_S1024x2320_S1024x580_0_1160⟩, ⟨S1x608x1024, window w 1740 slices_S1024x2320_S1024x580_0_1740⟩]

theorem four_apply (w : S1024x2320.Idx → EReal) (k : ℕ) (hk : k < 4) (h : Shape.Slices ![0, 580 * k] S1024x580 (s := S1024x2320))
    (hx : (four w)[k]'hk = ⟨S1x608x1024, window w (580 * k) h⟩) (j : S4x608x1024.Idx) (hj : (j 0).val = k) (hr : (j 1).val < 580) :
    concatenate S4x608x1024 0 (four w) concatenates_S1x608x1024_S1x608x1024_S1x608x1024_S1x608x1024_S4x608x1024_d0 j
      = entries w (j 2).val (580 * k + (j 1).val) := by
  refine (concatenate_apply_piece 0 (four w) concatenates_S1x608x1024_S1x608x1024_S1x608x1024_S1x608x1024_S4x608x1024_d0 j k hk S1x608x1024 (window w (580 * k) h) hx rfl k ?_
    (Idealize.ShloMosaic.ix3 0 (j 1) (j 2)) (fun b hb => by match b with | ⟨0, _⟩ => exact absurd rfl hb | ⟨1, _⟩ => rfl | ⟨2, _⟩ => rfl) ?_).trans ?_
  · match k, hk with
    | 0, _ => simp
    | 1, _ => simp
    | 2, _ => simp
    | 3, _ => simp
  · show k + 0 = (j 0).val; omega
  · exact window_apply _ _ _ _ hr

/-- and read at a row of one of them. -/
theorem v20 (j : S4x608x1024.Idx) (hr : (j 1).val < 580) : V m c main_v20 j = aW m c (j 2).val (580 * (j 0).val + (j 1).val) := by
  refine (show V m c main_v20 j = concatenate S4x608x1024 0 (four (m ((c : Thread nD τ).loc main_arg1)))
    concatenates_S1x608x1024_S1x608x1024_S1x608x1024_S1x608x1024_S4x608x1024_d0 j from rfl).trans ?_
  have hj : (j 0).val < 4 := (j 0).isLt
  by_cases c0 : (j 0).val = 0
  · rw [c0]; exact four_apply _ 0 (by omega) slices_S1024x2320_S1024x580_0_0 rfl j c0 hr
  by_cases c1 : (j 0).val = 1
  · rw [c1]; exact four_apply _ 1 (by omega) slices_S1024x2320_S1024x580_0_580 rfl j c1 hr
  by_cases c2 : (j 0).val = 2
  · rw [c2]; exact four_apply _ 2 (by omega) slices_S1024x2320_S1024x580_0_1160 rfl j c2 hr
  · have c3 : (j 0).val = 3 := by omega
    rw [c3]; exact four_apply _ 3 (by omega) slices_S1024x2320_S1024x580_0_1740 rfl j c3 hr

end Cert.InProj

end
-- ==== Proof.InBlock.lean ====
/- The input projection's results: the resident weight is the padded, transposed weight, and each block of 384 rows of each result is
   those rows of its columns of the projection. -/
module

public import proofs.«01_k».proof.Proof.InPrep
public import Idealize.ShloMosaic.Lib.Pipeline.ReadBack
public import Idealize.ShloMosaic.Lib.WholeRead

@[expose] public section

set_option maxRecDepth 16384

noncomputable section

namespace Cert.InProj

open Cert.Lift Cert.Outer Cert.Kernel6Ideal Cert.Kernel6Ideal.Gen Cert.Kernel6Ideal.Own Idealize.ShloMosaic Idealize.ShloMosaic.TcCoe Idealize.SL.Sem Finset
open Idealize.ShloMosaic.Pipeline (Dat)

variable (m : (ℓ : Loc nD τ sig) → Buf (Elt Ideal) ℓ) (c : Dev nD) (t : Fin cfg0.N)

/-! ### The blocks -/
theorem h_index : ∀ t : Fin cfg0.N, win0_0.index t = ![t.val, 0] := (by decide +kernel : ∀ t : Fin grid0.N, win0_0.index t = ![t.val, 0])
theorem w_index : ∀ t : Fin cfg0.N, win0_1.index t = ![0, 0, 0] := (by decide +kernel : ∀ t : Fin grid0.N, win0_1.index t = ![0, 0, 0])
theorem b_index : ∀ t : Fin cfg0.N, win0_2.index t = ![0, 0] := (by decide +kernel : ∀ t : Fin grid0.N, win0_2.index t = ![0, 0])
theorem g_index : ∀ t : Fin cfg0.N, win0_3.index t = ![0, 0] := (by decide +kernel : ∀ t : Fin grid0.N, win0_3.index t = ![0, 0])
theorem d_index : ∀ t : Fin cfg0.N, win0_4.index t = ![0, 0] := (by decide +kernel : ∀ t : Fin grid0.N, win0_4.index t = ![0, 0])

theorem h_blk : iblk m c 0 t = X2 (m := 384) (n := 1024) fun r k => aH m c (t.val * 384 + r) k := by
  funext y
  blk_simp [iblk]
  rw [show V m c main_arg0 = X2 (m := 4224) (n := 1024) (aH m c) from (V_main_arg0 m c).trans (X2_entries _)]
  refine (?_ : aH m c ((win0_0.blk t).view.emb y 0).val ((win0_0.blk t).view.emb y 1).val = _)
  blk_simp [h_index]
  all_goals first | rfl | simp [X2]
theorem b_blk : iblk m c 2 t = X2 (m := 1) (n := 2432) fun _ j => aB m c j := by
  funext y
  blk_simp [iblk]
  rw [show V m c main_v22 = X2 (m := 1) (n := 2432) (fun _ j => aB m c j) from v22 m c]
  refine (?_ : aB m c ((win0_2.blk t).view.emb y 1).val = _)
  blk_simp [b_index]
  all_goals first | rfl | simp [X2]
theorem g_blk : iblk m c 3 t = X2 (m := 128) (n := 256) (aG m c) := by
  funext y
  blk_simp [iblk]
  rw [show V m c main_v24 = X2 (m := 128) (n := 256) (aG m c) from v24 m c]
  refine (?_ : aG m c ((win0_3.blk t).view.emb y 0).val ((win0_3.blk t).view.emb y 1).val = _)
  blk_simp [g_index]
  all_goals first | rfl | simp [X2]
theorem d_blk : iblk m c 4 t = X2 (m := 1) (n := 256) fun _ j => aD m c j := by
  funext y
  blk_simp [iblk]
  rw [show V m c main_v25 = X2 (m := 1) (n := 256) (fun _ j => aD m c j) from v25 m c]
  refine (?_ : aD m c ((win0_4.blk t).view.emb y 1).val = _)
  blk_simp [d_index]
  all_goals first | rfl | simp [X2]
theorem w_blk (y : S4x608x1024.Idx) (hy : (y 1).val < 580) : iblk m c 1 t y = aW m c (y 2).val (580 * (y 0).val + (y 1).val) := by
  blk_simp [iblk]
  refine (v20 m c _ ?_).trans ?_
  · blk_simp [w_index]
    simpa using hy
  · blk_simp [w_index]
    all_goals first | rfl | simp

/-! ### The resident weight -/

/-- One window's rows as they are stored. -/
theorem stacked_at (a : Memref sig .tc .vmem S4x608x1024 .bf16) (ha : a.IsWhole) (x : S4x608x1024.Idx → EReal) (s : Fin 4)
    (inb : ∀ b, ![s.val, 0, 0] b + S1x580x1024.size b ≤ S4x608x1024.size b) (y : S580x1024.Idx) (hy : (y 0).val < 608) :
    stacked (F := Ideal) (View.readAt (Elt Ideal) a.view (Rect.unit (s := S4x608x1024) ![s.val, 0, 0] S1x580x1024.size inb).toLoadRect (ha.unread x)) y
      = x (Idealize.ShloMosaic.ix3 s ⟨(y 0).val, hy⟩ (y 1)) := by
  unfold stacked
  rw [shapeCast_self, shapeCast_apply (s := S1x580x1024) (t := S580x1024) _ _ y (Idealize.ShloMosaic.ix3 0 (y 0) (y 1)) (by
    simp [Shape.rowMajor_val_two, Shape.rowMajor_val_three])]
  refine (ha.readAt_unread _ _ _).trans (congrArg x (funext fun b => Fin.ext ?_))
  match b with
  | 0 => simp
  | 1 => simp
  | 2 => simp

theorem resident_eq : resident m c = X2 (m := 2432) (n := 1024) fun j k => aW m c k j := by
  unfold resident
  rw [View.read_writes_junk_eq_canon]
  funext y
  refine View.canon_apply_of_pieces (Val := Elt Ideal) (S := S2432x1024) (e := .bf16) (X2 fun j k => aW m c k j) _ ?_ y (cover_w c _ _ _ _ _ y)
  unfold runFill; dsimp only
  simp only [List.forall_mem_cons, List.not_mem_nil, false_imp_iff, implies_true, and_true]
  have hx : ∀ x : S580x1024.Idx, (x 0).val < 580 := fun x => (x 0).isLt
  refine ⟨fun x => ?_, fun x => ?_, fun x => ?_, fun x => ?_, fun x => ?_⟩
  · have h2 : aW m c (x 1).val (2320 + (x 0).val) = 0 := entries_out _ _ _ (.inr (Nat.le_add_right _ _))
    refine Eq.trans ?_ (h2.symm.trans ?_)
    · unfold cleared
      rw [shapeCast_self]
      simp [broadcast]
    · simp [X2]
  · refine (stacked_at _ _ _ 3 _ x (by have := hx x; omega)).trans ((w_blk m c t0_0 _ (hx x)).trans ?_)
    simp [X2]
  · refine (stacked_at _ _ _ 2 _ x (by have := hx x; omega)).trans ((w_blk m c t0_0 _ (hx x)).trans ?_)
    simp [X2]
  · refine (stacked_at _ _ _ 1 _ x (by have := hx x; omega)).trans ((w_blk m c t0_0 _ (hx x)).trans ?_)
    simp [X2]
  · refine (stacked_at _ _ _ 0 _ x (by have := hx x; omega)).trans ((w_blk m c t0_0 _ (hx x)).trans ?_)
    simp [X2]

/-! ### A block of the projection -/
theorem main_mm (f g : ℕ → ℕ → EReal) : matmul (F := Ideal) (φ₁ := .bf16) (φ₂ := .bf16) dot_S384x1024_S2432x1024_S384x2432_1_1_0_0_n_n none (X2 f) (X2 g)
    (constant S384x2432 .f32 0x00000000#32) = X2 fun i j => ∑ k ∈ range 1024, f i k * g j k :=
  cols_mm _ rfl rfl none f g (fun _ _ => ⟨rfl, rfl⟩) fun _ _ => ⟨rfl, rfl⟩
theorem gate_mm (f g : ℕ → ℕ → EReal) : matmul (F := Ideal) (φ₁ := .bf16) (φ₂ := .bf16) dot_S384x128_S128x256_S384x256_1_0_0_1_n_n none (X2 f) (X2 g)
    (constant S384x256 .f32 0x00000000#32) = X2 fun i j => ∑ k ∈ range 128, f i k * g k j :=
  plain_mm _ rfl rfl none f g (fun _ _ => ⟨rfl, rfl⟩) fun _ _ => ⟨rfl, rfl⟩

/-- The projection's entries, over the arguments, -/
abbrev P : ℕ → ℕ → EReal := proj (aH m c) (aW m c) (aB m c)

theorem block_eq : Own.proj (F := Ideal) (iblk m c 0 t) (X2 (m := 2432) (n := 1024) fun j k => aW m c k j) (iblk m c 2 t) = X2 (m := 384) (n := 2432) fun r j => P m c (t.val * 384 + r) j := by
  rw [h_blk, b_blk]
  unfold Own.proj
  rw [shapeCast_X2, row_X2 _ _ (by decide), truncf_X2, main_mm, addf_X2]
  rfl

theorem cut_X2 {w : ℕ} (f : ℕ → ℕ → EReal) (o : ℕ) (hs : S384x2432.Slices ![0, o] (Mat 384 w)) (hc) :
    cut (F := Ideal) (s' := Mat 384 w) ![0, o] (X2 f) hs hc = X2 fun r j => f r (o + j) := by
  unfold cut
  refine (shapeCast_self _ _).trans ?_
  funext y
  show f (0 + (y 0).val) _ = f (y 0).val _
  rw [Nat.zero_add]; rfl

/-- and the gate's, with the padded small weight. -/
theorem gate_eq (f : ℕ → ℕ → EReal) : gate (F := Ideal) (X2 f) (iblk m c 3 t) (iblk m c 4 t)
    = X2 (m := 384) (n := 256) fun r j => ∑ k ∈ range 128, f r (2304 + k) * aG m c k j + aD m c j := by
  rw [g_blk, d_blk]
  unfold gate
  rw [slice_X2, truncf_X2, shapeCast_X2, shapeCast_X2, row_X2 _ _ (by decide), gate_mm, addf_X2, shapeCast_X2]
  simp only [Nat.zero_add]

/-! ### What a point leaves in each result's buffer -/
theorem left_ks : (dats m 0 c).after 6 t = X2 (m := 384) (n := 128) fun r j => P m c (t.val * 384 + r) (512 + j) := by
  rw [after6]
  unfold pieces
  rw [resident_eq]
  unfold runProject
  frame_out
  rw [block_eq]
  exact cut_X2 _ _ _ _
theorem left_vs : (dats m 0 c).after 7 t = X2 (m := 384) (n := 128) fun r j => P m c (t.val * 384 + r) (640 + j) := by
  rw [after7]
  unfold pieces
  rw [resident_eq]
  unfold runProject
  frame_out
  rw [block_eq]
  exact cut_X2 _ _ _ _
theorem left_qg : (dats m 0 c).after 8 t = X2 (m := 384) (n := 256) fun r j => P m c (t.val * 384 + r) (768 + j) := by
  rw [after8]
  unfold pieces
  rw [resident_eq]
  unfold runProject
  frame_out
  rw [block_eq]
  exact cut_X2 _ _ _ _
theorem left_kg : (dats m 0 c).after 9 t = X2 (m := 384) (n := 256) fun r j => P m c (t.val * 384 + r) (1024 + j) := by
  rw [after9]
  unfold pieces
  rw [resident_eq]
  unfold runProject
  frame_out
  rw [block_eq]
  exact cut_X2 _ _ _ _
theorem left_vg : (dats m 0 c).after 10 t = X2 (m := 384) (n := 512) fun r j => P m c (t.val * 384 + r) (1280 + j) := by
  rw [after10]
  unfold pieces
  rw [resident_eq]
  unfold runProject
  frame_out
  rw [block_eq]
  exact cut_X2 _ _ _ _
theorem left_rg : (dats m 0 c).after 11 t = X2 (m := 384) (n := 512) fun r j => P m c (t.val * 384 + r) (1792 + j) := by
  rw [after11]
  unfold pieces
  rw [resident_eq]
  unfold runProject
  frame_out
  rw [block_eq]
  exact cut_X2 _ _ _ _
theorem left_gl : (dats m 0 c).after 12 t = X2 (m := 384) (n := 128) fun r j => P m c (t.val * 384 + r) (2304 + j) := by
  rw [after12]
  unfold pieces
  rw [resident_eq]
  unfold runProject
  frame_out
  rw [block_eq]
  exact cut_X2 _ _ _ _
theorem left_z : (dats m 0 c).after 13 t = X2 (m := 384) (n := 256) fun r j => logits 128 (aH m c) (aW m c) (aB m c) (aG m c) (aD m c) (t.val * 384 + r) j := by
  rw [after13]
  unfold pieces
  rw [resident_eq]
  unfold runProject
  frame_out
  rw [block_eq]
  exact gate_eq m c t _
theorem left_q : (dats m 0 c).after 5 t = X2 (m := 384) (n := 512) fun r j => P m c (t.val * 384 + r) (order j) := by
  rw [after5, View.read_writes_junk_eq_canon]
  funext y
  unfold pieces
  rw [resident_eq]
  refine View.canon_apply_of_pieces (Val := Elt Ideal) (S := S384x512) (e := .f32) (X2 fun r j => P m c (t.val * 384 + r) (order j)) _ ?_ y
    (cover_q c _ _ _ _ _ _ _ _ _ _ _ _ _ _ _ _ _ _ _ _ _ _ _ _ y)
  unfold runProject
  frame_out
  rw [block_eq]
  simp only [List.forall_mem_cons, List.not_mem_nil, false_imp_iff, implies_true, and_true]
  have key : ∀ (o o' : ℕ) (hs : S384x2432.Slices ![0, o] S384x64) (hc) (inb : ∀ a, ![0, o'] a + S384x64.size a ≤ S384x512.size a) (x : S384x64.Idx),
      (∀ j < 64, order (o' + j) = o + j) → cut (F := Ideal) ![0, o] (X2 fun r j => P m c (t.val * 384 + r) j) hs hc x
        = X2 (m := 384) (n := 512) (fun r j => P m c (t.val * 384 + r) (order j)) ((Rect.unit (s := S384x512) ![0, o'] S384x64.size inb).emb x) := by
    intro o o' hs hc inb x ho
    refine (congrFun (cut_X2 (w := 64) _ o hs hc) x).trans ?_
    show P m c _ (o + (x 1).val) = P m c _ (order _)
    rw [← ho _ (x 1).isLt]
    simp
  refine ⟨fun x => ?_, fun x => ?_, fun x => ?_, fun x => ?_, fun x => ?_, fun x => ?_, fun x => ?_, fun x => ?_⟩
  all_goals exact key _ _ _ _ _ _ fun j hj => by unfold order; omega

/-! ### The results -/
theorem q_index : ∀ t : Fin cfg0.N, win0_5.index t = ![t.val, 0] := (by decide +kernel : ∀ t : Fin grid0.N, win0_5.index t = ![t.val, 0])
theorem ks_index : ∀ t : Fin cfg0.N, win0_6.index t = ![t.val, 0] := (by decide +kernel : ∀ t : Fin grid0.N, win0_6.index t = ![t.val, 0])
theorem vs_index : ∀ t : Fin cfg0.N, win0_7.index t = ![t.val, 0] := (by decide +kernel : ∀ t : Fin grid0.N, win0_7.index t = ![t.val, 0])
theorem qg_index : ∀ t : Fin cfg0.N, win0_8.index t = ![t.val, 0] := (by decide +kernel : ∀ t : Fin grid0.N, win0_8.index t = ![t.val, 0])
theorem kg_index : ∀ t : Fin cfg0.N, win0_9.index t = ![t.val, 0] := (by decide +kernel : ∀ t : Fin grid0.N, win0_9.index t = ![t.val, 0])
theorem vg_index : ∀ t : Fin cfg0.N, win0_10.index t = ![t.val, 0] := (by decide +kernel : ∀ t : Fin grid0.N, win0_10.index t = ![t.val, 0])
theorem rg_index : ∀ t : Fin cfg0.N, win0_11.index t = ![t.val, 0] := (by decide +kernel : ∀ t : Fin grid0.N, win0_11.index t = ![t.val, 0])
theorem gl_index : ∀ t : Fin cfg0.N, win0_12.index t = ![t.val, 0] := (by decide +kernel : ∀ t : Fin grid0.N, win0_12.index t = ![t.val, 0])
theorem z_index : ∀ t : Fin cfg0.N, win0_13.index t = ![t.val, 0] := (by decide +kernel : ∀ t : Fin grid0.N, win0_13.index t = ![t.val, 0])
theorem r_index : ∀ t : Fin cfg0.N, win0_14.index t = ![0, 0] := (by decide +kernel : ∀ t : Fin grid0.N, win0_14.index t = ![0, 0])

theorem result_q : (dats m 0 c).arrAt 5 cfg0.N = X2 (m := 4224) (n := 512) fun r j => P m c r (order j) := by
  refine (dats m 0 c).arrAt_eq_of_covers 5 _ (by decide +kernel) fun t hw y => ?_
  blk_simp
  rw [left_q]
  refine (?_ : _ = P m c ((win0_5.blk t).view.emb y 0).val (order ((win0_5.blk t).view.emb y 1).val))
  blk_simp [q_index]
  all_goals first | rfl | simp [X2]
theorem result_ks : (dats m 0 c).arrAt 6 cfg0.N = X2 (m := 4224) (n := 128) fun r j => P m c r (512 + j) := by
  refine (dats m 0 c).arrAt_eq_of_covers 6 _ (by decide +kernel) fun t hw y => ?_
  blk_simp
  rw [left_ks]
  refine (?_ : _ = P m c ((win0_6.blk t).view.emb y 0).val (512 + ((win0_6.blk t).view.emb y 1).val))
  blk_simp [ks_index]
  all_goals first | rfl | simp [X2]
theorem result_vs : (dats m 0 c).arrAt 7 cfg0.N = X2 (m := 4224) (n := 128) fun r j => P m c r (640 + j) := by
  refine (dats m 0 c).arrAt_eq_of_covers 7 _ (by decide +kernel) fun t hw y => ?_
  blk_simp
  rw [left_vs]
  refine (?_ : _ = P m c ((win0_7.blk t).view.emb y 0).val (640 + ((win0_7.blk t).view.emb y 1).val))
  blk_simp [vs_index]
  all_goals first | rfl | simp [X2]
theorem result_qg : (dats m 0 c).arrAt 8 cfg0.N = X2 (m := 4224) (n := 256) fun r j => P m c r (768 + j) := by
  refine (dats m 0 c).arrAt_eq_of_covers 8 _ (by decide +kernel) fun t hw y => ?_
  blk_simp
  rw [left_qg]
  refine (?_ : _ = P m c ((win0_8.blk t).view.emb y 0).val (768 + ((win0_8.blk t).view.emb y 1).val))
  blk_simp [qg_index]
  all_goals first | rfl | simp [X2]
theorem result_kg : (dats m 0 c).arrAt 9 cfg0.N = X2 (m := 4224) (n := 256) fun r j => P m c r (1024 + j) := by
  refine (dats m 0 c).arrAt_eq_of_covers 9 _ (by decide +kernel) fun t hw y => ?_
  blk_simp
  rw [left_kg]
  refine (?_ : _ = P m c ((win0_9.blk t).view.emb y 0).val (1024 + ((win0_9.blk t).view.emb y 1).val))
  blk_simp [kg_index]
  all_goals first | rfl | simp [X2]
theorem result_vg : (dats m 0 c).arrAt 10 cfg0.N = X2 (m := 4224) (n := 512) fun r j => P m c r (1280 + j) := by
  refine (dats m 0 c).arrAt_eq_of_covers 10 _ (by decide +kernel) fun t hw y => ?_
  blk_simp
  rw [left_vg]
  refine (?_ : _ = P m c ((win0_10.blk t).view.emb y 0).val (1280 + ((win0_10.blk t).view.emb y 1).val))
  blk_simp [vg_index]
  all_goals first | rfl | simp [X2]
theorem result_rg : (dats m 0 c).arrAt 11 cfg0.N = X2 (m := 4224) (n := 512) fun r j => P m c r (1792 + j) := by
  refine (dats m 0 c).arrAt_eq_of_covers 11 _ (by decide +kernel) fun t hw y => ?_
  blk_simp
  rw [left_rg]
  refine (?_ : _ = P m c ((win0_11.blk t).view.emb y 0).val (1792 + ((win0_11.blk t).view.emb y 1).val))
  blk_simp [rg_index]
  all_goals first | rfl | simp [X2]
theorem result_gl : (dats m 0 c).arrAt 12 cfg0.N = X2 (m := 4224) (n := 128) fun r j => P m c r (2304 + j) := by
  refine (dats m 0 c).arrAt_eq_of_covers 12 _ (by decide +kernel) fun t hw y => ?_
  blk_simp
  rw [left_gl]
  refine (?_ : _ = P m c ((win0_12.blk t).view.emb y 0).val (2304 + ((win0_12.blk t).view.emb y 1).val))
  blk_simp [gl_index]
  all_goals first | rfl | simp [X2]
theorem result_z : (dats m 0 c).arrAt 13 cfg0.N = X2 (m := 4224) (n := 256) fun r j => logits 128 (aH m c) (aW m c) (aB m c) (aG m c) (aD m c) r j := by
  refine (dats m 0 c).arrAt_eq_of_covers 13 _ (by decide +kernel) fun t hw y => ?_
  blk_simp
  rw [left_z]
  refine (?_ : _ = logits 128 (aH m c) (aW m c) (aB m c) (aG m c) (aD m c) ((win0_13.blk t).view.emb y 0).val ((win0_13.blk t).view.emb y 1).val)
  blk_simp [z_index]
  all_goals first | rfl | simp [X2]
theorem result_w : (dats m 0 c).arrAt 14 cfg0.N = X2 (m := 2432) (n := 1024) fun j k => aW m c k j := by
  refine (dats m 0 c).arrAt_eq_of_covers 14 _ (by decide +kernel) fun t hw y => ?_
  blk_simp
  rw [after14, resident_eq]
  refine (?_ : _ = aW m c ((win0_14.blk t).view.emb y 1).val ((win0_14.blk t).view.emb y 0).val)
  blk_simp [r_index]
  all_goals first | rfl | simp [X2]

end Cert.InProj

end
-- ==== Proof.InJoin.lean ====
/- The input projection, kernel and reference side by side: both end at the projection's columns, the gate's logits and the padded,
   transposed weight. -/
module

public import proofs.«01_k».proof.Defs
public import proofs.«01_k».proof.Proof.InBlock
public import proofs.«01_k».proof.Proof.Gen.Reference6Ideal.Run

@[expose] public section

set_option maxRecDepth 16384

noncomputable section

namespace Cert.InProj

open Cert.Lift Cert.Outer Idealize.ShloMosaic Idealize.ShloMosaic.TcCoe Idealize.SL.Sem Finset

section Kernel
open Cert.Kernel6Ideal Cert.Kernel6Ideal.Gen Cert.Kernel6Ideal.Own

/-- The small weight has 16 rows. -/
theorem result_z' (m : (ℓ : Loc nD τ sig) → Buf (Elt Ideal) ℓ) (c : Dev nD) :
    (dats m 0 c).arrAt 13 cfg0.N = X2 (m := 4224) (n := 256) fun r j => logits 16 (aH m c) (aW m c) (aB m c) (aG m c) (aD m c) r j :=
  (result_z m c).trans (by rw [logits_short (aH m c) (aW m c) (aB m c) (aG m c) (aD m c) fun k j h => entries_out _ _ _ (.inl h)])

set_option maxHeartbeats 4000000 in
/-- The kernel's run. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v26_0) = X2 (m := 4224) (n := 512) (fun r j => P m c r (order j))
      ∧ r.2.mem ((c : Thread nD τ).loc main_v26_1) = X2 (m := 4224) (n := 128) (fun r j => P m c r (512 + j))
      ∧ r.2.mem ((c : Thread nD τ).loc main_v26_2) = X2 (m := 4224) (n := 128) (fun r j => P m c r (640 + j))
      ∧ r.2.mem ((c : Thread nD τ).loc main_v26_3) = X2 (m := 4224) (n := 256) (fun r j => P m c r (768 + j))
      ∧ r.2.mem ((c : Thread nD τ).loc main_v26_4) = X2 (m := 4224) (n := 256) (fun r j => P m c r (1024 + j))
      ∧ r.2.mem ((c : Thread nD τ).loc main_v26_5) = X2 (m := 4224) (n := 512) (fun r j => P m c r (1280 + j))
      ∧ r.2.mem ((c : Thread nD τ).loc main_v26_6) = X2 (m := 4224) (n := 512) (fun r j => P m c r (1792 + j))
      ∧ r.2.mem ((c : Thread nD τ).loc main_v26_7) = X2 (m := 4224) (n := 128) (fun r j => P m c r (2304 + j))
      ∧ r.2.mem ((c : Thread nD τ).loc main_v26_8) = X2 (m := 4224) (n := 256) (fun r j => logits 16 (aH m c) (aW m c) (aB m c) (aG m c) (aD m c) r j)
      ∧ r.2.mem ((c : Thread nD τ).loc main_v26_9) = X2 (m := 2432) (n := 1024) (fun j k => aW m c k j)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run (defs (F := Ideal)) _ _).mono (fun r h c => ⟨((h.2 c).1 5).trans (result_q m c), ((h.2 c).1 6).trans (result_ks m c), ((h.2 c).1 7).trans (result_vs m c), ((h.2 c).1 8).trans (result_qg m c), ((h.2 c).1 9).trans (result_kg m c), ((h.2 c).1 10).trans (result_vg m c), ((h.2 c).1 11).trans (result_rg m c), ((h.2 c).1 12).trans (result_gl m c), ((h.2 c).1 13).trans (result_z' m c), ((h.2 c).1 14).trans (result_w m c),
      h.1.1 c⟩)
    (θ_run_and (frame m ρ) (run_main m ρ))

end Kernel

section Reference
open Cert.Reference6Ideal Cert.Reference6Ideal.Gen

theorem main_host (f g : ℕ → ℕ → EReal) : Host.dotGeneral (F := Ideal) (φ₁ := .f32) (φ₂ := .f32) dot_S4224x1024_S1024x2320_S4224x2320_1_0_0_1_n_n none (X2 f) (X2 g)
    = X2 fun i j => ∑ k ∈ range 1024, f i k * g k j :=
  plain_host _ rfl rfl none f g (fun _ _ => ⟨rfl, rfl⟩) fun _ _ => ⟨rfl, rfl⟩
theorem gate_host (f g : ℕ → ℕ → EReal) : Host.dotGeneral (F := Ideal) (φ₁ := .f32) (φ₂ := .f32) dot_S4224x16_S16x256_S4224x256_1_0_0_1_n_n none (X2 f) (X2 g)
    = X2 fun i j => ∑ k ∈ range 16, f i k * g k j :=
  plain_host _ rfl rfl none f g (fun _ _ => ⟨rfl, rfl⟩) fun _ _ => ⟨rfl, rfl⟩

variable (h : S4224x1024.Idx → EReal) (w : S1024x2320.Idx → EReal) (b : S2320.Idx → EReal) (g : S16x256.Idx → EReal) (d : S256.Idx → EReal)

/-- The projection, on the host; -/
abbrev whole : S4224x2320.Idx → EReal :=
  addf (F := Ideal) (s := S4224x2320) (φ := .f32) (Host.dotGeneral (F := Ideal) (φ₁ := .f32) (φ₂ := .f32) dot_S4224x1024_S1024x2320_S4224x2320_1_0_0_1_n_n none h w)
    (broadcastInDim S4224x2320 ![0, 1] bcast_S1x2320_S4224x2320_0_1 (broadcastInDim S1x2320 ![1] bcast_S2320_S1x2320_1 b))

theorem whole_eq : whole h w b = X2 (proj (entries h) (entries w) (vec b)) := by
  unfold whole
  conv_lhs => rw [X2_entries h, X2_entries w, X1_vec b]
  rw [main_host, row_X1 _ _ (by decide), rows_X2 _ _ (by decide), addf_X2]
  rfl

/-- a slice of its columns; -/
theorem part {n : ℕ} (o : ℕ) (hs : Shape.Slices ![0, o] (Mat 4224 n) (s := S4224x2320)) :
    extractStridedSlice (s := S4224x2320) (Mat 4224 n) ![0, o] (whole h w b) hs = X2 fun r j => proj (entries h) (entries w) (vec b) r (o + j) := by
  rw [whole_eq]
  refine (slice_X2 _ 0 o hs).trans ?_
  simp only [Nat.zero_add]

/-- the low rank gate, padded; -/
theorem low : pad S4224x128 ![0, 0] ![0, 112] ![0, 0] (extractStridedSlice (s := S4224x2320) S4224x16 ![0, 2304] (whole h w b) slices_S4224x2320_S4224x16_0_2304)
      (sitofp (F := Ideal) .f32 (constantI S_ 32 0#32)) pads_S4224x16_S4224x128_000_01120 h_S_
    = X2 (m := 4224) (n := 128) fun r j => proj (entries h) (entries w) (vec b) r (2304 + j) := by
  refine (pad_X2 0 112 _ _ _).trans (funext fun i => ?_)
  rw [part]
  show entries _ (i 0).val (i 1).val = proj _ _ _ (i 0).val (2304 + (i 1).val)
  by_cases hj : (i 1).val < 16
  · exact entries_X2 _ _ _ (i 0).isLt hj
  · rw [entries_out _ _ _ (.inr (by omega))]
    exact (proj_out _ _ _ _ _ (fun k => entries_out _ _ _ (.inr (by omega))) (vec_out _ _ (by omega))).symm

/-- the gate's logits; -/
theorem logits_eq : addf (F := Ideal) (s := S4224x256) (φ := .f32) (Host.dotGeneral (F := Ideal) (φ₁ := .f32) (φ₂ := .f32) dot_S4224x16_S16x256_S4224x256_1_0_0_1_n_n none
      (extractStridedSlice (s := S4224x2320) S4224x16 ![0, 2304] (whole h w b) slices_S4224x2320_S4224x16_0_2304) g)
    (broadcastInDim S4224x256 ![0, 1] bcast_S1x256_S4224x256_0_1 (broadcastInDim S1x256 ![1] bcast_S256_S1x256_1 d))
    = X2 (m := 4224) (n := 256) fun r j => logits 16 (entries h) (entries w) (vec b) (entries g) (vec d) r j := by
  rw [part]
  conv_lhs => rw [X2_entries g, X1_vec d]
  rw [gate_host, row_X1 _ _ (by decide), rows_X2 _ _ (by decide), addf_X2]
  rfl

/-- the transposed weight, padded; -/
theorem turned : truncf (F := Ideal) (s := S2432x1024) (φ := .f32) .bf16 (pad S2432x1024 ![0, 0] ![112, 0] ![0, 0]
      (transpose S2320x1024 [1, 0] w transposes_S1024x2320_S2320x1024_1_0) (sitofp (F := Ideal) .f32 (constantI S_ 32 0#32)) pads_S2320x1024_S2432x1024_01120_000 h_S_) bitsLt_bf16_f32
    = X2 (m := 2432) (n := 1024) fun j k => entries w k j := by
  rw [show pad S2432x1024 ![0, 0] ![112, 0] ![0, 0] (transpose S2320x1024 [1, 0] w transposes_S1024x2320_S2320x1024_1_0) (sitofp (F := Ideal) .f32 (constantI S_ 32 0#32))
    pads_S2320x1024_S2432x1024_01120_000 h_S_ = X2 (m := 2432) (n := 1024) _ from pad_X2 112 0 _ _ _, truncf_X2]
  conv_lhs => rw [X2_entries w]
  rw [transpose_X2]
  funext i
  show entries _ (i 0).val (i 1).val = entries w (i 1).val (i 0).val
  by_cases hj : (i 0).val < 2320
  · exact entries_X2 _ _ _ hj (i 1).isLt
  · rw [entries_out _ _ _ (.inl (by omega)), entries_out w _ _ (.inr (by omega))]

/-- and the first 512 columns, with the heads in their order. -/
theorem heads (f : ℕ → ℕ → EReal) : shapeCast S4224x512 (transpose S4224x4x2x64 [0, 2, 1, 3] (shapeCast S4224x2x4x64 (X2 (m := 4224) (n := 512) f) shapeCasts_S4224x512_S4224x2x4x64)
      transposes_S4224x2x4x64_S4224x4x2x64_0_2_1_3) shapeCasts_S4224x4x2x64_S4224x512 = X2 (m := 4224) (n := 512) fun r j => f r (order j) := by
  funext y
  have hy : (y 1).val < 512 := (y 1).isLt
  rw [shapeCast_apply (s := S4224x4x2x64) (t := S4224x512) _ _ y (Idealize.ShloMosaic.ix4 (y 0) ⟨(y 1).val / 128, by omega⟩ ⟨(y 1).val / 64 % 2, by omega⟩ ⟨(y 1).val % 64, by omega⟩) (by
      simp [Shape.rowMajor_val_two, Shape.rowMajor_val_four]; omega),
    transpose_apply (s := S4224x2x4x64) (t := S4224x4x2x64) _ _ _ _
      (Idealize.ShloMosaic.ix4 (y 0) ⟨(y 1).val / 64 % 2, by omega⟩ ⟨(y 1).val / 128, by omega⟩ ⟨(y 1).val % 64, by omega⟩) (fun a => by
      match a with
      | 0 => rfl
      | 1 => rfl
      | 2 => rfl
      | 3 => rfl),
    shapeCast_apply (s := S4224x512) (t := S4224x2x4x64) _ _ _
      (Idealize.ShloMosaic.ix2 (y 0) ⟨order (y 1).val, by unfold order; omega⟩) (by
      simp [Shape.rowMajor_val_two, Shape.rowMajor_val_four, order]; omega)]
  rfl

end Reference

open Cert.Reference6Ideal Cert.Reference6Ideal.Gen in
/-- The value claim. -/
theorem algebraic : Cert.algebraic_Kernel6Ideal_Reference6Ideal := by
  intro m ρ m' ρ' _ heq
  refine ⟨_, _, _, _, _, _, _, _, _, _, kernel_run m ρ, (θ_run (defs (F := Ideal)) _ _).mono (fun r h c => ?_) (Cert.Reference6Ideal.Value.run m' ρ')⟩
  obtain ⟨o0, o1, o2, o3, o4, o5, o6, o7, o8, o9, kept⟩ := h c
  obtain ⟨e0, e1, e2, e3, e4⟩ := heq c
  rw [e0, e1, e2] at o0 o1 o2 o3 o4 o5 o6 o7 o8
  rw [e3, e4] at o8
  rw [e1] at o9
  exact ⟨o0.trans ((congrArg (fun x => shapeCast S4224x512 (transpose S4224x4x2x64 [0, 2, 1, 3] (shapeCast S4224x2x4x64 x shapeCasts_S4224x512_S4224x2x4x64)
      transposes_S4224x2x4x64_S4224x4x2x64_0_2_1_3) shapeCasts_S4224x4x2x64_S4224x512) ((part _ _ _ 0 _).trans (by simp only [Nat.zero_add]; rfl))).trans (heads _)),
    o1.trans (part _ _ _ _ _), o2.trans (part _ _ _ _ _), o3.trans (part _ _ _ _ _), o4.trans (part _ _ _ _ _), o5.trans (part _ _ _ _ _), o6.trans (part _ _ _ _ _),
    o7.trans (low _ _ _), o8.trans (logits_eq _ _ _ _ _), o9.trans (turned _), kept⟩

end Cert.InProj

end
-- ==== Proof.lean ====
module

public import proofs.«01_k».proof.Proof.Gen.ReferenceIdeal.Run
public import proofs.«01_k».proof.Defs
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Pre_finite2
public import proofs.«01_k».proof.Proof.Gen.Kernel
public import proofs.«01_k».proof.Proof.Frame
public import proofs.«01_k».proof.Proof.SameRun
public import proofs.«01_k».proof.Proof.BackJoin
public import proofs.«01_k».proof.Proof.OuterJoin
public import proofs.«01_k».proof.Proof.LossJoin
public import proofs.«01_k».proof.Proof.WindowsJoin
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Reference4Ideal.Read
public import proofs.«01_k».proof.Proof.Gen.Pre_finite4
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.GateWeight
public import proofs.«01_k».proof.Proof.Gen.Reference8Ideal.Run
public import proofs.«01_k».proof.Proof.PostJoin
public import proofs.«01_k».proof.Proof.InJoin
public import Idealize.ShloMosaic.Adequacy
public import Idealize.ShloMosaic.Init

@[expose] public section

noncomputable section

namespace Cert.Proof

open Idealize.ShloMosaic Idealize.SL.Sem Cert.Kernel

/-- The frame of the second reference. -/
theorem reference2_frame : Cert.quiescent_Reference2Ideal (hReference2Ideal := Cert.Reference2Ideal.Gen.facts) :=
  fun m ρ _ => (θ_run Cert.Reference2Ideal.defs _ _).mono (fun r h => ⟨fun c => (h c).2.2.2.2.2.2.2,
    sem_eq_zero_of_no_sems (by decide) r.2⟩) (Cert.Reference2Ideal.Value.run m ρ)

/-- The frame of the fourth reference. -/
theorem reference4_frame : Cert.quiescent_Reference4Ideal (hReference4Ideal := Cert.Reference4Ideal.Gen.facts) :=
  fun m ρ _ => (θ_run Cert.Reference4Ideal.defs _ _).mono (fun r h => ⟨fun c => (h c).2.2.2.2.2.2.2,
    sem_eq_zero_of_no_sems (by decide) r.2⟩) (Cert.Reference4Ideal.Value.run m ρ)

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Kernel5.Gen.facts, Cert.Kernel5Ideal.Gen.facts,
  Cert.Reference5Ideal.Gen.facts, Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts, Cert.Pre_finite2.Gen.facts, Cert.Pre_finite4.Gen.facts,
  Cert.SameRun.frame_kernel, fun m ρ _ => Cert.KernelIdeal.Own.frame m ρ,
  fun m ρ _ => (θ_run Cert.ReferenceIdeal.defs _ _).mono (fun r h => ⟨fun c => (h c).2.2.2.2,
    sem_eq_zero_of_no_sems (by decide) r.2⟩) (Cert.ReferenceIdeal.Value.run m ρ),
  fun m ρ _ => Cert.Kernel2.Gen.frame m ρ, fun m ρ _ => Cert.Kernel2Ideal.Gen.frame m ρ, fun m ρ _ => Cert.Kernel2Ideal.Gen.frame m ρ,
  reference2_frame, fun m ρ _ => reference2_frame m ρ trivial,
  fun m ρ _ => Cert.Kernel3.Gen.frame m ρ, fun m ρ _ => Cert.Kernel3Ideal.Gen.frame m ρ,
  fun m ρ _ => (θ_run Cert.Reference3Ideal.defs _ _).mono (fun r h => ⟨fun c => (h c).2.2.2.2,
    sem_eq_zero_of_no_sems (by decide) r.2⟩) (Cert.Reference3Ideal.Value.run m ρ),
  fun m ρ _ => Cert.Kernel4.Gen.frame m ρ, fun m ρ _ => Cert.Kernel4Ideal.Gen.frame m ρ, fun m ρ _ => Cert.Kernel4Ideal.Gen.frame m ρ,
  reference4_frame, fun m ρ _ => reference4_frame m ρ trivial,
  fun m ρ _ => Cert.Kernel5.Gen.frame m ρ, fun m ρ _ => Cert.Kernel5Ideal.Gen.frame m ρ,
  fun m ρ _ => (θ_run Cert.Reference5Ideal.defs _ _).mono (fun r h => ⟨fun c => (h c).2,
    sem_eq_zero_of_no_sems (by decide) r.2⟩) (Cert.Reference5Ideal.Value.run m ρ),
  Cert.SameRun.frame_kernel6, fun m ρ _ => Cert.Kernel6Ideal.Own.frame m ρ,
  fun m ρ _ => (θ_run Cert.Reference6Ideal.defs _ _).mono (fun r h => ⟨fun c => (h c).2.2.2.2.2.2.2.2.2.2,
    sem_eq_zero_of_no_sems (by decide) r.2⟩) (Cert.Reference6Ideal.Value.run m ρ),
  fun m ρ _ => Cert.Kernel7.Gen.frame m ρ, fun m ρ _ => Cert.Kernel7Ideal.Gen.frame m ρ,
  fun m ρ _ => (θ_run Cert.Reference7Ideal.defs _ _).mono (fun r h => ⟨fun c => (h c).2,
    sem_eq_zero_of_no_sems (by decide) r.2⟩) (Cert.Reference7Ideal.Value.run m ρ),
  Cert.SameRun.frame_kernel8, fun m ρ _ => Cert.Kernel8Ideal.Own.frame m ρ,
  fun m ρ _ => (θ_run Cert.Reference8Ideal.defs _ _).mono (fun r h => ⟨fun c => (h c).2.2.2,
    sem_eq_zero_of_no_sems (by decide) r.2⟩) (Cert.Reference8Ideal.Value.run m ρ),
  trivial, trivial, Cert.Back.algebraic, trivial, Cert.Outer.algebraic, trivial, Cert.Loss.algebraic, trivial, Cert.Outer.Windows.algebraic,
  trivial, Cert.InProj.algebraic, trivial, Cert.Outer.Gate.algebraic, trivial, Cert.PostMix.algebraic⟩

end Cert.Proof

end
